-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_routed [hKernel2Ideal : Cert.Kernel2Ideal.Facts] [hReference2Ideal : Cert.Reference2Ideal.Facts] [hPre_planned : Cert.Pre_planned.Facts] [hOn_routed : Cert.On_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![1089536, 1024]⟩ : Shape).Idx, (Cert.On_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v4) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![1089536, 1024]⟩ : Shape).Idx, (Cert.On_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v40) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v23)) (v1 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_v24) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_well_posed : Cert.Pre_well_posed.Facts) (hPre_planned : Cert.Pre_planned.Facts) (hOn_routed : Cert.On_routed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_well_posed (hKernelIdeal := hKernelIdeal) (hReferenceIdeal := hReferenceIdeal) (hPre_well_posed := hPre_well_posed)
    ∧ preserves_Kernel2_Kernel2Ideal
    ∧ algebraic_Kernel2Ideal_Reference2Ideal_on_routed (hKernel2Ideal := hKernel2Ideal) (hReference2Ideal := hReference2Ideal) (hPre_planned := hPre_planned) (hOn_routed := hOn_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_routed.lean ====
abbrev S656 : Shape := ⟨1, ![656]⟩
abbrev S1 : Shape := ⟨1, ![1]⟩
abbrev S1089536x1024 : Shape := ⟨2, ![1089536, 1024]⟩
abbrev S32x1024x2048 : Shape := ⟨3, ![32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S656x1 : Shape := ⟨2, ![656, 1]⟩
abbrev S4256 : Shape := ⟨1, ![4256]⟩
abbrev S1x4256 : Shape := ⟨2, ![1, 4256]⟩
abbrev S656x4256 : Shape := ⟨2, ![656, 4256]⟩
abbrev S_ : Shape := ⟨0, ![]⟩
abbrev S4256x1x1 : Shape := ⟨3, ![4256, 1, 1]⟩
abbrev S4256x256x1024 : Shape := ⟨3, ![4256, 256, 1024]⟩

class Facts : Prop where
  bcast_S656_S656x1_0 : S656.BroadcastsInDim S656x1 (![0] : Fin 1 → Fin S656x1.rank)
  bcast_S4256_S1x4256_1 : S4256.BroadcastsInDim S1x4256 (![1] : Fin 1 → Fin S1x4256.rank)
  bcast_S656x1_S656x4256_0_1 : S656x1.BroadcastsInDim S656x4256 (![0, 1] : Fin 2 → Fin S656x4256.rank)
  bcast_S1x4256_S656x4256_0_1 : S1x4256.BroadcastsInDim S656x4256 (![0, 1] : Fin 2 → Fin S656x4256.rank)
  shapeCasts_S1_S_ : S1.ShapeCasts S_
  bcast_S_S656 : S_.BroadcastsInDim S656 (![] : Fin 0 → Fin S656.rank)
  reducesTo_S656x4256_S4256_d0 : S656x4256.ReducesTo [0] S4256
  h_S_ : 0 < S_.numel
  bcast_S4256_S4256x1x1_0 : S4256.BroadcastsInDim S4256x1x1 (![0] : Fin 1 → Fin S4256x1x1.rank)
  bcast_S4256x1x1_S4256x256x1024_0_1_2 : S4256x1x1.BroadcastsInDim S4256x256x1024 (![0, 1, 2] : Fin 3 → Fin S4256x256x1024.rank)
  shapeCasts_S4256x256x1024_S1089536x1024 : S4256x256x1024.ShapeCasts S1089536x1024

variable [Facts]

def fn {F : FTy → Type} [FloatOps F] (main_arg0 : IVec S656 32) (main_arg1 : IVec S656 32) (main_arg2 : IVec S1 32) (main_arg3 : FVec F S1089536x1024 .f32) (main_arg4 : FVec F S32x1024x2048 .bf16) (main_arg5 : FVec F S32x2048 .f32) (main_arg6 : FVec F S4x32x1024x1024 .f32) (main_arg7 : FVec F S32x1024 .f32) : IVec S1089536x1024 1 :=
  let main_v0 : IVec S656x1 32 := broadcastInDim S656x1 ![0] bcast_S656_S656x1_0 main_arg0
  let main_v1 : IVec S4256 32 := iotaInDim S4256 32 0
  let main_v2 : IVec S1x4256 32 := broadcastInDim S1x4256 ![1] bcast_S4256_S1x4256_1 main_v1
  let main_v3 : IVec S656x4256 32 := broadcastInDim S656x4256 ![0, 1] bcast_S656x1_S656x4256_0_1 main_v0
  let main_v4 : IVec S656x4256 32 := broadcastInDim S656x4256 ![0, 1] bcast_S1x4256_S656x4256_0_1 main_v2
  let main_v5 : IVec S656x4256 1 := cmpi .eq main_v3 main_v4
  let main_v6 : IVec S656 32 := iotaInDim S656 32 0
  let main_v7 : IVec S_ 32 := shapeCast S_ main_arg2 shapeCasts_S1_S_
  let main_v8 : IVec S656 32 := broadcastInDim S656 ![] bcast_S_S656 main_v7
  let main_v9 : IVec S656 1 := cmpi .slt main_v6 main_v8
  let main_v10 : IVec S656x1 1 := broadcastInDim S656x1 ![0] bcast_S656_S656x1_0 main_v9
  let main_v11 : IVec S656x4256 1 := broadcastInDim S656x4256 ![0, 1] bcast_S656x1_S656x4256_0_1 main_v10
  let main_v12 : IVec S656x4256 1 := andi main_v5 main_v11
  let main_c : IVec S_ 1 := constantI S_ 1 0#1
  let main_v13 : IVec S4256 1 := (fun x v => Host.reduce IntOp.ori x v reducesTo_S656x4256_S4256_d0 h_S_) main_v12 main_c
  let main_v14 : IVec S4256x1x1 1 := broadcastInDim S4256x1x1 ![0] bcast_S4256_S4256x1x1_0 main_v13
  let main_v15 : IVec S4256x256x1024 1 := broadcastInDim S4256x256x1024 ![0, 1, 2] bcast_S4256x1x1_S4256x256x1024_0_1_2 main_v14
  let main_v16 : IVec S1089536x1024 1 := shapeCast S1089536x1024 main_v15 shapeCasts_S4256x256x1024_S1089536x1024
  main_v16
-- ==== Pre_planned.lean ====
abbrev S656 : Shape := ⟨1, ![656]⟩
abbrev S1 : Shape := ⟨1, ![1]⟩
abbrev S1089536x1024 : Shape := ⟨2, ![1089536, 1024]⟩
abbrev S32x1024x2048 : Shape := ⟨3, ![32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S_ : Shape := ⟨0, ![]⟩
abbrev S655 : Shape := ⟨1, ![655]⟩

class Facts : Prop where
  shapeCasts_S1_S_ : S1.ShapeCasts S_
  bcast_S_S656 : S_.BroadcastsInDim S656 (![] : Fin 0 → Fin S656.rank)
  bcast_S_S655 : S_.BroadcastsInDim S655 (![] : Fin 0 → Fin S655.rank)
  slices_S656_S655_1 : S656.Slices ![1] S655
  slices_S656_S655_0 : S656.Slices ![0] S655
  reducesTo_S656_S_d0 : S656.ReducesTo [0] S_
  h_S_ : 0 < S_.numel
  reducesTo_S655_S_d0 : S655.ReducesTo [0] S_

variable [Facts]

def fn_part1 {F : FTy → Type} [FloatOps F] (main_arg0 : IVec S656 32) (main_v0 : IVec S_ 32) (main_v14 : IVec S656 1) (main_v17 : IVec S655 32) : IVec S_ 1 :=
  let main_v18 : IVec S655 32 := broadcastInDim S655 ![] bcast_S_S655 main_v0
  let main_v19 : IVec S655 1 := cmpi .slt main_v17 main_v18
  let main_v20 : IVec S655 32 := (extractStridedSlice S655 ![1] · slices_S656_S655_1) main_arg0
  let main_v21 : IVec S655 32 := (extractStridedSlice S655 ![0] · slices_S656_S655_0) main_arg0
  let main_v22 : IVec S655 1 := cmpi .eq main_v20 main_v21
  let main_v23 : IVec S655 1 := ori main_v19 main_v22
  let main_c_5 : IVec S_ 1 := constantI S_ 1 1#1
  let main_v24 : IVec S_ 1 := (fun x v => Host.reduce IntOp.andi x v reducesTo_S656_S_d0 h_S_) main_v14 main_c_5
  let main_c_6 : IVec S_ 1 := constantI S_ 1 1#1
  let main_v25 : IVec S_ 1 := (fun x v => Host.reduce IntOp.andi x v reducesTo_S655_S_d0 h_S_) main_v23 main_c_6
  let main_v26 : IVec S_ 1 := andi main_v24 main_v25
  let main_c_7 : IVec S_ 32 := constantI S_ 32 1#32
  let main_v27 : IVec S_ 1 := cmpi .sge main_v0 main_c_7
  let main_v28 : IVec S_ 1 := andi main_v26 main_v27
  main_v28

def fn {F : FTy → Type} [FloatOps F] (main_arg0 : IVec S656 32) (main_arg1 : IVec S656 32) (main_arg2 : IVec S1 32) (main_arg3 : FVec F S1089536x1024 .f32) (main_arg4 : FVec F S32x1024x2048 .bf16) (main_arg5 : FVec F S32x2048 .f32) (main_arg6 : FVec F S4x32x1024x1024 .f32) (main_arg7 : FVec F S32x1024 .f32) : IVec S_ 1 :=
  let main_v0 : IVec S_ 32 := shapeCast S_ main_arg2 shapeCasts_S1_S_
  let main_c : IVec S_ 32 := constantI S_ 32 133#32
  let main_v1 : IVec S656 32 := broadcastInDim S656 ![] bcast_S_S656 main_c
  let main_v2 : IVec S656 32 := muli main_v1 main_arg1
  let main_v3 : IVec S656 32 := subi main_arg0 main_v2
  let main_c_0 : IVec S_ 32 := constantI S_ 32 0#32
  let main_v4 : IVec S656 32 := broadcastInDim S656 ![] bcast_S_S656 main_c_0
  let main_v5 : IVec S656 1 := cmpi .sge main_arg1 main_v4
  let main_c_1 : IVec S_ 32 := constantI S_ 32 32#32
  let main_v6 : IVec S656 32 := broadcastInDim S656 ![] bcast_S_S656 main_c_1
  let main_v7 : IVec S656 1 := cmpi .slt main_arg1 main_v6
  let main_v8 : IVec S656 1 := andi main_v5 main_v7
  let main_c_2 : IVec S_ 32 := constantI S_ 32 0#32
  let main_v9 : IVec S656 32 := broadcastInDim S656 ![] bcast_S_S656 main_c_2
  let main_v10 : IVec S656 1 := cmpi .sge main_v3 main_v9
  let main_v11 : IVec S656 1 := andi main_v8 main_v10
  let main_c_3 : IVec S_ 32 := constantI S_ 32 133#32
  let main_v12 : IVec S656 32 := broadcastInDim S656 ![] bcast_S_S656 main_c_3
  let main_v13 : IVec S656 1 := cmpi .slt main_v3 main_v12
  let main_v14 : IVec S656 1 := andi main_v11 main_v13
  let main_v15 : IVec S655 32 := iotaInDim S655 32 0
  let main_c_4 : IVec S_ 32 := constantI S_ 32 1#32
  let main_v16 : IVec S655 32 := broadcastInDim S655 ![] bcast_S_S655 main_c_4
  let main_v17 : IVec S655 32 := addi main_v16 main_v15
  fn_part1 (F := F) main_arg0 main_v0 main_v14 main_v17
-- ==== Pre_well_posed.lean ====
abbrev S8x4096x4096 : Shape := ⟨3, ![8, 4096, 4096]⟩
abbrev S8x4096x6144 : Shape := ⟨3, ![8, 4096, 6144]⟩
abbrev S8x4096x16 : Shape := ⟨3, ![8, 4096, 16]⟩
abbrev S128 : Shape := ⟨1, ![128]⟩
abbrev S8x64x64x16 : Shape := ⟨4, ![8, 64, 64, 16]⟩
abbrev S_ : Shape := ⟨0, ![]⟩
abbrev S8x64x63x16 : Shape := ⟨4, ![8, 64, 63, 16]⟩

class Facts : Prop where
  shapeCasts_S8x4096x16_S8x64x64x16 : S8x4096x16.ShapeCasts S8x64x64x16
  bitsLt_bf16_f32 : FTy.bits .bf16 < FTy.bits .f32
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  slices_S8x64x64x16_S8x64x63x16_0_0_1_0 : S8x64x64x16.Slices ![0, 0, 1, 0] S8x64x63x16
  slices_S8x64x64x16_S8x64x63x16_0_0_0_0 : S8x64x64x16.Slices ![0, 0, 0, 0] S8x64x63x16
  reducesTo_S8x64x63x16_S_d0_1_2_3 : S8x64x63x16.ReducesTo [0, 1, 2, 3] S_

variable [Facts]

def fn_part1 {F : FTy → Type} [FloatOps F] (main_v15 : IVec S_ 1) (main_v16 : FVec F S8x64x63x16 .f32) (main_v17 : FVec F S8x64x63x16 .f32) : IVec S_ 1 :=
  let main_v18 : IVec S8x64x63x16 1 := cmpf .ole main_v16 main_v17
  let main_c_4 : IVec S_ 1 := constantI S_ 1 1#1
  let main_v19 : IVec S_ 1 := (fun x v => Host.reduce IntOp.andi x v reducesTo_S8x64x63x16_S_d0_1_2_3 h_S_) main_v18 main_c_4
  let main_v20 : IVec S_ 1 := andi main_v15 main_v19
  main_v20

def fn {F : FTy → Type} [FloatOps F] (main_arg0 : FVec F S8x4096x4096 .bf16) (main_arg1 : FVec F S8x4096x6144 .bf16) (main_arg2 : FVec F S8x4096x16 .f32) (main_arg3 : FVec F S8x4096x16 .f32) (main_arg4 : FVec F S128 .f32) : IVec S_ 1 :=
  let main_v0 : FVec F S8x64x64x16 .f32 := shapeCast S8x64x64x16 main_arg3 shapeCasts_S8x4096x16_S8x64x64x16
  let main_v1 : FVec F S8x4096x4096 .f32 := (extf .f32 · bitsLt_bf16_f32) main_arg0
  let main_v2 : FVec F S8x4096x4096 .f32 := Host.absf main_v1
  let main_cst : FVec F S_ .f32 := constant S_ .f32 0x7F800000#32
  let main_v3 : FVec F S8x4096x4096 .f32 := broadcastInDim S8x4096x4096 ![] bcast_S_S8x4096x4096 main_cst
  let main_v4 : IVec S8x4096x4096 1 := cmpf .olt main_v2 main_v3
  let main_c : IVec S_ 1 := constantI S_ 1 1#1
  let main_v5 : IVec S_ 1 := (fun x v => Host.reduce IntOp.andi x v reducesTo_S8x4096x4096_S_d0_1_2 h_S_) main_v4 main_c
  let main_v6 : FVec F S8x4096x16 .f32 := Host.absf main_arg2
  let main_cst_0 : FVec F S_ .f32 := constant S_ .f32 0x7F800000#32
  let main_v7 : FVec F S8x4096x16 .f32 := broadcastInDim S8x4096x16 ![] bcast_S_S8x4096x16 main_cst_0
  let main_v8 : IVec S8x4096x16 1 := cmpf .olt main_v6 main_v7
  let main_c_1 : IVec S_ 1 := constantI S_ 1 1#1
  let main_v9 : IVec S_ 1 := (fun x v => Host.reduce IntOp.andi x v reducesTo_S8x4096x16_S_d0_1_2 h_S_) main_v8 main_c_1
  let main_v10 : IVec S_ 1 := andi main_v5 main_v9
  let main_v11 : FVec F S8x4096x16 .f32 := Host.absf main_arg3
  let main_cst_2 : FVec F S_ .f32 := constant S_ .f32 0x7F800000#32
  let main_v12 : FVec F S8x4096x16 .f32 := broadcastInDim S8x4096x16 ![] bcast_S_S8x4096x16 main_cst_2
  let main_v13 : IVec S8x4096x16 1 := cmpf .olt main_v11 main_v12
  let main_c_3 : IVec S_ 1 := constantI S_ 1 1#1
  let main_v14 : IVec S_ 1 := (fun x v => Host.reduce IntOp.andi x v reducesTo_S8x4096x16_S_d0_1_2 h_S_) main_v13 main_c_3
  let main_v15 : IVec S_ 1 := andi main_v10 main_v14
  let main_v16 : FVec F S8x64x63x16 .f32 := (extractStridedSlice S8x64x63x16 ![0, 0, 1, 0] · slices_S8x64x64x16_S8x64x63x16_0_0_1_0) main_v0
  let main_v17 : FVec F S8x64x63x16 .f32 := (extractStridedSlice S8x64x63x16 ![0, 0, 0, 0] · slices_S8x64x64x16_S8x64x63x16_0_0_0_0) main_v0
  fn_part1 (F := F) main_v15 main_v16 main_v17
-- ==== Kernel.lean ====
abbrev S8x4096x4096 : Shape := ⟨3, ![8, 4096, 4096]⟩
abbrev S8x4096x6144 : Shape := ⟨3, ![8, 4096, 6144]⟩
abbrev S8x4096x16 : Shape := ⟨3, ![8, 4096, 16]⟩
abbrev S128 : Shape := ⟨1, ![128]⟩
abbrev S8x4096x2x8 : Shape := ⟨4, ![8, 4096, 2, 8]⟩
abbrev S8x4096x2x16 : Shape := ⟨4, ![8, 4096, 2, 16]⟩
abbrev S_ : Shape := ⟨0, ![]⟩
abbrev S8x4096x2x128 : Shape := ⟨4, ![8, 4096, 2, 128]⟩
abbrev S8x2x4096x128 : Shape := ⟨4, ![8, 2, 4096, 128]⟩
abbrev S8x16x4096 : Shape := ⟨3, ![8, 16, 4096]⟩
abbrev S8x16x1x4096 : Shape := ⟨4, ![8, 16, 1, 4096]⟩
abbrev S1x128 : Shape := ⟨2, ![1, 128]⟩
abbrev S8x4096x2048 : Shape := ⟨3, ![8, 4096, 2048]⟩
abbrev S1x256x512 : Shape := ⟨3, ![1, 256, 512]⟩
abbrev S1x256x1024 : Shape := ⟨3, ![1, 256, 1024]⟩
abbrev S1x1x256x128 : Shape := ⟨4, ![1, 1, 256, 128]⟩
abbrev S1x8x1x256 : Shape := ⟨4, ![1, 8, 1, 256]⟩
abbrev S8x128x128 : Shape := ⟨3, ![8, 128, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S1x1 : Shape := ⟨2, ![1, 1]⟩
abbrev S1x1x1x256 : Shape := ⟨4, ![1, 1, 1, 256]⟩
abbrev S1x256 : Shape := ⟨2, ![1, 256]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S128x64 : Shape := ⟨2, ![128, 64]⟩
abbrev S256 : Shape := ⟨1, ![256]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x6144, .bf16⟩
  | .hbm, ⟨2, _⟩ => ⟨S8x4096x16, .f32⟩
  | .hbm, ⟨3, _⟩ => ⟨S8x4096x16, .f32⟩
  | .hbm, ⟨4, _⟩ => ⟨S128, .f32⟩
  | .hbm, ⟨5, _⟩ => ⟨S8x4096x2x8, .f32⟩
  | .hbm, ⟨6, _⟩ => ⟨S8x4096x2x8, .f32⟩
  | .hbm, ⟨7, _⟩ => ⟨S8x4096x2x16, .f32⟩
  | .hbm, ⟨8, _⟩ => ⟨S_, .i32⟩
  | .hbm, ⟨9, _⟩ => ⟨S_, .f32⟩
  | .hbm, ⟨10, _⟩ => ⟨S8x4096x2x128, .f32⟩
  | .hbm, ⟨11, _⟩ => ⟨S8x2x4096x128, .f32⟩
  | .hbm, ⟨12, _⟩ => ⟨S8x4096x16, .f32⟩
  | .hbm, ⟨13, _⟩ => ⟨S8x16x4096, .f32⟩
  | .hbm, ⟨14, _⟩ => ⟨S8x16x1x4096, .f32⟩
  | .hbm, ⟨15, _⟩ => ⟨S1x128, .f32⟩
  | .hbm, ⟨16, _⟩ => ⟨S8x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x256x128, .f32⟩
  | .local _ .vmem, ⟨9, _⟩ => ⟨S1x1x256x128, .f32⟩
  | .local _ .vmem, ⟨10, _⟩ => ⟨S1x8x1x256, .f32⟩
  | .local _ .vmem, ⟨11, _⟩ => ⟨S1x8x1x256, .f32⟩
  | .local _ .vmem, ⟨12, _⟩ => ⟨S1x128, .f32⟩
  | .local _ .vmem, ⟨13, _⟩ => ⟨S1x256x1024, .bf16⟩
  | .local _ .vmem, ⟨14, _⟩ => ⟨S1x256x1024, .bf16⟩
  | .local _ .vmem, ⟨15, _⟩ => ⟨S8x128x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x4096 : Shape := ⟨3, ![8, 4096, 4096]⟩
abbrev S8x4096x6144 : Shape := ⟨3, ![8, 4096, 6144]⟩
abbrev S8x4096x16 : Shape := ⟨3, ![8, 4096, 16]⟩
abbrev S128 : Shape := ⟨1, ![128]⟩
abbrev S8x4096x1024 : Shape := ⟨3, ![8, 4096, 1024]⟩
abbrev S8x4096x8x128 : Shape := ⟨4, ![8, 4096, 8, 128]⟩
abbrev S8x4096x2048 : Shape := ⟨3, ![8, 4096, 2048]⟩
abbrev S8x4096x16x128 : Shape := ⟨4, ![8, 4096, 16, 128]⟩
abbrev S8x4096x8x2x128 : Shape := ⟨5, ![8, 4096, 8, 2, 128]⟩
abbrev S8x64x64x16 : Shape := ⟨4, ![8, 64, 64, 16]⟩
abbrev S8x64x1x16 : Shape := ⟨4, ![8, 64, 1, 16]⟩
abbrev S_ : Shape := ⟨0, ![]⟩
abbrev S8x64x63x16 : Shape := ⟨4, ![8, 64, 63, 16]⟩
abbrev S4096x8x16x128 : Shape := ⟨4, ![4096, 8, 16, 128]⟩
abbrev S4096x8x16 : Shape := ⟨3, ![4096, 8, 16]⟩
abbrev S8x16x128x128 : Shape := ⟨4, ![8, 16, 128, 128]⟩
abbrev S1x8x16x128 : Shape := ⟨4, ![1, 8, 16, 128]⟩
abbrev S8x16x128 : Shape := ⟨3, ![8, 16, 128]⟩
abbrev S1x8x16 : Shape := ⟨3, ![1, 8, 16]⟩
abbrev S8x16 : Shape := ⟨2, ![8, 16]⟩
abbrev S8x16x1x1 : Shape := ⟨4, ![8, 16, 1, 1]⟩
abbrev S8x16x128x1 : Shape := ⟨4, ![8, 16, 128, 1]⟩
abbrev S8x16x1 : Shape := ⟨3, ![8, 16, 1]⟩
abbrev S8x16x1x128 : Shape := ⟨4, ![8, 16, 1, 128]⟩
abbrev S8x4096x16x1 : Shape := ⟨4, ![8, 4096, 16, 1]⟩
abbrev S1x1x1x128 : Shape := ⟨4, ![1, 1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x6144, .bf16⟩
  | .hbm, ⟨2, _⟩ => ⟨S8x4096x16, .f32⟩
  | .hbm, ⟨3, _⟩ => ⟨S8x4096x16, .f32⟩
  | .hbm, ⟨4, _⟩ => ⟨S128, .f32⟩
  | .hbm, ⟨5, _⟩ => ⟨S8x4096x1024, .bf16⟩
  | .hbm, ⟨6, _⟩ => ⟨S8x4096x1024, .f32⟩
  | .hbm, ⟨7, _⟩ => ⟨S8x4096x8x128, .f32⟩
  | .hbm, ⟨8, _⟩ => ⟨S8x4096x1024, .bf16⟩
  | .hbm, ⟨9, _⟩ => ⟨S8x4096x1024, .f32⟩
  | .hbm, ⟨10, _⟩ => ⟨S8x4096x8x128, .f32⟩
  | .hbm, ⟨11, _⟩ => ⟨S8x4096x2048, .bf16⟩
  | .hbm, ⟨12, _⟩ => ⟨S8x4096x2048, .f32⟩
  | .hbm, ⟨13, _⟩ => ⟨S8x4096x16x128, .f32⟩
  | .hbm, ⟨14, _⟩ => ⟨S8x4096x8x2x128, .f32⟩
  | .hbm, ⟨15, _⟩ => ⟨S8x4096x16x128, .f32⟩
  | .hbm, ⟨16, _⟩ => ⟨S8x4096x8x2x128, .f32⟩
  | .hbm, ⟨17, _⟩ => ⟨S8x4096x16x128, .f32⟩
  | .hbm, ⟨18, _⟩ => ⟨S8x64x64x16, .f32⟩
  | .hbm, ⟨19, _⟩ => ⟨S8x64x1x16, .f32⟩
  | .hbm, ⟨20, _⟩ => ⟨S_, .f32⟩
  | .hbm, ⟨21, _⟩ => ⟨S8x64x1x16, .f32⟩
  | .hbm, ⟨22, _⟩ => ⟨S8x64x63x16, .f32⟩
  | .hbm, ⟨23, _⟩ => ⟨S8x64x64x16, .f32⟩
  | .hbm, ⟨24, _⟩ => ⟨S8x64x64x16, .f32⟩
  | .hbm, ⟨25, _⟩ => ⟨S8x4096x16, .f32⟩
  | .hbm, ⟨26, _⟩ => ⟨S4096x8x16x128, .f32⟩
  | .hbm, ⟨27, _⟩ => ⟨S4096x8x16x128, .f32⟩
  | .hbm, ⟨28, _⟩ => ⟨S4096x8x16x128, .f32⟩
  | .hbm, ⟨29, _⟩ => ⟨S4096x8x16, .f32⟩
  | .hbm, ⟨30, _⟩ => ⟨S4096x8x16, .f32⟩
  | .hbm, ⟨31, _⟩ => ⟨S_, .f32⟩
  | .hbm, ⟨32, _⟩ => ⟨S8x16x128x128, .f32⟩
  | .hbm, ⟨33, _⟩ => ⟨S_, .f32⟩
  | .hbm, ⟨34, _⟩ => ⟨S4096x8x16x128, .f32⟩
  | .hbm, ⟨35, _⟩ => ⟨S_, .i32⟩
  | .hbm, ⟨36, _⟩ => ⟨S4096x8x16x128, .f32⟩
  | .hbm, ⟨37, _⟩ => ⟨S4096x8x16x128, .f32⟩
  | .hbm, ⟨38, _⟩ => ⟨S4096x8x16x128, .f32⟩
  | .hbm, ⟨39, _⟩ => ⟨S4096x8x16, .f32⟩
  | .hbm, ⟨40, _⟩ => ⟨S4096x8x16, .f32⟩
  | .hbm, ⟨41, _⟩ => ⟨S_, .i32⟩
  | .hbm, ⟨42, _⟩ => ⟨S8x16x128x128, .f32⟩
  | .hbm, ⟨43, _⟩ => ⟨S4096x8x16x128, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x8x16x128, .f32⟩
  | .hbm, ⟨50, _⟩ => ⟨S8x16x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x8x16x128, .f32⟩
  | .hbm, ⟨55, _⟩ => ⟨S8x16x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x8x16x128, .f32⟩
  | .hbm, ⟨60, _⟩ => ⟨S8x16x128, .f32⟩
  | .hbm, ⟨61, _⟩ => ⟨S_, .i32⟩
  | .hbm, ⟨62, _⟩ => ⟨S_, .i32⟩
  | .hbm, ⟨63, _⟩ => ⟨S1x8x16, .f32⟩
  | .hbm, ⟨64, _⟩ => ⟨S8x16, .f32⟩
  | .hbm, ⟨65, _⟩ => ⟨S_, .i32⟩
  | .hbm, ⟨66, _⟩ => ⟨S_, .i32⟩
  | .hbm, ⟨67, _⟩ => ⟨S1x8x16, .f32⟩
  | .hbm, ⟨68, _⟩ => ⟨S8x16, .f32⟩
  | .hbm, ⟨69, _⟩ => ⟨S8x16, .f32⟩
  | .hbm, ⟨70, _⟩ => ⟨S8x16x1x1, .f32⟩
  | .hbm, ⟨71, _⟩ => ⟨S8x16x128x128, .f32⟩
  | .hbm, ⟨72, _⟩ => ⟨S8x16x128x128, .f32⟩
  | .hbm, ⟨73, _⟩ => ⟨S8x16x128, .f32⟩
  | .hbm, ⟨74, _⟩ => ⟨S8x16x128x1, .f32⟩
  | .hbm, ⟨75, _⟩ => ⟨S8x16x128, .f32⟩
  | .hbm, ⟨76, _⟩ => ⟨S8x16x1, .f32⟩
  | .hbm, ⟨77, _⟩ => ⟨S8x16x128, .f32⟩
  | .hbm, ⟨78, _⟩ => ⟨S8x16x128, .f32⟩
  | .hbm, ⟨79, _⟩ => ⟨S8x16x1x128, .f32⟩
  | .hbm, ⟨80, _⟩ => ⟨S8x16x128x128, .f32⟩
  | .hbm, ⟨81, _⟩ => ⟨S8x16x128x128, .f32⟩
  | .hbm, ⟨82, _⟩ => ⟨S8x16x128x128, .f32⟩
  | .hbm, ⟨83, _⟩ => ⟨S8x16x128x128, .f32⟩
  | .hbm, ⟨84, _⟩ => ⟨S8x16x128, .f32⟩
  | .hbm, ⟨85, _⟩ => ⟨S1x8x16x128, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S4096x8x16x128, .f32⟩
  | .hbm, ⟨90, _⟩ => ⟨S_, .i32⟩
  | .hbm, ⟨91, _⟩ => ⟨S_, .i32⟩
  | .hbm, ⟨92, _⟩ => ⟨S8x4096x16x128, .f32⟩
  | .hbm, ⟨93, _⟩ => ⟨S8x4096x2048, .bf16⟩
  | .hbm, ⟨94, _⟩ => ⟨S8x4096x2048, .f32⟩
  | .hbm, ⟨95, _⟩ => ⟨S8x4096x16x128, .f32⟩
  | .hbm, ⟨96, _⟩ => ⟨S8x4096x16x128, .f32⟩
  | .hbm, ⟨97, _⟩ => ⟨S_, .f32⟩
  | .hbm, ⟨98, _⟩ => ⟨S8x4096x16, .f32⟩
  | .hbm, ⟨99, _⟩ => ⟨S8x4096x16x1, .f32⟩
  | .hbm, ⟨100, _⟩ => ⟨S_, .f32⟩
  | .hbm, ⟨101, _⟩ => ⟨S8x4096x16x1, .f32⟩
  | .hbm, ⟨102, _⟩ => ⟨S8x4096x16x1, .f32⟩
  | .hbm, ⟨103, _⟩ => ⟨S_, .f32⟩
  | .hbm, ⟨104, _⟩ => ⟨S8x4096x16x1, .f32⟩
  | .hbm, ⟨105, _⟩ => ⟨S8x4096x16x1, .f32⟩
  | .hbm, ⟨106, _⟩ => ⟨S8x4096x16x1, .f32⟩
  | .hbm, ⟨107, _⟩ => ⟨S8x4096x16x128, .f32⟩
  | .hbm, ⟨108, _⟩ => ⟨S8x4096x16x128, .f32⟩
  | .hbm, ⟨109, _⟩ => ⟨S1x1x1x128, .f32⟩
  | .hbm, ⟨110, _⟩ => ⟨S8x4096x16x128, .f32⟩
  | .hbm, ⟨111, _⟩ => ⟨S8x4096x16x128, .f32⟩
  | .hbm, ⟨112, _⟩ => ⟨S8x4096x16x128, .f32⟩
  | .hbm, ⟨113, _⟩ => ⟨S8x4096x16x128, .f32⟩
  | .hbm, ⟨114, _⟩ => ⟨S_, .f32⟩
  | .hbm, ⟨115, _⟩ => ⟨S8x4096x16x128, .f32⟩
  | .hbm, ⟨116, _⟩ => ⟨S8x4096x16x128, .f32⟩
  | .hbm, ⟨117, _⟩ => ⟨S_, .f32⟩
  | .hbm, ⟨118, _⟩ => ⟨S8x4096x16x128, .f32⟩
  | .hbm, ⟨119, _⟩ => ⟨S8x4096x16x128, .f32⟩
  | .hbm, ⟨120, _⟩ => ⟨S8x4096x16x128, .f32⟩
  | .hbm, ⟨121, _⟩ => ⟨S8x4096x16x128, .f32⟩
  | .hbm, ⟨122, _⟩ => ⟨S8x4096x2048, .f32⟩
  | .hbm, ⟨123, _⟩ => ⟨S8x4096x2048, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_c : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev main_v27_6 : Ref sig .tc := ⟨.hbm, 42, rfl⟩
abbrev main_v27_7 : Ref sig .tc := ⟨.hbm, 43, rfl⟩
abbrev main_while0c_c_14 : Ref sig .tc := ⟨.hbm, 44, rfl⟩
abbrev main_while0c_v55 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v55 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v56 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v57 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_v0 : Ref sig .tc := ⟨.hbm, 63, rfl⟩
abbrev main_while0b_v58 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_v0 : Ref sig .tc := ⟨.hbm, 67, rfl⟩
abbrev main_while0b_v59 : Ref sig .tc := ⟨.hbm, 68, rfl⟩
abbrev main_while0b_v60 : Ref sig .tc := ⟨.hbm, 69, rfl⟩
abbrev main_while0b_v61 : Ref sig .tc := ⟨.hbm, 70, rfl⟩
abbrev main_while0b_v62 : Ref sig .tc := ⟨.hbm, 71, rfl⟩
abbrev main_while0b_v63 : Ref sig .tc := ⟨.hbm, 72, rfl⟩
abbrev main_while0b_v64 : Ref sig .tc := ⟨.hbm, 73, rfl⟩
abbrev main_while0b_v65 : Ref sig .tc := ⟨.hbm, 74, rfl⟩
abbrev main_while0b_v66 : Ref sig .tc := ⟨.hbm, 75, rfl⟩
abbrev main_while0b_v67 : Ref sig .tc := ⟨.hbm, 76, rfl⟩
abbrev main_while0b_v68 : Ref sig .tc := ⟨.hbm, 77, rfl⟩
abbrev main_while0b_v69 : Ref sig .tc := ⟨.hbm, 78, rfl⟩
abbrev main_while0b_v70 : Ref sig .tc := ⟨.hbm, 79, rfl⟩
abbrev main_while0b_v71 : Ref sig .tc := ⟨.hbm, 80, rfl⟩
abbrev main_while0b_v72 : Ref sig .tc := ⟨.hbm, 81, rfl⟩
abbrev main_while0b_v73 : Ref sig .tc := ⟨.hbm, 82, rfl⟩
abbrev main_while0b_v74 : Ref sig .tc := ⟨.hbm, 83, rfl⟩
abbrev main_while0b_v75 : Ref sig .tc := ⟨.hbm, 84, rfl⟩
abbrev main_while0b_call5_v0 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_v76 : Ref sig .tc := ⟨.hbm, 89, rfl⟩
abbrev main_while0b_c_14 : Ref sig .tc := ⟨.hbm, 90, rfl⟩
abbrev main_while0b_v77 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_cst_2 : Ref sig .tc := ⟨.hbm, 97, rfl⟩
abbrev main_v33 : Ref sig .tc := ⟨.hbm, 98, rfl⟩
abbrev main_v34 : Ref sig .tc := ⟨.hbm, 99, rfl⟩
abbrev main_cst_3 : Ref sig .tc := ⟨.hbm, 100, rfl⟩
abbrev main_v35 : Ref sig .tc := ⟨.hbm, 101, rfl⟩
abbrev main_v36 : Ref sig .tc := ⟨.hbm, 102, rfl⟩
abbrev main_cst_4 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_5 : Ref sig .tc := ⟨.hbm, 114, rfl⟩
abbrev main_v47 : Ref sig .tc := ⟨.hbm, 115, rfl⟩
abbrev main_v48 : Ref sig .tc := ⟨.hbm, 116, rfl⟩
abbrev main_cst_6 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S656 : Shape := ⟨1, ![656]⟩
abbrev S1 : Shape := ⟨1, ![1]⟩
abbrev S1089536x1024 : Shape := ⟨2, ![1089536, 1024]⟩
abbrev S32x1024x2048 : Shape := ⟨3, ![32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S256x128 : Shape := ⟨2, ![256, 128]⟩
abbrev S1024x1024 : Shape := ⟨2, ![1024, 1024]⟩
abbrev S1x1024 : Shape := ⟨2, ![1, 1024]⟩

abbrev nBuf : Space → Nat
  | .hbm => 10
  | .vmem => 12
  | .smem => 3
  | _ => 0

abbrev bufTy : (tb : Table) → Fin (tcTables nBuf tb) → BufTy
  | .hbm, ⟨0, _⟩ => ⟨S1089536x1024, .f32⟩
  | .hbm, ⟨1, _⟩ => ⟨S32x1024x2048, .bf16⟩
  | .hbm, ⟨2, _⟩ => ⟨S32x2048, .f32⟩
  | .hbm, ⟨3, _⟩ => ⟨S4x32x1024x1024, .f32⟩
  | .hbm, ⟨4, _⟩ => ⟨S32x1024, .f32⟩
  | .hbm, ⟨5, _⟩ => ⟨S32x8x128x2, .f32⟩
  | .hbm, ⟨6, _⟩ => ⟨S32x8x2x128, .f32⟩
  | .hbm, ⟨7, _⟩ => ⟨S32x1x2048, .f32⟩
  | .hbm, ⟨8, _⟩ => ⟨S32x1x1024, .f32⟩
  | .hbm, ⟨9, _⟩ => ⟨S1089536x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S656, .i32⟩
  | .local _ .smem, ⟨1, _⟩ => ⟨S656, .i32⟩
  | .local _ .smem, ⟨2, _⟩ => ⟨S1, .i32⟩
  | _, _ => ⟨S1089536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![656], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S656.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S656.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S656) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S656.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S656 : Shape := ⟨1, ![656]⟩
abbrev S1 : Shape := ⟨1, ![1]⟩
abbrev S1089536x1024 : Shape := ⟨2, ![1089536, 1024]⟩
abbrev S32x1024x2048 : Shape := ⟨3, ![32, 1024, 2048]⟩
abbrev S32x2048 : Shape := ⟨2, ![32, 2048]⟩
abbrev S4x32x1024x1024 : Shape := ⟨4, ![4, 32, 1024, 1024]⟩
abbrev S32x1024 : Shape := ⟨2, ![32, 1024]⟩
abbrev S32x34048x1024 : Shape := ⟨3, ![32, 34048, 1024]⟩
abbrev S32x1024x8x2x128 : Shape := ⟨5, ![32, 1024, 8, 2, 128]⟩
abbrev S32x1x1024x2 : Shape := ⟨4, ![32, 1, 1024, 2]⟩
abbrev S32x1024x8x1x128 : Shape := ⟨5, ![32, 1024, 8, 1, 128]⟩
abbrev S32x1024x8x128 : Shape := ⟨4, ![32, 1024, 8, 128]⟩
abbrev S32x1024x1024 : Shape := ⟨3, ![32, 1024, 1024]⟩
abbrev S32x1x1024x1 : Shape := ⟨4, ![32, 1, 1024, 1]⟩
abbrev S32x1x1024 : Shape := ⟨3, ![32, 1, 1024]⟩
abbrev S_ : Shape := ⟨0, ![]⟩
abbrev S1x32x1024x1024 : Shape := ⟨4, ![1, 32, 1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S656, .i32⟩
  | .hbm, ⟨1, _⟩ => ⟨S656, .i32⟩
  | .hbm, ⟨2, _⟩ => ⟨S1, .i32⟩
  | .hbm, ⟨3, _⟩ => ⟨S1089536x1024, .f32⟩
  | .hbm, ⟨4, _⟩ => ⟨S32x1024x2048, .bf16⟩
  | .hbm, ⟨5, _⟩ => ⟨S32x2048, .f32⟩
  | .hbm, ⟨6, _⟩ => ⟨S4x32x1024x1024, .f32⟩
  | .hbm, ⟨7, _⟩ => ⟨S32x1024, .f32⟩
  | .hbm, ⟨8, _⟩ => ⟨S32x34048x1024, .f32⟩
  | .hbm, ⟨9, _⟩ => ⟨S32x1024x2048, .f32⟩
  | .hbm, ⟨10, _⟩ => ⟨S32x1024x8x2x128, .f32⟩
  | .hbm, ⟨11, _⟩ => ⟨S32x1x1024x2, .f32⟩
  | .hbm, ⟨12, _⟩ => ⟨S32x1024x8x1x128, .f32⟩
  | .hbm, ⟨13, _⟩ => ⟨S32x1024x8x128, .f32⟩
  | .hbm, ⟨14, _⟩ => ⟨S32x1024x1024, .f32⟩
  | .hbm, ⟨15, _⟩ => ⟨S32x34048x1024, .f32⟩
  | .hbm, ⟨16, _⟩ => ⟨S32x1x1024x1, .f32⟩
  | .hbm, ⟨17, _⟩ => ⟨S32x1x1024, .f32⟩
  | .hbm, ⟨18, _⟩ => ⟨S32x34048x1024, .f32⟩
  | .hbm, ⟨19, _⟩ => ⟨S32x34048x1024, .f32⟩
  | .hbm, ⟨20, _⟩ => ⟨S32x1024x8x1x128, .f32⟩
  | .hbm, ⟨21, _⟩ => ⟨S32x1024x8x128, .f32⟩
  | .hbm, ⟨22, _⟩ => ⟨S32x1024x1024, .f32⟩
  | .hbm, ⟨23, _⟩ => ⟨S32x34048x1024, .f32⟩
  | .hbm, ⟨24, _⟩ => ⟨S32x1x1024x1, .f32⟩
  | .hbm, ⟨25, _⟩ => ⟨S32x1x1024, .f32⟩
  | .hbm, ⟨26, _⟩ => ⟨S32x34048x1024, .f32⟩
  | .hbm, ⟨27, _⟩ => ⟨S32x34048x1024, .f32⟩
  | .hbm, ⟨28, _⟩ => ⟨S_, .f32⟩
  | .hbm, ⟨29, _⟩ => ⟨S32x34048x1024, .f32⟩
  | .hbm, ⟨30, _⟩ => ⟨S32x34048x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x34048x1024, .f32⟩
  | .hbm, ⟨35, _⟩ => ⟨S32x34048x1024, .f32⟩
  | .hbm, ⟨36, _⟩ => ⟨S_, .f32⟩
  | .hbm, ⟨37, _⟩ => ⟨S32x34048x1024, .f32⟩
  | .hbm, ⟨38, _⟩ => ⟨S32x34048x1024, .f32⟩
  | .hbm, ⟨39, _⟩ => ⟨S_, .f32⟩
  | .hbm, ⟨40, _⟩ => ⟨S32x34048x1024, .f32⟩
  | .hbm, ⟨41, _⟩ => ⟨S32x34048x1024, .f32⟩
  | .hbm, ⟨42, _⟩ => ⟨S32x34048x1024, .f32⟩
  | .hbm, ⟨43, _⟩ => ⟨S_, .f32⟩
  | .hbm, ⟨44, _⟩ => ⟨S32x34048x1024, .f32⟩
  | .hbm, ⟨45, _⟩ => ⟨S32x34048x1024, .f32⟩
  | .hbm, ⟨46, _⟩ => ⟨S32x34048x1024, .f32⟩
  | .hbm, ⟨47, _⟩ => ⟨S_, .f32⟩
  | .hbm, ⟨48, _⟩ => ⟨S32x34048x1024, .f32⟩
  | .hbm, ⟨49, _⟩ => ⟨S32x34048x1024, .f32⟩
  | .hbm, ⟨50, _⟩ => ⟨S_, .f32⟩
  | .hbm, ⟨51, _⟩ => ⟨S32x34048x1024, .f32⟩
  | .hbm, ⟨52, _⟩ => ⟨S32x34048x1024, .f32⟩
  | .hbm, ⟨53, _⟩ => ⟨S32x34048x1024, .f32⟩
  | .hbm, ⟨54, _⟩ => ⟨S1x32x1024x1024, .f32⟩
  | .hbm, ⟨55, _⟩ => ⟨S32x1024x1024, .f32⟩
  | .hbm, ⟨56, _⟩ => ⟨S32x34048x1024, .f32⟩
  | .hbm, ⟨57, _⟩ => ⟨S32x1x1024, .f32⟩
  | .hbm, ⟨58, _⟩ => ⟨S32x34048x1024, .f32⟩
  | .hbm, ⟨59, _⟩ => ⟨S32x34048x1024, .f32⟩
  | .hbm, ⟨60, _⟩ => ⟨S1089536x1024, .f32⟩
  | _, _ => ⟨S656, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S32768x1024 : Shape := ⟨2, ![32768, 1024]⟩
abbrev S1024x6176 : Shape := ⟨2, ![1024, 6176]⟩
abbrev S1024x6144 : Shape := ⟨2, ![1024, 6144]⟩
abbrev S32768x6144 : Shape := ⟨2, ![32768, 6144]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S1024x6144, .f32⟩
  | .hbm, ⟨3, _⟩ => ⟨S1024x6144, .bf16⟩
  | .hbm, ⟨4, _⟩ => ⟨S32768x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x1024 : Shape := ⟨2, ![32768, 1024]⟩
abbrev S1024x6176 : Shape := ⟨2, ![1024, 6176]⟩
abbrev S32768x6176 : Shape := ⟨2, ![32768, 6176]⟩
abbrev S32768x6144 : Shape := ⟨2, ![32768, 6144]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S32768x6176, .f32⟩
  | .hbm, ⟨3, _⟩ => ⟨S32768x6144, .f32⟩
  | .hbm, ⟨4, _⟩ => ⟨S32768x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x1024 : Shape := ⟨2, ![32768, 1024]⟩
abbrev S1024x3072 : Shape := ⟨2, ![1024, 3072]⟩
abbrev S32768x3072 : Shape := ⟨2, ![32768, 3072]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S1024x3072, .bf16⟩
  | .hbm, ⟨3, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .f32⟩
  | .hbm, ⟨3, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4x32x1024x2048 : Shape := ⟨4, ![4, 32, 1024, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x1024x2048 : Shape := ⟨3, ![32, 1024, 2048]⟩
abbrev S1x1x512x2048 : Shape := ⟨4, ![1, 1, 512, 2048]⟩
abbrev S1x512x2048 : Shape := ⟨3, ![1, 512, 2048]⟩
abbrev S512x2048 : Shape := ⟨2, ![512, 2048]⟩
abbrev S512x256 : Shape := ⟨2, ![512, 256]⟩
abbrev S1x512x256 : Shape := ⟨3, ![1, 512, 256]⟩

abbrev nBuf : Space → Nat
  | .hbm => 25
  | .vmem => 5
  | .smem => 0
  | _ => 0

abbrev bufTy : (tb : Table) → Fin (tcTables nBuf tb) → BufTy
  | .hbm, ⟨0, _⟩ => ⟨S4x32x1024x2048, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S256x1, .i32⟩
  | .hbm, ⟨19, _⟩ => ⟨S1x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S32x1024x2048, .bf16⟩
  | .local _ .vmem, ⟨0, _⟩ => ⟨S1x1x512x2048, .f32⟩
  | .local _ .vmem, ⟨1, _⟩ => ⟨S1x1x512x2048, .f32⟩
  | .local _ .vmem, ⟨2, _⟩ => ⟨S256x256, .bf16⟩
  | .local _ .vmem, ⟨3, _⟩ => ⟨S1x512x2048, .bf16⟩
  | .local _ .vmem, ⟨4, _⟩ => ⟨S1x512x2048, .bf16⟩
  | _, _ => ⟨S4x32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x32x1024x2048 : Shape := ⟨4, ![4, 32, 1024, 2048]⟩
abbrev S1x32x1024x2048 : Shape := ⟨4, ![1, 32, 1024, 2048]⟩
abbrev S32x1024x2048 : Shape := ⟨3, ![32, 1024, 2048]⟩
abbrev S32x1024x8x128x2 : Shape := ⟨5, ![32, 1024, 8, 128, 2]⟩
abbrev S32x1024x8x2x128 : Shape := ⟨5, ![32, 1024, 8, 2, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x32x1024x2048, .f32⟩
  | .hbm, ⟨1, _⟩ => ⟨S1x32x1024x2048, .f32⟩
  | .hbm, ⟨2, _⟩ => ⟨S32x1024x2048, .f32⟩
  | .hbm, ⟨3, _⟩ => ⟨S32x1024x8x128x2, .f32⟩
  | .hbm, ⟨4, _⟩ => ⟨S32x1024x8x2x128, .f32⟩
  | .hbm, ⟨5, _⟩ => ⟨S32x1024x2048, .f32⟩
  | .hbm, ⟨6, _⟩ => ⟨S32x1024x2048, .bf16⟩
  | _, _ => ⟨S4x32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel6.lean ====
abbrev S32768x1024 : Shape := ⟨2, ![32768, 1024]⟩
abbrev S1024x6176 : Shape := ⟨2, ![1024, 6176]⟩
abbrev S16 : Shape := ⟨1, ![16]⟩
abbrev S1024x32 : Shape := ⟨2, ![1024, 32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x128 : Shape := ⟨2, ![32768, 128]⟩
abbrev S512x1024 : Shape := ⟨2, ![512, 1024]⟩
abbrev S512x128 : Shape := ⟨2, ![512, 128]⟩
abbrev S32768x16 : Shape := ⟨2, ![32768, 16]⟩

abbrev nBuf : Space → Nat
  | .hbm => 70
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S16, .f32⟩
  | .hbm, ⟨3, _⟩ => ⟨S16, .f32⟩
  | .hbm, ⟨4, _⟩ => ⟨S1024x32, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S512, .i32⟩
  | .hbm, ⟨18, _⟩ => ⟨S512x1, .i32⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S1x512, .i32⟩
  | .hbm, ⟨38, _⟩ => ⟨S_, .i32⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i1⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i1⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x1, .i32⟩
  | .hbm, ⟨60, _⟩ => ⟨S1x512, .i32⟩
  | .hbm, ⟨61, _⟩ => ⟨S512x512, .i32⟩
  | .hbm, ⟨62, _⟩ => ⟨S512x512, .i32⟩
  | .hbm, ⟨63, _⟩ => ⟨S512x512, .i1⟩
  | .hbm, ⟨64, _⟩ => ⟨S512x512, .i1⟩
  | .hbm, ⟨65, _⟩ => ⟨S512x512, .bf16⟩
  | .hbm, ⟨66, _⟩ => ⟨S32768x128, .f32⟩
  | .hbm, ⟨67, _⟩ => ⟨S32768x128, .f32⟩
  | .hbm, ⟨68, _⟩ => ⟨S32768x16, .f32⟩
  | .hbm, ⟨69, _⟩ => ⟨S32768x16, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1x128, .f32⟩
  | .local _ .vmem, ⟨4, _⟩ => ⟨S1x128, .f32⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_call3_v1 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_v5 : Ref sig .tc := ⟨.hbm, 25, rfl⟩
abbrev main_call3_v6 : Ref sig .tc := ⟨.hbm, 26, rfl⟩
abbrev main_call3_v7 : Ref sig .tc := ⟨.hbm, 27, rfl⟩
abbrev main_call3_v8 : Ref sig .tc := ⟨.hbm, 28, rfl⟩
abbrev main_call3_c : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_0 : Ref sig .tc := ⟨.hbm, 33, rfl⟩
abbrev main_call3_v12 : Ref sig .tc := ⟨.hbm, 34, rfl⟩
abbrev main_call3_v13 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22_0 : Ref sig .tc := ⟨.hbm, 66, rfl⟩
abbrev main_v22_1 : Ref sig .tc := ⟨.hbm, 67, rfl⟩
abbrev main_v23 : Ref sig .tc := ⟨.hbm, 68, rfl⟩
abbrev main_v24 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S1024x6176 : Shape := ⟨2, ![1024, 6176]⟩
abbrev S16 : Shape := ⟨1, ![16]⟩
abbrev S32768x6176 : Shape := ⟨2, ![32768, 6176]⟩
abbrev S32768x32 : Shape := ⟨2, ![32768, 32]⟩
abbrev S32768x16 : Shape := ⟨2, ![32768, 16]⟩
abbrev S_ : Shape := ⟨0, ![]⟩
abbrev S1x16 : Shape := ⟨2, ![1, 16]⟩
abbrev S512x64x16 : Shape := ⟨3, ![512, 64, 16]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S16, .f32⟩
  | .hbm, ⟨3, _⟩ => ⟨S16, .f32⟩
  | .hbm, ⟨4, _⟩ => ⟨S32768x6176, .f32⟩
  | .hbm, ⟨5, _⟩ => ⟨S32768x32, .f32⟩
  | .hbm, ⟨6, _⟩ => ⟨S32768x16, .f32⟩
  | .hbm, ⟨7, _⟩ => ⟨S32768x16, .f32⟩
  | .hbm, ⟨8, _⟩ => ⟨S32768x16, .f32⟩
  | .hbm, ⟨9, _⟩ => ⟨S_, .f32⟩
  | .hbm, ⟨10, _⟩ => ⟨S32768x16, .f32⟩
  | .hbm, ⟨11, _⟩ => ⟨S32768x16, .f32⟩
  | .hbm, ⟨12, _⟩ => ⟨S_, .f32⟩
  | .hbm, ⟨13, _⟩ => ⟨S32768x16, .f32⟩
  | .hbm, ⟨14, _⟩ => ⟨S32768x16, .f32⟩
  | .hbm, ⟨15, _⟩ => ⟨S16, .f32⟩
  | .hbm, ⟨16, _⟩ => ⟨S16, .f32⟩
  | .hbm, ⟨17, _⟩ => ⟨S32768x16, .f32⟩
  | .hbm, ⟨18, _⟩ => ⟨S1x16, .f32⟩
  | .hbm, ⟨19, _⟩ => ⟨S32768x16, .f32⟩
  | .hbm, ⟨20, _⟩ => ⟨S32768x16, .f32⟩
  | .hbm, ⟨21, _⟩ => ⟨S_, .f32⟩
  | .hbm, ⟨22, _⟩ => ⟨S32768x16, .f32⟩
  | .hbm, ⟨23, _⟩ => ⟨S32768x16, .f32⟩
  | .hbm, ⟨24, _⟩ => ⟨S32768x16, .f32⟩
  | .hbm, ⟨25, _⟩ => ⟨S32768x16, .f32⟩
  | .hbm, ⟨26, _⟩ => ⟨S32768x16, .i1⟩
  | .hbm, ⟨27, _⟩ => ⟨S32768x16, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S32768x16, .f32⟩
  | .hbm, ⟨32, _⟩ => ⟨S32768x16, .f32⟩
  | .hbm, ⟨33, _⟩ => ⟨S32768x16, .f32⟩
  | .hbm, ⟨34, _⟩ => ⟨S32768x16, .f32⟩
  | .hbm, ⟨35, _⟩ => ⟨S1x16, .f32⟩
  | .hbm, ⟨36, _⟩ => ⟨S32768x16, .f32⟩
  | .hbm, ⟨37, _⟩ => ⟨S32768x16, .f32⟩
  | .hbm, ⟨38, _⟩ => ⟨S512x64x16, .f32⟩
  | .hbm, ⟨39, _⟩ => ⟨S_, .f32⟩
  | .hbm, ⟨40, _⟩ => ⟨S_, .f32⟩
  | .hbm, ⟨41, _⟩ => ⟨S512x64x16, .f32⟩
  | .hbm, ⟨42, _⟩ => ⟨S32768x16, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Kernel7.lean ====
abbrev S8x4096x6144 : Shape := ⟨3, ![8, 4096, 6144]⟩
abbrev S4x4096 : Shape := ⟨2, ![4, 4096]⟩
abbrev S8x4096x4096 : Shape := ⟨3, ![8, 4096, 4096]⟩
abbrev S1x1024x512 : Shape := ⟨3, ![1, 1024, 512]⟩
abbrev S1x16x512 : Shape := ⟨3, ![1, 16, 512]⟩
abbrev S4x512 : Shape := ⟨2, ![4, 512]⟩
abbrev S1040x512 : Shape := ⟨2, ![1040, 512]⟩
abbrev S16x512 : Shape := ⟨2, ![16, 512]⟩
abbrev S1024x512 : Shape := ⟨2, ![1024, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 3
  | .vmem => 9
  | .smem => 0
  | _ => 0

abbrev bufTy : (tb : Table) → Fin (tcTables nBuf tb) → BufTy
  | .hbm, ⟨0, _⟩ => ⟨S8x4096x6144, .bf16⟩
  | .hbm, ⟨1, _⟩ => ⟨S4x4096, .f32⟩
  | .hbm, ⟨2, _⟩ => ⟨S8x4096x4096, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x16x512, .bf16⟩
  | .local _ .vmem, ⟨3, _⟩ => ⟨S1x16x512, .bf16⟩
  | .local _ .vmem, ⟨4, _⟩ => ⟨S4x512, .f32⟩
  | .local _ .vmem, ⟨5, _⟩ => ⟨S4x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1040x512, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c4_i32 : BitVec 32 := 4#32
  let v43 : BitVec 1 := Scalar.cmpi .slt arg2 c4_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg2 : BitVec 32 := BitVec.ofNat 32 (i 2).val
  let c4_i32_19 : BitVec 32 := 4#32
  let v46 : BitVec 1 := Scalar.cmpi .sge arg2 c4_i32_19
  let v47 : BitVec 32 := Scalar.extui v46
  let c0_i32_20 : BitVec 32 := 0#32
  let v48 : BitVec 1 := Scalar.cmpi .ne v47 c0_i32_20
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S8x4096x6144 : Shape := ⟨3, ![8, 4096, 6144]⟩
abbrev S4x4096 : Shape := ⟨2, ![4, 4096]⟩
abbrev S8x4096x4096 : Shape := ⟨3, ![8, 4096, 4096]⟩
abbrev S_ : Shape := ⟨0, ![]⟩
abbrev S8x4099x4096 : Shape := ⟨3, ![8, 4099, 4096]⟩
abbrev S1x4096 : Shape := ⟨2, ![1, 4096]⟩
abbrev S4096 : Shape := ⟨1, ![4096]⟩
abbrev S1x1x4096 : Shape := ⟨3, ![1, 1, 4096]⟩
abbrev S8x4096x2048 : Shape := ⟨3, ![8, 4096, 2048]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S8x4096x8x128 : Shape := ⟨4, ![8, 4096, 8, 128]⟩
abbrev S8x4096x1024 : Shape := ⟨3, ![8, 4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x6144, .bf16⟩
  | .hbm, ⟨1, _⟩ => ⟨S4x4096, .f32⟩
  | .hbm, ⟨2, _⟩ => ⟨S8x4096x4096, .bf16⟩
  | .hbm, ⟨3, _⟩ => ⟨S8x4096x4096, .f32⟩
  | .hbm, ⟨4, _⟩ => ⟨S_, .i32⟩
  | .hbm, ⟨5, _⟩ => ⟨S_, .f32⟩
  | .hbm, ⟨6, _⟩ => ⟨S8x4099x4096, .f32⟩
  | .hbm, ⟨7, _⟩ => ⟨S8x4096x4096, .f32⟩
  | .hbm, ⟨8, _⟩ => ⟨S1x4096, .f32⟩
  | .hbm, ⟨9, _⟩ => ⟨S4096, .f32⟩
  | .hbm, ⟨10, _⟩ => ⟨S1x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S1x4096, .f32⟩
  | .hbm, ⟨15, _⟩ => ⟨S4096, .f32⟩
  | .hbm, ⟨16, _⟩ => ⟨S1x1x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x2048, .f32⟩
  | .hbm, ⟨44, _⟩ => ⟨S8x4096x16x128, .f32⟩
  | .hbm, ⟨45, _⟩ => ⟨S8x4096x16x128, .f32⟩
  | .hbm, ⟨46, _⟩ => ⟨S_, .f32⟩
  | .hbm, ⟨47, _⟩ => ⟨S8x4096x16, .f32⟩
  | .hbm, ⟨48, _⟩ => ⟨S8x4096x16x1, .f32⟩
  | .hbm, ⟨49, _⟩ => ⟨S_, .f32⟩
  | .hbm, ⟨50, _⟩ => ⟨S8x4096x16x1, .f32⟩
  | .hbm, ⟨51, _⟩ => ⟨S8x4096x16x1, .f32⟩
  | .hbm, ⟨52, _⟩ => ⟨S8x4096x16x1, .f32⟩
  | .hbm, ⟨53, _⟩ => ⟨S8x4096x16x128, .f32⟩
  | .hbm, ⟨54, _⟩ => ⟨S8x4096x16x128, .f32⟩
  | .hbm, ⟨55, _⟩ => ⟨S8x4096x8x128, .f32⟩
  | .hbm, ⟨56, _⟩ => ⟨S_, .f32⟩
  | .hbm, ⟨57, _⟩ => ⟨S8x4096x8x128, .f32⟩
  | .hbm, ⟨58, _⟩ => ⟨S8x4096x8x128, .f32⟩
  | .hbm, ⟨59, _⟩ => ⟨S8x4096x1024, .f32⟩
  | .hbm, ⟨60, _⟩ => ⟨S8x4096x8x128, .f32⟩
  | .hbm, ⟨61, _⟩ => ⟨S8x4096x1024, .f32⟩
  | .hbm, ⟨62, _⟩ => ⟨S8x4096x2048, .f32⟩
  | .hbm, ⟨63, _⟩ => ⟨S8x4096x4096, .f32⟩
  | .hbm, ⟨64, _⟩ => ⟨S8x4096x4096, .bf16⟩
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Proof.Head.lean ====
/- What one value head of one block computes, as operations on vectors: the stages of the kernel's body for one
   head, in the body's order, over any float values. -/
module

public import proofs.«01_k».proof.Proof.Gen.KernelIdeal.Value

@[expose] public section

noncomputable section

namespace Cert.KernelIdeal.Head

open Cert.KernelIdeal Cert.KernelIdeal.Gen Idealize.ShloMosaic

variable {F : FTy → Type} [FloatOps F]

/-- A loaded 256 × 128 block of half-precision values, as a matrix. -/
def blk (x : Vec F S1x256x128 .bf16) : FVec F S256x128 .f32 :=
  extf .f32 (shapeCast S256x128 x shapeCasts_S1x256x128_S256x128) bitsLt_bf16_f32

/-- The 256 × 256 product. -/
def mm (x y : FVec F S256x256 .f32) : FVec F S256x256 .f32 :=
  matmul dot_S256x256_S256x256_S256x256_1_0_0_1_n_n none (truncf .bf16 x bitsLt_bf16_f32) (truncf .bf16 y bitsLt_bf16_f32)
    (constant S256x256 .f32 0x00000000#32)

/-- The products of the rows of `x` with the rows of `y`. -/
def mmT (x y : FVec F S256x128 .f32) : FVec F S256x256 .f32 :=
  matmul dot_S256x128_S256x128_S256x256_1_1_0_0_n_n none (truncf .bf16 x bitsLt_bf16_f32) (truncf .bf16 y bitsLt_bf16_f32)
    (constant S256x256 .f32 0x00000000#32)

/-- A 1 × 1 vector repeated down a column of 256. -/
def spread (x : FVec F S1x1 .f32) : FVec F S256x1 .f32 :=
  broadcastTo S256x1 (shapeCast S1x1 x shapeCasts_S1x1_S1x1) broadcasts_S1x1_S256x1

/-- The bits of the rows before row `n`. -/
def before (n : BitVec 32) : IVec S256x1 1 := cmpi .slt (iota .tc S256x1 32 [0] iota_S256x1_d0_w32) (broadcast S256x1 n)

/-- The column's value at the last row of each row's chunk of 64. -/
def chunkLast (g : FVec F S256x1 .f32) : FVec F S256x1 .f32 :=
  select (before 64#32) (spread (extractStridedSlice S1x1 ![63, 0] g slices_S256x1_o63_0_S1x1))
    (select (before 128#32) (spread (extractStridedSlice S1x1 ![127, 0] g slices_S256x1_o127_0_S1x1))
      (select (before 192#32) (spread (extractStridedSlice S1x1 ![191, 0] g slices_S256x1_o191_0_S1x1))
        (spread (extractStridedSlice S1x1 ![255, 0] g slices_S256x1_o255_0_S1x1))))

/-- A 256 × 256 matrix of zeros. -/
def zeros : FVec F S256x256 .f32 := broadcast S256x256 (Scalar.ofBits .f32 0x00000000#32)

/-- The decay from column's row to row's, zero above the diagonal and across chunks. -/
def decay (g : FVec F S256x1 .f32) (gr : Vec F S1x1x1x256 .f32) : FVec F S256x256 .f32 :=
  select k0_pay5
    (exp (minimumf (subf (broadcastTo S256x256 g broadcasts_S256x1_S256x256)
      (broadcastTo S256x256 (shapeCast S1x256 gr shapeCasts_S1x1x1x256_S1x256) broadcasts_S1x256_S256x256)) zeros)) zeros

/-- The strictly lower matrix the chunk's system is built on. -/
def amat (b : FVec F S256x1 .f32) (kk dec : FVec F S256x256 .f32) : FVec F S256x256 .f32 :=
  select k0_pay6 (mulf (mulf (broadcastTo S256x256 b broadcasts_S256x1_S256x256) kk) dec) zeros

/-- The powers' start: minus the matrix, on the diagonal blocks of 16. -/
def neg16 (a : FVec F S256x256 .f32) : FVec F S256x256 .f32 := select k0_pay4 (subf zeros a) zeros

/-- One factor more of the product of powers. -/
def grow (i n : FVec F S256x256 .f32) : FVec F S256x256 .f32 := addf i (mm i n)

/-- The inverse on the diagonal blocks of 16. -/
def inv16 (n : FVec F S256x256 .f32) : FVec F S256x256 .f32 :=
  grow (grow (grow (addf k0_pay8 n) (mm n n)) (mm (mm n n) (mm n n))) (mm (mm (mm n n) (mm n n)) (mm (mm n n) (mm n n)))

/-- The inverse on blocks twice as wide, of the inverse on the halves and the part between them. -/
def merge (i p : FVec F S256x256 .f32) : FVec F S256x256 .f32 := subf i (mm (mm i p) i)

/-- The inverse of the identity plus the matrix, chunk by chunk. -/
def inverse (a : FVec F S256x256 .f32) : FVec F S256x256 .f32 :=
  merge (merge (inv16 (neg16 a)) (select k0_pay7 a zeros)) (select k0_pay3 zeros a)

/-- A column repeated along 128 lanes. -/
def lanes (x : FVec F S256x1 .f32) : FVec F S256x128 .f32 := broadcastTo S256x128 x broadcasts_S256x1_S256x128

/-- The right-hand sides side by side: the scaled values and the scaled, decayed keys. -/
def rhs (k v : FVec F S256x128 .f32) (b g : FVec F S256x1 .f32) : FVec F S256x256 .f32 :=
  concatenate S256x256 1 [⟨S256x128, mulf v (lanes b)⟩, ⟨S256x128, mulf k (lanes (mulf b (exp g)))⟩]
    concatenates_S256x128_S256x128_S256x256_d1

/-- The solutions. -/
def solve (i r : FVec F S256x256 .f32) : FVec F S256x256 .f32 := addf r (mm (subf i k0_pay8) r)

/-- A chunk's new values, given the state before it. -/
def fresh (o : ℕ) (h0 : S256x256.Slices ![o, 0] S64x128) (h1 : S256x256.Slices ![o, 128] S64x128) (uw : FVec F S256x256 .f32)
    (s : FVec F S128x128 .f32) : FVec F S64x128 .f32 :=
  subf (extractStridedSlice S64x128 ![o, 0] uw h0)
    (matmul dot_S64x128_S128x128_S64x128_1_0_0_1_n_n none (truncf .bf16 (extractStridedSlice S64x128 ![o, 128] uw h1) bitsLt_bf16_f32)
      (truncf .bf16 s bitsLt_bf16_f32) (constant S64x128 .f32 0x00000000#32))

/-- A chunk's outputs, given its new values and the state before it. -/
def outc (o : ℕ) (h0 : S256x128.Slices ![o, 0] S64x128) (h1 : S256x256.Slices ![o, o] S64x64) (qd : FVec F S256x128 .f32)
    (at_ : FVec F S256x256 .f32) (s : FVec F S128x128 .f32) (w : FVec F S64x128 .f32) : FVec F S64x128 .f32 :=
  addf (matmul dot_S64x128_S128x128_S64x128_1_0_0_1_n_n none (truncf .bf16 (extractStridedSlice S64x128 ![o, 0] qd h0) bitsLt_bf16_f32)
      (truncf .bf16 s bitsLt_bf16_f32) (constant S64x128 .f32 0x00000000#32))
    (matmul dot_S64x64_S64x128_S64x128_1_0_0_1_n_n none (truncf .bf16 (extractStridedSlice S64x64 ![o, o] at_ h1) bitsLt_bf16_f32)
      (truncf .bf16 w bitsLt_bf16_f32) (constant S64x128 .f32 0x00000000#32))

/-- The state after a chunk, given its new values and the state before it. -/
def next (o : ℕ) (h0 : S256x1.Slices ![o, 0] S1x1) (h1 : S256x128.Slices ![o, 0] S64x128) (gl : FVec F S256x1 .f32)
    (kd : FVec F S256x128 .f32) (s : FVec F S128x128 .f32) (w : FVec F S64x128 .f32) : FVec F S128x128 .f32 :=
  addf (mulf s (broadcastTo S128x128 (exp (extractStridedSlice S1x1 ![o, 0] gl h0)) broadcasts_S1x1_S128x128))
    (matmul dot_S128x64_S64x128_S128x128_1_0_0_1_n_n none
      (truncf .bf16 (transpose S128x64 [1, 0] (extractStridedSlice S64x128 ![o, 0] kd h1) transposes_S64x128_p1_0_S128x64) bitsLt_bf16_f32)
      (truncf .bf16 w bitsLt_bf16_f32) (constant S128x128 .f32 0x00000000#32))

/-- The four chunks' outputs put together, normalised row by row, scaled and gated. -/
def gate (o0 o1 o2 o3 : FVec F S64x128 .f32) (ng : Vec F S1x128 .f32) (z : Vec F S1x256x128 .bf16) : FVec F S1x256x128 .bf16 :=
  let o := concatenate S256x128 0 [⟨S64x128, o0⟩, ⟨S64x128, o1⟩, ⟨S64x128, o2⟩, ⟨S64x128, o3⟩]
    concatenates_S64x128_S64x128_S64x128_S64x128_S256x128_d0
  let ms := divf (shapeCast S256x1 (multiReduction .add [1] S256 (mulf o o) 0x00000000#32 reduces_S256x128_S256 (.inl rfl) rfl) shapeCasts_S256_S256x1)
    (broadcast S256x1 (Scalar.ofBits .f32 0x43000000#32))
  let rms := rsqrt (addf ms (broadcast S256x1 (Scalar.ofBits .f32 0x358637BD#32)))
  let one : FVec F S256x128 .f32 := broadcast S256x128 (Scalar.ofBits .f32 0x3F800000#32)
  let sg := divf one (addf one (exp (subf (broadcast S256x128 (Scalar.ofBits .f32 0x00000000#32)) (blk z))))
  shapeCast S1x256x128 (truncf .bf16
    (mulf (mulf (mulf o (lanes rms)) (broadcastTo S256x128 (shapeCast S1x128 ng shapeCasts_S1x128_S1x128) broadcasts_S1x128_S256x128))
      (mulf (blk z) sg)) bitsLt_bf16_f32) shapeCasts_S256x128_S1x256x128

/-- What the four chunks need of one head: the solutions, the decayed queries, the weights inside a chunk, the decayed keys,
    and the decay at each chunk's end. -/
structure Prep (F : FTy → Type) [FloatOps F] where
  uw : FVec F S256x256 .f32
  qd : FVec F S256x128 .f32
  at_ : FVec F S256x256 .f32
  kd : FVec F S256x128 .f32
  gl : FVec F S256x1 .f32

/-- One head's preparation, of its queries, keys, values, write strengths and cumulated decays. -/
def prep (q k v : Vec F S1x256x128 .bf16) (b g : FVec F S256x1 .f32) (gr : Vec F S1x1x1x256 .f32) : Prep F where
  uw := solve (inverse (amat b (mmT (blk k) (blk k)) (decay g gr))) (rhs (blk k) (blk v) b g)
  qd := mulf (blk q) (lanes (exp g))
  at_ := mulf (mmT (blk q) (blk k)) (decay g gr)
  kd := mulf (blk k) (lanes (exp (subf (chunkLast g) g)))
  gl := chunkLast g

def w0 (p : Prep F) (s : FVec F S128x128 .f32) := fresh 0 slices_S256x256_o0_0_S64x128 slices_S256x256_o0_128_S64x128 p.uw s
def w1 (p : Prep F) (s : FVec F S128x128 .f32) := fresh 64 slices_S256x256_o64_0_S64x128 slices_S256x256_o64_128_S64x128 p.uw s
def w2 (p : Prep F) (s : FVec F S128x128 .f32) := fresh 128 slices_S256x256_o128_0_S64x128 slices_S256x256_o128_128_S64x128 p.uw s
def w3 (p : Prep F) (s : FVec F S128x128 .f32) := fresh 192 slices_S256x256_o192_0_S64x128 slices_S256x256_o192_128_S64x128 p.uw s
def n0 (p : Prep F) (s : FVec F S128x128 .f32) := next 0 slices_S256x1_o0_0_S1x1 slices_S256x128_o0_0_S64x128 p.gl p.kd s (w0 p s)
def n1 (p : Prep F) (s : FVec F S128x128 .f32) := next 64 slices_S256x1_o64_0_S1x1 slices_S256x128_o64_0_S64x128 p.gl p.kd s (w1 p s)
def n2 (p : Prep F) (s : FVec F S128x128 .f32) := next 128 slices_S256x1_o128_0_S1x1 slices_S256x128_o128_0_S64x128 p.gl p.kd s (w2 p s)
def n3 (p : Prep F) (s : FVec F S128x128 .f32) := next 192 slices_S256x1_o192_0_S1x1 slices_S256x128_o192_0_S64x128 p.gl p.kd s (w3 p s)
def c0 (p : Prep F) (s : FVec F S128x128 .f32) := outc 0 slices_S256x128_o0_0_S64x128 slices_S256x256_o0_0_S64x64 p.qd p.at_ s (w0 p s)
def c1 (p : Prep F) (s : FVec F S128x128 .f32) := outc 64 slices_S256x128_o64_0_S64x128 slices_S256x256_o64_64_S64x64 p.qd p.at_ s (w1 p s)
def c2 (p : Prep F) (s : FVec F S128x128 .f32) := outc 128 slices_S256x128_o128_0_S64x128 slices_S256x256_o128_128_S64x64 p.qd p.at_ s (w2 p s)
def c3 (p : Prep F) (s : FVec F S128x128 .f32) := outc 192 slices_S256x128_o192_0_S64x128 slices_S256x256_o192_192_S64x64 p.qd p.at_ s (w3 p s)

/-- The state after the four chunks. -/
def stateOut (p : Prep F) (s : FVec F S128x128 .f32) : FVec F S1x128x128 .f32 :=
  shapeCast S1x128x128 (n3 p (n2 p (n1 p (n0 p s)))) shapeCasts_S128x128_S1x128x128

/-- What the head writes of its output block. -/
def valueOut (p : Prep F) (s : FVec F S128x128 .f32) (ng : Vec F S1x128 .f32) (z : Vec F S1x256x128 .bf16) : FVec F S1x256x128 .bf16 :=
  gate (c0 p s) (c1 p (n0 p s)) (c2 p (n1 p (n0 p s))) (c3 p (n2 p (n1 p (n0 p s)))) ng z

end Cert.KernelIdeal.Head

end
-- ==== Proof.Bridge.lean ====
/- The pieces the kernel's run leaves in its output block and in its carried state, as the stages of each head. -/
module

public import proofs.«01_k».proof.Proof.Head

@[expose] public section

noncomputable section

namespace Cert.KernelIdeal.Head

open Cert.KernelIdeal Cert.KernelIdeal.Gen Idealize.ShloMosaic

variable {F : FTy → Type} [FloatOps F]

/-- The rectangle of head `h`'s 128 columns in a block of 512. -/
def rect4 (h : Fin 4) : Rect S1x256x512 :=
  Rect.unit (s := S1x256x512) ![0, 0, 128 * h.val] S1x256x128.size (fun a => by
    have := h.isLt; fin_cases a <;> simp [S1x256x128, S1x256x512] <;> omega)

/-- The rectangle of head `h`'s 128 columns in a block of 1024. -/
def rect8 (h : Fin 8) : Rect S1x256x1024 :=
  Rect.unit (s := S1x256x1024) ![0, 0, 128 * h.val] S1x256x128.size (fun a => by
    have := h.isLt; fin_cases a <;> simp [S1x256x128, S1x256x1024] <;> omega)

/-- The rectangle of head `h`'s row of cumulated decays. -/
def rectG (h : Fin 8) : Rect S1x8x1x256 :=
  Rect.unit (s := S1x8x1x256) ![0, h.val, 0, 0] S1x1x1x256.size (fun a => by
    have := h.isLt; fin_cases a <;> simp [S1x1x1x256, S1x8x1x256] <;> omega)

/-- The rectangle of head `h`'s state. -/
def rectS (h : Fin 8) : Rect S8x128x128 :=
  Rect.unit (s := S8x128x128) ![h.val, 0, 0] S1x128x128.size (fun a => by
    have := h.isLt; fin_cases a <;> simp [S1x128x128, S8x128x128] <;> omega)

/-- A column of the block's table of write strengths and decays. -/
def colAt (c : Vec F S1x1x256x128 .f32) (n : Fin 16) : FVec F S256x1 .f32 :=
  extractStridedSlice S256x1 ![0, n.val] (shapeCast S256x128 c shapeCasts_S1x1x256x128_S256x128)
    ⟨rfl, fun a => by have := n.isLt; fin_cases a <;> simp [S256x1, S256x128] <;> omega⟩

/-- The key head a value head reads. -/
def keyOf (h : Fin 8) : Fin 4 := ⟨h.val / 2, by have := h.isLt; omega⟩

/-- Head `h`'s preparation, of the loaded pieces. -/
def prepAt (q k : Fin 4 → Vec F S1x256x128 .bf16) (v : Fin 8 → Vec F S1x256x128 .bf16) (c : Vec F S1x1x256x128 .f32)
    (g : Fin 8 → Vec F S1x1x1x256 .f32) (h : Fin 8) : Prep F :=
  prep (q (keyOf h)) (k (keyOf h)) (v h) (colAt c ⟨h.val, by omega⟩) (colAt c ⟨8 + h.val, by omega⟩) (g h)

/-- A loaded state, as a matrix. -/
def sIn (s : Vec F S1x128x128 .f32) : FVec F S128x128 .f32 := shapeCast S128x128 s shapeCasts_S1x128x128_S128x128

/-- Head `h`'s piece of the output block. -/
def outPiece (p : Fin 8 → Prep F) (z : Fin 8 → Vec F S1x256x128 .bf16) (ng : Vec F S1x128 .f32) (s : Fin 8 → Vec F S1x128x128 .f32) (h : Fin 8) :
    View.Piece (Elt F) S1x256x1024 .bf16 :=
  ⟨rect8 h, valueOut (p h) (sIn (s h)) ng (z h)⟩

/-- Head `h`'s piece of the carried state. -/
def statePiece (p : Fin 8 → Prep F) (s : Fin 8 → Vec F S1x128x128 .f32) (h : Fin 8) : View.Piece (Elt F) S8x128x128 .f32 :=
  ⟨rectS h, stateOut (p h) (sIn (s h))⟩

/-- The heads, the last first. -/
def order : List (Fin 8) := [7, 6, 5, 4, 3, 2, 1, 0]

section
variable (c : Dev nD) (i : grid0.Coords) (arg3 : Memref sig .tc .vmem S1x256x512 .bf16) (harg3 : arg3.IsWhole) (arg4 : Memref sig .tc .vmem S1x256x512 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1x256x128 .f32) (harg7 : arg7.IsWhole) (arg8 : Memref sig .tc .vmem S1x8x1x256 .f32) (harg8 : arg8.IsWhole) (arg9 : Memref sig .tc .vmem S1x128 .f32) (harg9 : arg9.IsWhole) (arg10 : Memref sig .tc .vmem S1x256x1024 .bf16) (harg10 : arg10.IsWhole) (arg11 : Memref sig .tc .vmem S8x128x128 .f32) (harg11 : arg11.IsWhole)
  (x0 : Vec F S1x256x512 .bf16) (x1 : Vec F S1x256x512 .bf16) (x2 : Vec F S1x256x1024 .bf16) (x3 : Vec F S1x256x1024 .bf16) (x4 : Vec F S1x1x256x128 .f32) (x5 : Vec F S1x8x1x256 .f32) (x6 : Vec F S1x128 .f32) (xs0 : Vec F S8x128x128 .f32)

/-- The heads' preparations, of the loads of a point's blocks. -/
def preps : Fin 8 → Prep F :=
  prepAt (fun h => View.readAt (Elt F) arg3.view (rect4 h).toLoadRect (harg3.unread x0))
    (fun h => View.readAt (Elt F) arg4.view (rect4 h).toLoadRect (harg4.unread x1))
    (fun h => View.readAt (Elt F) arg5.view (rect8 h).toLoadRect (harg5.unread x2))
    (View.readAt (Elt F) arg7.view (Rect.unit (s := S1x1x256x128) ![0, 0, 0, 0] S1x1x256x128.size inb_S1x1x256x128_S1x1x256x128_0_0_0_0).toLoadRect (harg7.unread x4))
    (fun h => View.readAt (Elt F) arg8.view (rectG h).toLoadRect (harg8.unread x5))

set_option maxRecDepth 65536 in
set_option maxHeartbeats 4000000 in
/-- After a point that is not its run's first the output block holds the heads' pieces. -/
theorem out_B (hc0 : ¬cond0_0 i) :
    (kernelRun0_B c i arg3 harg3 arg4 harg4 arg5 harg5 arg6 harg6 arg7 harg7 arg8 harg8 arg9 harg9 arg10 harg10 arg11 harg11 hc0 x0 x1 x2 x3 x4 x5 x6 xs0).1
      = order.map (outPiece (preps arg3 harg3 arg4 harg4 arg5 harg5 arg7 harg7 arg8 harg8 x0 x1 x2 x4 x5)
          (fun h => View.readAt (Elt F) arg6.view (rect8 h).toLoadRect (harg6.unread x3))
          (View.readAt (Elt F) arg9.view (Rect.unit (s := S1x128) ![0, 0] S1x128.size inb_S1x128_S1x128_0_0).toLoadRect (harg9.unread x6))
          (fun h => View.readAt (Elt F) arg11.view (rectS h).toLoadRect (harg11.unread xs0))) := by
  unfold kernelRun0_B
  dsimp only
  sl_unfold_words
  sl_kernel_rfl

set_option maxRecDepth 65536 in
set_option maxHeartbeats 4000000 in
/-- After a point that is not its run's first the carried state holds the heads' pieces. -/
theorem state_B (hc0 : ¬cond0_0 i) :
    (kernelRun0_B c i arg3 harg3 arg4 harg4 arg5 harg5 arg6 harg6 arg7 harg7 arg8 harg8 arg9 harg9 arg10 harg10 arg11 harg11 hc0 x0 x1 x2 x3 x4 x5 x6 xs0).2.1
      = order.map (statePiece (preps arg3 harg3 arg4 harg4 arg5 harg5 arg7 harg7 arg8 harg8 x0 x1 x2 x4 x5)
          (fun h => View.readAt (Elt F) arg11.view (rectS h).toLoadRect (harg11.unread xs0))) := by
  unfold kernelRun0_B
  dsimp only
  sl_unfold_words
  sl_kernel_rfl

/-- What a run's first point loads of head `h`'s state: what its own clearing of the state left. -/
def clearedAt (h : Fin 8) : Vec F S1x128x128 .f32 :=
  arg11.view.readCov [(⟨Rect.unit (s := S8x128x128) ![0, 0, 0] S8x128x128.size inb_S8x128x128_S8x128x128_0_0_0, k0_pay1⟩ : View.Piece (Elt F) S8x128x128 .f32)] (rectS h).toLoadRect

set_option maxRecDepth 65536 in
set_option maxHeartbeats 4000000 in
/-- After a run's first point the output block holds the heads' pieces. -/
theorem out_A (hc0 : cond0_0 i) :
    (kernelRun0_A c i arg3 harg3 arg4 harg4 arg5 harg5 arg6 harg6 arg7 harg7 arg8 harg8 arg9 harg9 arg10 harg10 arg11 harg11 hc0 x0 x1 x2 x3 x4 x5 x6).1
      = order.map (outPiece (preps arg3 harg3 arg4 harg4 arg5 harg5 arg7 harg7 arg8 harg8 x0 x1 x2 x4 x5)
          (fun h => View.readAt (Elt F) arg6.view (rect8 h).toLoadRect (harg6.unread x3))
          (View.readAt (Elt F) arg9.view (Rect.unit (s := S1x128) ![0, 0] S1x128.size inb_S1x128_S1x128_0_0).toLoadRect (harg9.unread x6))
          (clearedAt arg11)) := by
  unfold kernelRun0_A
  dsimp only
  sl_unfold_words
  sl_kernel_rfl

set_option maxRecDepth 65536 in
set_option maxHeartbeats 4000000 in
/-- After a run's first point the carried state holds the heads' pieces. -/
theorem state_A (hc0 : cond0_0 i) :
    (kernelRun0_A c i arg3 harg3 arg4 harg4 arg5 harg5 arg6 harg6 arg7 harg7 arg8 harg8 arg9 harg9 arg10 harg10 arg11 harg11 hc0 x0 x1 x2 x3 x4 x5 x6).2.1
      = order.map (statePiece (preps arg3 harg3 arg4 harg4 arg5 harg5 arg7 harg7 arg8 harg8 x0 x1 x2 x4 x5)
          (clearedAt arg11))
        ++ [⟨Rect.unit (s := S8x128x128) ![0, 0, 0] S8x128x128.size inb_S8x128x128_S8x128x128_0_0_0, k0_pay1⟩] := by
  unfold kernelRun0_A
  dsimp only
  sl_unfold_words
  sl_kernel_rfl

end

end Cert.KernelIdeal.Head

end
-- ==== Proof.Delta.lean ====
/- The mathematics of the chunked delta rule over the real numbers: the block-by-block inverse of a unit lower triangular
   matrix, and the recurrence a chunk of 64 steps solves at once. -/
module

public import Mathlib.Analysis.SpecialFunctions.Exp
public import Mathlib.Data.Matrix.Mul
public import Mathlib.Tactic.NoncommRing
public import Mathlib.Tactic.LinearCombination

@[expose] public section

noncomputable section

namespace Delta

open Finset

/-! ## The inverse -/

abbrev M := Matrix (Fin 256) (Fin 256) ℝ

/-- `A`'s entries lie in the diagonal blocks of width `w`, at least `a` below the diagonal. -/
def Low (w a : ℕ) (A : M) : Prop := ∀ i j, A i j ≠ 0 → i.val / w = j.val / w ∧ j.val + a ≤ i.val

/-- `A`'s entries lie in the diagonal blocks of width `w`. -/
def Blk (w : ℕ) (A : M) : Prop := ∀ i j, A i j ≠ 0 → i.val / w = j.val / w

/-- A nonzero entry of a product comes from a nonzero pair. -/
theorem exists_of_mul_ne {A B : M} {i j : Fin 256} (h : (A * B) i j ≠ 0) : ∃ k, A i k ≠ 0 ∧ B k j ≠ 0 := by
  rw [Matrix.mul_apply] at h
  obtain ⟨k, -, hk⟩ := Finset.exists_ne_zero_of_sum_ne_zero h
  exact ⟨k, left_ne_zero_of_mul hk, right_ne_zero_of_mul hk⟩

theorem Low.mul {w a b : ℕ} {A B : M} (hA : Low w a A) (hB : Low w b B) : Low w (a + b) (A * B) := by
  intro i j h
  obtain ⟨k, h1, h2⟩ := exists_of_mul_ne h
  have := hA i k h1; have := hB k j h2
  omega

theorem Low.eq_zero {A : M} (h : Low 16 16 A) : A = 0 := by
  ext i j
  by_contra hne
  have := h i j hne
  omega

theorem Blk.mul {w : ℕ} {A B : M} (hA : Blk w A) (hB : Blk w B) : Blk w (A * B) := by
  intro i j h
  obtain ⟨k, h1, h2⟩ := exists_of_mul_ne h
  exact (hA i k h1).trans (hB k j h2)

theorem Blk.add {w : ℕ} {A B : M} (hA : Blk w A) (hB : Blk w B) : Blk w (A + B) := by
  intro i j h
  by_cases h1 : A i j = 0
  · exact hB i j (fun h2 => h (by rw [Matrix.add_apply, h1, h2, add_zero]))
  · exact hA i j h1

theorem Blk.sub {w : ℕ} {A B : M} (hA : Blk w A) (hB : Blk w B) : Blk w (A - B) := by
  intro i j h
  by_cases h1 : A i j = 0
  · exact hB i j (fun h2 => h (by rw [Matrix.sub_apply, h1, h2, sub_zero]))
  · exact hA i j h1

theorem Blk.one {w : ℕ} : Blk w (1 : M) := by
  intro i j h
  by_cases hij : i = j
  · rw [hij]
  · exact absurd (Matrix.one_apply_ne hij) h

theorem Low.blk {w a : ℕ} {A : M} (h : Low w a A) : Blk w A := fun i j hn => (h i j hn).1

theorem Blk.mono {w w' : ℕ} {A : M} (h : Blk w A) (hw : w ∣ w') : Blk w' A := by
  intro i j hn
  obtain ⟨n, rfl⟩ := hw
  rw [← Nat.div_div_eq_div_mul, ← Nat.div_div_eq_div_mul, h i j hn]

/-- One factor more of the product of powers. -/
def grow (i n : M) : M := i + i * n

/-- The product of the powers' factors, to the fifteenth power of `n`. -/
def inv16 (n : M) : M :=
  grow (grow (grow (1 + n) (n * n)) (n * n * (n * n))) (n * n * (n * n) * (n * n * (n * n)))

/-- The inverse on blocks twice as wide. -/
def merge (i p : M) : M := i - i * p * i

theorem inv16_spec {n : M} (h : Low 16 1 n) : (1 - n) * inv16 n = 1 := by
  have h2 := h.mul h
  have h4 := h2.mul h2
  have h8 := h4.mul h4
  have h16 := (h8.mul h8).eq_zero
  have e : (1 - n) * inv16 n = 1 - (n * n * (n * n) * (n * n * (n * n))) * (n * n * (n * n) * (n * n * (n * n))) := by
    unfold inv16 grow; noncomm_ring
  rw [e, h16, sub_zero]

theorem inv16_blk {n : M} (h : Low 16 1 n) : Blk 16 (inv16 n) := by
  have h1 := h.blk
  have h2 := h1.mul h1
  have h4 := h2.mul h2
  have h8 := h4.mul h4
  have hg : ∀ {a b : M}, Blk 16 a → Blk 16 b → Blk 16 (grow a b) := fun ha hb => ha.add (ha.mul hb)
  exact hg (hg (hg (Blk.one.add h1) h2) h4) h8

/-- Merging halves of width `w`: the inverse of `X + P`, where `P` leads from even halves into the odd halves after them. -/
theorem merge_spec {w : ℕ} {X I P : M} (hX : X * I = 1) (hI : Blk w I)
    (hP : ∀ i j, P i j ≠ 0 → i.val / w % 2 = 1 ∧ j.val / w % 2 = 0) : (X + P) * merge I P = 1 := by
  have hz : P * I * P = 0 := by
    ext i j
    by_contra hne
    obtain ⟨k, h1, h2⟩ := exists_of_mul_ne hne
    obtain ⟨l, h3, h4⟩ := exists_of_mul_ne h1
    have a := hP i l h3; have b := hI l k h4; have c := hP k j h2
    rw [b] at a; omega
  have e : (X + P) * merge I P = X * I - (X * I) * P * I + P * I - P * I * P * I := by unfold merge; noncomm_ring
  rw [e, hX, hz, one_mul, zero_mul]; simp

/-- The inverse as the kernel builds it: powers on blocks of 16, then two merges. -/
def inverse (d p q : M) : M := merge (merge (inv16 (0 - d)) p) q

/-- It is the inverse of the identity plus the whole strictly lower matrix of a chunk of 64. -/
theorem inverse_spec {A : M} (hA : Low 64 1 A) :
    (1 + A) * inverse (Matrix.of fun i j => if i.val / 16 = j.val / 16 then A i j else 0)
      (Matrix.of fun i j => if i.val / 32 = j.val / 32 ∧ ¬ i.val / 16 = j.val / 16 then A i j else 0)
      (Matrix.of fun i j => if i.val / 32 = j.val / 32 then 0 else A i j) = 1 := by
  set D : M := Matrix.of fun i j => if i.val / 16 = j.val / 16 then A i j else 0 with hD
  set P : M := Matrix.of fun i j => if i.val / 32 = j.val / 32 ∧ ¬ i.val / 16 = j.val / 16 then A i j else 0 with hP
  set Q : M := Matrix.of fun i j => if i.val / 32 = j.val / 32 then 0 else A i j with hQ
  have hsum : 1 + A = (1 - (0 - D)) + P + Q := by
    have : A = D + P + Q := by
      ext i j
      simp only [Matrix.add_apply, hD, hP, hQ, Matrix.of_apply]
      by_cases h1 : i.val / 16 = j.val / 16
      · have h2 : i.val / 32 = j.val / 32 := by omega
        simp [h1, h2]
      · by_cases h2 : i.val / 32 = j.val / 32 <;> simp [h1, h2]
    rw [this]; simp only [zero_sub, sub_neg_eq_add]; abel
  have hN : Low 16 1 (0 - D) := by
    intro i j hn
    simp only [hD, Matrix.of_apply, Matrix.sub_apply, Matrix.zero_apply, zero_sub, ne_eq, neg_eq_zero, ite_eq_right_iff, Classical.not_imp] at hn
    exact ⟨hn.1, (hA i j hn.2).2⟩
  have hPs : ∀ i j, P i j ≠ 0 → (i.val / 32 = j.val / 32 ∧ ¬ i.val / 16 = j.val / 16) ∧ j.val + 1 ≤ i.val := by
    intro i j hn
    simp only [hP, Matrix.of_apply, ne_eq, ite_eq_right_iff, Classical.not_imp] at hn
    exact ⟨hn.1, (hA i j hn.2).2⟩
  have hQs : ∀ i j, Q i j ≠ 0 → ¬ i.val / 32 = j.val / 32 ∧ i.val / 64 = j.val / 64 ∧ j.val + 1 ≤ i.val := by
    intro i j hn
    simp only [hQ, Matrix.of_apply, ne_eq, ite_eq_left_iff, Classical.not_imp] at hn
    exact ⟨hn.1, hA i j hn.2⟩
  have s1 := merge_spec (P := P) (inv16_spec hN) (inv16_blk hN) (fun i j hn => by have := hPs i j hn; omega)
  have hb1 : Blk 32 (merge (inv16 (0 - D)) P) := by
    have hi := (inv16_blk hN).mono (w' := 32) (by decide)
    exact hi.sub ((hi.mul fun i j hn => (hPs i j hn).1.1).mul hi)
  have s2 := merge_spec (P := Q) s1 hb1 (fun i j hn => by have := hQs i j hn; omega)
  rw [hsum]; exact s2

/-! ## The recurrence -/

variable {D : ℕ}

/-- The state before step `t`: each step decays the state, and writes the part of the value the decayed state does not hold yet. -/
def seq (k v : ℕ → Fin D → ℝ) (b dg : ℕ → ℝ) (S : Fin D → Fin D → ℝ) : ℕ → Fin D → Fin D → ℝ
  | 0 => S
  | t + 1 => fun d e => seq k v b dg S t d e * Real.exp (dg t)
      + k t d * ((v t e - ∑ d', k t d' * (seq k v b dg S t d' e * Real.exp (dg t))) * b t)

theorem seq_add (k v : ℕ → Fin D → ℝ) (b dg : ℕ → ℝ) (S : Fin D → Fin D → ℝ) (t n : ℕ) :
    seq k v b dg S (t + n) = seq (fun i => k (t + i)) (fun i => v (t + i)) (fun i => b (t + i)) (fun i => dg (t + i)) (seq k v b dg S t) n := by
  induction n with
  | zero => rfl
  | succ n ih => rw [← add_assoc]; funext d e; simp only [seq, ih]

/-- `r + 1` steps into a chunk, given the new values `W` that solve the chunk's triangular system. -/
theorem seq_chunk (k v : ℕ → Fin D → ℝ) (b dg g : ℕ → ℝ) (S : Fin D → Fin D → ℝ) (W : ℕ → Fin D → ℝ) (N : ℕ)
    (h0 : dg 0 = g 0) (hs : ∀ r, r + 1 < N → dg (r + 1) = g (r + 1) - g r)
    (hW : ∀ r < N, ∀ e, W r e + ∑ j ∈ range r, b r * (∑ d, k r d * k j d) * Real.exp (g r - g j) * W j e
      = b r * (v r e - Real.exp (g r) * ∑ d, k r d * S d e)) :
    ∀ r < N, ∀ d e, seq k v b dg S (r + 1) d e
      = Real.exp (g r) * S d e + ∑ j ∈ range (r + 1), Real.exp (g r - g j) * k j d * W j e := by
  -- the write of step `r`, given what the decayed state is
  have key : ∀ r < N, ∀ (T : Fin D → Fin D → ℝ),
      (∀ d e, T d e = Real.exp (g r) * S d e + ∑ j ∈ range r, Real.exp (g r - g j) * k j d * W j e) →
      ∀ e, (v r e - ∑ d, k r d * T d e) * b r = W r e := by
    intro r hr T hT e
    have h1 : ∑ d, k r d * T d e = Real.exp (g r) * ∑ d, k r d * S d e
        + ∑ j ∈ range r, (∑ d, k r d * k j d) * Real.exp (g r - g j) * W j e := by
      simp only [hT, mul_add, sum_add_distrib, mul_sum, sum_mul]
      rw [sum_comm]
      congr 1
      · exact sum_congr rfl fun d _ => by ring
      · exact sum_congr rfl fun j _ => sum_congr rfl fun d _ => by ring
    have h2 := hW r hr e
    have h3 : ∑ j ∈ range r, b r * (∑ d, k r d * k j d) * Real.exp (g r - g j) * W j e
        = b r * ∑ j ∈ range r, (∑ d, k r d * k j d) * Real.exp (g r - g j) * W j e := by
      rw [mul_sum]; exact sum_congr rfl fun j _ => by ring
    rw [h3] at h2
    rw [h1]; linear_combination -h2
  intro r
  induction r with
  | zero =>
    intro hr d e
    have hd : ∀ d e, seq k v b dg S 0 d e * Real.exp (dg 0)
        = Real.exp (g 0) * S d e + ∑ j ∈ range 0, Real.exp (g 0 - g j) * k j d * W j e := by
      intro d e; rw [h0]; simp only [seq, range_zero, sum_empty, add_zero]; ring
    have := key 0 hr _ hd e
    rw [show seq k v b dg S (0 + 1) d e = seq k v b dg S 0 d e * Real.exp (dg 0)
      + k 0 d * ((v 0 e - ∑ d', k 0 d' * (seq k v b dg S 0 d' e * Real.exp (dg 0))) * b 0) from rfl, this, hd]
    simp
  | succ r ih =>
    intro hr d e
    have ihr := ih (by omega)
    have hd : ∀ d e, seq k v b dg S (r + 1) d e * Real.exp (dg (r + 1))
        = Real.exp (g (r + 1)) * S d e + ∑ j ∈ range (r + 1), Real.exp (g (r + 1) - g j) * k j d * W j e := by
      intro d e
      rw [ihr, hs r hr, add_mul, sum_mul]
      congr 1
      · rw [mul_right_comm, ← Real.exp_add]; congr 2; ring
      · refine sum_congr rfl fun j _ => ?_
        rw [show g (r + 1) - g j = (g r - g j) + (g (r + 1) - g r) by ring, Real.exp_add]; ring
    have := key (r + 1) hr _ hd e
    rw [show seq k v b dg S (r + 1 + 1) d e = seq k v b dg S (r + 1) d e * Real.exp (dg (r + 1))
      + k (r + 1) d * ((v (r + 1) e - ∑ d', k (r + 1) d' * (seq k v b dg S (r + 1) d' e * Real.exp (dg (r + 1)))) * b (r + 1)) from rfl,
      this, hd, sum_range_succ _ (r + 1)]
    simp; ring

/-- The output of step `r` of a chunk: the query's product with the state after the step. -/
theorem out_chunk (k q : ℕ → Fin D → ℝ) (g : ℕ → ℝ) (S : Fin D → Fin D → ℝ) (W : ℕ → Fin D → ℝ) (r : ℕ) (T : Fin D → Fin D → ℝ)
    (hT : ∀ d e, T d e = Real.exp (g r) * S d e + ∑ j ∈ range (r + 1), Real.exp (g r - g j) * k j d * W j e) (e : Fin D) :
    ∑ d, q r d * T d e = (∑ d, (q r d * Real.exp (g r)) * S d e) + ∑ j ∈ range (r + 1), ((∑ d, q r d * k j d) * Real.exp (g r - g j)) * W j e := by
  simp only [hT, mul_add, sum_add_distrib, mul_sum, sum_mul]
  rw [sum_comm]
  congr 1
  · exact sum_congr rfl fun d _ => by ring
  · exact sum_congr rfl fun j _ => sum_congr rfl fun d _ => by ring

end Delta

end
-- ==== Proof.HeadReal.lean ====
/- The stages of one head over real numbers: on vectors of finite values each stage is the same stage over the reals. -/
module

public import proofs.«01_k».proof.Proof.Head
public import proofs.«01_k».proof.Proof.Delta
public import Idealize.ShloMosaic.Lib.MatmulPlain
public import Idealize.ShloMosaic.Lib.WordCmp
public import Idealize.ShloMosaic.Lib.Pipeline.Value

@[expose] public section

noncomputable section

namespace Cert.KernelIdeal.Head

open Cert.KernelIdeal Cert.KernelIdeal.Gen Idealize.ShloMosaic Idealize.ShloMosaic.ValueIdx Finset

/-! ## The masks -/

theorem shr4 (n : Fin 256) : IntOp.shrsi .vector (BitVec.ofNat 32 n.val) 4#32 = BitVec.ofNat 32 (n.val / 16) := by
  revert n; decide
theorem shr5 (n : Fin 256) : IntOp.shrsi .vector (BitVec.ofNat 32 n.val) 5#32 = BitVec.ofNat 32 (n.val / 32) := by
  revert n; decide
theorem shr6 (n : Fin 256) : IntOp.shrsi .vector (BitVec.ofNat 32 n.val) 6#32 = BitVec.ofNat 32 (n.val / 64) := by
  revert n; decide

theorem iota0 (i j : Fin 256) : iota .tc S256x256 32 [0] iota_S256x256_d0_w32 (ix2 i j) = BitVec.ofNat 32 i.val := by
  simp [iota]
theorem iota1 (i j : Fin 256) : iota .tc S256x256 32 [1] iota_S256x256_d1_w32 (ix2 i j) = BitVec.ofNat 32 j.val := by
  simp [iota]
theorem iotaC (i : Fin 256) (j : Fin 1) : iota .tc S256x1 32 [0] iota_S256x1_d0_w32 (ix2 i j) = BitVec.ofNat 32 i.val := by
  simp [iota]

theorem eqN {a b : ℕ} (ha : a < 256) (hb : b < 256) : IntOp.cmpi .eq (BitVec.ofNat 32 a) (BitVec.ofNat 32 b) = 1#1 ↔ a = b :=
  WordCmp.cmpi_eq_ofNat_eq_one_iff (by omega) (by omega)
theorem sgeN {a b : ℕ} (ha : a < 256) (hb : b < 256) : IntOp.cmpi .sge (BitVec.ofNat 32 a) (BitVec.ofNat 32 b) = 1#1 ↔ b ≤ a :=
  WordCmp.cmpi_sge_ofNat_eq_one_iff (by omega) (by omega)
theorem sgtN {a b : ℕ} (ha : a < 256) (hb : b < 256) : IntOp.cmpi .sgt (BitVec.ofNat 32 a) (BitVec.ofNat 32 b) = 1#1 ↔ b < a :=
  WordCmp.cmpi_sgt_ofNat_eq_one_iff (by omega) (by omega)
theorem sltN {a b : ℕ} (ha : a < 256) (hb : b ≤ 256) : IntOp.cmpi .slt (BitVec.ofNat 32 a) (BitVec.ofNat 32 b) = 1#1 ↔ a < b :=
  WordCmp.cmpi_slt_ofNat_eq_one_iff (by omega) (by omega)

theorem sel_pos {α : Type} {c : BitVec 1} (h : c = 1#1) (x y : α) : Scalar.select c x y = x := if_pos h
theorem sel_neg {α : Type} {c : BitVec 1} (h : ¬ c = 1#1) (x y : α) : Scalar.select c x y = y := if_neg h

theorem and_one (x y : BitVec 1) : IntOp.andi x y = 1#1 ↔ x = 1#1 ∧ y = 1#1 := by revert x y; decide
theorem xor_one (x : BitVec 1) : IntOp.xori x 1#1 = 1#1 ↔ ¬ x = 1#1 := by revert x; decide

theorem pay2_iff (i j : Fin 256) : k0_pay2 (ix2 i j) = 1#1 ↔ i.val / 64 = j.val / 64 := by
  show IntOp.cmpi .eq (IntOp.shrsi .vector (iota .tc S256x256 32 [0] iota_S256x256_d0_w32 (ix2 i j)) 6#32)
    (IntOp.shrsi .vector (iota .tc S256x256 32 [1] iota_S256x256_d1_w32 (ix2 i j)) 6#32) = 1#1 ↔ _
  rw [iota0, iota1, shr6, shr6]; exact eqN (by omega) (by omega)
theorem pay3_iff (i j : Fin 256) : k0_pay3 (ix2 i j) = 1#1 ↔ i.val / 32 = j.val / 32 := by
  show IntOp.cmpi .eq (IntOp.shrsi .vector (iota .tc S256x256 32 [0] iota_S256x256_d0_w32 (ix2 i j)) 5#32)
    (IntOp.shrsi .vector (iota .tc S256x256 32 [1] iota_S256x256_d1_w32 (ix2 i j)) 5#32) = 1#1 ↔ _
  rw [iota0, iota1, shr5, shr5]; exact eqN (by omega) (by omega)
theorem pay4_iff (i j : Fin 256) : k0_pay4 (ix2 i j) = 1#1 ↔ i.val / 16 = j.val / 16 := by
  show IntOp.cmpi .eq (IntOp.shrsi .vector (iota .tc S256x256 32 [0] iota_S256x256_d0_w32 (ix2 i j)) 4#32)
    (IntOp.shrsi .vector (iota .tc S256x256 32 [1] iota_S256x256_d1_w32 (ix2 i j)) 4#32) = 1#1 ↔ _
  rw [iota0, iota1, shr4, shr4]; exact eqN (by omega) (by omega)
theorem pay5_iff (i j : Fin 256) : k0_pay5 (ix2 i j) = 1#1 ↔ i.val / 64 = j.val / 64 ∧ j.val ≤ i.val := by
  show IntOp.andi (k0_pay2 (ix2 i j)) (IntOp.cmpi .sge (iota .tc S256x256 32 [0] iota_S256x256_d0_w32 (ix2 i j))
    (iota .tc S256x256 32 [1] iota_S256x256_d1_w32 (ix2 i j))) = 1#1 ↔ _
  rw [and_one, pay2_iff, iota0, iota1, sgeN i.isLt j.isLt]
theorem pay6_iff (i j : Fin 256) : k0_pay6 (ix2 i j) = 1#1 ↔ i.val / 64 = j.val / 64 ∧ j.val < i.val := by
  show IntOp.andi (k0_pay2 (ix2 i j)) (IntOp.cmpi .sgt (iota .tc S256x256 32 [0] iota_S256x256_d0_w32 (ix2 i j))
    (iota .tc S256x256 32 [1] iota_S256x256_d1_w32 (ix2 i j))) = 1#1 ↔ _
  rw [and_one, pay2_iff, iota0, iota1, sgtN i.isLt j.isLt]
theorem pay7_iff (i j : Fin 256) : k0_pay7 (ix2 i j) = 1#1 ↔ i.val / 32 = j.val / 32 ∧ ¬ i.val / 16 = j.val / 16 := by
  show IntOp.andi (k0_pay3 (ix2 i j)) (IntOp.xori (k0_pay4 (ix2 i j)) 1#1) = 1#1 ↔ _
  rw [and_one, xor_one, pay3_iff, pay4_iff]

/-! ## Vectors of finite values -/

/-- The vector's values are the real matrix's. -/
def Is {m n : ℕ} {φ : FTy} (X : FVec Ideal ⟨2, ![m, n]⟩ φ) (A : Fin m → Fin n → ℝ) : Prop :=
  ∀ i j, (X (ix2 i j) : EReal) = ((A i j : ℝ) : EReal)

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem sum_mul_coe {n : ℕ} (f g : Fin n → ℝ) : ∑ i, (f i : EReal) * (g i : EReal) = ((∑ i, f i * g i : ℝ) : EReal) := by
  rw [← sum_coe]; exact sum_congr rfl fun i _ => (EReal.coe_mul _ _).symm

/-- A plain product of finite matrices. -/
theorem Is.plain {m k n : ℕ} {X : FVec Ideal ⟨2, ![m, k]⟩ .f32} {Y : FVec Ideal ⟨2, ![k, n]⟩ .f32} {A : Fin m → Fin k → ℝ} {B : Fin k → Fin n → ℝ}
    (hX : Is X A) (hY : Is Y B) :
    Is (matmul (DotDims.plain m k n) none (truncf .bf16 X bitsLt_bf16_f32) (truncf .bf16 Y bitsLt_bf16_f32) (constant (F := Ideal) ⟨2, ![m, n]⟩ .f32 0x00000000#32))
      (fun i j => ∑ l, A i l * B l j) := by
  intro i j
  refine (Ideal.matmul_plain_apply none _ _ _ i j).trans ?_
  rw [← sum_mul_coe]
  refine (congrArg₂ (· + ·) (Ideal.ofBits_zero_f32) (sum_congr rfl fun l _ => congrArg₂ (· * ·) (hX i l) (hY l j))).trans (zero_add _)

/-- A product of finite matrices' rows. -/
theorem Is.rows {m k n : ℕ} {X : FVec Ideal ⟨2, ![m, k]⟩ .f32} {Y : FVec Ideal ⟨2, ![n, k]⟩ .f32} {A : Fin m → Fin k → ℝ} {B : Fin n → Fin k → ℝ}
    (hX : Is X A) (hY : Is Y B) :
    Is (matmul (DotDims.transposedRhs m k n) none (truncf .bf16 X bitsLt_bf16_f32) (truncf .bf16 Y bitsLt_bf16_f32) (constant (F := Ideal) ⟨2, ![m, n]⟩ .f32 0x00000000#32))
      (fun i j => ∑ l, A i l * B j l) := by
  intro i j
  refine (Ideal.matmul_transposedRhs_apply none _ _ _ i j).trans ?_
  rw [← sum_mul_coe]
  refine (congrArg₂ (· + ·) (Ideal.ofBits_zero_f32) (sum_congr rfl fun l _ => congrArg₂ (· * ·) (hX i l) (hY j l))).trans (zero_add _)

section
variable {m n : ℕ} {X Y : FVec Ideal ⟨2, ![m, n]⟩ .f32} {A B : Fin m → Fin n → ℝ}

theorem Is.add (hX : Is X A) (hY : Is Y B) : Is (addf X Y) (fun i j => A i j + B i j) := fun i j =>
  (congrArg₂ (· + ·) (hX i j) (hY i j)).trans (EReal.coe_add _ _).symm
theorem Is.sub (hX : Is X A) (hY : Is Y B) : Is (subf X Y) (fun i j => A i j - B i j) := fun i j =>
  (congrArg₂ (· - ·) (hX i j) (hY i j)).trans (EReal.coe_sub _ _).symm
theorem Is.mul (hX : Is X A) (hY : Is Y B) : Is (mulf X Y) (fun i j => A i j * B i j) := fun i j =>
  (congrArg₂ (· * ·) (hX i j) (hY i j)).trans (EReal.coe_mul _ _).symm
theorem Is.exp (hX : Is X A) : Is (exp X) (fun i j => Real.exp (A i j)) := fun i j =>
  (congrArg Ideal.exp (hX i j)).trans (Ideal.exp_coe _)
theorem Is.select {c : IVec ⟨2, ![m, n]⟩ 1} {P : Fin m → Fin n → Prop} [∀ i j, Decidable (P i j)] (hc : ∀ i j, c (ix2 i j) = 1#1 ↔ P i j)
    (hX : ∀ i j, P i j → (X (ix2 i j) : EReal) = ((A i j : ℝ) : EReal)) (hY : Is Y B) : Is (select c X Y) (fun i j => if P i j then A i j else B i j) := by
  intro i j
  by_cases h : P i j
  · exact (sel_pos ((hc i j).2 h) _ _).trans ((hX i j h).trans (congrArg Real.toEReal (if_pos h).symm))
  · exact (sel_neg (fun h' => h ((hc i j).1 h')) _ _).trans ((hY i j).trans (congrArg Real.toEReal (if_neg h).symm))
theorem Is.congr (hX : Is X A) (h : ∀ i j, A i j = B i j) : Is X B := fun i j => (hX i j).trans (by rw [h])
end

theorem is_zeros : Is (zeros (F := Ideal)) (fun _ _ => 0) := fun _ _ => Ideal.ofBits_zero_f32

theorem ofBits_one_f32 : Ideal.ofBits .f32 0x3F800000#32 = 1 := by
  simp [Ideal.ofBits, Ideal.ieee]
  rw [← EReal.coe_mul]; norm_num

theorem is_eye : Is (k0_pay8 (F := Ideal)) (fun i j => (1 : Delta.M) i j) := by
  intro i j
  show Scalar.select (IntOp.cmpi .eq (iota .tc S256x256 32 [0] iota_S256x256_d0_w32 (ix2 i j)) (iota .tc S256x256 32 [1] iota_S256x256_d1_w32 (ix2 i j)))
    (Ideal.ofBits .f32 0x3F800000#32) (Ideal.ofBits .f32 0x00000000#32) = _
  rw [iota0, iota1, ofBits_one_f32, Ideal.ofBits_zero_f32]
  by_cases h : i = j
  · subst h; rw [sel_pos ((eqN i.isLt i.isLt).2 rfl)]; exact ((congrArg _ (Matrix.one_apply_eq i)).trans EReal.coe_one).symm
  · rw [sel_neg (fun h' => h (Fin.ext ((eqN i.isLt j.isLt).1 h')))]; exact ((congrArg _ (Matrix.one_apply_ne h)).trans EReal.coe_zero).symm

/-! ## The inverse -/

theorem Is.mm {x y : FVec Ideal S256x256 .f32} {A B : Delta.M} (hx : Is x A) (hy : Is y B) : Is (mm x y) (A * B) := by
  refine Is.congr (Is.plain hx hy) fun i j => (Matrix.mul_apply).symm

theorem Is.grow {x y : FVec Ideal S256x256 .f32} {A B : Delta.M} (hx : Is x A) (hy : Is y B) : Is (grow x y) (Delta.grow A B) :=
  Is.congr (Is.add hx (Is.mm hx hy)) fun _ _ => rfl

theorem Is.inv16 {x : FVec Ideal S256x256 .f32} {A : Delta.M} (hx : Is x A) : Is (inv16 x) (Delta.inv16 A) := by
  have h2 := Is.mm hx hx
  have h4 := Is.mm h2 h2
  have h8 := Is.mm h4 h4
  have h1 : Is (addf k0_pay8 x) (1 + A : Delta.M) := Is.congr (Is.add is_eye hx) fun _ _ => rfl
  exact Is.grow (Is.grow (Is.grow h1 h2) h4) h8

theorem Is.merge {x y : FVec Ideal S256x256 .f32} {A B : Delta.M} (hx : Is x A) (hy : Is y B) : Is (merge x y) (Delta.merge A B) :=
  Is.congr (Is.sub hx (Is.mm (Is.mm hx hy) hx)) fun _ _ => rfl

/-- The inverse of the real matrix, as the kernel builds it. -/
def invR (A : Delta.M) : Delta.M :=
  Delta.inverse (Matrix.of fun i j => if i.val / 16 = j.val / 16 then A i j else 0)
    (Matrix.of fun i j => if i.val / 32 = j.val / 32 ∧ ¬ i.val / 16 = j.val / 16 then A i j else 0)
    (Matrix.of fun i j => if i.val / 32 = j.val / 32 then 0 else A i j)

theorem Is.inverse {x : FVec Ideal S256x256 .f32} {A : Delta.M} (hx : Is x A) : Is (inverse x) (invR A) := by
  have hD : Is (neg16 x) ((0 : Delta.M) - Matrix.of fun i j => if i.val / 16 = j.val / 16 then A i j else 0) := by
    refine Is.congr (Is.select (A := fun i j => 0 - A i j) (B := fun _ _ => 0) pay4_iff (fun i j _ => Is.sub is_zeros hx i j) is_zeros) fun i j => ?_
    rw [Matrix.sub_apply, Matrix.of_apply]; split <;> simp
  have hP : Is (Idealize.ShloMosaic.select k0_pay7 x zeros : FVec Ideal S256x256 .f32) (Matrix.of fun i j => if i.val / 32 = j.val / 32 ∧ ¬ i.val / 16 = j.val / 16 then A i j else 0 : Delta.M) :=
    Is.congr (Is.select pay7_iff (fun i j _ => hx i j) is_zeros) fun _ _ => rfl
  have hQ : Is (Idealize.ShloMosaic.select k0_pay3 zeros x : FVec Ideal S256x256 .f32) (Matrix.of fun i j => if i.val / 32 = j.val / 32 then 0 else A i j : Delta.M) :=
    Is.congr (Is.select pay3_iff (fun i j _ => is_zeros i j) hx) fun _ _ => rfl
  exact Is.merge (Is.merge (Is.inv16 hD) hP) hQ

theorem Is.solve {x r : FVec Ideal S256x256 .f32} {A R : Delta.M} (hx : Is x A) (hr : Is r R) : Is (solve x r) (R + (A - 1) * R : Delta.M) :=
  Is.congr (Is.add hr (Is.mm (Is.congr (Is.sub hx is_eye) fun _ _ => rfl : Is _ (A - 1 : Delta.M)) hr)) fun _ _ => rfl

/-! ## The preparation -/

section
variable {qb kb vb : Vec Ideal S1x256x128 .bf16} {b g : FVec Ideal S256x1 .f32} {gr : Vec Ideal S1x1x1x256 .f32}
variable {Q K V : Fin 256 → Fin 128 → ℝ} {B G : Fin 256 → ℝ}

theorem is_blk {x : Vec Ideal S1x256x128 .bf16} {X : Fin 256 → Fin 128 → ℝ} (h : ∀ i d, (x (ix3 (0 : Fin 1) i d) : EReal) = ((X i d : ℝ) : EReal)) :
    Is (blk x) X := by
  intro i d
  refine Eq.trans ?_ (h i d)
  exact shapeCast_apply x shapeCasts_S1x256x128_S256x128 (ix2 i d) (ix3 (0 : Fin 1) i d) (by
    rw [Shape.rowMajor_val_three, Shape.rowMajor_val_two]; simp)

/-- A column's values are the real sequence's. -/
def IsCol (x : FVec Ideal S256x1 .f32) (X : Fin 256 → ℝ) : Prop := Is x (fun i _ => X i)

theorem is_lanes {x : FVec Ideal S256x1 .f32} {X : Fin 256 → ℝ} (h : IsCol x X) : Is (lanes x) (fun i _ => X i) := by
  intro i d
  refine Eq.trans ?_ (h i 0)
  exact broadcastTo_apply x broadcasts_S256x1_S256x128 (ix2 i d) (ix2 i (0 : Fin 1)) (by intro a; fin_cases a <;> simp)

theorem is_cols {x : FVec Ideal S256x1 .f32} {X : Fin 256 → ℝ} (h : IsCol x X) :
    Is (broadcastTo S256x256 x broadcasts_S256x1_S256x256) (fun i _ => X i) := by
  intro i d
  refine Eq.trans ?_ (h i 0)
  exact broadcastTo_apply x broadcasts_S256x1_S256x256 (ix2 i d) (ix2 i (0 : Fin 1)) (by intro a; fin_cases a <;> simp)

theorem is_rowb (h : ∀ j, (gr (ix4 (0 : Fin 1) (0 : Fin 1) (0 : Fin 1) j) : EReal) = ((G j : ℝ) : EReal)) :
    Is (broadcastTo S256x256 (shapeCast S1x256 gr shapeCasts_S1x1x1x256_S1x256 : FVec Ideal S1x256 .f32) broadcasts_S1x256_S256x256) (fun _ j => G j) := by
  intro i j
  refine Eq.trans ?_ (h j)
  refine (broadcastTo_apply _ broadcasts_S1x256_S256x256 (ix2 i j) (ix2 (0 : Fin 1) j) (by intro a; fin_cases a <;> simp)).trans ?_
  exact shapeCast_apply gr shapeCasts_S1x1x1x256_S1x256 (ix2 (0 : Fin 1) j) (ix4 (0 : Fin 1) (0 : Fin 1) (0 : Fin 1) j) (by
    rw [Shape.rowMajor_val_four, Shape.rowMajor_val_two]; simp)

/-- The decay from row `j` to row `i`. -/
def decR (G : Fin 256 → ℝ) (i j : Fin 256) : ℝ := if i.val / 64 = j.val / 64 ∧ j.val ≤ i.val then Real.exp (G i - G j) else 0

/-- The cumulated decays do not grow inside a chunk of 64. -/
def Falling (G : Fin 256 → ℝ) : Prop := ∀ i j : Fin 256, i.val / 64 = j.val / 64 → j.val ≤ i.val → G i ≤ G j

theorem is_decay (hg : IsCol g G) (hr : ∀ j, (gr (ix4 (0 : Fin 1) (0 : Fin 1) (0 : Fin 1) j) : EReal) = ((G j : ℝ) : EReal)) (hf : Falling G) :
    Is (decay g gr) (decR G) := by
  refine Is.select (A := fun i j => Real.exp (G i - G j)) (B := fun _ _ => 0) pay5_iff (fun i j hij => ?_) is_zeros
  have h1 := Is.sub (is_cols hg) (is_rowb hr) i j
  refine (congrArg Ideal.exp ((congrArg₂ min h1 (is_zeros i j)).trans (min_eq_left ?_))).trans (Ideal.exp_coe _)
  rw [EReal.coe_le_coe_iff]
  have := hf i j hij.1 hij.2; linarith

/-- The chunk's strictly lower matrix. -/
def aR (K : Fin 256 → Fin 128 → ℝ) (B G : Fin 256 → ℝ) : Delta.M :=
  Matrix.of fun i j => if i.val / 64 = j.val / 64 ∧ j.val < i.val then (B i * ∑ d, K i d * K j d) * decR G i j else 0

theorem is_amat {kk dec : FVec Ideal S256x256 .f32} (hb : IsCol b B) (hk : Is kk (fun i j => ∑ d, K i d * K j d)) (hd : Is dec (decR G)) :
    Is (amat b kk dec) (aR K B G) :=
  Is.congr (Is.select pay6_iff (fun i j _ => Is.mul (Is.mul (is_cols hb) hk) hd i j) is_zeros) fun _ _ => rfl

theorem aR_low : Delta.Low 64 1 (aR K B G) := by
  intro i j h
  simp only [aR, Matrix.of_apply, ne_eq, ite_eq_right_iff, Classical.not_imp] at h
  exact ⟨h.1.1, by omega⟩

/-- The right-hand sides side by side. -/
def rhsR (K V : Fin 256 → Fin 128 → ℝ) (B G : Fin 256 → ℝ) : Delta.M :=
  Matrix.of fun i e => if h : e.val < 128 then V i ⟨e.val, h⟩ * B i else K i ⟨e.val - 128, by omega⟩ * (B i * Real.exp (G i))

theorem is_rhs {k v : FVec Ideal S256x128 .f32} (hk : Is k K) (hv : Is v V) (hb : IsCol b B) (hg : IsCol g G) :
    Is (rhs k v b g) (rhsR K V B G) := by
  intro i e
  by_cases h : e.val < 128
  · refine (concatenate_pair_apply_left 1 _ _ concatenates_S256x128_S256x128_S256x256_d1 (ix2 i e) rfl (ix2 i ⟨e.val, h⟩) ?_).trans
      ((Is.mul hv (is_lanes hb) i ⟨e.val, h⟩).trans ?_)
    · intro a; fin_cases a <;> rfl
    · simp only [rhsR, Matrix.of_apply, dif_pos h]
  · refine (concatenate_pair_apply_right 1 _ _ concatenates_S256x128_S256x128_S256x256_d1 (ix2 i e) rfl rfl (ix2 i ⟨e.val - 128, by omega⟩) ?_ ?_).trans
      ((Is.mul hk (is_lanes (X := fun i => B i * Real.exp (G i)) (Is.mul (A := fun i _ => B i) hb (Is.exp (A := fun i _ => G i) hg))) i ⟨e.val - 128, by omega⟩).trans ?_)
    · intro a ha; fin_cases a
      · rfl
      · exact absurd rfl ha
    · show e.val - 128 + 128 = e.val; omega
    · simp only [rhsR, Matrix.of_apply, dif_neg h]

/-- The last row of a row's chunk. -/
def lastOf (i : Fin 256) : Fin 256 := ⟨64 * (i.val / 64) + 63, by omega⟩

theorem is_spread {n : ℕ} (hs : S256x1.Slices ![n, 0] S1x1) (hn : n < 256) (hg : IsCol g G) :
    IsCol (spread (extractStridedSlice S1x1 ![n, 0] g hs)) (fun _ => G ⟨n, hn⟩) := by
  intro i j
  refine Eq.trans ?_ (hg ⟨n, hn⟩ 0)
  refine (broadcastTo_apply _ broadcasts_S1x1_S256x1 (ix2 i j) (ix2 (0 : Fin 1) (0 : Fin 1)) (by intro a; fin_cases a <;> simp)).trans ?_
  refine (shapeCast_apply _ shapeCasts_S1x1_S1x1 (ix2 (0 : Fin 1) (0 : Fin 1)) (ix2 (0 : Fin 1) (0 : Fin 1)) rfl).trans ?_
  exact extractStridedSlice_apply _ g hs _ (ix2 ⟨n, hn⟩ (0 : Fin 1)) (by intro a; fin_cases a <;> simp)

theorem is_chunkLast (hg : IsCol g G) : IsCol (chunkLast g) (fun i => G (lastOf i)) := by
  have hb : ∀ n : ℕ, n ≤ 256 → ∀ (i : Fin 256) (j : Fin 1), before (BitVec.ofNat 32 n) (ix2 i j) = 1#1 ↔ i.val < n := by
    intro n hn i j
    show IntOp.cmpi .slt (iota .tc S256x1 32 [0] iota_S256x1_d0_w32 (ix2 i j)) (BitVec.ofNat 32 n) = 1#1 ↔ _
    rw [iotaC, sltN i.isLt hn]
  refine Is.congr (Is.select (hb 64 (by omega)) (fun i j _ => is_spread slices_S256x1_o63_0_S1x1 (by omega) hg i j)
    (Is.select (hb 128 (by omega)) (fun i j _ => is_spread slices_S256x1_o127_0_S1x1 (by omega) hg i j)
      (Is.select (hb 192 (by omega)) (fun i j _ => is_spread slices_S256x1_o191_0_S1x1 (by omega) hg i j)
        (is_spread slices_S256x1_o255_0_S1x1 (by omega) hg)))) fun i j => ?_
  have e : ∀ n (h : n < 256), 64 * (i.val / 64) + 63 = n → G ⟨n, h⟩ = G (lastOf i) := fun n h hh => congrArg G (Fin.ext hh.symm)
  split
  · exact e 63 _ (by omega)
  · split
    · exact e 127 _ (by omega)
    · split
      · exact e 191 _ (by omega)
      · exact e 255 _ (by omega)

/-- A head's preparation, over the reals: the facts the chunks use. -/
structure IsPrep (p : Prep Ideal) (Q K V : Fin 256 → Fin 128 → ℝ) (B G : Fin 256 → ℝ) where
  U : Delta.M
  sys : (1 + aR K B G) * U = rhsR K V B G
  uw : Is p.uw U
  qd : Is p.qd (fun i d => Q i d * Real.exp (G i))
  at_ : Is p.at_ (fun i j => (∑ d, Q i d * K j d) * decR G i j)
  kd : Is p.kd (fun i d => K i d * Real.exp (G (lastOf i) - G i))
  gl : IsCol p.gl (fun i => G (lastOf i))

/-- The preparation of finite queries, keys, values, write strengths and falling decays. -/
def isPrep (hq : ∀ i d, (qb (ix3 (0 : Fin 1) i d) : EReal) = ((Q i d : ℝ) : EReal)) (hk : ∀ i d, (kb (ix3 (0 : Fin 1) i d) : EReal) = ((K i d : ℝ) : EReal))
    (hv : ∀ i d, (vb (ix3 (0 : Fin 1) i d) : EReal) = ((V i d : ℝ) : EReal)) (hb : IsCol b B) (hg : IsCol g G)
    (hr : ∀ j, (gr (ix4 (0 : Fin 1) (0 : Fin 1) (0 : Fin 1) j) : EReal) = ((G j : ℝ) : EReal)) (hf : Falling G) :
    IsPrep (prep qb kb vb b g gr) Q K V B G where
  U := rhsR K V B G + (invR (aR K B G) - 1) * rhsR K V B G
  sys := by
    have h := Delta.inverse_spec (aR_low (K := K) (B := B) (G := G))
    have e : rhsR K V B G + (invR (aR K B G) - 1) * rhsR K V B G = invR (aR K B G) * rhsR K V B G := by noncomm_ring
    rw [e, ← mul_assoc]; unfold invR; rw [h, one_mul]
  uw := Is.solve (Is.inverse (is_amat hb (Is.rows (is_blk hk) (is_blk hk)) (is_decay hg hr hf))) (is_rhs (is_blk hk) (is_blk hv) hb hg)
  qd := Is.mul (is_blk hq) (is_lanes (Is.exp hg))
  at_ := Is.mul (Is.rows (is_blk hq) (is_blk hk)) (is_decay hg hr hf)
  kd := Is.mul (is_blk hk) (is_lanes (Is.exp (Is.sub (is_chunkLast hg) hg)))
  gl := is_chunkLast hg

end

end Cert.KernelIdeal.Head

end
-- ==== Proof.Spec.lean ====
/- The layer's result: every head's recurrence over the whole sequence from a zero state, its outputs normalised and gated. -/
module

public import proofs.«01_k».proof.Proof.Delta
public import Idealize.ShloMosaic.PureOps.Ideal

@[expose] public section

noncomputable section

namespace Delta

open Idealize.ShloMosaic Finset

/-- The log decay of each step is what the cumulated decay adds, starting anew at each chunk of 64. -/
def Steps (g dg : ℕ → ℝ) : Prop := ∀ r, dg r = if r % 64 = 0 then g r else g r - g (r - 1)

/-- One value of an output row: the row normalised by its mean square, scaled, and gated. -/
def gateE (o : Fin 128 → EReal) (n z : EReal) (e : Fin 128) : EReal :=
  o e * Ideal.rsqrt (Ideal.div (∑ e', o e' * o e') (Ideal.ofBits .f32 0x43000000#32) + Ideal.ofBits .f32 0x358637BD#32) * n
    * (z * Ideal.div 1 (1 + Ideal.exp (-z)))

/-- A time step, as an index of the sequence. -/
def at_ (t : ℕ) : Fin 4096 := ⟨t % 4096, Nat.mod_lt _ (by decide)⟩

theorem at_val {t : ℕ} (h : t < 4096) : (at_ t).val = t := Nat.mod_eq_of_lt h

section
variable (X : Fin 8 → Fin 4096 → Fin 4096 → ℝ) (B G : Fin 8 → Fin 4096 → Fin 16 → ℝ)

/-- The queries of key head `h`. -/
def query (b : Fin 8) (h : Fin 8) (t : ℕ) (d : Fin 128) : ℝ := X b (at_ t) ⟨128 * h.val + d.val, by omega⟩
/-- The keys of key head `h`. -/
def key (b : Fin 8) (h : Fin 8) (t : ℕ) (d : Fin 128) : ℝ := X b (at_ t) ⟨1024 + (128 * h.val + d.val), by omega⟩
/-- The values of value head `h`. -/
def value (b : Fin 8) (h : Fin 16) (t : ℕ) (d : Fin 128) : ℝ := X b (at_ t) ⟨2048 + (128 * h.val + d.val), by omega⟩
/-- The write strengths of value head `h`. -/
def strength (b : Fin 8) (h : Fin 16) (t : ℕ) : ℝ := B b (at_ t) h
/-- The cumulated log decays of value head `h`. -/
def cum (b : Fin 8) (h : Fin 16) (t : ℕ) : ℝ := G b (at_ t) h
/-- The log decay of step `t` of value head `h`. -/
def dec (b : Fin 8) (h : Fin 16) (t : ℕ) : ℝ := if t % 64 = 0 then cum G b h t else cum G b h t - cum G b h (t - 1)

/-- The key head a value head reads. -/
def keyHead (h : Fin 16) : Fin 8 := ⟨h.val / 2, by omega⟩

/-- A head's state before step `t`. -/
def state (b : Fin 8) (h : Fin 16) (t : ℕ) : Fin 128 → Fin 128 → ℝ :=
  seq (key X b (keyHead h)) (value X b h) (strength B b h) (dec G b h) (fun _ _ => 0) t

/-- A head's output row at step `t`. -/
def outRow (b : Fin 8) (h : Fin 16) (t : ℕ) (e : Fin 128) : ℝ := ∑ d, query X b (keyHead h) t d * state X B G b h (t + 1) d e

/-- The layer's result at batch `b`, step `t`, head `h`, column `e`. -/
def result (ng : Fin 128 → EReal) (z : Fin 8 → Fin 4096 → Fin 6144 → EReal) (b : Fin 8) (t : Fin 4096) (h : Fin 16) (e : Fin 128) : EReal :=
  gateE (fun e' => ((outRow X B G b h t.val e' : ℝ) : EReal)) (ng e) (z b t ⟨4096 + (128 * h.val + e.val), by omega⟩) e

end

end Delta

end
-- ==== Proof.Chunk.lean ====
/- The chunks of one block of one head: four chunks of 64 steps are 256 steps of the recurrence, and their outputs are the
   queries' products with the states after each step. -/
module

public import proofs.«01_k».proof.Proof.HeadReal
public import proofs.«01_k».proof.Proof.Spec

@[expose] public section

noncomputable section

namespace Cert.KernelIdeal.Head

open Cert.KernelIdeal Cert.KernelIdeal.Gen Idealize.ShloMosaic Idealize.ShloMosaic.ValueIdx Finset

section
variable {q k v : ℕ → Fin 128 → ℝ} {bt g dg : ℕ → ℝ}
variable {p : Prep Ideal} (hp : IsPrep p (fun i d => q i.val d) (fun i d => k i.val d) (fun i d => v i.val d) (fun i => bt i.val) (fun i => g i.val))

/-- A chunk's new values: row `j` of the chunk at `o`, given the state before the chunk. -/
def newVal (U : Delta.M) (S : Fin 128 → Fin 128 → ℝ) (o j : ℕ) (e : Fin 128) : ℝ :=
  if h : o + j < 256 then U ⟨o + j, h⟩ ⟨e.val, by omega⟩ - ∑ d : Fin 128, U ⟨o + j, h⟩ ⟨128 + d.val, by omega⟩ * S d e else 0

theorem is_fresh {o : ℕ} (ho : o ≤ 192) (h0 : S256x256.Slices ![o, 0] S64x128) (h1 : S256x256.Slices ![o, 128] S64x128)
    {s : FVec Ideal S128x128 .f32} {S : Fin 128 → Fin 128 → ℝ} (hs : Is s S) :
    Is (fresh o h0 h1 p.uw s) (fun r e => newVal hp.U S o r.val e) := by
  have hu : Is (extractStridedSlice S64x128 ![o, 0] p.uw h0 : FVec Ideal S64x128 .f32)
      (fun (r : Fin 64) (e : Fin 128) => hp.U ⟨o + r.val, by omega⟩ ⟨e.val, by omega⟩) := fun r e =>
    (extractStridedSlice_apply _ p.uw h0 (ix2 r e) (ix2 ⟨o + r.val, by omega⟩ ⟨e.val, by omega⟩) (by intro a; fin_cases a <;> simp)).trans (hp.uw _ _)
  have hw : Is (extractStridedSlice S64x128 ![o, 128] p.uw h1 : FVec Ideal S64x128 .f32)
      (fun (r : Fin 64) (d : Fin 128) => hp.U ⟨o + r.val, by omega⟩ ⟨128 + d.val, by omega⟩) := fun r d =>
    (extractStridedSlice_apply _ p.uw h1 (ix2 r d) (ix2 ⟨o + r.val, by omega⟩ ⟨128 + d.val, by omega⟩) (by intro a; fin_cases a <;> simp)).trans (hp.uw _ _)
  refine Is.congr (Is.sub hu (Is.plain hw hs)) fun r e => ?_
  rw [newVal, dif_pos (show o + r.val < 256 by omega)]

/-- Row by row, the new values solve the whole block's system for the chunk's state. -/
theorem newVal_row (S : Fin 128 → Fin 128 → ℝ) (i : Fin 256) (e : Fin 128) :
    (hp.U i ⟨e.val, by omega⟩ - ∑ d : Fin 128, hp.U i ⟨128 + d.val, by omega⟩ * S d e)
      + ∑ j : Fin 256, aR (fun i d => k i.val d) (fun i => bt i.val) (fun i => g i.val) i j
          * (hp.U j ⟨e.val, by omega⟩ - ∑ d : Fin 128, hp.U j ⟨128 + d.val, by omega⟩ * S d e)
      = bt i.val * (v i.val e - Real.exp (g i.val) * ∑ d, k i.val d * S d e) := by
  set A := aR (fun i d => k i.val d) (fun i => bt i.val) (fun i => g i.val) with hA
  have hrow : ∀ c : Fin 256, hp.U i c + ∑ j, A i j * hp.U j c
      = rhsR (fun i d => k i.val d) (fun i d => v i.val d) (fun i => bt i.val) (fun i => g i.val) i c := by
    intro c
    have h := congrFun (congrFun hp.sys i) c
    rw [add_mul, one_mul, Matrix.add_apply, Matrix.mul_apply] at h
    exact h
  have h1 := hrow ⟨e.val, by omega⟩
  have h2 : ∀ d : Fin 128, hp.U i ⟨128 + d.val, by omega⟩ + ∑ j, A i j * hp.U j ⟨128 + d.val, by omega⟩ = k i.val d * (bt i.val * Real.exp (g i.val)) := by
    intro d
    rw [hrow]
    simp only [rhsR, Matrix.of_apply]
    rw [dif_neg (by simp)]
    congr 2; exact Fin.ext (by simp)
  have h3 : rhsR (fun i d => k i.val d) (fun i d => v i.val d) (fun i => bt i.val) (fun i => g i.val) i ⟨e.val, by omega⟩ = v i.val e * bt i.val := by
    simp only [rhsR, Matrix.of_apply]
    rw [dif_pos e.isLt]
  rw [h3] at h1
  have h4 : ∑ j, A i j * (hp.U j ⟨e.val, by omega⟩ - ∑ d : Fin 128, hp.U j ⟨128 + d.val, by omega⟩ * S d e)
      = ∑ j, A i j * hp.U j ⟨e.val, by omega⟩ - ∑ d : Fin 128, (∑ j, A i j * hp.U j ⟨128 + d.val, by omega⟩) * S d e := by
    simp only [mul_sub, sum_sub_distrib, mul_sum, sum_mul]
    congr 1
    rw [sum_comm]
    exact sum_congr rfl fun d _ => sum_congr rfl fun j _ => by ring
  have h5 : ∑ d : Fin 128, (∑ j, A i j * hp.U j ⟨128 + d.val, by omega⟩) * S d e
      = ∑ d : Fin 128, (k i.val d * (bt i.val * Real.exp (g i.val))) * S d e - ∑ d : Fin 128, hp.U i ⟨128 + d.val, by omega⟩ * S d e := by
    rw [← sum_sub_distrib]
    exact sum_congr rfl fun d _ => by rw [← h2 d]; ring
  have h6 : ∑ d : Fin 128, (k i.val d * (bt i.val * Real.exp (g i.val))) * S d e = bt i.val * (Real.exp (g i.val) * ∑ d, k i.val d * S d e) := by
    simp only [mul_sum]; exact sum_congr rfl fun d _ => by ring
  rw [h4, h5, h6]
  linear_combination h1

/-- A sum over the 256 rows of terms that vanish outside rows `o … o + n - 1`. -/
theorem sum_rows {f : Fin 256 → ℝ} {F : ℕ → ℝ} {o n : ℕ} (hn : o + n ≤ 256) (h0 : ∀ j : Fin 256, (j.val < o ∨ o + n ≤ j.val) → f j = 0)
    (hF : ∀ j (h : o + j < 256), j < n → f ⟨o + j, h⟩ = F j) : ∑ j, f j = ∑ j ∈ range n, F j := by
  have e : ∑ j, f j = ∑ m ∈ range 256, (fun m => if h : m < 256 then f ⟨m, h⟩ else 0) m := by
    rw [sum_range]; exact sum_congr rfl fun j _ => by simp
  rw [e, ← sum_subset (s₁ := Ico o (o + n)) (fun m hm => by simp only [mem_Ico, mem_range] at hm ⊢; omega) (fun m hm hm' => by
    simp only [mem_Ico, mem_range, not_and, not_lt] at hm hm'
    rw [dif_pos hm]
    exact h0 _ (by by_cases h : m < o; exacts [Or.inl h, Or.inr (hm' (by omega))])), sum_Ico_eq_sum_range]
  have : o + n - o = n := by omega
  rw [this]
  refine sum_congr rfl fun j hj => ?_
  rw [mem_range] at hj
  rw [dif_pos (show o + j < 256 by omega)]
  exact hF j _ hj

/-- The chunk's new values solve the chunk's triangular system. -/
theorem newVal_sys {c : ℕ} (hc : c < 4) (S : Fin 128 → Fin 128 → ℝ) (r : ℕ) (hr : r < 64) (e : Fin 128) :
    newVal hp.U S (64 * c) r e + ∑ j ∈ range r, bt (64 * c + r) * (∑ d, k (64 * c + r) d * k (64 * c + j) d)
        * Real.exp (g (64 * c + r) - g (64 * c + j)) * newVal hp.U S (64 * c) j e
      = bt (64 * c + r) * (v (64 * c + r) e - Real.exp (g (64 * c + r)) * ∑ d, k (64 * c + r) d * S d e) := by
  have hi : 64 * c + r < 256 := by omega
  have h := newVal_row hp S ⟨64 * c + r, hi⟩ e
  rw [← h]
  congr 1
  · rw [newVal, dif_pos hi]
  · refine (sum_rows (o := 64 * c) (n := r) (by omega) (fun j hj => ?_) (fun j hj hjr => ?_)).symm
    · have : ¬ ((64 * c + r) / 64 = j.val / 64 ∧ j.val < 64 * c + r) := by omega
      simp only [aR, Matrix.of_apply, if_neg this, zero_mul]
    · have h1 : (64 * c + r) / 64 = (64 * c + j) / 64 ∧ 64 * c + j < 64 * c + r := by omega
      have h2 : (64 * c + r) / 64 = (64 * c + j) / 64 ∧ 64 * c + j ≤ 64 * c + r := by omega
      simp only [aR, decR, Matrix.of_apply, if_pos h1, if_pos h2]
      rw [newVal, dif_pos hj]

/-- The state `r + 1` steps into a chunk, by the chunk's new values. -/
theorem seq_in_chunk {c : ℕ} (hc : c < 4) (hdg : Delta.Steps g dg) (S : Fin 128 → Fin 128 → ℝ) (r : ℕ) (hr : r < 64) (d e : Fin 128) :
    Delta.seq (fun i => k (64 * c + i)) (fun i => v (64 * c + i)) (fun i => bt (64 * c + i)) (fun i => dg (64 * c + i)) S (r + 1) d e
      = Real.exp (g (64 * c + r)) * S d e + ∑ j ∈ range (r + 1), Real.exp (g (64 * c + r) - g (64 * c + j)) * k (64 * c + j) d * newVal hp.U S (64 * c) j e := by
  refine Delta.seq_chunk _ _ _ _ (fun i => g (64 * c + i)) S (newVal hp.U S (64 * c)) 64 ?_ ?_ (fun r hr e => newVal_sys hp hc S r hr e) r hr d e
  · rw [hdg, if_pos (by omega)]
  · intro r hr
    rw [hdg, if_neg (by omega)]; rfl

/-- The state after the chunk. -/
theorem is_next {c : ℕ} (hc : c < 4) (hdg : Delta.Steps g dg) (h0 : S256x1.Slices ![64 * c, 0] S1x1) (h1 : S256x128.Slices ![64 * c, 0] S64x128)
    {s : FVec Ideal S128x128 .f32} {S : Fin 128 → Fin 128 → ℝ} (hs : Is s S) {w : FVec Ideal S64x128 .f32}
    (hw : Is w (fun r e => newVal hp.U S (64 * c) r.val e)) :
    Is (next (64 * c) h0 h1 p.gl p.kd s w)
      (Delta.seq (fun i => k (64 * c + i)) (fun i => v (64 * c + i)) (fun i => bt (64 * c + i)) (fun i => dg (64 * c + i)) S 64) := by
  have hgl : Is (broadcastTo S128x128 (exp (extractStridedSlice S1x1 ![64 * c, 0] p.gl h0 : FVec Ideal S1x1 .f32)) broadcasts_S1x1_S128x128 : FVec Ideal S128x128 .f32)
      (fun _ _ => Real.exp (g (64 * c + 63))) := by
    intro d e
    refine (broadcastTo_apply _ broadcasts_S1x1_S128x128 (ix2 d e) (ix2 (0 : Fin 1) (0 : Fin 1)) (by intro a; fin_cases a <;> simp)).trans ?_
    refine (congrArg Ideal.exp ?_).trans (Ideal.exp_coe _)
    refine (extractStridedSlice_apply _ p.gl h0 _ (ix2 ⟨64 * c, by omega⟩ (0 : Fin 1)) (by intro a; fin_cases a <;> simp)).trans ((hp.gl _ _).trans ?_)
    simp only [lastOf]; congr 2; omega
  have hkd : Is (transpose S128x64 [1, 0] (extractStridedSlice S64x128 ![64 * c, 0] p.kd h1 : FVec Ideal S64x128 .f32) transposes_S64x128_p1_0_S128x64 : FVec Ideal S128x64 .f32)
      (fun (d : Fin 128) (l : Fin 64) => k (64 * c + l.val) d * Real.exp (g (64 * c + 63) - g (64 * c + l.val))) := by
    intro d l
    refine (transpose_apply _ _ transposes_S64x128_p1_0_S128x64 (ix2 d l) (ix2 l d) (by intro a; fin_cases a <;> rfl)).trans ?_
    refine (extractStridedSlice_apply _ p.kd h1 _ (ix2 ⟨64 * c + l.val, by omega⟩ d) (by intro a; fin_cases a <;> simp)).trans ((hp.kd _ _).trans ?_)
    simp only [lastOf]; congr 5; omega
  refine Is.congr (Is.add (Is.mul hs hgl) (Is.plain hkd hw)) fun d e => ?_
  rw [seq_in_chunk hp hc hdg S 63 (by omega), sum_range]
  congr 1
  · ring
  · exact sum_congr rfl fun l _ => by ring

/-- The chunk's outputs. -/
theorem is_outc {c : ℕ} (hc : c < 4) (hdg : Delta.Steps g dg) (h0 : S256x128.Slices ![64 * c, 0] S64x128) (h1 : S256x256.Slices ![64 * c, 64 * c] S64x64)
    {s : FVec Ideal S128x128 .f32} {S : Fin 128 → Fin 128 → ℝ} (hs : Is s S) {w : FVec Ideal S64x128 .f32}
    (hw : Is w (fun r e => newVal hp.U S (64 * c) r.val e)) :
    Is (outc (64 * c) h0 h1 p.qd p.at_ s w) (fun r e => ∑ d, q (64 * c + r.val) d
      * Delta.seq (fun i => k (64 * c + i)) (fun i => v (64 * c + i)) (fun i => bt (64 * c + i)) (fun i => dg (64 * c + i)) S (r.val + 1) d e) := by
  have hqd : Is (extractStridedSlice S64x128 ![64 * c, 0] p.qd h0 : FVec Ideal S64x128 .f32)
      (fun (r : Fin 64) (d : Fin 128) => q (64 * c + r.val) d * Real.exp (g (64 * c + r.val))) := fun r d =>
    (extractStridedSlice_apply _ p.qd h0 (ix2 r d) (ix2 ⟨64 * c + r.val, by omega⟩ d) (by intro a; fin_cases a <;> simp)).trans (hp.qd _ _)
  have hat : Is (extractStridedSlice S64x64 ![64 * c, 64 * c] p.at_ h1 : FVec Ideal S64x64 .f32)
      (fun (r l : Fin 64) => if l.val ≤ r.val then (∑ d, q (64 * c + r.val) d * k (64 * c + l.val) d) * Real.exp (g (64 * c + r.val) - g (64 * c + l.val)) else 0) := by
    intro r l
    refine (extractStridedSlice_apply _ p.at_ h1 (ix2 r l) (ix2 ⟨64 * c + r.val, by omega⟩ ⟨64 * c + l.val, by omega⟩) (by intro a; fin_cases a <;> simp)).trans ((hp.at_ _ _).trans ?_)
    simp only [decR]
    by_cases h : l.val ≤ r.val
    · rw [if_pos h, if_pos (by omega)]
    · rw [if_neg h, if_neg (by omega), mul_zero]
  refine Is.congr (Is.add (Is.plain hqd hs) (Is.plain hat hw)) fun r e => ?_
  rw [Delta.out_chunk (fun i => k (64 * c + i)) (fun i => q (64 * c + i)) (fun i => g (64 * c + i)) S (newVal hp.U S (64 * c)) r.val _
    (fun d e => seq_in_chunk hp hc hdg S r.val r.isLt d e)]
  congr 1
  set f : ℕ → ℝ := fun l => (if l ≤ r.val then (∑ d, q (64 * c + r.val) d * k (64 * c + l) d) * Real.exp (g (64 * c + r.val) - g (64 * c + l)) else 0)
    * newVal hp.U S (64 * c) l e with hf
  refine (sum_range f).symm.trans ?_
  rw [← sum_subset (s₁ := range (r.val + 1)) (fun m hm => by simp only [mem_range] at hm ⊢; omega)
    (fun m _ hm' => by simp only [mem_range] at hm'; rw [hf]; dsimp only; rw [if_neg (by omega), zero_mul])]
  refine sum_congr rfl fun l hl => ?_
  rw [mem_range] at hl
  rw [hf]; dsimp only; rw [if_pos (by omega)]

/-- The state after the block's first `n` chunks' steps and then one chunk more. -/
theorem seq_chunks (c : ℕ) (S : Fin 128 → Fin 128 → ℝ) (n : ℕ) :
    Delta.seq (fun i => k (64 * c + i)) (fun i => v (64 * c + i)) (fun i => bt (64 * c + i)) (fun i => dg (64 * c + i)) (Delta.seq k v bt dg S (64 * c)) n
      = Delta.seq k v bt dg S (64 * c + n) := (Delta.seq_add k v bt dg S (64 * c) n).symm

section
variable (hdg : Delta.Steps g dg) {s : FVec Ideal S128x128 .f32} {S : Fin 128 → Fin 128 → ℝ} (hs : Is s S)
include hp hdg hs

theorem is_n0 : Is (n0 p s) (Delta.seq k v bt dg S 64) := by
  have := is_next hp (c := 0) (by omega) hdg slices_S256x1_o0_0_S1x1 slices_S256x128_o0_0_S64x128 hs
    (is_fresh hp (o := 64 * 0) (by omega) slices_S256x256_o0_0_S64x128 slices_S256x256_o0_128_S64x128 hs)
  simp only [Nat.mul_zero, Nat.zero_add] at this
  exact this

theorem is_n1 : Is (n1 p (n0 p s)) (Delta.seq k v bt dg S 128) := by
  have h := is_n0 hp hdg hs
  have := is_next hp (c := 1) (by omega) hdg slices_S256x1_o64_0_S1x1 slices_S256x128_o64_0_S64x128 h
    (is_fresh hp (o := 64 * 1) (by omega) slices_S256x256_o64_0_S64x128 slices_S256x256_o64_128_S64x128 h)
  exact Is.congr this fun _ _ => congrFun (congrFun (seq_chunks 1 S 64) _) _

theorem is_n2 : Is (n2 p (n1 p (n0 p s))) (Delta.seq k v bt dg S 192) := by
  have h := is_n1 hp hdg hs
  have := is_next hp (c := 2) (by omega) hdg slices_S256x1_o128_0_S1x1 slices_S256x128_o128_0_S64x128 h
    (is_fresh hp (o := 64 * 2) (by omega) slices_S256x256_o128_0_S64x128 slices_S256x256_o128_128_S64x128 h)
  exact Is.congr this fun _ _ => congrFun (congrFun (seq_chunks 2 S 64) _) _

theorem is_n3 : Is (n3 p (n2 p (n1 p (n0 p s)))) (Delta.seq k v bt dg S 256) := by
  have h := is_n2 hp hdg hs
  have := is_next hp (c := 3) (by omega) hdg slices_S256x1_o192_0_S1x1 slices_S256x128_o192_0_S64x128 h
    (is_fresh hp (o := 64 * 3) (by omega) slices_S256x256_o192_0_S64x128 slices_S256x256_o192_128_S64x128 h)
  exact Is.congr this fun _ _ => congrFun (congrFun (seq_chunks 3 S 64) _) _

/-- After the block the state is the recurrence's after 256 steps. -/
theorem is_stateOut (d e : Fin 128) : (stateOut p s (ix3 (0 : Fin 1) d e) : EReal) = ((Delta.seq k v bt dg S 256 d e : ℝ) : EReal) := by
  refine Eq.trans ?_ (is_n3 hp hdg hs d e)
  exact shapeCast_apply _ shapeCasts_S128x128_S1x128x128 (ix3 (0 : Fin 1) d e) (ix2 d e) (by
    rw [Shape.rowMajor_val_three, Shape.rowMajor_val_two]; simp)

theorem is_c0 : Is (c0 p s) (fun r e => ∑ d, q (0 + r.val) d * Delta.seq k v bt dg S (0 + (r.val + 1)) d e) := by
  have := is_outc hp (c := 0) (by omega) hdg slices_S256x128_o0_0_S64x128 slices_S256x256_o0_0_S64x64 hs
    (is_fresh hp (o := 64 * 0) (by omega) slices_S256x256_o0_0_S64x128 slices_S256x256_o0_128_S64x128 hs)
  simp only [Nat.mul_zero, Nat.zero_add] at this ⊢
  exact this

theorem is_c1 : Is (c1 p (n0 p s)) (fun r e => ∑ d, q (64 + r.val) d * Delta.seq k v bt dg S (64 + (r.val + 1)) d e) := by
  have h := is_n0 hp hdg hs
  have := is_outc hp (c := 1) (by omega) hdg slices_S256x128_o64_0_S64x128 slices_S256x256_o64_64_S64x64 h
    (is_fresh hp (o := 64 * 1) (by omega) slices_S256x256_o64_0_S64x128 slices_S256x256_o64_128_S64x128 h)
  exact Is.congr this fun r e => sum_congr rfl fun d _ => congrArg _ (congrFun (congrFun (seq_chunks 1 S (r.val + 1)) _) _)

theorem is_c2 : Is (c2 p (n1 p (n0 p s))) (fun r e => ∑ d, q (128 + r.val) d * Delta.seq k v bt dg S (128 + (r.val + 1)) d e) := by
  have h := is_n1 hp hdg hs
  have := is_outc hp (c := 2) (by omega) hdg slices_S256x128_o128_0_S64x128 slices_S256x256_o128_128_S64x64 h
    (is_fresh hp (o := 64 * 2) (by omega) slices_S256x256_o128_0_S64x128 slices_S256x256_o128_128_S64x128 h)
  exact Is.congr this fun r e => sum_congr rfl fun d _ => congrArg _ (congrFun (congrFun (seq_chunks 2 S (r.val + 1)) _) _)

theorem is_c3 : Is (c3 p (n2 p (n1 p (n0 p s)))) (fun r e => ∑ d, q (192 + r.val) d * Delta.seq k v bt dg S (192 + (r.val + 1)) d e) := by
  have h := is_n2 hp hdg hs
  have := is_outc hp (c := 3) (by omega) hdg slices_S256x128_o192_0_S64x128 slices_S256x256_o192_192_S64x64 h
    (is_fresh hp (o := 64 * 3) (by omega) slices_S256x256_o192_0_S64x128 slices_S256x256_o192_128_S64x128 h)
  exact Is.congr this fun r e => sum_congr rfl fun d _ => congrArg _ (congrFun (congrFun (seq_chunks 3 S (r.val + 1)) _) _)

end

end

/-- The four chunks' outputs put together. -/
def glue (o0 o1 o2 o3 : FVec Ideal S64x128 .f32) : FVec Ideal S256x128 .f32 :=
  concatenate S256x128 0 [⟨S64x128, o0⟩, ⟨S64x128, o1⟩, ⟨S64x128, o2⟩, ⟨S64x128, o3⟩] concatenates_S64x128_S64x128_S64x128_S64x128_S256x128_d0

/-- A row of them is a row of the chunk's. -/
theorem is_glue {o0 o1 o2 o3 : FVec Ideal S64x128 .f32} {O : ℕ → Fin 128 → ℝ} (h0 : Is o0 fun r => O (0 + r.val)) (h1 : Is o1 fun r => O (64 + r.val))
    (h2 : Is o2 fun r => O (128 + r.val)) (h3 : Is o3 fun r => O (192 + r.val)) : Is (glue o0 o1 o2 o3) (fun i => O i.val) := by
  have key : ∀ (n : ℕ) (hn : n < 4) (x : FVec Ideal S64x128 .f32) (hx : ([⟨S64x128, o0⟩, ⟨S64x128, o1⟩, ⟨S64x128, o2⟩, ⟨S64x128, o3⟩] : List ((s : Shape) × (s.Idx → EReal)))[n] = ⟨S64x128, x⟩)
      (h : Is x fun r => O (64 * n + r.val)) (hp : (((([⟨S64x128, o0⟩, ⟨S64x128, o1⟩, ⟨S64x128, o2⟩, ⟨S64x128, o3⟩] : List ((s : Shape) × (s.Idx → EReal))).take n).map (·.1)).map
        fun s => if h : s.rank = S256x128.rank then s.size ((0 : Fin S256x128.rank).cast h.symm) else 0).sum = 64 * n)
      (i : Fin 256) (e : Fin 128), i.val / 64 = n →
      (glue o0 o1 o2 o3 (ix2 i e) : EReal) = ((O i.val e : ℝ) : EReal) := by
    intro n hn x hx h hp i e hi
    refine (concatenate_apply_piece (0 : Fin S256x128.rank) ([⟨S64x128, o0⟩, ⟨S64x128, o1⟩, ⟨S64x128, o2⟩, ⟨S64x128, o3⟩] : List ((s : Shape) × (s.Idx → EReal))) concatenates_S64x128_S64x128_S64x128_S64x128_S256x128_d0 (ix2 i e) n hn S64x128 x hx rfl (64 * n) hp
      (ix2 ⟨i.val - 64 * n, by omega⟩ e) ?_ ?_).trans ((h _ _).trans ?_)
    · intro b hb; fin_cases b
      · exact absurd rfl hb
      · rfl
    · show 64 * n + (i.val - 64 * n) = i.val; omega
    · show ((O (64 * n + (i.val - 64 * n)) e : ℝ) : EReal) = _
      rw [show 64 * n + (i.val - 64 * n) = i.val by omega]
  intro i e
  have hi : i.val / 64 = 0 ∨ i.val / 64 = 1 ∨ i.val / 64 = 2 ∨ i.val / 64 = 3 := by omega
  rcases hi with h | h | h | h
  · exact key 0 (by omega) o0 rfl h0 rfl i e h
  · exact key 1 (by omega) o1 rfl h1 rfl i e h
  · exact key 2 (by omega) o2 rfl h2 rfl i e h
  · exact key 3 (by omega) o3 rfl h3 rfl i e h

theorem gate_apply (o0 o1 o2 o3 : FVec Ideal S64x128 .f32) (ng : Vec Ideal S1x128 .f32) (z : Vec Ideal S1x256x128 .bf16) (i : Fin 256) (e : Fin 128) :
    (gate o0 o1 o2 o3 ng z (ix3 (0 : Fin 1) i e) : EReal)
      = Delta.gateE (fun e' => glue o0 o1 o2 o3 (ix2 i e')) (ng (ix2 (0 : Fin 1) e)) (z (ix3 (0 : Fin 1) i e)) e := by
  have hz : blk z (ix2 i e) = z (ix3 (0 : Fin 1) i e) := shapeCast_apply z shapeCasts_S1x256x128_S256x128 (ix2 i e) (ix3 (0 : Fin 1) i e) (by
    rw [Shape.rowMajor_val_three, Shape.rowMajor_val_two]; simp)
  have hn : (broadcastTo S256x128 (shapeCast S1x128 ng shapeCasts_S1x128_S1x128 : FVec Ideal S1x128 .f32) broadcasts_S1x128_S256x128) (ix2 i e) = ng (ix2 (0 : Fin 1) e) :=
    (broadcastTo_apply _ broadcasts_S1x128_S256x128 (ix2 i e) (ix2 (0 : Fin 1) e) (by intro a; fin_cases a <;> simp)).trans
      (shapeCast_apply _ shapeCasts_S1x128_S1x128 _ _ rfl)
  unfold gate
  dsimp only
  refine (shapeCast_apply _ shapeCasts_S256x128_S1x256x128 (ix3 (0 : Fin 1) i e) (ix2 i e) (by
    rw [Shape.rowMajor_val_three, Shape.rowMajor_val_two]; simp)).trans ?_
  change glue o0 o1 o2 o3 (ix2 i e) * lanes _ (ix2 i e) * (broadcastTo S256x128 (shapeCast S1x128 ng shapeCasts_S1x128_S1x128 : FVec Ideal S1x128 .f32) broadcasts_S1x128_S256x128) (ix2 i e)
    * (blk z (ix2 i e) * Ideal.div (Ideal.ofBits .f32 0x3F800000#32) (Ideal.ofBits .f32 0x3F800000#32 + Ideal.exp (Ideal.ofBits .f32 0x00000000#32 - blk z (ix2 i e)))) = _
  rw [hz, hn, ofBits_one_f32, Ideal.ofBits_zero_f32, sub_eq_add_neg, zero_add]
  unfold Delta.gateE
  congr 2
  refine congrArg (glue o0 o1 o2 o3 (ix2 i e) * ·) ?_
  refine (broadcastTo_apply _ broadcasts_S256x1_S256x128 (ix2 i e) (ix2 i (0 : Fin 1)) (by intro a; fin_cases a <;> simp)).trans ?_
  refine congrArg Ideal.rsqrt (congrArg (· + _) (congrArg (Ideal.div · _) ?_))
  refine (shapeCast_apply _ shapeCasts_S256_S256x1 (ix2 i (0 : Fin 1)) (ix1 i) (by
    rw [Shape.rowMajor_val_one, Shape.rowMajor_val_two]; simp)).trans ?_
  refine (Ideal.multiReduction_add_single _ _ reduces_S256x128_S256 (.inl rfl) rfl (ix1 i)).trans ?_
  refine sum_congr rfl fun e' _ => ?_
  have : reduces_S256x128_S256.lift (ix1 i) e' = ix2 i e' := by funext a; apply Fin.ext; fin_cases a <;> rfl
  rw [this]; rfl

end Cert.KernelIdeal.Head

end
-- ==== Proof.Blocks.lean ====
/- One point of the grid on real blocks: what its output block and its carried state hold, head by head. -/
module

public import proofs.«01_k».proof.Proof.Bridge
public import proofs.«01_k».proof.Proof.Chunk
public import proofs.«01_k».proof.Proof.Gen.KernelIdeal.Frame
public import Idealize.ShloMosaic.Lib.Pipeline.ValueKit.Tiles

@[expose] public section

noncomputable section

namespace Cert.KernelIdeal.Head

open Cert.KernelIdeal Cert.KernelIdeal.Gen Idealize.ShloMosaic Idealize.ShloMosaic.ValueIdx Finset

/-- Column `d` of head `h` among 512. -/
abbrev lane4 (h : Fin 4) (d : Fin 128) : Fin 512 := ⟨128 * h.val + d.val, by omega⟩
/-- Column `d` of head `h` among 1024. -/
abbrev lane8 (h : Fin 8) (d : Fin 128) : Fin 1024 := ⟨128 * h.val + d.val, by omega⟩

/-- A point's blocks hold the real queries, keys, values, write strengths and cumulated decays. -/
structure Holds (x0 x1 : Vec Ideal S1x256x512 .bf16) (x2 : Vec Ideal S1x256x1024 .bf16) (x4 : Vec Ideal S1x1x256x128 .f32) (x5 : Vec Ideal S1x8x1x256 .f32)
    (q k : Fin 4 → ℕ → Fin 128 → ℝ) (v : Fin 8 → ℕ → Fin 128 → ℝ) (bt g : Fin 8 → ℕ → ℝ) : Prop where
  hq : ∀ h (i : Fin 256) d, (x0 (ix3 (0 : Fin 1) i (lane4 h d)) : EReal) = ((q h i.val d : ℝ) : EReal)
  hk : ∀ h (i : Fin 256) d, (x1 (ix3 (0 : Fin 1) i (lane4 h d)) : EReal) = ((k h i.val d : ℝ) : EReal)
  hv : ∀ h (i : Fin 256) d, (x2 (ix3 (0 : Fin 1) i (lane8 h d)) : EReal) = ((v h i.val d : ℝ) : EReal)
  hbt : ∀ (h : Fin 8) (i : Fin 256), (x4 (ix4 (0 : Fin 1) (0 : Fin 1) i (⟨h.val, by omega⟩ : Fin 128)) : EReal) = ((bt h i.val : ℝ) : EReal)
  hg : ∀ (h : Fin 8) (i : Fin 256), (x4 (ix4 (0 : Fin 1) (0 : Fin 1) i (⟨8 + h.val, by omega⟩ : Fin 128)) : EReal) = ((g h i.val : ℝ) : EReal)
  hgr : ∀ (h : Fin 8) (i : Fin 256), (x5 (ix4 (0 : Fin 1) h (0 : Fin 1) i) : EReal) = ((g h i.val : ℝ) : EReal)
  falls : ∀ h, Falling fun i => g h i.val

/-- A load of a buffer filled with `x` reads `x` through the rectangle. -/
theorem readAt_unread {S : Shape} {e : EltTy} {arg : Memref sig .tc .vmem S e} (harg : arg.IsWhole) (r : Rect S) (x : S.Idx → Elt Ideal e) :
    View.readAt (Elt Ideal) arg.view r.toLoadRect (harg.unread x) = View.ld x r := by
  refine (View.readAt_eq_ld arg.view (harg.unread x) r).trans ?_
  rw [harg.read_unread]

theorem ld_rect4 (x : Vec Ideal S1x256x512 .bf16) (h : Fin 4) (i : Fin 256) (d : Fin 128) :
    View.ld (Val := Elt Ideal) (e' := .bf16) x (rect4 h) (ix3 (0 : Fin 1) i d) = x (ix3 (0 : Fin 1) i (lane4 h d)) :=
  View.ld_unit_apply_of (Val := Elt Ideal) (e := .bf16) x _ _ _ _ (ix3 (0 : Fin 1) i (lane4 h d)) (by intro a; fin_cases a <;> simp)

theorem ld_rect8 (x : Vec Ideal S1x256x1024 .bf16) (h : Fin 8) (i : Fin 256) (d : Fin 128) :
    View.ld (Val := Elt Ideal) (e' := .bf16) x (rect8 h) (ix3 (0 : Fin 1) i d) = x (ix3 (0 : Fin 1) i (lane8 h d)) :=
  View.ld_unit_apply_of (Val := Elt Ideal) (e := .bf16) x _ _ _ _ (ix3 (0 : Fin 1) i (lane8 h d)) (by intro a; fin_cases a <;> simp)

theorem ld_rectG (x : Vec Ideal S1x8x1x256 .f32) (h : Fin 8) (i : Fin 256) :
    View.ld (Val := Elt Ideal) (e' := .f32) x (rectG h) (ix4 (0 : Fin 1) (0 : Fin 1) (0 : Fin 1) i) = x (ix4 (0 : Fin 1) h (0 : Fin 1) i) :=
  View.ld_unit_apply_of (Val := Elt Ideal) (e := .f32) x _ _ _ _ (ix4 (0 : Fin 1) h (0 : Fin 1) i) (by intro a; fin_cases a <;> simp)

theorem ld_rectS (x : Vec Ideal S8x128x128 .f32) (h : Fin 8) (d e : Fin 128) :
    View.ld (Val := Elt Ideal) (e' := .f32) x (rectS h) (ix3 (0 : Fin 1) d e) = x (ix3 h d e) :=
  View.ld_unit_apply_of (Val := Elt Ideal) (e := .f32) x _ _ _ _ (ix3 h d e) (by intro a; fin_cases a <;> simp)

theorem colAt_apply (c : Vec Ideal S1x1x256x128 .f32) (n : Fin 16) (i : Fin 256) (z : Fin 1) :
    (colAt c n (ix2 i z) : EReal) = c (ix4 (0 : Fin 1) (0 : Fin 1) i (⟨n.val, by omega⟩ : Fin 128)) := by
  refine (extractStridedSlice_apply _ _ _ (ix2 i z) (ix2 i (⟨n.val, by omega⟩ : Fin 128)) (by intro a; fin_cases a <;> simp)).trans ?_
  exact shapeCast_apply c shapeCasts_S1x1x256x128_S256x128 _ _ (by rw [Shape.rowMajor_val_four, Shape.rowMajor_val_two]; simp)

section
variable {x0 x1 : Vec Ideal S1x256x512 .bf16} {x2 : Vec Ideal S1x256x1024 .bf16} {x4 : Vec Ideal S1x1x256x128 .f32} {x5 : Vec Ideal S1x8x1x256 .f32}
  {q k : Fin 4 → ℕ → Fin 128 → ℝ} {v : Fin 8 → ℕ → Fin 128 → ℝ} {bt g : Fin 8 → ℕ → ℝ}
variable {arg3 : Memref sig .tc .vmem S1x256x512 .bf16} (harg3 : arg3.IsWhole) {arg4 : Memref sig .tc .vmem S1x256x512 .bf16} (harg4 : arg4.IsWhole) {arg5 : Memref sig .tc .vmem S1x256x1024 .bf16} (harg5 : arg5.IsWhole) {arg7 : Memref sig .tc .vmem S1x1x256x128 .f32} (harg7 : arg7.IsWhole) {arg8 : Memref sig .tc .vmem S1x8x1x256 .f32} (harg8 : arg8.IsWhole)

/-- The heads' preparations hold the heads' real matrices. -/
def isPreps (H : Holds x0 x1 x2 x4 x5 q k v bt g) (h : Fin 8) :
    IsPrep (preps arg3 harg3 arg4 harg4 arg5 harg5 arg7 harg7 arg8 harg8 x0 x1 x2 x4 x5 h)
      (fun i d => q (keyOf h) i.val d) (fun i d => k (keyOf h) i.val d) (fun i d => v h i.val d) (fun i => bt h i.val) (fun i => g h i.val) :=
  have hc : ∀ n : Fin 16, (colAt (View.readAt (Elt Ideal) arg7.view (Rect.unit (s := S1x1x256x128) ![0, 0, 0, 0] S1x1x256x128.size inb_S1x1x256x128_S1x1x256x128_0_0_0_0).toLoadRect (harg7.unread x4)) n : FVec Ideal S256x1 .f32)
      = colAt x4 n := fun n => congrArg (colAt · n) ((readAt_unread harg7 _ x4).trans
        (View.ld_unit_zero (Val := Elt Ideal) (e := .f32) (S := S1x1x256x128) (by funext a; fin_cases a <;> rfl) _ x4))
  isPrep
    (fun i d => (congrFun (readAt_unread harg3 (rect4 (keyOf h)) x0) _).trans ((ld_rect4 x0 _ i d).trans (H.hq _ i d)))
    (fun i d => (congrFun (readAt_unread harg4 (rect4 (keyOf h)) x1) _).trans ((ld_rect4 x1 _ i d).trans (H.hk _ i d)))
    (fun i d => (congrFun (readAt_unread harg5 (rect8 h) x2) _).trans ((ld_rect8 x2 _ i d).trans (H.hv _ i d)))
    (fun i z => (congrFun (hc ⟨h.val, by omega⟩) _).trans ((colAt_apply x4 _ i z).trans (H.hbt h i)))
    (fun i z => (congrFun (hc ⟨8 + h.val, by omega⟩) _).trans ((colAt_apply x4 _ i z).trans (H.hg h i)))
    (fun i => (congrFun (readAt_unread harg8 (rectG h) x5) _).trans ((ld_rectG x5 h i).trans (H.hgr h i)))
    (H.falls h)

end

/-! ## Reading the pieces back -/

theorem emb_rect8 (h : Fin 8) (i : Fin 256) (d : Fin 128) : (rect8 h).emb (ix3 (0 : Fin 1) i d) = ix3 (0 : Fin 1) i (lane8 h d) := by
  funext a; apply Fin.ext
  have e : ((rect8 h).emb (ix3 (0 : Fin 1) i d) a : ℕ) = (![0, 0, 128 * h.val] : Fin 3 → ℕ) a + (ix3 (0 : Fin 1) i d a : ℕ) := Rect.idx_unit_val _ _ _ _ a
  refine e.trans ?_
  fin_cases a <;> simp

theorem emb_rectS (h : Fin 8) (d e : Fin 128) : (rectS h).emb (ix3 (0 : Fin 1) d e) = ix3 h d e := by
  funext a; apply Fin.ext
  have e : ((rectS h).emb (ix3 (0 : Fin 1) d e) a : ℕ) = (![h.val, 0, 0] : Fin 3 → ℕ) a + (ix3 (0 : Fin 1) d e a : ℕ) := Rect.idx_unit_val _ _ _ _ a
  refine e.trans ?_
  fin_cases a <;> simp

/-- A list's pieces for distinct heads, read back under one head's piece. -/
theorem canon_map {S : Shape} {e : EltTy} (f : Fin 8 → View.Piece (Elt Ideal) S e) (rest : List (View.Piece (Elt Ideal) S e)) (h : Fin 8) (x : (f h).1.shape.Idx)
    (hd : ∀ k, k ≠ h → (f h).1.emb x ∉ (f k).1.set) : ∀ l : List (Fin 8), h ∈ l → View.canon (l.map f ++ rest) ((f h).1.emb x) = (f h).2 x
  | [], hm => absurd hm List.not_mem_nil
  | k :: l, hm => by
    by_cases hk : k = h
    · subst hk; exact View.canon_cons_emb _ _ _ _
    · refine (View.canon_cons_of_not_mem (f k) (l.map f ++ rest) (hd k hk)).trans (canon_map f rest h x hd l ?_)
      rcases List.mem_cons.mp hm with h' | h'
      · exact absurd h'.symm hk
      · exact h'

theorem mem_order (h : Fin 8) : h ∈ order := by revert h; decide

theorem canon_out (p : Fin 8 → Prep Ideal) (z : Fin 8 → Vec Ideal S1x256x128 .bf16) (ng : Vec Ideal S1x128 .f32) (s : Fin 8 → Vec Ideal S1x128x128 .f32)
    (h : Fin 8) (i : Fin 256) (d : Fin 128) :
    View.canon (order.map (outPiece p z ng s)) (ix3 (0 : Fin 1) i (lane8 h d)) = valueOut (p h) (sIn (s h)) ng (z h) (ix3 (0 : Fin 1) i d) := by
  have := canon_map (outPiece p z ng s) [] h (ix3 (0 : Fin 1) i d) (fun k hk hm => ?_) order (mem_order h)
  · rw [List.append_nil] at this
    refine Eq.trans ?_ this
    exact congrArg _ (emb_rect8 h i d).symm
  · have hm' := hm
    rw [show (outPiece p z ng s h).1.emb (ix3 (0 : Fin 1) i d) = ix3 (0 : Fin 1) i (lane8 h d) from emb_rect8 h i d] at hm'
    have hm2 : ix3 (0 : Fin 1) i (lane8 h d) ∈ (rect8 k).set := hm'
    unfold rect8 at hm2
    rw [Rect.mem_set_unit] at hm2
    have := hm2 2
    simp at this
    exact hk (Fin.ext (by omega))

theorem canon_state (p : Fin 8 → Prep Ideal) (s : Fin 8 → Vec Ideal S1x128x128 .f32) (rest : List (View.Piece (Elt Ideal) S8x128x128 .f32))
    (h : Fin 8) (d e : Fin 128) :
    View.canon (order.map (statePiece p s) ++ rest) (ix3 h d e) = stateOut (p h) (sIn (s h)) (ix3 (0 : Fin 1) d e) := by
  have := canon_map (statePiece p s) rest h (ix3 (0 : Fin 1) d e) (fun k hk hm => ?_) order (mem_order h)
  · refine Eq.trans ?_ this
    exact congrArg _ (emb_rectS h d e).symm
  · have hm' := hm
    rw [show (statePiece p s h).1.emb (ix3 (0 : Fin 1) d e) = ix3 h d e from emb_rectS h d e] at hm'
    have hm2 : ix3 h d e ∈ (rectS k).set := hm'
    unfold rectS at hm2
    rw [Rect.mem_set_unit] at hm2
    have := hm2 0
    simp at this
    exact hk (Fin.ext (by omega))

/-- A head's loaded state. -/
theorem is_sIn {x : Vec Ideal S1x128x128 .f32} {S : Fin 128 → Fin 128 → ℝ} (hx : ∀ d e, (x (ix3 (0 : Fin 1) d e) : EReal) = ((S d e : ℝ) : EReal)) : Is (sIn x) S :=
  fun d e => (shapeCast_apply x shapeCasts_S1x128x128_S128x128 (ix2 d e) (ix3 (0 : Fin 1) d e) (by
    rw [Shape.rowMajor_val_three, Shape.rowMajor_val_two]; simp)).trans (hx d e)

/-- A cleared state is zero. -/
theorem cleared_apply (arg11 : Memref sig .tc .vmem S8x128x128 .f32) (h : Fin 8) (d e : Fin 128) :
    (clearedAt (F := Ideal) arg11 h (ix3 (0 : Fin 1) d e) : EReal) = ((0 : ℝ) : EReal) := by
  unfold clearedAt
  rw [View.readCov_eq_canon']
  refine (congrFun (View.canon_cons_unit_zero (Val := Elt Ideal) (e := .f32) (S := S8x128x128) (by funext a; fin_cases a <;> rfl) _ (k0_pay1 (F := Ideal)) []) _).trans ?_
  unfold k0_pay1
  exact Ideal.ofBits_zero_f32

/-! ## A point's results -/

/-- What a point computes, block for block. -/
structure Point (out : Vec Ideal S1x256x1024 .bf16) (st : Vec Ideal S8x128x128 .f32) (x3 : Vec Ideal S1x256x1024 .bf16) (x6 : Vec Ideal S1x128 .f32)
    (q k : Fin 4 → ℕ → Fin 128 → ℝ) (v : Fin 8 → ℕ → Fin 128 → ℝ) (bt dg : Fin 8 → ℕ → ℝ) (S : Fin 8 → Fin 128 → Fin 128 → ℝ) : Prop where
  out : ∀ h (i : Fin 256) d, (out (ix3 (0 : Fin 1) i (lane8 h d)) : EReal)
    = Delta.gateE (fun e => ((∑ d', q (keyOf h) i.val d' * Delta.seq (k (keyOf h)) (v h) (bt h) (dg h) (S h) (i.val + 1) d' e : ℝ) : EReal))
        (x6 (ix2 (0 : Fin 1) d)) (x3 (ix3 (0 : Fin 1) i (lane8 h d))) d
  state : ∀ h d e, (st (ix3 h d e) : EReal) = ((Delta.seq (k (keyOf h)) (v h) (bt h) (dg h) (S h) 256 d e : ℝ) : EReal)

section
variable {q k v : ℕ → Fin 128 → ℝ} {bt g dg : ℕ → ℝ}
variable {p : Prep Ideal} (hp : IsPrep p (fun i d => q i.val d) (fun i d => k i.val d) (fun i d => v i.val d) (fun i => bt i.val) (fun i => g i.val))
variable (hdg : Delta.Steps g dg) {s : FVec Ideal S128x128 .f32} {S : Fin 128 → Fin 128 → ℝ} (hs : Is s S)
include hp hdg hs

/-- A head's output rows. -/
theorem valueOut_apply (ng : Vec Ideal S1x128 .f32) (z : Vec Ideal S1x256x128 .bf16) (i : Fin 256) (e : Fin 128) :
    (valueOut p s ng z (ix3 (0 : Fin 1) i e) : EReal)
      = Delta.gateE (fun e => ((∑ d', q i.val d' * Delta.seq k v bt dg S (i.val + 1) d' e : ℝ) : EReal)) (ng (ix2 (0 : Fin 1) e)) (z (ix3 (0 : Fin 1) i e)) e := by
  unfold valueOut
  rw [gate_apply]
  congr 1
  funext e'
  exact is_glue (O := fun r e => ∑ d', q r d' * Delta.seq k v bt dg S (r + 1) d' e) (is_c0 hp hdg hs) (is_c1 hp hdg hs) (is_c2 hp hdg hs) (is_c3 hp hdg hs) i e'

end

section
variable (c : Dev nD) (i : grid0.Coords) (arg3 : Memref sig .tc .vmem S1x256x512 .bf16) (harg3 : arg3.IsWhole) (arg4 : Memref sig .tc .vmem S1x256x512 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1x256x128 .f32) (harg7 : arg7.IsWhole) (arg8 : Memref sig .tc .vmem S1x8x1x256 .f32) (harg8 : arg8.IsWhole) (arg9 : Memref sig .tc .vmem S1x128 .f32) (harg9 : arg9.IsWhole) (arg10 : Memref sig .tc .vmem S1x256x1024 .bf16) (harg10 : arg10.IsWhole) (arg11 : Memref sig .tc .vmem S8x128x128 .f32) (harg11 : arg11.IsWhole)
  {x0 : Vec Ideal S1x256x512 .bf16} {x1 : Vec Ideal S1x256x512 .bf16} {x2 : Vec Ideal S1x256x1024 .bf16} (x3 : Vec Ideal S1x256x1024 .bf16) {x4 : Vec Ideal S1x1x256x128 .f32} {x5 : Vec Ideal S1x8x1x256 .f32} (x6 : Vec Ideal S1x128 .f32) {xs0 : Vec Ideal S8x128x128 .f32}
  {q k : Fin 4 → ℕ → Fin 128 → ℝ} {v : Fin 8 → ℕ → Fin 128 → ℝ} {bt g dg : Fin 8 → ℕ → ℝ} {S : Fin 8 → Fin 128 → Fin 128 → ℝ}

/-- The pieces, read back, whatever the loaded states are, are the point's results. -/
theorem point_of (H : Holds x0 x1 x2 x4 x5 q k v bt g) (hdg : ∀ h, Delta.Steps (g h) (dg h)) (st : Fin 8 → Vec Ideal S1x128x128 .f32)
    (hst : ∀ h d e, (st h (ix3 (0 : Fin 1) d e) : EReal) = ((S h d e : ℝ) : EReal)) (rest : List (View.Piece (Elt Ideal) S8x128x128 .f32)) :
    Point (View.canon (order.map (outPiece (preps arg3 harg3 arg4 harg4 arg5 harg5 arg7 harg7 arg8 harg8 x0 x1 x2 x4 x5)
          (fun h => View.readAt (Elt Ideal) arg6.view (rect8 h).toLoadRect (harg6.unread x3))
          (View.readAt (Elt Ideal) arg9.view (Rect.unit (s := S1x128) ![0, 0] S1x128.size inb_S1x128_S1x128_0_0).toLoadRect (harg9.unread x6)) st)))
      (View.canon (order.map (statePiece (preps arg3 harg3 arg4 harg4 arg5 harg5 arg7 harg7 arg8 harg8 x0 x1 x2 x4 x5) st) ++ rest))
      x3 x6 q k v bt dg S where
  out h i d := by
    have hn : View.readAt (Elt Ideal) arg9.view (Rect.unit (s := S1x128) ![0, 0] S1x128.size inb_S1x128_S1x128_0_0).toLoadRect (harg9.unread x6) = x6 :=
      (readAt_unread harg9 _ x6).trans (View.ld_unit_zero (Val := Elt Ideal) (e := .f32) (S := S1x128) (by funext a; fin_cases a <;> rfl) _ x6)
    refine (canon_out _ _ _ _ h i d).trans ?_
    refine (valueOut_apply (isPreps harg3 harg4 harg5 harg7 harg8 H h) (hdg h) (is_sIn (hst h)) _ _ i d).trans ?_
    rw [hn, show View.readAt (Elt Ideal) arg6.view (rect8 h).toLoadRect (harg6.unread x3) (ix3 (0 : Fin 1) i d) = x3 (ix3 (0 : Fin 1) i (lane8 h d)) from
      (congrFun (readAt_unread harg6 (rect8 h) x3) _).trans (ld_rect8 x3 h i d)]
  state h d e := (canon_state _ _ _ h d e).trans (is_stateOut (isPreps harg3 harg4 harg5 harg7 harg8 H h) (hdg h) (is_sIn (hst h)) d e)

/-- A point that is not its run's first, over the state `S`. -/
theorem point_B (hc0 : ¬cond0_0 i) (H : Holds x0 x1 x2 x4 x5 q k v bt g) (hdg : ∀ h, Delta.Steps (g h) (dg h))
    (hS : ∀ h d e, (xs0 (ix3 h d e) : EReal) = ((S h d e : ℝ) : EReal)) :
    Point (out0_B_7 c i arg3 harg3 arg4 harg4 arg5 harg5 arg6 harg6 arg7 harg7 arg8 harg8 arg9 harg9 arg10 harg10 arg11 harg11 hc0 x0 x1 x2 x3 x4 x5 x6 xs0)
      (sout0_B_0 c i arg3 harg3 arg4 harg4 arg5 harg5 arg6 harg6 arg7 harg7 arg8 harg8 arg9 harg9 arg10 harg10 arg11 harg11 hc0 x0 x1 x2 x3 x4 x5 x6 xs0) x3 x6 q k v bt dg S := by
  have h1 := (congrArg (fun L => VO0_7.read (Elt Ideal) (VO0_7.writes (Elt Ideal) VO0_7.junk L)) (out_B c i arg3 harg3 arg4 harg4 arg5 harg5 arg6 harg6 arg7 harg7 arg8 harg8 arg9 harg9 arg10 harg10 arg11 harg11 x0 x1 x2 x3 x4 x5 x6 xs0 hc0)).trans (View.read_writes_junk_eq_canon VO0_7 _)
  have h2 := (congrArg (fun L => VS0_0.read (Elt Ideal) (VS0_0.writes (Elt Ideal) VS0_0.junk L)) (state_B c i arg3 harg3 arg4 harg4 arg5 harg5 arg6 harg6 arg7 harg7 arg8 harg8 arg9 harg9 arg10 harg10 arg11 harg11 x0 x1 x2 x3 x4 x5 x6 xs0 hc0 |>.trans (List.append_nil _).symm)).trans (View.read_writes_junk_eq_canon VS0_0 _)
  unfold out0_B_7 sout0_B_0
  refine h1.symm ▸ h2.symm ▸ ?_
  exact point_of arg3 harg3 arg4 harg4 arg5 harg5 arg6 harg6 arg7 harg7 arg8 harg8 arg9 harg9 x3 x6 H hdg _
    (fun h d e => (congrFun (readAt_unread harg11 (rectS h) xs0) _).trans ((ld_rectS xs0 h d e).trans (hS h d e))) []

/-- A run's first point, over the zero state. -/
theorem point_A (hc0 : cond0_0 i) (H : Holds x0 x1 x2 x4 x5 q k v bt g) (hdg : ∀ h, Delta.Steps (g h) (dg h)) :
    Point (out0_A_7 c i arg3 harg3 arg4 harg4 arg5 harg5 arg6 harg6 arg7 harg7 arg8 harg8 arg9 harg9 arg10 harg10 arg11 harg11 hc0 x0 x1 x2 x3 x4 x5 x6)
      (sout0_A_0 c i arg3 harg3 arg4 harg4 arg5 harg5 arg6 harg6 arg7 harg7 arg8 harg8 arg9 harg9 arg10 harg10 arg11 harg11 hc0 x0 x1 x2 x3 x4 x5 x6) x3 x6 q k v bt dg (fun _ _ _ => 0) := by
  have h1 := (congrArg (fun L => VO0_7.read (Elt Ideal) (VO0_7.writes (Elt Ideal) VO0_7.junk L)) (out_A c i arg3 harg3 arg4 harg4 arg5 harg5 arg6 harg6 arg7 harg7 arg8 harg8 arg9 harg9 arg10 harg10 arg11 harg11 x0 x1 x2 x3 x4 x5 x6 hc0)).trans (View.read_writes_junk_eq_canon VO0_7 _)
  have h2 := (congrArg (fun L => VS0_0.read (Elt Ideal) (VS0_0.writes (Elt Ideal) VS0_0.junk L)) (state_A c i arg3 harg3 arg4 harg4 arg5 harg5 arg6 harg6 arg7 harg7 arg8 harg8 arg9 harg9 arg10 harg10 arg11 harg11 x0 x1 x2 x3 x4 x5 x6 hc0)).trans (View.read_writes_junk_eq_canon VS0_0 _)
  unfold out0_A_7 sout0_A_0
  refine h1.symm ▸ h2.symm ▸ ?_
  exact point_of arg3 harg3 arg4 harg4 arg5 harg5 arg6 harg6 arg7 harg7 arg8 harg8 arg9 harg9 x3 x6 H hdg _ (cleared_apply arg11) _

end

end Cert.KernelIdeal.Head

end
-- ==== Proof.Coord.lean ====
/- The coordinates of an index given by its coordinates. -/
module

public import Idealize.ShloMosaic.Lib.ValueIdx

@[expose] public section

namespace Coord

open Idealize.ShloMosaic Idealize.ShloMosaic.ValueIdx

variable {n0 n1 n2 n3 : ℕ} (a : Fin n0) (b : Fin n1) (c : Fin n2) (d : Fin n3)

theorem c1_0 : ix1 a 0 = a := rfl
theorem c2_0 : ix2 a b 0 = a := rfl
theorem c2_1 : ix2 a b 1 = b := rfl
theorem c3_0 : ix3 a b c 0 = a := rfl
theorem c3_1 : ix3 a b c 1 = b := rfl
theorem c3_2 : ix3 a b c 2 = c := rfl
theorem c4_0 : ix4 a b c d 0 = a := rfl
theorem c4_1 : ix4 a b c d 1 = b := rfl
theorem c4_2 : ix4 a b c d 2 = c := rfl
theorem c4_3 : ix4 a b c d 3 = d := rfl

end Coord
-- ==== Proof.Entry.lean ====
/- What the kernel's windows read at each point: the arguments' entries, through the arrays the host prepares. -/
module

public import proofs.«01_k».proof.Proof.Gen.KernelIdeal.Frame
public import proofs.«01_k».proof.Proof.Coord
public import Idealize.ShloMosaic.Lib.Pipeline.ValueKit
public import Idealize.ShloMosaic.Lib.KernelVsHost
public import Idealize.ShloMosaic.Lib.StableHlo.RunRead
public import Idealize.ShloMosaic.Lib.ValueIdx

@[expose] public section

noncomputable section

namespace Cert.KernelIdeal.Head

open Cert.KernelIdeal Cert.KernelIdeal.Gen Idealize.ShloMosaic.TcCoe Idealize.ShloMosaic.ValueIdx
open Coord
open Idealize.ShloMosaic hiding ix1 ix2 ix3 ix4

variable (m : (ℓ : Loc nD τ sig) → Buf (Elt Ideal) ℓ) (c : Dev nD)

/-! ## The arrays the host prepares -/

/-- The write strengths and cumulated decays of a group of heads, put side by side and padded to 128 lanes. -/
def colsOf (A2 A3 : FVec Ideal S8x4096x16 .f32) (z : FVec Ideal S_ .f32) : FVec Ideal S8x2x4096x128 .f32 :=
  transpose S8x2x4096x128 [0, 2, 1, 3]
    (pad S8x4096x2x128 ![0, 0, 0, 0] ![0, 0, 0, 112] ![0, 0, 0, 0]
      (concatenate S8x4096x2x16 3 [⟨S8x4096x2x8, shapeCast S8x4096x2x8 A2 shapeCasts_S8x4096x16_S8x4096x2x8⟩, ⟨S8x4096x2x8, shapeCast S8x4096x2x8 A3 shapeCasts_S8x4096x16_S8x4096x2x8⟩] concatenates_S8x4096x2x8_S8x4096x2x8_S8x4096x2x16_d3)
      z pads_S8x4096x2x16_S8x4096x2x128_000_000_000_01120 h_S_)
    transposes_S8x4096x2x128_S8x2x4096x128_0_2_1_3

/-- The cumulated decays, head by head. -/
def rowsOf (A3 : FVec Ideal S8x4096x16 .f32) : FVec Ideal S8x16x1x4096 .f32 :=
  broadcastInDim S8x16x1x4096 ![0, 1, 3] bcast_S8x16x4096_S8x16x1x4096_0_1_3
    (transpose S8x16x4096 [0, 2, 1] (shapeCast S8x4096x16 (shapeCast S8x4096x2x8 A3 shapeCasts_S8x4096x16_S8x4096x2x8 : FVec Ideal S8x4096x2x8 .f32) shapeCasts_S8x4096x2x8_S8x4096x16) transposes_S8x4096x16_S8x16x4096_0_2_1)

theorem V_v4 : V m c main_v4 = colsOf (m ((c : Thread nD τ).loc main_arg2)) (m ((c : Thread nD τ).loc main_arg3)) (sitofp .f32 (constantI S_ 32 0#32)) := by
  show StableHlo.after (List.flatten [hostOps0, hostOps0_1, hostOps0_2]) (fun b => m (c, b)) (Proc.devRef .tc main_v4) = _
  simp only [List.flatten_cons, List.flatten_nil, List.append_nil]
  after_reads_simp
  rfl

theorem V_v7 : V m c main_v7 = rowsOf (m ((c : Thread nD τ).loc main_arg3)) := by
  show StableHlo.after (List.flatten [hostOps0, hostOps0_1, hostOps0_2]) (fun b => m (c, b)) (Proc.devRef .tc main_v7) = _
  simp only [List.flatten_cons, List.flatten_nil, List.append_nil]
  after_reads_simp
  rfl

theorem V_v8 : V m c main_v8 = broadcastInDim S1x128 ![1] bcast_S128_S1x128_1 (m ((c : Thread nD τ).loc main_arg4) : FVec Ideal S128 .f32) := by
  show StableHlo.after (List.flatten [hostOps0, hostOps0_1, hostOps0_2]) (fun b => m (c, b)) (Proc.devRef .tc main_v8) = _
  simp only [List.flatten_cons, List.flatten_nil, List.append_nil]
  after_reads_simp

/-- A head among 16: the `h`-th of group `g`. -/
abbrev headOf (g : Fin 2) (h : Fin 8) : Fin 16 := ⟨8 * g.val + h.val, by omega⟩

theorem split_apply (A : FVec Ideal S8x4096x16 .f32) (b : Fin 8) (i : Fin 4096) (g : Fin 2) (h : Fin 8) :
    (shapeCast S8x4096x2x8 A shapeCasts_S8x4096x16_S8x4096x2x8 : FVec Ideal S8x4096x2x8 .f32) (ix4 b i g h) = A (ix3 b i (headOf g h)) :=
  shapeCast_apply A shapeCasts_S8x4096x16_S8x4096x2x8 _ _ (by
    rw [Shape.rowMajor_val_three, Shape.rowMajor_val_four]; simp [c3_0, c3_1, c3_2, c4_0, c4_1, c4_2, c4_3]; omega)

section
variable (A2 A3 : FVec Ideal S8x4096x16 .f32) (z : FVec Ideal S_ .f32) (b : Fin 8) (g : Fin 2) (i : Fin 4096) (h : Fin 8)

/-- A lane below 16 of the padded table is the concatenation's. -/
theorem colsOf_lane (n : Fin 16) :
    colsOf A2 A3 z (ix4 b g i (⟨n.val, by omega⟩ : Fin 128))
      = (concatenate S8x4096x2x16 3 [⟨S8x4096x2x8, shapeCast S8x4096x2x8 A2 shapeCasts_S8x4096x16_S8x4096x2x8⟩, ⟨S8x4096x2x8, shapeCast S8x4096x2x8 A3 shapeCasts_S8x4096x16_S8x4096x2x8⟩] concatenates_S8x4096x2x8_S8x4096x2x8_S8x4096x2x16_d3 : FVec Ideal S8x4096x2x16 .f32)
        (ix4 b i g n) := by
  unfold colsOf
  refine (transpose_apply _ _ transposes_S8x4096x2x128_S8x2x4096x128_0_2_1_3 _ (ix4 b i g (⟨n.val, by omega⟩ : Fin 128)) (by intro a; fin_cases a <;> rfl)).trans ?_
  exact pad_apply_of_inside _ _ _ _ z pads_S8x4096x2x16_S8x4096x2x128_000_000_000_01120 h_S_ _ (ix4 b i g n) (by intro a; fin_cases a <;> simp)

theorem colsOf_beta : colsOf A2 A3 z (ix4 b g i (⟨h.val, by omega⟩ : Fin 128)) = A2 (ix3 b i (headOf g h)) := by
  refine (colsOf_lane A2 A3 z b g i ⟨h.val, by omega⟩).trans ?_
  refine (concatenate_apply_piece (3 : Fin S8x4096x2x16.rank) ([⟨S8x4096x2x8, shapeCast S8x4096x2x8 A2 shapeCasts_S8x4096x16_S8x4096x2x8⟩, ⟨S8x4096x2x8, shapeCast S8x4096x2x8 A3 shapeCasts_S8x4096x16_S8x4096x2x8⟩] : List ((s : Shape) × (s.Idx → EReal)))
    concatenates_S8x4096x2x8_S8x4096x2x8_S8x4096x2x16_d3 _ 0 (by simp) S8x4096x2x8 _ rfl rfl 0 rfl (ix4 b i g h) ?_ ?_).trans (split_apply A2 b i g h)
  · intro a ha; fin_cases a <;> first | rfl | exact absurd rfl ha
  · simp

theorem colsOf_cum : colsOf A2 A3 z (ix4 b g i (⟨8 + h.val, by omega⟩ : Fin 128)) = A3 (ix3 b i (headOf g h)) := by
  refine (colsOf_lane A2 A3 z b g i ⟨8 + h.val, by omega⟩).trans ?_
  refine (concatenate_apply_piece (3 : Fin S8x4096x2x16.rank) ([⟨S8x4096x2x8, shapeCast S8x4096x2x8 A2 shapeCasts_S8x4096x16_S8x4096x2x8⟩, ⟨S8x4096x2x8, shapeCast S8x4096x2x8 A3 shapeCasts_S8x4096x16_S8x4096x2x8⟩] : List ((s : Shape) × (s.Idx → EReal)))
    concatenates_S8x4096x2x8_S8x4096x2x8_S8x4096x2x16_d3 _ 1 (by simp) S8x4096x2x8 _ rfl rfl 8 rfl (ix4 b i g h) ?_ ?_).trans (split_apply A3 b i g h)
  · intro a ha; fin_cases a <;> first | rfl | exact absurd rfl ha
  · simp

theorem rowsOf_apply (h : Fin 16) : rowsOf A3 (ix4 b h (0 : Fin 1) i) = A3 (ix3 b i h) := by
  unfold rowsOf
  refine (broadcastInDim_apply _ bcast_S8x16x4096_S8x16x1x4096_0_1_3 _ _ (ix3 b h i) (by intro a; fin_cases a <;> simp)).trans ?_
  refine (transpose_apply _ _ transposes_S8x4096x16_S8x16x4096_0_2_1 _ (ix3 b i h) (by intro a; fin_cases a <;> rfl)).trans ?_
  exact congrFun (shapeCast_shapeCast A3 shapeCasts_S8x4096x16_S8x4096x2x8 shapeCasts_S8x4096x2x8_S8x4096x16) _

end

/-! ## The windows' blocks -/

/-- A point's batch, its group of heads, and its block of time. -/
def bOf (t : Fin cfg0.N) : Fin 8 := ⟨t.val / 32 % 8, by omega⟩
def gOf (t : Fin cfg0.N) : Fin 2 := ⟨t.val / 16 % 2, by omega⟩
def rowOf (t : Fin cfg0.N) (i : Fin 256) : Fin 4096 := ⟨256 * (t.val % 16) + i.val, by omega⟩

theorem index0 : ∀ t : Fin cfg0.N, win0_0.index t = ![t.val / 32 % 8, t.val % 16, t.val / 16 % 2] :=
  (by decide +kernel : ∀ t : Fin grid0.N, win0_0.index t = ![t.val / 32 % 8, t.val % 16, t.val / 16 % 2])
theorem index1 : ∀ t : Fin cfg0.N, win0_1.index t = ![t.val / 32 % 8, t.val % 16, 2 + t.val / 16 % 2] :=
  (by decide +kernel : ∀ t : Fin grid0.N, win0_1.index t = ![t.val / 32 % 8, t.val % 16, 2 + t.val / 16 % 2])
theorem index2 : ∀ t : Fin cfg0.N, win0_2.index t = ![t.val / 32 % 8, t.val % 16, 2 + t.val / 16 % 2] :=
  (by decide +kernel : ∀ t : Fin grid0.N, win0_2.index t = ![t.val / 32 % 8, t.val % 16, 2 + t.val / 16 % 2])
theorem index3 : ∀ t : Fin cfg0.N, win0_3.index t = ![t.val / 32 % 8, t.val % 16, 4 + t.val / 16 % 2] :=
  (by decide +kernel : ∀ t : Fin grid0.N, win0_3.index t = ![t.val / 32 % 8, t.val % 16, 4 + t.val / 16 % 2])
theorem index4 : ∀ t : Fin cfg0.N, win0_4.index t = ![t.val / 32 % 8, t.val / 16 % 2, t.val % 16, 0] :=
  (by decide +kernel : ∀ t : Fin grid0.N, win0_4.index t = ![t.val / 32 % 8, t.val / 16 % 2, t.val % 16, 0])
theorem index5 : ∀ t : Fin cfg0.N, win0_5.index t = ![t.val / 32 % 8, t.val / 16 % 2, 0, t.val % 16] :=
  (by decide +kernel : ∀ t : Fin grid0.N, win0_5.index t = ![t.val / 32 % 8, t.val / 16 % 2, 0, t.val % 16])
theorem index6 : ∀ t : Fin cfg0.N, win0_6.index t = ![0, 0] :=
  (by decide +kernel : ∀ t : Fin grid0.N, win0_6.index t = ![0, 0])
theorem index7 : ∀ t : Fin cfg0.N, win0_7.index t = ![t.val / 32 % 8, t.val % 16, t.val / 16 % 2] :=
  (by decide +kernel : ∀ t : Fin grid0.N, win0_7.index t = ![t.val / 32 % 8, t.val % 16, t.val / 16 % 2])

variable (t : Fin cfg0.N)

theorem blk0 (i : Fin 256) (l : Fin 512) : (iblk m c 0 t (ix3 (0 : Fin 1) i l) : EReal)
    = m ((c : Thread nD τ).loc main_arg0) (ix3 (bOf t) (rowOf t i) (⟨(512 * (gOf t).val + l.val), by have := (gOf t).isLt; omega⟩ : Fin 4096)) := by
  refine Eq.trans ?_ (congrFun (V_main_arg0 m c) _)
  blk_ext [iblk, index0, bOf, gOf, rowOf, c3_0, c3_1, c3_2]
  · show _ * 256 + i.val = _; omega
  · show _ * 512 + l.val = _; omega

theorem blk1 (i : Fin 256) (l : Fin 512) : (iblk m c 1 t (ix3 (0 : Fin 1) i l) : EReal)
    = m ((c : Thread nD τ).loc main_arg0) (ix3 (bOf t) (rowOf t i) (⟨1024 + (512 * (gOf t).val + l.val), by have := (gOf t).isLt; omega⟩ : Fin 4096)) := by
  refine Eq.trans ?_ (congrFun (V_main_arg0 m c) _)
  blk_ext [iblk, index1, bOf, gOf, rowOf, c3_0, c3_1, c3_2]
  · show _ * 256 + i.val = _; omega
  · show _ * 512 + l.val = _; omega

theorem blk2 (i : Fin 256) (l : Fin 1024) : (iblk m c 2 t (ix3 (0 : Fin 1) i l) : EReal)
    = m ((c : Thread nD τ).loc main_arg0) (ix3 (bOf t) (rowOf t i) (⟨2048 + (1024 * (gOf t).val + l.val), by have := (gOf t).isLt; omega⟩ : Fin 4096)) := by
  refine Eq.trans ?_ (congrFun (V_main_arg0 m c) _)
  blk_ext [iblk, index2, bOf, gOf, rowOf, c3_0, c3_1, c3_2]
  · show _ * 256 + i.val = _; omega
  · show _ * 1024 + l.val = _; omega

theorem blk3 (i : Fin 256) (l : Fin 1024) : (iblk m c 3 t (ix3 (0 : Fin 1) i l) : EReal)
    = m ((c : Thread nD τ).loc main_arg1) (ix3 (bOf t) (rowOf t i) (⟨4096 + (1024 * (gOf t).val + l.val), by have := (gOf t).isLt; omega⟩ : Fin 6144)) := by
  refine Eq.trans ?_ (congrFun (V_main_arg1 m c) _)
  blk_ext [iblk, index3, bOf, gOf, rowOf, c3_0, c3_1, c3_2]
  · show _ * 256 + i.val = _; omega
  · show _ * 1024 + l.val = _; omega

theorem blk4 (i : Fin 256) (l : Fin 128) : (iblk m c 4 t (ix4 (0 : Fin 1) (0 : Fin 1) i l) : EReal)
    = colsOf (m ((c : Thread nD τ).loc main_arg2)) (m ((c : Thread nD τ).loc main_arg3)) (sitofp .f32 (constantI S_ 32 0#32)) (ix4 (bOf t) (gOf t) (rowOf t i) l) := by
  refine Eq.trans ?_ (congrFun (V_v4 m c) _)
  blk_ext [iblk, index4, bOf, gOf, rowOf, c4_0, c4_1, c4_2, c4_3]
  · show _ * 256 + i.val = _; omega

theorem blk5 (h : Fin 8) (i : Fin 256) : (iblk m c 5 t (ix4 (0 : Fin 1) h (0 : Fin 1) i) : EReal)
    = m ((c : Thread nD τ).loc main_arg3) (ix3 (bOf t) (rowOf t i) (headOf (gOf t) h)) := by
  refine Eq.trans ?_ ((congrFun (V_v7 m c) _).trans (rowsOf_apply _ (bOf t) (rowOf t i) (headOf (gOf t) h)))
  blk_ext [iblk, index5, bOf, gOf, rowOf, c4_0, c4_1, c4_2, c4_3]
  · show _ * 8 + h.val = _; omega
  · show _ * 256 + i.val = _; omega

theorem blk6 (d : Fin 128) : (iblk m c 6 t (ix2 (0 : Fin 1) d) : EReal) = m ((c : Thread nD τ).loc main_arg4) (ix1 d) := by
  refine Eq.trans ?_ ((congrFun (V_v8 m c) (ix2 (0 : Fin 1) d)).trans (broadcastInDim_apply _ bcast_S128_S1x128_1 _ _ (ix1 d) (by intro a; fin_cases a; simp)))
  blk_ext [iblk, index6, c2_0, c2_1]

end Cert.KernelIdeal.Head

end
-- ==== Proof.KernelValue.lean ====
/- The kernel's result array: by induction over the grid's points the carried state is every head's recurrence so far, so
   each point writes the layer's result at its block. -/
module

public import proofs.«01_k».proof.Proof.Blocks
public import proofs.«01_k».proof.Proof.Entry
public import proofs.«01_k».proof.Proof.Gen.KernelIdeal.Value

@[expose] public section

noncomputable section

namespace Cert.KernelIdeal.Head

open Cert.KernelIdeal Cert.KernelIdeal.Gen Idealize.ShloMosaic.TcCoe Idealize.ShloMosaic.ValueIdx Coord
open Idealize.ShloMosaic hiding ix1 ix2 ix3 ix4

variable (m : (ℓ : Loc nD τ sig) → Buf (Elt Ideal) ℓ) (c : Dev nD)

/-- The queries, keys and values as reals. -/
def X (b : Fin 8) (t l : Fin 4096) : ℝ := EReal.toReal (m ((c : Thread nD τ).loc main_arg0) (ix3 b t l))
/-- The write strengths as reals. -/
def B (b : Fin 8) (t : Fin 4096) (h : Fin 16) : ℝ := EReal.toReal (m ((c : Thread nD τ).loc main_arg2) (ix3 b t h))
/-- The cumulated log decays as reals. -/
def G (b : Fin 8) (t : Fin 4096) (h : Fin 16) : ℝ := EReal.toReal (m ((c : Thread nD τ).loc main_arg3) (ix3 b t h))

/-- The arguments are finite, and the cumulated decays fall within each chunk. -/
structure Fine : Prop where
  x : ∀ b t l, (m ((c : Thread nD τ).loc main_arg0) (ix3 b t l) : EReal) = ((X m c b t l : ℝ) : EReal)
  b : ∀ b t h, (m ((c : Thread nD τ).loc main_arg2) (ix3 b t h) : EReal) = ((B m c b t h : ℝ) : EReal)
  g : ∀ b t h, (m ((c : Thread nD τ).loc main_arg3) (ix3 b t h) : EReal) = ((G m c b t h : ℝ) : EReal)
  falls : ∀ b h (t : ℕ), t + 1 < 4096 → t % 64 ≠ 63 → Delta.cum (G m c) b h (t + 1) ≤ Delta.cum (G m c) b h t

section
variable (t : Fin cfg0.N)

/-- The step a point's first row is. -/
def base : ℕ := 256 * (t.val % 16)

theorem base_lt (i : Fin 256) : base t + i.val < 4096 := by unfold base; omega

theorem rowOf_eq (i : Fin 256) : rowOf t i = Delta.at_ (base t + i.val) :=
  Fin.ext (Delta.at_val (base_lt t i)).symm

/-- The key head `h` of a point's group. -/
def keyIn (h : Fin 4) : Fin 8 := ⟨4 * (gOf t).val + h.val, by have := (gOf t).isLt; omega⟩

theorem keyIn_keyOf (h : Fin 8) : keyIn t (keyOf h) = Delta.keyHead (headOf (gOf t) h) :=
  Fin.ext (by show 4 * (gOf t).val + h.val / 2 = (8 * (gOf t).val + h.val) / 2; omega)

variable {m c} (H : Fine m c)
include H

/-- Within a chunk the cumulated decays fall. -/
theorem falls_le (b : Fin 8) (h : Fin 16) (i : ℕ) : ∀ n, i + n < 4096 → i / 64 = (i + n) / 64 → Delta.cum (G m c) b h (i + n) ≤ Delta.cum (G m c) b h i
  | 0, _, _ => le_rfl
  | n + 1, h1, h2 => (H.falls b h (i + n) (by omega) (by omega)).trans (falls_le b h i n (by omega) (by omega))

/-- A point's blocks hold its group's queries, keys, values, write strengths and cumulated decays. -/
theorem holds : Holds (iblk m c 0 t) (iblk m c 1 t) (iblk m c 2 t) (iblk m c 4 t) (iblk m c 5 t)
    (fun h i d => Delta.query (X m c) (bOf t) (keyIn t h) (base t + i) d) (fun h i d => Delta.key (X m c) (bOf t) (keyIn t h) (base t + i) d)
    (fun h i d => Delta.value (X m c) (bOf t) (headOf (gOf t) h) (base t + i) d)
    (fun h i => Delta.strength (B m c) (bOf t) (headOf (gOf t) h) (base t + i)) (fun h i => Delta.cum (G m c) (bOf t) (headOf (gOf t) h) (base t + i)) where
  hq h i d := by
    refine (blk0 m c t i (lane4 h d)).trans ((H.x _ _ _).trans ?_)
    rw [rowOf_eq]; unfold Delta.query
    congr 2; exact Fin.ext (by simp only [keyIn]; omega)
  hk h i d := by
    refine (blk1 m c t i (lane4 h d)).trans ((H.x _ _ _).trans ?_)
    rw [rowOf_eq]; unfold Delta.key
    congr 2; exact Fin.ext (by simp only [keyIn]; omega)
  hv h i d := by
    refine (blk2 m c t i (lane8 h d)).trans ((H.x _ _ _).trans ?_)
    rw [rowOf_eq]; unfold Delta.value
    congr 2; exact Fin.ext (by simp only [headOf]; omega)
  hbt h i := by
    refine (blk4 m c t i _).trans ((colsOf_beta _ _ _ _ _ _ h).trans ((H.b _ _ _).trans ?_))
    rw [rowOf_eq]; rfl
  hg h i := by
    refine (blk4 m c t i _).trans ((colsOf_cum _ _ _ _ _ _ h).trans ((H.g _ _ _).trans ?_))
    rw [rowOf_eq]; rfl
  hgr h i := by
    refine (blk5 m c t h i).trans ((H.g _ _ _).trans ?_)
    rw [rowOf_eq]; rfl
  falls h i j hij hle := by
    have hb : base t % 64 = 0 := by unfold base; omega
    have := base_lt t i
    have := falls_le H (bOf t) (headOf (gOf t) h) (base t + j.val) (i.val - j.val) (by omega) (by omega)
    rwa [show base t + j.val + (i.val - j.val) = base t + i.val by omega] at this

end

/-- The log decays of a point's rows are the cumulated ones' steps. -/
theorem steps_at (t : Fin cfg0.N) (h : Fin 8) :
    Delta.Steps (fun i => Delta.cum (G m c) (bOf t) (headOf (gOf t) h) (base t + i)) (fun i => Delta.dec (G m c) (bOf t) (headOf (gOf t) h) (base t + i)) := by
  intro r
  have hb : base t % 64 = 0 := by unfold base; omega
  show Delta.dec _ _ _ _ = _
  unfold Delta.dec
  by_cases hr : r % 64 = 0
  · rw [if_pos hr, if_pos (by omega)]
  · rw [if_neg hr, if_neg (by omega)]
    congr 2; omega

/-- What a point computes. -/
def PointAt (t : Fin cfg0.N) : Prop :=
  Point (outsAt0 m c t.val t.isLt).1 (outsAt0 m c t.val t.isLt).2 (iblk m c 3 t) (iblk m c 6 t)
    (fun h i d => Delta.query (X m c) (bOf t) (keyIn t h) (base t + i) d) (fun h i d => Delta.key (X m c) (bOf t) (keyIn t h) (base t + i) d)
    (fun h i d => Delta.value (X m c) (bOf t) (headOf (gOf t) h) (base t + i) d)
    (fun h i => Delta.strength (B m c) (bOf t) (headOf (gOf t) h) (base t + i)) (fun h i => Delta.dec (G m c) (bOf t) (headOf (gOf t) h) (base t + i))
    (fun h => Delta.state (X m c) (B m c) (G m c) (bOf t) (headOf (gOf t) h) (base t))

/-- Steps from a block's first one are the sequence's. -/
theorem seq_at (t : Fin cfg0.N) (h : Fin 8) (n : ℕ) :
    Delta.seq (fun i d => Delta.key (X m c) (bOf t) (keyIn t (keyOf h)) (base t + i) d) (fun i d => Delta.value (X m c) (bOf t) (headOf (gOf t) h) (base t + i) d)
        (fun i => Delta.strength (B m c) (bOf t) (headOf (gOf t) h) (base t + i)) (fun i => Delta.dec (G m c) (bOf t) (headOf (gOf t) h) (base t + i))
        (Delta.state (X m c) (B m c) (G m c) (bOf t) (headOf (gOf t) h) (base t)) n
      = Delta.state (X m c) (B m c) (G m c) (bOf t) (headOf (gOf t) h) (base t + n) := by
  rw [keyIn_keyOf]
  exact (Delta.seq_add (Delta.key (X m c) (bOf t) (Delta.keyHead (headOf (gOf t) h))) (Delta.value (X m c) (bOf t) (headOf (gOf t) h))
    (Delta.strength (B m c) (bOf t) (headOf (gOf t) h)) (Delta.dec (G m c) (bOf t) (headOf (gOf t) h)) (fun _ _ => 0) (base t) n).symm

variable {m c}

/-- The state a point leaves. -/
theorem PointAt.state_eq {t : Fin cfg0.N} (P : PointAt m c t) (h : Fin 8) (d e : Fin 128) :
    ((outsAt0 m c t.val t.isLt).2 (ix3 h d e) : EReal)
      = ((Delta.state (X m c) (B m c) (G m c) (bOf t) (headOf (gOf t) h) (base t + 256) d e : ℝ) : EReal) :=
  (Point.state P h d e).trans (by rw [seq_at])

theorem pointAt_A (H : Fine m c) (t : Fin cfg0.N) (h0 : t.val % 16 = 0) : PointAt m c t := by
  have hz : (fun h => Delta.state (X m c) (B m c) (G m c) (bOf t) (headOf (gOf t) h) (base t)) = fun _ _ _ => 0 := by
    have : base t = 0 := by unfold base; omega
    rw [this]; rfl
  unfold PointAt
  rw [hz, outsAt0_A m c t h0]
  dsimp only
  exact point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ ((hcond0_0 t).mpr h0) (holds t H) (steps_at m c t)

theorem pointAt_B (H : Fine m c) (n : ℕ) (hn : n + 1 < cfg0.N) (h0 : ¬(n + 1) % 16 = 0) (P : PointAt m c ⟨n, by omega⟩) : PointAt m c ⟨n + 1, hn⟩ := by
  have hb : bOf ⟨n, by omega⟩ = bOf ⟨n + 1, hn⟩ := Fin.ext (by show n / 32 % 8 = (n + 1) / 32 % 8; omega)
  have hg : gOf ⟨n, by omega⟩ = gOf ⟨n + 1, hn⟩ := Fin.ext (by show n / 16 % 2 = (n + 1) / 16 % 2; omega)
  have hs : base ⟨n, by omega⟩ + 256 = base ⟨n + 1, hn⟩ := by show 256 * (n % 16) + 256 = 256 * ((n + 1) % 16); omega
  have hS := P.state_eq
  rw [hb, hg, hs] at hS
  unfold PointAt
  rw [outsAt0_B m c ⟨n + 1, hn⟩ h0]
  dsimp only
  exact point_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) _ _ (fun h => h0 ((hcond0_0 _).mp h)) (holds _ H) (steps_at m c _) hS

theorem pointAt (H : Fine m c) : ∀ (n : ℕ) (hn : n < cfg0.N), PointAt m c ⟨n, hn⟩
  | 0, hn => pointAt_A H ⟨0, hn⟩ rfl
  | n + 1, hn => by
    by_cases h0 : (n + 1) % 16 = 0
    · exact pointAt_A H ⟨n + 1, hn⟩ h0
    · exact pointAt_B H n hn h0 (pointAt H n (by omega))

variable (m c)

/-- The layer's result, as the result array. -/
def resultArr : FVec Ideal S8x4096x2048 .bf16 := fun y =>
  Delta.result (X m c) (B m c) (G m c) (fun d => m ((c : Thread nD τ).loc main_arg4) (ix1 d)) (fun b t l => m ((c : Thread nD τ).loc main_arg1) (ix3 b t l))
    (y 0) (y 1) ⟨(y 2).val / 128, by have h : (y 2).val < 2048 := (y 2).isLt; omega⟩ ⟨(y 2).val % 128, Nat.mod_lt _ (by decide)⟩

variable {m c}

/-- What a point writes at row `i`, column `d` of head `h`. -/
theorem out_at (H : Fine m c) (t : Fin cfg0.N) (h : Fin 8) (i : Fin 256) (d : Fin 128) :
    ((outsAt0 m c t.val t.isLt).1 (ix3 (0 : Fin 1) i (lane8 h d)) : EReal)
      = Delta.result (X m c) (B m c) (G m c) (fun d => m ((c : Thread nD τ).loc main_arg4) (ix1 d)) (fun b t l => m ((c : Thread nD τ).loc main_arg1) (ix3 b t l))
          (bOf t) (rowOf t i) (headOf (gOf t) h) d := by
  refine (Point.out (pointAt H t.val t.isLt) h i d).trans ?_
  unfold Delta.result Delta.outRow
  have hr : (rowOf t i).val = base t + i.val := rfl
  rw [hr]
  have h6 := blk6 m c t d
  have h3 := blk3 m c t i (lane8 h d)
  rw [h6, h3]
  have e1 : (⟨4096 + (1024 * (gOf t).val + (lane8 h d).val), by have := (gOf t).isLt; omega⟩ : Fin 6144) = ⟨4096 + (128 * (headOf (gOf t) h).val + d.val), by have := (gOf t).isLt; simp only [headOf]; omega⟩ :=
    Fin.ext (by simp only [headOf]; omega)
  rw [e1]
  congr 1
  funext e
  congr 1
  refine Finset.sum_congr rfl fun d' _ => ?_
  rw [seq_at, keyIn_keyOf]
  rfl

/-- The array after the run. -/
theorem final (H : Fine m c) : (dats m 0 c).arrAt 7 cfg0.N = resultArr m c := by
  refine (dats m 0 c).arrAt_eq_of_covers 7 _ (by decide +kernel) fun t hf y => ?_
  blk_simp
  rw [after0_7]
  have hy1 : (y 1).val < 256 := (y 1).isLt
  have hy2 : (y 2).val < 1024 := (y 2).isLt
  have e : y = ix3 (0 : Fin 1) (⟨(y 1).val, hy1⟩ : Fin 256) (lane8 ⟨(y 2).val / 128, by omega⟩ ⟨(y 2).val % 128, Nat.mod_lt _ (by decide)⟩) := by
    funext a; apply Fin.ext; fin_cases a
    · have : (y 0).val < 1 := (y 0).isLt
      show (y 0).val = 0; omega
    · rfl
    · show (y 2).val = 128 * ((y 2).val / 128) + (y 2).val % 128; omega
  refine (congrArg (outsAt0 m c t.val t.isLt).1 e).trans ((out_at H t _ _ _).trans ?_)
  unfold resultArr
  congr 1 <;> (apply Fin.ext; blk_simp [index7]; simp only [bOf, rowOf, gOf, headOf])
  all_goals omega

end Cert.KernelIdeal.Head

end
-- ==== Proof.RefTables.lean ====
/- The tables the reference makes before its scan: the queries, keys, values, log decays and write strengths by time step,
   as the arguments' entries. -/
module

public import proofs.«01_k».proof.Proof.Spec
public import proofs.«01_k».proof.Proof.Coord
public import proofs.«01_k».proof.Proof.Gen.ReferenceIdeal.Step
public import Idealize.ShloMosaic.Lib.Pipeline.Value
public import Idealize.ShloMosaic.Lib.IdealHost
public import Idealize.ShloMosaic.Lib.ValueIdx

@[expose] public section

noncomputable section

namespace Cert.ReferenceIdeal.Scan

open Cert.ReferenceIdeal Cert.ReferenceIdeal.Gen Cert.ReferenceIdeal.Step Idealize.ShloMosaic.ValueIdx Coord
open Idealize.ShloMosaic

variable (A0 : FVec Ideal S8x4096x4096 .bf16) (A2 A3 : FVec Ideal S8x4096x16 .f32)

/-- A band of 1024 columns, split in eight heads, each given to two value heads. -/
theorem pair_apply (off : ℕ) (hs : S8x4096x4096.Slices ![0, 0, off] S8x4096x1024) (ho : off + 1024 ≤ 4096) (b : Fin 8) (t : Fin 4096) (h : Fin 16) (d : Fin 128) :
    (transpose S4096x8x16x128 [1, 0, 2, 3] (shapeCast S8x4096x16x128 (broadcastInDim S8x4096x8x2x128 ![0, 1, 2, 4] bcast_S8x4096x8x128_S8x4096x8x2x128_0_1_2_4
        (shapeCast S8x4096x8x128 (extf .f32 (extractStridedSlice S8x4096x1024 ![0, 0, off] A0 hs : FVec Ideal S8x4096x1024 .bf16) bitsLt_bf16_f32 : FVec Ideal S8x4096x1024 .f32) shapeCasts_S8x4096x1024_S8x4096x8x128 : FVec Ideal S8x4096x8x128 .f32) : FVec Ideal S8x4096x8x2x128 .f32)
      shapeCasts_S8x4096x8x2x128_S8x4096x16x128 : FVec Ideal S8x4096x16x128 .f32) transposes_S8x4096x16x128_S4096x8x16x128_1_0_2_3 : FVec Ideal S4096x8x16x128 .f32) (ix4 t b h d)
      = A0 (ix3 b t (⟨off + (128 * (Delta.keyHead h).val + d.val), by have := (Delta.keyHead h).isLt; omega⟩ : Fin 4096)) := by
  refine (transpose_apply _ _ _ _ (ix4 b t h d) (by intro a; fin_cases a <;> rfl)).trans ?_
  refine (shapeCast_apply _ _ _ (ix5 b t (Delta.keyHead h) (⟨h.val % 2, by omega⟩ : Fin 2) d) (by
    rw [Shape.rowMajor_val_five, Shape.rowMajor_val_four]; simp [c4_0, c4_1, c4_2, c4_3, ix5, Delta.keyHead]; omega)).trans ?_
  refine (broadcastInDim_apply _ _ _ _ (ix4 b t (Delta.keyHead h) d) (by intro a; fin_cases a <;> rfl)).trans ?_
  refine (shapeCast_apply _ _ _ (ix3 b t (⟨128 * (Delta.keyHead h).val + d.val, by have := (Delta.keyHead h).isLt; omega⟩ : Fin 1024)) (by
    rw [Shape.rowMajor_val_three, Shape.rowMajor_val_four]; simp [c3_0, c3_1, c3_2, c4_0, c4_1, c4_2, c4_3]; omega)).trans ?_
  exact extractStridedSlice_apply _ _ hs _ _ (by intro a; fin_cases a <;> simp)

theorem query_apply (b : Fin 8) (t : Fin 4096) (h : Fin 16) (d : Fin 128) :
    A_main_v20 (F := Ideal) A0 A2 A3 (ix4 t b h d) = A0 (ix3 b t (⟨0 + (128 * (Delta.keyHead h).val + d.val), by have := (Delta.keyHead h).isLt; omega⟩ : Fin 4096)) :=
  pair_apply A0 0 _ (by decide) b t h d

theorem key_apply (b : Fin 8) (t : Fin 4096) (h : Fin 16) (d : Fin 128) :
    A_main_v21 (F := Ideal) A0 A2 A3 (ix4 t b h d) = A0 (ix3 b t (⟨1024 + (128 * (Delta.keyHead h).val + d.val), by have := (Delta.keyHead h).isLt; omega⟩ : Fin 4096)) :=
  pair_apply A0 1024 _ (by decide) b t h d

theorem value_apply (b : Fin 8) (t : Fin 4096) (h : Fin 16) (d : Fin 128) :
    A_main_v22 (F := Ideal) A0 A2 A3 (ix4 t b h d) = A0 (ix3 b t (⟨2048 + (128 * h.val + d.val), by omega⟩ : Fin 4096)) := by
  unfold A_main_v22 A_main_v8
  refine (transpose_apply _ _ _ _ (ix4 b t h d) (by intro a; fin_cases a <;> rfl)).trans ?_
  refine (shapeCast_apply _ _ _ (ix3 b t (⟨128 * h.val + d.val, by omega⟩ : Fin 2048)) (by
    rw [Shape.rowMajor_val_three, Shape.rowMajor_val_four]; simp [c3_0, c3_1, c3_2, c4_0, c4_1, c4_2, c4_3]; omega)).trans ?_
  exact extractStridedSlice_apply _ A0 slices_S8x4096x4096_S8x4096x2048_0_0_2048 _ _ (by intro a; fin_cases a <;> simp)

theorem strength_apply (b : Fin 8) (t : Fin 4096) (h : Fin 16) : A_main_v24 (F := Ideal) A0 A2 A3 (ix3 t b h) = A2 (ix3 b t h) := by
  unfold A_main_v24
  exact transpose_apply _ _ _ _ (ix3 b t h) (by intro a; fin_cases a <;> rfl)

/-- The chunked table of cumulated decays. -/
theorem chunked_apply (b : Fin 8) (n r : Fin 64) (h : Fin 16) :
    A_main_v13 (F := Ideal) A0 A2 A3 (ix4 b n r h) = A3 (ix3 b (⟨64 * n.val + r.val, by omega⟩ : Fin 4096) h) := by
  unfold A_main_v13
  exact shapeCast_apply _ _ _ _ (by
    rw [Shape.rowMajor_val_three, Shape.rowMajor_val_four]; simp [c3_0, c3_1, c3_2, c4_0, c4_1, c4_2, c4_3]; omega)

/-- The cumulated decay before, zero at a chunk's first step. -/
theorem before_zero (b : Fin 8) (n : Fin 64) (h : Fin 16) : (A_main_v17 (F := Ideal) A0 A2 A3 (ix4 b n (0 : Fin 64) h) : EReal) = 0 := by
  unfold A_main_v17
  refine (concatenate_apply_piece (2 : Fin S8x64x64x16.rank) ([⟨S8x64x1x16, K_main_v15 (F := Ideal)⟩, ⟨S8x64x63x16, A_main_v16 (F := Ideal) A0 A2 A3⟩] : List ((s : Shape) × (s.Idx → EReal)))
    concatenates_S8x64x1x16_S8x64x63x16_S8x64x64x16_d2 _ 0 (by simp) S8x64x1x16 _ rfl rfl 0 rfl (ix4 b n (0 : Fin 1) h) ?_ ?_).trans ?_
  · intro a ha; fin_cases a <;> first | rfl | exact absurd rfl ha
  · simp
  · exact (broadcastInDim_scalar_apply _ _ _).trans Ideal.ofBits_zero_f32

theorem before_succ (b : Fin 8) (n : Fin 64) (r : Fin 63) (h : Fin 16) :
    A_main_v17 (F := Ideal) A0 A2 A3 (ix4 b n (⟨r.val + 1, by omega⟩ : Fin 64) h) = A3 (ix3 b (⟨64 * n.val + r.val, by omega⟩ : Fin 4096) h) := by
  unfold A_main_v17
  refine (concatenate_apply_piece (2 : Fin S8x64x64x16.rank) ([⟨S8x64x1x16, K_main_v15 (F := Ideal)⟩, ⟨S8x64x63x16, A_main_v16 (F := Ideal) A0 A2 A3⟩] : List ((s : Shape) × (s.Idx → EReal)))
    concatenates_S8x64x1x16_S8x64x63x16_S8x64x64x16_d2 _ 1 (by simp) S8x64x63x16 _ rfl rfl 1 rfl (ix4 b n r h) ?_ ?_).trans ?_
  · intro a ha; fin_cases a <;> first | rfl | exact absurd rfl ha
  · show 1 + r.val = r.val + 1; omega
  · unfold A_main_v16
    exact (extractStridedSlice_apply _ _ _ _ (ix4 b n (⟨r.val, by omega⟩ : Fin 64) h) (by intro a; fin_cases a <;> simp)).trans (chunked_apply A0 A2 A3 b n _ h)

theorem dec_apply (b : Fin 8) (t : Fin 4096) (h : Fin 16) :
    (A_main_v23 (F := Ideal) A0 A2 A3 (ix3 t b h) : EReal) = (A3 (ix3 b t h) : EReal) - (if t.val % 64 = 0 then (0 : EReal) else A3 (ix3 b (⟨t.val - 1, by omega⟩ : Fin 4096) h)) := by
  unfold A_main_v23 A_main_v19
  refine (transpose_apply _ _ _ _ (ix3 b t h) (by intro a; fin_cases a <;> rfl)).trans ?_
  refine (shapeCast_apply _ _ _ (ix4 b (⟨t.val / 64, by omega⟩ : Fin 64) (⟨t.val % 64, by omega⟩ : Fin 64) h) (by
    rw [Shape.rowMajor_val_three, Shape.rowMajor_val_four]; simp [c3_0, c3_1, c3_2, c4_0, c4_1, c4_2, c4_3]; omega)).trans ?_
  unfold A_main_v18
  refine congrArg₂ (fun x y : EReal => x - y) ((chunked_apply A0 A2 A3 b _ _ h).trans (congrArg (fun u => A3 (ix3 b u h)) (Fin.ext (by simp only; omega)))) ?_
  by_cases h0 : t.val % 64 = 0
  · rw [if_pos h0]
    refine Eq.trans ?_ (before_zero A0 A2 A3 b ⟨t.val / 64, by omega⟩ h)
    exact congrArg (fun u => A_main_v17 (F := Ideal) A0 A2 A3 (ix4 b (⟨t.val / 64, by omega⟩ : Fin 64) u h)) (Fin.ext h0)
  · rw [if_neg h0]
    refine Eq.trans ?_ ((before_succ A0 A2 A3 b ⟨t.val / 64, by omega⟩ ⟨t.val % 64 - 1, by omega⟩ h).trans (congrArg (fun u => A3 (ix3 b u h)) (Fin.ext (by simp only; omega))))
    exact congrArg (fun u => A_main_v17 (F := Ideal) A0 A2 A3 (ix4 b (⟨t.val / 64, by omega⟩ : Fin 64) u h)) (Fin.ext (by simp only; omega))

end Cert.ReferenceIdeal.Scan

end
-- ==== Proof.RefStep.lean ====
/- One trip of the reference's scan over real tables: the next state and the output row are the recurrence's. -/
module

public import proofs.«01_k».proof.Proof.RefTables
public import proofs.«01_k».proof.Proof.HeadReal
public import Idealize.ShloMosaic.Lib.WordCmp
public import Idealize.ShloMosaic.Lib.Pointwise.ShapeOpsCore

@[expose] public section

noncomputable section

namespace Cert.ReferenceIdeal.Scan

open Cert.ReferenceIdeal Cert.ReferenceIdeal.Gen Cert.ReferenceIdeal.Step Idealize.ShloMosaic.ValueIdx Coord
open Idealize.ShloMosaic hiding ix1 ix2 ix3 ix4
open Idealize.ShloMosaic.WordCmp
open Cert.KernelIdeal.Head (sum_mul_coe)

/-- The words a trip starts its cut at are the naturals they name. -/
theorem starts4 (j : ℕ) (hj : j < 4096) : ∀ a : Fin 4,
    (((![constantI S_ 32 (BitVec.ofNat 32 j), constantI S_ 32 0#32, constantI S_ 32 0#32, constantI S_ 32 0#32] : Fin 4 → IVec S_ 32) a (Shape.Idx.first h_S_)).toInt) = (((![j, 0, 0, 0] : Fin 4 → ℕ) a : ℕ) : Int)
  | ⟨0, _⟩ => toInt_ofNat_of_lt (w := 32) (a := j) (by omega)
  | ⟨1, _⟩ => rfl
  | ⟨2, _⟩ => rfl
  | ⟨3, _⟩ => rfl

theorem starts3 (j : ℕ) (hj : j < 4096) : ∀ a : Fin 3,
    (((![constantI S_ 32 (BitVec.ofNat 32 j), constantI S_ 32 0#32, constantI S_ 32 0#32] : Fin 3 → IVec S_ 32) a (Shape.Idx.first h_S_)).toInt) = (((![j, 0, 0] : Fin 3 → ℕ) a : ℕ) : Int)
  | ⟨0, _⟩ => toInt_ofNat_of_lt (w := 32) (a := j) (by omega)
  | ⟨1, _⟩ => rfl
  | ⟨2, _⟩ => rfl

theorem fits4 (j : ℕ) (hj : j < 4096) : S4096x8x16x128.Slices ![j, 0, 0, 0] S1x8x16x128 :=
  ⟨rfl, fun a => match a with
    | ⟨0, _⟩ => (by omega : j + 1 ≤ 4096)
    | ⟨1, _⟩ => (by decide : 0 + 8 ≤ 8)
    | ⟨2, _⟩ => (by decide : 0 + 16 ≤ 16)
    | ⟨3, _⟩ => (by decide : 0 + 128 ≤ 128)⟩

theorem fits3 (j : ℕ) (hj : j < 4096) : S4096x8x16.Slices ![j, 0, 0] S1x8x16 :=
  ⟨rfl, fun a => match a with
    | ⟨0, _⟩ => (by omega : j + 1 ≤ 4096)
    | ⟨1, _⟩ => (by decide : 0 + 8 ≤ 8)
    | ⟨2, _⟩ => (by decide : 0 + 16 ≤ 16)⟩

/-- A table's row at step `j`, as a trip cuts it out. -/
theorem row4 (T : FVec Ideal S4096x8x16x128 .f32) (j : ℕ) (hj : j < 4096) (o1 o2 o3 : IVec S_ 32) (h1 : o1 = constantI S_ 32 0#32) (h2 : o2 = constantI S_ 32 0#32) (h3 : o3 = constantI S_ 32 0#32)
    (b : Fin 8) (h : Fin 16) (d : Fin 128) :
    shapeCast S8x16x128 (Host.dynamicSlice S1x8x16x128 T (fun k => (((![(constantI S_ 32 (BitVec.ofNat 32 j) : IVec S_ 32), o1, o2, o3] : Fin 4 → IVec S_ 32)) k (Shape.Idx.first h_S_)).toInt) sliceFits_S4096x8x16x128_S1x8x16x128 : FVec Ideal S1x8x16x128 .f32) shapeCasts_S1x8x16x128_S8x16x128 (ix3 b h d)
      = T (ix4 (⟨j, hj⟩ : Fin 4096) b h d) := by
  subst h1 h2 h3
  refine (shapeCast_apply _ _ _ (ix4 (0 : Fin 1) b h d) (by
    rw [Shape.rowMajor_val_three, Shape.rowMajor_val_four]; simp [c3_0, c3_1, c3_2, c4_0, c4_1, c4_2, c4_3])).trans ?_
  refine (congrFun (dynamicSlice_eq_extract _ T _ _ ![j, 0, 0, 0] (fits4 j hj) (starts4 j hj)) _).trans ?_
  exact extractStridedSlice_apply _ T _ _ _ (by intro a; fin_cases a <;> simp)

theorem row3 (T : FVec Ideal S4096x8x16 .f32) (j : ℕ) (hj : j < 4096) (o1 o2 : IVec S_ 32) (h1 : o1 = constantI S_ 32 0#32) (h2 : o2 = constantI S_ 32 0#32)
    (b : Fin 8) (h : Fin 16) :
    shapeCast S8x16 (Host.dynamicSlice S1x8x16 T (fun k => (((![(constantI S_ 32 (BitVec.ofNat 32 j) : IVec S_ 32), o1, o2] : Fin 3 → IVec S_ 32)) k (Shape.Idx.first h_S_)).toInt) sliceFits_S4096x8x16_S1x8x16 : FVec Ideal S1x8x16 .f32) shapeCasts_S1x8x16_S8x16 (ix2 b h)
      = T (ix3 (⟨j, hj⟩ : Fin 4096) b h) := by
  subst h1 h2
  refine (shapeCast_apply _ _ _ (ix3 (0 : Fin 1) b h) (by
    rw [Shape.rowMajor_val_three, Shape.rowMajor_val_two]; simp [c3_0, c3_1, c3_2, c2_0, c2_1])).trans ?_
  refine (congrFun (dynamicSlice_eq_extract _ T _ _ ![j, 0, 0] (fits3 j hj) (starts3 j hj)) _).trans ?_
  exact extractStridedSlice_apply _ T _ _ _ (by intro a; fin_cases a <;> simp)

/-- The row written at step `j` is there, and the others stay. -/
theorem write4 (T : FVec Ideal S4096x8x16x128 .f32) (u : FVec Ideal S8x16x128 .f32) (j : ℕ) (hj : j < 4096) (o1 o2 o3 : IVec S_ 32) (h1 : o1 = constantI S_ 32 0#32) (h2 : o2 = constantI S_ 32 0#32) (h3 : o3 = constantI S_ 32 0#32)
    (t : Fin 4096) (b : Fin 8) (h : Fin 16) (d : Fin 128) :
    Host.dynamicUpdateSlice T (broadcastInDim S1x8x16x128 ![1, 2, 3] bcast_S8x16x128_S1x8x16x128_1_2_3 u) (fun k => (((![(constantI S_ 32 (BitVec.ofNat 32 j) : IVec S_ 32), o1, o2, o3] : Fin 4 → IVec S_ 32)) k (Shape.Idx.first h_S_)).toInt) updateFits_S4096x8x16x128_S1x8x16x128 (ix4 t b h d)
      = if t.val = j then u (ix3 b h d) else T (ix4 t b h d) := by
  subst h1 h2 h3
  refine (congrFun (dynamicUpdateSlice_eq_update T _ _ _ ![j, 0, 0, 0] (fits4 j hj) (starts4 j hj)) _).trans ?_
  rw [updateSlice_apply]
  by_cases ht : t.val = j
  · rw [if_pos ht, dif_pos (by intro a; fin_cases a <;> simp [ht])]
    refine broadcastInDim_apply _ _ _ _ (ix3 b h d) (by intro a; fin_cases a <;> simp [Shape.Idx.norm])
  · rw [if_neg ht, dif_neg]
    intro hin
    have h0 := hin 0
    have h0' : j ≤ t.val ∧ t.val < j + 1 := h0
    omega

/-- A batched row-by-matrix product: row times matrix, for each batch and head. -/
theorem dot_apply (x : FVec Ideal S8x16x128 .f32) (y : FVec Ideal S8x16x128x128 .f32) (b : Fin 8) (h : Fin 16) (e : Fin 128) :
    (Host.dotGeneral dot_S8x16x128_S8x16x128x128_S8x16x128_2_2_n_3_01_01 none x y (ix3 b h e) : EReal)
      = ∑ d : Fin 128, (x (ix3 b h d) : EReal) * (y (ix4 b h d e) : EReal) := by
  refine (Ideal.dotGeneral_apply dot_S8x16x128_S8x16x128x128_S8x16x128_2_2_n_3_01_01 none _ x y _).trans ?_
  have hr : (dot_S8x16x128_S8x16x128x128_S8x16x128_2_2_n_3_01_01).contr.rank = 1 := rfl
  rw [← Equiv.sum_comp (contrEquiv1 dot_S8x16x128_S8x16x128x128_S8x16x128_2_2_n_3_01_01 128 hr rfl).symm]
  refine Finset.sum_congr rfl fun d _ => ?_
  have hv := contrEquiv1_symm_val dot_S8x16x128_S8x16x128x128_S8x16x128_2_2_n_3_01_01 128 hr rfl d
  refine congrArg₂ (fun u v : EReal => u * v) (congrArg x ?_) (congrArg y ?_)
  · funext a; apply Fin.ext
    match a with
    | ⟨0, _⟩ => rfl
    | ⟨1, _⟩ => rfl
    | ⟨2, _⟩ => exact hv
  · funext a; apply Fin.ext
    match a with
    | ⟨0, _⟩ => rfl
    | ⟨1, _⟩ => rfl
    | ⟨2, _⟩ => exact hv
    | ⟨3, _⟩ => rfl

section
variable (X : Fin 8 → Fin 4096 → Fin 4096 → ℝ) (B G : Fin 8 → Fin 4096 → Fin 16 → ℝ)

/-- What the scan holds before trip `j`. -/
structure Before (j : ℕ) (s : State Ideal) : Prop where
  q : ∀ t b h d, (s.main_v27_0 (ix4 t b h d) : EReal) = ((Delta.query X b (Delta.keyHead h) t.val d : ℝ) : EReal)
  k : ∀ t b h d, (s.main_v27_1 (ix4 t b h d) : EReal) = ((Delta.key X b (Delta.keyHead h) t.val d : ℝ) : EReal)
  v : ∀ t b h d, (s.main_v27_2 (ix4 t b h d) : EReal) = ((Delta.value X b h t.val d : ℝ) : EReal)
  g : ∀ t b h, (s.main_v27_3 (ix3 t b h) : EReal) = ((Delta.dec G b h t.val : ℝ) : EReal)
  bt : ∀ t b h, (s.main_v27_4 (ix3 t b h) : EReal) = ((Delta.strength B b h t.val : ℝ) : EReal)
  st : ∀ b h d e, (s.main_v27_6 (ix4 b h d e) : EReal) = ((Delta.state X B G b h j d e : ℝ) : EReal)
  out : ∀ t b h e, t.val < j → (s.main_v27_7 (ix4 t b h e) : EReal) = ((Delta.outRow X B G b h t.val e : ℝ) : EReal)

variable {X B G} {j : ℕ} {s : State Ideal} (H : Before X B G j s) (hj : j < 4096)
include H hj

theorem q_row (b : Fin 8) (h : Fin 16) (d : Fin 128) : (b4 j s (ix3 b h d) : EReal) = ((Delta.query X b (Delta.keyHead h) j d : ℝ) : EReal) :=
  (row4 s.main_v27_0 j hj _ _ _ rfl rfl rfl b h d).trans (H.q ⟨j, hj⟩ b h d)
theorem k_row (b : Fin 8) (h : Fin 16) (d : Fin 128) : (b9 j s (ix3 b h d) : EReal) = ((Delta.key X b (Delta.keyHead h) j d : ℝ) : EReal) :=
  (row4 s.main_v27_1 j hj _ _ _ rfl rfl rfl b h d).trans (H.k ⟨j, hj⟩ b h d)
theorem v_row (b : Fin 8) (h : Fin 16) (d : Fin 128) : (b14 j s (ix3 b h d) : EReal) = ((Delta.value X b h j d : ℝ) : EReal) :=
  (row4 s.main_v27_2 j hj _ _ _ rfl rfl rfl b h d).trans (H.v ⟨j, hj⟩ b h d)
theorem g_row (b : Fin 8) (h : Fin 16) : (b18 j s (ix2 b h) : EReal) = ((Delta.dec G b h j : ℝ) : EReal) :=
  (row3 s.main_v27_3 j hj _ _ rfl rfl b h).trans (H.g ⟨j, hj⟩ b h)
theorem bt_row (b : Fin 8) (h : Fin 16) : (b22 j s (ix2 b h) : EReal) = ((Delta.strength B b h j : ℝ) : EReal) :=
  (row3 s.main_v27_4 j hj _ _ rfl rfl b h).trans (H.bt ⟨j, hj⟩ b h)

/-- The decayed state. -/
theorem decayed (b : Fin 8) (h : Fin 16) (d e : Fin 128) :
    (b26 j s (ix4 b h d e) : EReal) = ((Delta.state X B G b h j d e * Real.exp (Delta.dec G b h j) : ℝ) : EReal) := by
  have hb : (b25 j s (ix4 b h d e) : EReal) = ((Real.exp (Delta.dec G b h j) : ℝ) : EReal) := by
    unfold b25 b24
    refine (broadcastInDim_apply _ _ _ _ (ix4 b h (0 : Fin 1) (0 : Fin 1)) (by intro a; fin_cases a <;> rfl)).trans ?_
    refine (broadcastInDim_apply _ _ _ _ (ix2 b h) (by intro a; fin_cases a <;> rfl)).trans ?_
    exact (congrArg Ideal.exp (g_row H hj b h)).trans rfl
  exact (congrArg₂ (fun u v : EReal => u * v) (H.st b h d e) hb).trans (EReal.coe_mul _ _).symm

/-- What the decayed state holds at the key. -/
theorem held (b : Fin 8) (h : Fin 16) (e : Fin 128) :
    (b27 j s (ix3 b h e) : EReal) = ((∑ d, Delta.key X b (Delta.keyHead h) j d * (Delta.state X B G b h j d e * Real.exp (Delta.dec G b h j)) : ℝ) : EReal) := by
  refine (dot_apply _ _ b h e).trans ?_
  rw [← sum_mul_coe]
  exact Finset.sum_congr rfl fun d _ => by rw [k_row H hj, decayed H hj]

/-- The state after the trip. -/
theorem next_state (b : Fin 8) (h : Fin 16) (d e : Fin 128) :
    (b37 j s (ix4 b h d e) : EReal) = ((Delta.state X B G b h (j + 1) d e : ℝ) : EReal) := by
  have hk : (b34 j s (ix4 b h d e) : EReal) = ((Delta.key X b (Delta.keyHead h) j d : ℝ) : EReal) := by
    unfold b34 b28
    refine (broadcastInDim_apply _ _ _ _ (ix4 b h d (0 : Fin 1)) (by intro a; fin_cases a <;> rfl)).trans ?_
    exact (broadcastInDim_apply _ _ _ _ (ix3 b h d) (by intro a; fin_cases a <;> rfl)).trans (k_row H hj b h d)
  have hbt : (b31 j s (ix3 b h e) : EReal) = ((Delta.strength B b h j : ℝ) : EReal) := by
    unfold b31 b30
    refine (broadcastInDim_apply _ _ _ _ (ix3 b h (0 : Fin 1)) (by intro a; fin_cases a <;> rfl)).trans ?_
    exact (broadcastInDim_apply _ _ _ _ (ix2 b h) (by intro a; fin_cases a <;> rfl)).trans (bt_row H hj b h)
  have hw : (b35 j s (ix4 b h d e) : EReal)
      = (((Delta.value X b h j e - ∑ d, Delta.key X b (Delta.keyHead h) j d * (Delta.state X B G b h j d e * Real.exp (Delta.dec G b h j))) * Delta.strength B b h j : ℝ) : EReal) := by
    unfold b35 b33
    refine (broadcastInDim_apply _ _ _ _ (ix4 b h (0 : Fin 1) e) (by intro a; fin_cases a <;> rfl)).trans ?_
    refine (broadcastInDim_apply _ _ _ _ (ix3 b h e) (by intro a; fin_cases a <;> rfl)).trans ?_
    refine (congrArg₂ (fun u v : EReal => u * v) (congrArg₂ (fun u v : EReal => u - v) (v_row H hj b h e) (held H hj b h e)) hbt).trans ?_
    push_cast; rfl
  refine (congrArg₂ (fun u v : EReal => u + v) (decayed H hj b h d e) (congrArg₂ (fun u v : EReal => u * v) hk hw)).trans ?_
  rw [← EReal.coe_mul, ← EReal.coe_add]
  rfl

/-- The output row of the trip. -/
theorem out_row (b : Fin 8) (h : Fin 16) (e : Fin 128) : (b38 j s (ix3 b h e) : EReal) = ((Delta.outRow X B G b h j e : ℝ) : EReal) := by
  refine (dot_apply _ _ b h e).trans ?_
  unfold Delta.outRow
  rw [← sum_mul_coe]
  exact Finset.sum_congr rfl fun d _ => by rw [q_row H hj, next_state H hj]

/-- A trip carries what the scan holds one step on. -/
theorem Before.step : Before X B G (j + 1) (step j s) where
  q := H.q
  k := H.k
  v := H.v
  g := H.g
  bt := H.bt
  st := next_state H hj
  out t b h e ht := by
    refine (write4 s.main_v27_7 (b38 j s) j hj _ _ _ rfl rfl rfl t b h e).trans ?_
    by_cases hte : t.val = j
    · rw [if_pos hte]; exact (out_row H hj b h e).trans (by rw [hte])
    · rw [if_neg hte]; exact H.out t b h e (by omega)

end

end Cert.ReferenceIdeal.Scan

end
-- ==== Proof.RefRun.lean ====
/- The reference's run: the scan's trips are `step`, from `init`; its result array is the layer's result. -/
module

public import proofs.«01_k».proof.Proof.RefStep
public import proofs.«01_k».proof.Proof.Gen.ReferenceIdeal.Run

@[expose] public section

noncomputable section

namespace Cert.ReferenceIdeal.Scan

open Cert.ReferenceIdeal Cert.ReferenceIdeal.Gen Cert.ReferenceIdeal.Step Cert.ReferenceIdeal.Value Idealize.ShloMosaic.ValueIdx Coord
open Idealize.ShloMosaic hiding ix1 ix2 ix3 ix4
open Idealize.ShloMosaic.StableHlo Idealize.ShloMosaic.TcCoe

/-- The scan's buffers hold a trip's state, and the counter its number. -/
structure Reads (V : Valuation τ sig (Elt Ideal)) (j : ℕ) (s : State Ideal) : Prop where
  r0 : V (Proc.devRef .tc main_v27_0) = s.main_v27_0
  r1 : V (Proc.devRef .tc main_v27_1) = s.main_v27_1
  r2 : V (Proc.devRef .tc main_v27_2) = s.main_v27_2
  r3 : V (Proc.devRef .tc main_v27_3) = s.main_v27_3
  r4 : V (Proc.devRef .tc main_v27_4) = s.main_v27_4
  r5 : V (Proc.devRef .tc main_v27_5) = constantI S_ 32 (BitVec.ofNat 32 j)
  r6 : V (Proc.devRef .tc main_v27_6) = s.main_v27_6
  r7 : V (Proc.devRef .tc main_v27_7) = s.main_v27_7

/-- A trip makes the next state. -/
theorem Reads.next {V : Valuation τ sig (Elt Ideal)} {j : ℕ} {s : State Ideal} (H : Reads V j s) : Reads (STEP V) (j + 1) (step j s) where
  r0 := (STEP_main_v27_0 V).trans H.r0
  r1 := (STEP_main_v27_1 V).trans H.r1
  r2 := (STEP_main_v27_2 V).trans H.r2
  r3 := (STEP_main_v27_3 V).trans H.r3
  r4 := (STEP_main_v27_4 V).trans H.r4
  r5 := (STEP_main_v27_5 V).trans (by
    unfold step_main_v27_5
    rw [H.r5]
    funext i
    exact BitVec.eq_of_toNat_eq (by simp [addi, IntOp.addi, constantI]))
  r6 := (STEP_main_v27_6 V).trans (by
    unfold Value.step_main_v27_6 res_main_while0b_v74 res_main_while0b_v63 res_main_while0b_v56
    rw [H.r1, H.r2, H.r3, H.r4, H.r5, H.r6]
    rfl)
  r7 := (STEP_main_v27_7 V).trans (by
    unfold Value.step_main_v27_7 res_main_while0b_v74 res_main_while0b_v63 res_main_while0b_v56
    rw [H.r0, H.r1, H.r2, H.r3, H.r4, H.r5, H.r6, H.r7]
    rfl)

variable (m : (ℓ : Loc nD τ sig) → Buf (Elt Ideal) ℓ) (c : Dev nD)

/-- The scan starts at `init`. -/
theorem reads_entry : Reads (entryContents preI m c) 0
    (init (m ((c.tc : Thread nD τ).loc main_arg0)) (m ((c.tc : Thread nD τ).loc main_arg2)) (m ((c.tc : Thread nD τ).loc main_arg3))) where
  r0 := by simp only [entryContents, afterL_cons, afterL_nil]; after_reads_simp; rfl
  r1 := by simp only [entryContents, afterL_cons, afterL_nil]; after_reads_simp; rfl
  r2 := by simp only [entryContents, afterL_cons, afterL_nil]; after_reads_simp; rfl
  r3 := by simp only [entryContents, afterL_cons, afterL_nil]; after_reads_simp; rfl
  r4 := by simp only [entryContents, afterL_cons, afterL_nil]; after_reads_simp; rfl
  r5 := by simp only [entryContents, afterL_cons, afterL_nil]; after_reads_simp; rfl
  r6 := by simp only [entryContents, afterL_cons, afterL_nil]; after_reads_simp; rfl
  r7 := by simp only [entryContents, afterL_cons, afterL_nil]; after_reads_simp; rfl

/-- The arguments' entries are reals. -/
structure Real (X : Fin 8 → Fin 4096 → Fin 4096 → ℝ) (B G : Fin 8 → Fin 4096 → Fin 16 → ℝ) : Prop where
  x : ∀ b t l, (m ((c.tc : Thread nD τ).loc main_arg0) (ix3 b t l) : EReal) = ((X b t l : ℝ) : EReal)
  b : ∀ b t h, (m ((c.tc : Thread nD τ).loc main_arg2) (ix3 b t h) : EReal) = ((B b t h : ℝ) : EReal)
  g : ∀ b t h, (m ((c.tc : Thread nD τ).loc main_arg3) (ix3 b t h) : EReal) = ((G b t h : ℝ) : EReal)

variable {m c} {X : Fin 8 → Fin 4096 → Fin 4096 → ℝ} {B G : Fin 8 → Fin 4096 → Fin 16 → ℝ}

theorem at_self (t : Fin 4096) : Delta.at_ t.val = t := Fin.ext (Delta.at_val t.isLt)

theorem before_init (R : Real m c X B G) : Before X B G 0
    (init (m ((c.tc : Thread nD τ).loc main_arg0)) (m ((c.tc : Thread nD τ).loc main_arg2)) (m ((c.tc : Thread nD τ).loc main_arg3))) where
  q t b h d := (query_apply _ _ _ b t h d).trans ((R.x _ _ _).trans (by
    unfold Delta.query; rw [at_self]; congr 2; exact Fin.ext (by simp only; omega)))
  k t b h d := (key_apply _ _ _ b t h d).trans ((R.x _ _ _).trans (by unfold Delta.key; rw [at_self]))
  v t b h d := (value_apply _ _ _ b t h d).trans ((R.x _ _ _).trans (by unfold Delta.value; rw [at_self]))
  g t b h := by
    refine (dec_apply _ _ _ b t h).trans ?_
    rw [R.g]
    unfold Delta.dec Delta.cum
    rw [at_self]
    by_cases h0 : t.val % 64 = 0
    · rw [if_pos h0, if_pos h0]; exact sub_zero _
    · rw [if_neg h0, if_neg h0, R.g, EReal.coe_sub]
      congr 3; exact Fin.ext (Delta.at_val (by omega)).symm
  bt t b h := (strength_apply (m ((c.tc : Thread nD τ).loc main_arg0)) (m ((c.tc : Thread nD τ).loc main_arg2)) (m ((c.tc : Thread nD τ).loc main_arg3)) b t h).trans ((R.b _ _ _).trans (by unfold Delta.strength; rw [at_self]))
  st b h d e := (show (K_main_v25 (F := Ideal) (ix4 b h d e) : EReal) = _ from
    (broadcastInDim_scalar_apply bcast_S_S8x16x128x128 (K_main_cst_0 (F := Ideal)) _).trans (Ideal.ofBits_zero_f32.trans EReal.coe_zero.symm))
  out t b h e ht := absurd ht (Nat.not_lt_zero _)

/-- After `n` trips the scan holds the recurrence's states and rows. -/
theorem scanned (R : Real m c X B G) : ∀ n, n ≤ 4096 → ∃ s, Reads (STEP^[n] (entryContents preI m c)) n s ∧ Before X B G n s
  | 0, _ => ⟨_, reads_entry m c, before_init R⟩
  | n + 1, hn => by
    obtain ⟨s, h1, h2⟩ := scanned R n (by omega)
    refine ⟨step n s, ?_, h2.step (by omega)⟩
    rw [Function.iterate_succ_apply']
    exact h1.next

/-- The operations after the scan normalise, scale and gate each row. -/
theorem gated (O : FVec Ideal S4096x8x16x128 .f32) (Z : FVec Ideal S8x4096x6144 .bf16) (N : FVec Ideal S128 .f32) (s : State Ideal) (hs : s.main_v27_7 = O)
    (b : Fin 8) (t : Fin 4096) (h : Fin 16) (e : Fin 128) :
    (R_main_v54 s Z N (ix3 b t (⟨128 * h.val + e.val, by omega⟩ : Fin 2048)) : EReal)
      = Delta.gateE (fun e' => O (ix4 t b h e')) (N (ix1 e)) (Z (ix3 b t (⟨4096 + (128 * h.val + e.val), by omega⟩ : Fin 6144))) e := by
  subst hs
  unfold R_main_v54
  have cast : ∀ W : FVec Ideal S8x4096x16x128 .f32, (truncf .bf16 (shapeCast S8x4096x2048 W shapeCasts_S8x4096x16x128_S8x4096x2048 : FVec Ideal S8x4096x2048 .f32) bitsLt_bf16_f32 : FVec Ideal S8x4096x2048 .bf16)
      (ix3 b t (⟨128 * h.val + e.val, by omega⟩ : Fin 2048)) = W (ix4 b t h e) := fun W =>
    shapeCast_apply W _ _ (ix4 b t h e) (by
      rw [Shape.rowMajor_val_three, Shape.rowMajor_val_four]; simp [c3_0, c3_1, c3_2, c4_0, c4_1, c4_2, c4_3]; omega)
  refine (cast _).trans ?_
  have ho : ∀ e', (transpose S8x4096x16x128 [1, 0, 2, 3] s.main_v27_7 transposes_S4096x8x16x128_S8x4096x16x128_1_0_2_3 : FVec Ideal S8x4096x16x128 .f32) (ix4 b t h e') = s.main_v27_7 (ix4 t b h e') :=
    fun e' => transpose_apply _ _ _ _ (ix4 t b h e') (by intro a; fin_cases a <;> rfl)
  have hz : (shapeCast S8x4096x16x128 (extf .f32 (extractStridedSlice S8x4096x2048 ![0, 0, 4096] Z slices_S8x4096x6144_S8x4096x2048_0_0_4096 : FVec Ideal S8x4096x2048 .bf16) bitsLt_bf16_f32 : FVec Ideal S8x4096x2048 .f32) shapeCasts_S8x4096x2048_S8x4096x16x128 : FVec Ideal S8x4096x16x128 .f32) (ix4 b t h e)
      = Z (ix3 b t (⟨4096 + (128 * h.val + e.val), by omega⟩ : Fin 6144)) := by
    refine (shapeCast_apply _ _ _ (ix3 b t (⟨128 * h.val + e.val, by omega⟩ : Fin 2048)) (by
      rw [Shape.rowMajor_val_three, Shape.rowMajor_val_four]; simp [c3_0, c3_1, c3_2, c4_0, c4_1, c4_2, c4_3]; omega)).trans ?_
    exact extractStridedSlice_apply _ Z slices_S8x4096x6144_S8x4096x2048_0_0_4096 _ _ (by intro a; fin_cases a <;> simp)
  unfold Delta.gateE
  refine congrArg₂ (fun x y : EReal => x * y) (congrArg₂ (fun x y : EReal => x * y) (congrArg₂ (fun x y : EReal => x * y) (ho e) ?_) ?_) ?_
  · refine (broadcastInDim_apply _ _ _ _ (ix4 b t h (0 : Fin 1)) (by intro a; fin_cases a <;> rfl)).trans ?_
    refine congrArg Ideal.rsqrt (congrArg₂ (fun x y : EReal => x + y) (congrArg₂ (fun x y : EReal => Ideal.div x y) ?_ ?_) ?_)
    · refine (broadcastInDim_apply _ _ _ _ (ix3 b t h) (by intro a; fin_cases a <;> rfl)).trans ?_
      refine (hostReduceAdd_apply _ _ _ _ _).trans ?_
      refine (Ideal.hostReduceAdd_single reducesTo_S8x4096x16x128_S8x4096x16_d3 (by decide) _ _ _).trans ?_
      refine (congrArg₂ (fun x y : EReal => x + y) Ideal.ofBits_zero_f32 (Finset.sum_congr rfl fun e' _ => ?_)).trans (zero_add _)
      refine Eq.trans (congrArg _ (?_ : _ = ix4 b t h e')) (congrArg₂ (fun x y : EReal => x * y) (ho e') (ho e'))
      funext a; apply Fin.ext; fin_cases a <;> rfl
    · exact broadcastInDim_scalar_apply _ _ _
    · exact broadcastInDim_scalar_apply _ _ _
  · refine (broadcastInDim_apply _ _ _ _ (ix4 (0 : Fin 1) (0 : Fin 1) (0 : Fin 1) e) (by intro a; fin_cases a <;> rfl)).trans ?_
    exact broadcastInDim_apply _ _ _ _ (ix1 e) (by intro a; fin_cases a <;> rfl)
  · have h1 : (broadcastInDim S8x4096x16x128 ![] bcast_S_S8x4096x16x128 (constant S_ .f32 0x3F800000#32 : FVec Ideal S_ .f32) (ix4 b t h e) : EReal) = 1 :=
      (broadcastInDim_scalar_apply _ _ _).trans Ideal.ofBits_one_f32
    exact congrArg₂ (fun x y : EReal => x * y) hz (congrArg₂ (fun x y : EReal => Ideal.div x y) h1 (congrArg₂ (fun x y : EReal => x + y) h1 (congrArg (fun x : EReal => Ideal.exp (-x)) hz)))

/-- The reference's result array. -/
theorem result_eq (R : Real m c X B G) (y : S8x4096x2048.Idx) :
    (out_main_v54 (STEP^[4096] (entryContents preI m c)) y : EReal)
      = Delta.result X B G (fun d => m ((c.tc : Thread nD τ).loc main_arg4) (ix1 d)) (fun b t l => m ((c.tc : Thread nD τ).loc main_arg1) (ix3 b t l))
          (y 0) (y 1) ⟨(y 2).val / 128, by have h : (y 2).val < 2048 := (y 2).isLt; omega⟩ ⟨(y 2).val % 128, Nat.mod_lt _ (by decide)⟩ := by
  obtain ⟨s, h1, h2⟩ := scanned R 4096 le_rfl
  have hy2 : (y 2).val < 2048 := (y 2).isLt
  have hout : out_main_v54 (STEP^[4096] (entryContents preI m c)) = R_main_v54 s (m ((c.tc : Thread nD τ).loc main_arg1)) (m ((c.tc : Thread nD τ).loc main_arg4)) := by
    unfold out_main_v54 R_main_v54
    rw [h1.r7, iter_main_arg1, iter_main_arg4]
    rfl
  have hy : y = ix3 (y 0) (y 1) (⟨128 * ((y 2).val / 128) + (y 2).val % 128, by omega⟩ : Fin 2048) := by
    funext a; apply Fin.ext; fin_cases a
    · rfl
    · rfl
    · show (y 2).val = 128 * ((y 2).val / 128) + (y 2).val % 128; omega
  rw [hout]
  refine (congrArg _ hy).trans ((gated _ _ _ s rfl (y 0) (y 1) ⟨(y 2).val / 128, by omega⟩ ⟨(y 2).val % 128, Nat.mod_lt _ (by decide)⟩).trans ?_)
  unfold Delta.result
  congr 1
  funext e'
  exact h2.out (y 1) (y 0) _ e' (y 1).isLt

end Cert.ReferenceIdeal.Scan

end
-- ==== Proof.Decode.lean ====
/- What the precondition says: the queries, keys, values, write strengths and cumulated decays are finite, and within each
   chunk the cumulated decays do not rise. -/
module

public import proofs.«01_k».proof.Proof.Gen.Pre_well_posed
public import proofs.«01_k».proof.Proof.Coord
public import Idealize.ShloMosaic.Lib.ReduceAll
public import Idealize.ShloMosaic.Lib.Pipeline.Value
public import Idealize.ShloMosaic.Lib.IdealHost
public import Idealize.ShloMosaic.Lib.ValueIdx

@[expose] public section

noncomputable section

namespace Cert.Pre_well_posed.Decode

open Cert.Pre_well_posed Cert.Pre_well_posed.Gen Idealize.ShloMosaic.ValueIdx Coord
open Idealize.ShloMosaic

/-- The bound the finiteness tests compare with is plus infinity. -/
theorem inf_top : Ideal.ofBits .f32 0x7F800000#32 = ⊤ := by
  simp [Ideal.ofBits, Ideal.ieee]

theorem ofBool_one {p : Prop} [Decidable p] (h : BitVec.ofBool (decide p) = 1#1) : p := by
  by_contra hn
  simp [hn] at h

/-- A value below infinity in magnitude is a real. -/
theorem real_of (x : EReal) (h : max x (-x) < ⊤) : x = ((x.toReal : ℝ) : EReal) := by
  refine (EReal.coe_toReal ?_ ?_).symm
  · rintro rfl; simp at h
  · rintro rfl; simp at h

theorem real_of_test {s : Shape} (x : FVec Ideal s .f32) (hb : S_.BroadcastsInDim s ![]) (i : s.Idx)
    (h : cmpf .olt (Host.absf x) (broadcastInDim s ![] hb (constant S_ .f32 0x7F800000#32 : FVec Ideal S_ .f32)) i = 1#1) :
    (x i : EReal) = ((EReal.toReal (x i) : ℝ) : EReal) := by
  refine real_of _ ?_
  have h1 : max (x i : EReal) (-(x i)) < (broadcastInDim s ![] hb (constant S_ .f32 0x7F800000#32 : FVec Ideal S_ .f32) i : EReal) := ofBool_one h
  have h2 : (broadcastInDim s ![] hb (constant S_ .f32 0x7F800000#32 : FVec Ideal S_ .f32) i : EReal) = ⊤ := (broadcastInDim_scalar_apply _ _ _).trans inf_top
  rwa [h2] at h1

theorem and_one {a b : BitVec 1} (h : IntOp.andi a b = 1#1) : a = 1#1 ∧ b = 1#1 := by
  revert a b; decide

variable {A0 : FVec Ideal S8x4096x4096 .bf16} {A1 : FVec Ideal S8x4096x6144 .bf16} {A2 A3 : FVec Ideal S8x4096x16 .f32} {A4 : FVec Ideal S128 .f32}

instance : Subsingleton S_.Idx := ⟨fun a b => funext fun i => i.elim0⟩

/-- The precondition's parts. -/
theorem parts (h : fn (F := Ideal) A0 A1 A2 A3 A4 = fun _ => 1#1) :
    (∀ i, (A0 i : EReal) = ((EReal.toReal (A0 i) : ℝ) : EReal)) ∧ (∀ i, (A2 i : EReal) = ((EReal.toReal (A2 i) : ℝ) : EReal)) ∧ (∀ i, (A3 i : EReal) = ((EReal.toReal (A3 i) : ℝ) : EReal))
      ∧ ∀ i, cmpf .ole (extractStridedSlice S8x64x63x16 ![0, 0, 1, 0] (shapeCast S8x64x64x16 A3 shapeCasts_S8x4096x16_S8x64x64x16 : FVec Ideal S8x64x64x16 .f32) slices_S8x64x64x16_S8x64x63x16_0_0_1_0 : FVec Ideal S8x64x63x16 .f32)
          (extractStridedSlice S8x64x63x16 ![0, 0, 0, 0] (shapeCast S8x64x64x16 A3 shapeCasts_S8x4096x16_S8x64x64x16 : FVec Ideal S8x64x64x16 .f32) slices_S8x64x64x16_S8x64x63x16_0_0_0_0 : FVec Ideal S8x64x63x16 .f32) i = 1#1 := by
  have h0 := congrFun h ix0
  unfold fn fn_part1 at h0
  obtain ⟨h1, hc⟩ := and_one h0
  obtain ⟨h2, hg⟩ := and_one h1
  obtain ⟨hx, hb⟩ := and_one h2
  refine ⟨fun i => ?_, fun i => ?_, fun i => ?_, fun i => ?_⟩
  · exact real_of_test (extf .f32 A0 bitsLt_bf16_f32) _ i (Host.reduce_andi_all _ _ _ _ _ hx i)
  · exact real_of_test A2 _ i (Host.reduce_andi_all _ _ _ _ _ hb i)
  · exact real_of_test A3 _ i (Host.reduce_andi_all _ _ _ _ _ hg i)
  · exact Host.reduce_andi_all _ _ _ _ _ hc i

/-- The chunked table's entries. -/
theorem chunk_apply (b : Fin 8) (n r : Fin 64) (h : Fin 16) :
    (shapeCast S8x64x64x16 A3 shapeCasts_S8x4096x16_S8x64x64x16 : FVec Ideal S8x64x64x16 .f32) (ix4 b n r h) = A3 (ix3 b (⟨64 * n.val + r.val, by omega⟩ : Fin 4096) h) :=
  shapeCast_apply _ _ _ _ (by
    rw [Shape.rowMajor_val_three, Shape.rowMajor_val_four]; simp [c3_0, c3_1, c3_2, c4_0, c4_1, c4_2, c4_3]; omega)

/-- Within a chunk a cumulated decay is at most the one before. -/
theorem falls (h : fn (F := Ideal) A0 A1 A2 A3 A4 = fun _ => 1#1) (b : Fin 8) (k : Fin 16) (t : ℕ) (ht : t + 1 < 4096) (hm : t % 64 ≠ 63) :
    (A3 (ix3 b (⟨t + 1, ht⟩ : Fin 4096) k) : EReal) ≤ A3 (ix3 b (⟨t, by omega⟩ : Fin 4096) k) := by
  have hc := (parts h).2.2.2 (ix4 b (⟨t / 64, by omega⟩ : Fin 64) (⟨t % 64, by omega⟩ : Fin 63) k)
  have h1 := ofBool_one hc
  have e1 := (extractStridedSlice_apply ![0, 0, 1, 0] (shapeCast S8x64x64x16 A3 shapeCasts_S8x4096x16_S8x64x64x16 : FVec Ideal S8x64x64x16 .f32) slices_S8x64x64x16_S8x64x63x16_0_0_1_0
    (ix4 b (⟨t / 64, by omega⟩ : Fin 64) (⟨t % 64, by omega⟩ : Fin 63) k) (ix4 b (⟨t / 64, by omega⟩ : Fin 64) (⟨1 + t % 64, by omega⟩ : Fin 64) k) (by intro a; fin_cases a <;> simp)).trans (chunk_apply b _ _ k)
  have e2 := (extractStridedSlice_apply ![0, 0, 0, 0] (shapeCast S8x64x64x16 A3 shapeCasts_S8x4096x16_S8x64x64x16 : FVec Ideal S8x64x64x16 .f32) slices_S8x64x64x16_S8x64x63x16_0_0_0_0
    (ix4 b (⟨t / 64, by omega⟩ : Fin 64) (⟨t % 64, by omega⟩ : Fin 63) k) (ix4 b (⟨t / 64, by omega⟩ : Fin 64) (⟨t % 64, by omega⟩ : Fin 64) k) (by intro a; fin_cases a <;> simp)).trans (chunk_apply b _ _ k)
  have u1 : (⟨64 * (t / 64) + (1 + t % 64), by omega⟩ : Fin 4096) = ⟨t + 1, ht⟩ := Fin.ext (by simp only; omega)
  have u2 : (⟨64 * (t / 64) + t % 64, by omega⟩ : Fin 4096) = ⟨t, by omega⟩ := Fin.ext (by simp only; omega)
  simp only [u1] at e1
  simp only [u2] at e2
  rwa [← e1, ← e2]

end Cert.Pre_well_posed.Decode

end
-- ==== Proof.Import2.lean ====
module

public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Pre_planned
public import proofs.«01_k».proof.Proof.Gen.On_routed
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
-- ==== Proof.Import3.lean ====
module

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
-- ==== Proof.ExpertBody.lean ====
/- The expert kernel's body on any staging buffers: at a grid step that has rows it stores one block, at any other it does
   nothing. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.Claim

@[expose] public section

set_option maxRecDepth 16384

noncomputable section

namespace Cert.Kernel2Ideal.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table that holds the number of steps with rows. -/
abbrev counts : Memref sig .tc .smem S1 .i32 := Memref.whole main_arg2
/-- Half of a table, held by the body while it runs. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- One block of the layer, from the block's rows and one expert's weights and biases. -/
def block (x0 : Vec F S256x1024 .f32) (x1 : Vec F S1x1024x2048 .bf16) (x2 : Vec F S1x1x2048 .f32) (x3 : Vec F S1x1x1024x1024 .f32)
    (x4 : Vec F S1x1x1024 .f32) : FVec F S256x1024 .f32 :=
  let g := k0_pay2 x0 x1 x2
  k0_pay1 (k0_pay3 x0 x1 x2) (k0_pay6 (k0_pay4 x0 x1 x2) (k0_pay5 x0 x1 x2) (Scalar.ofBits .f32 0x3F800000#32)) (k0_pay7 g)
    (k0_pay10 (k0_pay8 g) (k0_pay9 g) (Scalar.ofBits .f32 0x3F800000#32)) (k0_pay11 g)
    (k0_pay14 (k0_pay12 g) (k0_pay13 g) (Scalar.ofBits .f32 0x3F800000#32)) (k0_pay15 g) (k0_pay16 g) (k0_pay17 g)
    (Scalar.ofBits .f32 0x3F800000#32) x3 x4

/-- A load of a whole buffer reads its contents. -/
theorem load_whole {S : Shape} {e : EltTy} (M : Memref sig .tc .vmem S e) (h : M.IsWhole) (X : S.Idx → Elt F e)
    {off : Fin S.rank → Nat} (h0 : off = fun _ => 0) (inb : ∀ a, off a + S.size a ≤ S.size a) :
    M.view.readAt (Elt F) (Rect.unit off S.size inb).toLoadRect (h.unread X) = X := by
  subst h0; funext x
  exact (congrFun (h.read_unread X) _).trans (congrFun (View.ld_unit_zero (S := S) rfl inb X) x)

/-- A store over a whole buffer leaves what was stored. -/
theorem store_whole {S : Shape} {e : EltTy} (M : Memref sig .tc .vmem S e) (f : M.view.ty.Contents (Elt F))
    {off : Fin S.rank → Nat} (h0 : off = fun _ => 0) (inb : ∀ a, off a + S.size a ≤ S.size a) (X : S.Idx → Elt F e) :
    M.view.read (Elt F) (M.view.writes (Elt F) f [⟨Rect.unit off S.size inb, X⟩]) = X :=
  (View.read_writes_eq_canon _ _ _ (fun y => ⟨_, List.mem_singleton_self _, View.mem_set_unit_zero h0 inb y⟩)).trans
    (View.canon_unit_zero h0 inb X)

section
variable (c : Dev nD) (i : grid0.Coords)
  (a1 : Memref sig .tc .smem S656 .i32) (h1 : a1.IsWhole) (a2 : Memref sig .tc .smem S656 .i32) (h2 : a2.IsWhole)
  (a4 : Memref sig .tc .vmem S256x1024 .f32) (h4 : a4.IsWhole) (a5 : Memref sig .tc .vmem S1x1024x2048 .bf16) (h5 : a5.IsWhole)
  (a6 : Memref sig .tc .vmem S1x1x2048 .f32) (h6 : a6.IsWhole) (a7 : Memref sig .tc .vmem S1x1x1024x1024 .f32) (h7 : a7.IsWhole)
  (a8 : Memref sig .tc .vmem S1x1x1024 .f32) (h8 : a8.IsWhole) (a9 : Memref sig .tc .vmem S256x1024 .f32) (h9 : a9.IsWhole)
  (x0 : Vec F S256x1024 .f32) (x1 : Vec F S1x1024x2048 .bf16) (x2 : Vec F S1x1x2048 .f32) (x3 : Vec F S1x1x1024x1024 .f32)
  (x4 : Vec F S1x1x1024 .f32) (x5 : Vec F S256x1024 .f32) (n : Buf (Elt F) ((Memref.view counts).loc (c : Thread nD τ)))

/-- The body's step with rows: the output block is written whole. -/
theorem live (hc : ∀ x : S1.Idx, k0_cond1 i (n x) = 1#1) (E : Set ℕ) (K : PUnit → sProp 𝕄) :
    iprop(owns (c : Thread nD τ) a4 fullShare x0 ∗ owns (c : Thread nD τ) a5 fullShare x1 ∗ owns (c : Thread nD τ) a6 fullShare x2
        ∗ owns (c : Thread nD τ) a7 fullShare x3 ∗ owns (c : Thread nD τ) a8 fullShare x4
        ∗ owns (c : Thread nD τ) a9 fullShare x5
        ∗ half c counts n
        ∗ (iprop(owns (c : Thread nD τ) a4 fullShare x0 ∗ owns (c : Thread nD τ) a5 fullShare x1
            ∗ owns (c : Thread nD τ) a6 fullShare x2 ∗ owns (c : Thread nD τ) a7 fullShare x3 ∗ owns (c : Thread nD τ) a8 fullShare x4
            ∗ owns (c : Thread nD τ) a9 fullShare (block x0 x1 x2 x3 x4)
            ∗ half c counts n) -∗ K ⟨⟩))
      ⊢ wp frame (wpE (defs₀ (F := F)) Variants.none c none) E
          (cc0_moe_experts i a1 h1 a2 h2 counts (Memref.isWhole_whole _) a4 h4 a5 h5 a6 h6 a7 h7 a8 h8 a9 h9) K := by
  simp only [cc0_moe_experts_eq_skeleton]; unfold cc0_moe_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, HT, Hk⟩
  obtain rfl := h4.eq_unread hf0; obtain rfl := h5.eq_unread hf1; obtain rfl := h6.eq_unread hf2
  obtain rfl := h7.eq_unread hf3; obtain rfl := h8.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (store_whole a9 _ (by decide +kernel) inb_S256x1024_S256x1024_0_0 _).trans ?_
    have e0 := load_whole a4 h4 x0 (off := ![0, 0]) (by decide +kernel) inb_S256x1024_S256x1024_0_0
    have e1 := load_whole a5 h5 x1 (off := ![0, 0, 0]) (by decide +kernel) inb_S1x1024x2048_S1x1024x2048_0_0_0
    have e2 := load_whole a6 h6 x2 (off := ![0, 0, 0]) (by decide +kernel) inb_S1x1x2048_S1x1x2048_0_0_0
    have e3 := load_whole a7 h7 x3 (off := ![0, 0, 0, 0]) (by decide +kernel) inb_S1x1x1024x1024_S1x1x1024x1024_0_0_0_0
    have e4 := load_whole a8 h8 x4 (off := ![0, 0, 0]) (by decide +kernel) inb_S1x1x1024_S1x1x1024_0_0_0
    rw [e4]
    unfold live.sl.v190
    rw [e3]
    refine Eq.trans (b := block _ _ _ x3 x4) rfl ?_
    rw [e0, e1, e2]
  iexact HT

/-- The body's step without rows changes nothing. -/
theorem off (hc : ∀ x : S1.Idx, ¬ k0_cond1 i (n x) = 1#1) (E : Set ℕ) (K : PUnit → sProp 𝕄) :
    iprop(half c counts n ∗ (half c counts n -∗ K ⟨⟩))
      ⊢ wp frame (wpE (defs₀ (F := F)) Variants.none c none) E
          (cc0_moe_experts i a1 h1 a2 h2 counts (Memref.isWhole_whole _) a4 h4 a5 h5 a6 h6 a7 h7 a8 h8 a9 h9) K := by
  simp only [cc0_moe_experts_eq_skeleton]; unfold cc0_moe_experts_skel
  iintro ⟨HT, Hk⟩
  sl_exec
  sl_step
  iapply Hk
  iexact HT

end

end Cert.Kernel2Ideal.Expert

end
-- ==== Proof.ExpertRun.lean ====
/- The expert kernel's run over its grid: every step that has rows leaves its block in the output buffer, every later one
   leaves the buffer alone, and the arrays end at what the write-backs make of them. -/
module

public import proofs.«01_k».proof.Proof.ExpertBody

@[expose] public section

set_option maxRecDepth 16384

noncomputable section

namespace Cert.Kernel2Ideal.Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid finds in memory -/

theorem host_fresh : (hostOps0 : List (HloOp τ sig (Elt F))).Forall fun op => op.fresh = ∅ := by
  simp only [List.Forall]; repeat' constructor

/-- The buffers after the host operations, where the grid starts. -/
def entry (c : Dev nD) (b : Ref sig .tc) : Buf (Elt F) ((c : Thread nD τ).loc b) :=
  StableHlo.after (List.flatten [hostOps0]) (fun b => m (c, b)) (Proc.devRef .tc b)

set_option maxHeartbeats 800000 in
theorem to_grid (𝒱₀ : Variants) :
    Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main [hostOps0] (by simp only [List.Forall]; exact hostOps0_sub)
    (by simp only [List.Forall]; exact host_fresh) main_chain

/-- A buffer no host operation writes is found as it was. -/
theorem entry_kept (c : Dev nD) {b : Ref sig .tc} (h0 : b ≠ main_v0) (h1 : b ≠ main_v1) (h2 : b ≠ main_v2) (h3 : b ≠ main_v3) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      StableHlo.reshape_writes, Finset.mem_singleton]
    exact ⟨StableHlo.devRef_ne_of_ne h0, StableHlo.devRef_ne_of_ne h1, StableHlo.devRef_ne_of_ne h2, StableHlo.devRef_ne_of_ne h3⟩))

/-- The tables, on the one device. -/
def tables : pre0.Contents (Elt F) := fun j => entry m (0 : Dev nD) (pre0.ref j)

theorem tables_eq (c : Dev nD) (j : Fin 3) : entry m c (pre0.ref j) = tables m j := by
  obtain rfl : c = 0 := Subsingleton.elim _ _; rfl

/-- The tables name blocks inside their arrays. -/
abbrev Inside : Prop := ok0 (F := F) (tables m)
abbrev adm (hO : Inside m) : (pcfg0 (F := F)).Adm := ⟨tables m, hO⟩
abbrev grid (hO : Inside m) : Pipeline.Cfg sig Λ₀ := cfg0 (adm m hO)

/-- The step stores nothing. -/
abbrev idle (hO : Inside m) (t : Fin (grid m hO).N) : Bool := (grid m hO).idle 5 ((grid m hO).grid.coords t)

/-- What the run asks of the tables beyond naming blocks inside their arrays: the first step has rows, and a step without
    rows names the output block of the step before it. -/
structure Steady (hO : Inside m) : Prop where
  first : ∀ t : Fin (grid m hO).N, t.val = 0 → idle m hO t = false
  keep : ∀ (t u : Fin (grid m hO).N), u.val = t.val + 1 → idle m hO u = true → ((grid m hO).win 5).index u = ((grid m hO).win 5).index t

theorem halves (c : Dev nD) : (Pipeline.ΦT pre0 (tables m) c : sProp 𝕄)
    = iprop(half c (Memref.whole main_arg0) (tables m 0) ∗ half c (Memref.whole main_arg1) (tables m 1) ∗ half c counts (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- Window `w`'s block at a step. -/
def inBlock (hO : Inside m) (c : Dev nD) (w : Fin (grid m hO).W) (t : Fin (grid m hO).N) :
    (((grid m hO).win w).xblock ((grid m hO).grid.coords t)).Idx → Elt F ((grid m hO).win w).elt :=
  (((grid m hO).win w).blk t).view.read (Elt F) (entry m c (Pipeline.arrRef spec0 w))

/-- What a step with rows stores. -/
def stored (hO : Inside m) (c : Dev nD) (t : Fin (grid m hO).N) : Vec F S256x1024 .f32 :=
  block (inBlock m hO c 0 t) (inBlock m hO c 1 t) (inBlock m hO c 2 t) (inBlock m hO c 3 t) (inBlock m hO c 4 t)

/-- What the output buffer holds after each step: the last block stored. -/
def kept (hO : Inside m) (c : Dev nD) : (n : ℕ) → n < (grid m hO).N → Vec F S256x1024 .f32
  | 0, h => stored m hO c ⟨0, h⟩
  | n + 1, h => if idle m hO ⟨n + 1, h⟩ then kept hO c n (Nat.lt_of_succ_lt h) else stored m hO c ⟨n + 1, h⟩

theorem kept_live (hO : Inside m) (c : Dev nD) (t : Fin (grid m hO).N) (h : idle m hO t = false) :
    kept m hO c t.val t.isLt = stored m hO c t := by
  obtain ⟨n, hn⟩ := t
  cases n with
  | zero => rfl
  | succ n => unfold kept; rw [h]; rfl

theorem kept_idle (hO : Inside m) (c : Dev nD) (t : Fin (grid m hO).N) (h0 : t.val ≠ 0) (h : idle m hO t = true) :
    kept m hO c t.val t.isLt = kept m hO c (t.val - 1) (by omega) := by
  obtain ⟨n, hn⟩ := t
  cases n with
  | zero => exact absurd rfl h0
  | succ n => conv_lhs => unfold kept
              rw [h]; rfl

/-- The run's data: the arrays as found, the input buffers at their blocks, the output buffer at the last block stored. -/
def dats (hO : Inside m) (_ : Fin 1) (c : Dev nD) : Dat τ (Elt F) Unit ℕ (UR sig nD τ) ℕ (grid m hO) c where
  A w := entry m c (Pipeline.arrRef spec0 w)
  after w t := match w with
    | ⟨0, _⟩ => inBlock m hO c 0 t
    | ⟨1, _⟩ => inBlock m hO c 1 t
    | ⟨2, _⟩ => inBlock m hO c 2 t
    | ⟨3, _⟩ => inBlock m hO c 3 t
    | ⟨4, _⟩ => inBlock m hO c 4 t
    | ⟨5, _⟩ => kept m hO c t.val t.isLt
  Φ _ := iprop(Pipeline.ΦA spec0 c ∗ Pipeline.ΦT pre0 (tables m) c)
  q _ := fullShare
  owed _ := 0

variable (hO : Inside m) (c : Dev nD)

theorem arr_eq (c : Dev nD) (w : Fin (grid m hO).W) : (dats m hO 0 c).A w = entry m c (Pipeline.arrRef spec0 w) := by
  dsimp only [dats]

theorem after_in0 (t : Fin (grid m hO).N) : (dats m hO 0 c).after (0 : Fin 6) t = inBlock m hO c 0 t := by dsimp only [dats]; try rfl
theorem after_in1 (t : Fin (grid m hO).N) : (dats m hO 0 c).after (1 : Fin 6) t = inBlock m hO c 1 t := by dsimp only [dats]; try rfl
theorem after_in2 (t : Fin (grid m hO).N) : (dats m hO 0 c).after (2 : Fin 6) t = inBlock m hO c 2 t := by dsimp only [dats]; try rfl
theorem after_in3 (t : Fin (grid m hO).N) : (dats m hO 0 c).after (3 : Fin 6) t = inBlock m hO c 3 t := by dsimp only [dats]; try rfl
theorem after_in4 (t : Fin (grid m hO).N) : (dats m hO 0 c).after (4 : Fin 6) t = inBlock m hO c 4 t := by dsimp only [dats]; try rfl
theorem after_out (t : Fin (grid m hO).N) : (dats m hO 0 c).after (5 : Fin 6) t = kept m hO c t.val t.isLt := by dsimp only [dats]; try rfl

/-- An input buffer holds its block at every step, fetched there or not. -/
theorem before_in0 (t : Fin (grid m hO).N) (d) : (dats m hO 0 c).before (0 : Fin 6) t d = inBlock m hO c 0 t :=
  ((dats m hO 0 c).before_in_eq_fetched 0 rfl (fun _ => rfl) (fun _ _ _ => rfl)
    (fun t => by rw [after_in0]; unfold Dat.blockOf inBlock; rw [arr_eq]; try rfl) t d).trans
    (by unfold Dat.fetched Dat.blockOf inBlock; rw [arr_eq]; try rfl)
theorem before_in1 (t : Fin (grid m hO).N) (d) : (dats m hO 0 c).before (1 : Fin 6) t d = inBlock m hO c 1 t :=
  ((dats m hO 0 c).before_in_eq_fetched 1 rfl (fun _ => rfl) (fun _ _ _ => rfl)
    (fun t => by rw [after_in1]; unfold Dat.blockOf inBlock; rw [arr_eq]; try rfl) t d).trans
    (by unfold Dat.fetched Dat.blockOf inBlock; rw [arr_eq]; try rfl)
theorem before_in2 (t : Fin (grid m hO).N) (d) : (dats m hO 0 c).before (2 : Fin 6) t d = inBlock m hO c 2 t :=
  ((dats m hO 0 c).before_in_eq_fetched 2 rfl (fun _ => rfl) (fun _ _ _ => rfl)
    (fun t => by rw [after_in2]; unfold Dat.blockOf inBlock; rw [arr_eq]; try rfl) t d).trans
    (by unfold Dat.fetched Dat.blockOf inBlock; rw [arr_eq]; try rfl)
theorem before_in3 (t : Fin (grid m hO).N) (d) : (dats m hO 0 c).before (3 : Fin 6) t d = inBlock m hO c 3 t :=
  ((dats m hO 0 c).before_in_eq_fetched 3 rfl (fun _ => rfl) (fun _ _ _ => rfl)
    (fun t => by rw [after_in3]; unfold Dat.blockOf inBlock; rw [arr_eq]; try rfl) t d).trans
    (by unfold Dat.fetched Dat.blockOf inBlock; rw [arr_eq]; try rfl)
theorem before_in4 (t : Fin (grid m hO).N) (d) : (dats m hO 0 c).before (4 : Fin 6) t d = inBlock m hO c 4 t :=
  ((dats m hO 0 c).before_in_eq_fetched 4 rfl (fun _ => rfl) (fun _ _ _ => rfl)
    (fun t => by rw [after_in4]; unfold Dat.blockOf inBlock; rw [arr_eq]; try rfl) t d).trans
    (by unfold Dat.fetched Dat.blockOf inBlock; rw [arr_eq]; try rfl)

/-! ## The output buffer at a step without rows -/

variable {m hO}

/-- The buffer is not fresh after a step whose successor has no rows. -/
theorem fresh_step (hS : Steady m hO) (n : ℕ) (h : n + 1 < (grid m hO).N) (hi : idle m hO ⟨n + 1, h⟩ = true)
    (ih : idle m hO ⟨n, Nat.lt_of_succ_lt h⟩ = true → (grid m hO).fresh 5 n = false) : (grid m hO).fresh 5 (n + 1) = false := by
  rw [Pipeline.Cfg.fresh_succ _ _ _ (Nat.lt_of_succ_lt h), Bool.or_eq_false_iff]
  constructor
  · have hk := hS.keep ⟨n, Nat.lt_of_succ_lt h⟩ ⟨n + 1, h⟩ rfl hi
    unfold Window.flush
    rw [Bool.and_eq_false_iff]; right
    rw [Bool.or_eq_false_iff]
    exact ⟨decide_eq_false (Nat.ne_of_lt h), decide_eq_false fun ⟨_, hne⟩ => hne hk⟩
  · rw [Bool.and_eq_false_iff]
    exact (Bool.eq_false_or_eq_true (idle m hO ⟨n, Nat.lt_of_succ_lt h⟩)).elim (fun ht => .inr (ih ht)) .inl

/-- No step without rows finds a fresh output buffer. -/
theorem not_fresh (hS : Steady m hO) (n : ℕ) : ∀ h : n < (grid m hO).N, idle m hO ⟨n, h⟩ = true → (grid m hO).fresh 5 n = false := by
  induction n with
  | zero => exact fun h hi => absurd ((hS.first ⟨0, h⟩ rfl).symm.trans hi) Bool.false_ne_true
  | succ n ih => exact fun h hi => fresh_step hS n h hi (ih (Nat.lt_of_succ_lt h))

/-- A step without rows finds in the output buffer what it is to leave there. -/
theorem before_out (hS : Steady m hO) (t : Fin (grid m hO).N) (hi : idle m hO t = true) (d) :
    (dats m hO 0 c).before (5 : Fin 6) t d = (dats m hO 0 c).after (5 : Fin 6) t := by
  have h0 : t.val ≠ 0 := fun h => by rw [hS.first t h] at hi; exact absurd hi (by decide)
  rw [Dat.before_out_traj (dats m hO 0 c) (5 : Fin 6) rfl (fun _ _ => rfl)
    (fun u hu hiu _ => by rw [after_out, after_out]; exact kept_idle m hO c u hu hiu) t.val t rfl d,
    not_fresh hS t.val t.isLt hi, if_neg (by decide), after_out, after_out]
  exact (kept_idle m hO c t h0 hi).symm

theorem word_at (pf : pre0.Contents (Elt F)) (x : S1.Idx) : pf.atD 2 ![0] = pf 2 x := by
  have h : ∀ a, (![0] : Fin 1 → ℕ) a + 1 ≤ S1.size a := by decide
  unfold Pipeline.Prefetch.Contents.atD
  refine (dif_pos h).trans (congrArg (pf 2) ?_)
  funext a
  apply Fin.ext
  have hx := (x a).isLt
  match a, hx with
  | ⟨0, _⟩, hx => exact (Nat.lt_one_iff.mp hx).symm

theorem idle_out (pf : pre0.Contents (Elt F)) (i : grid0.Coords) (x : S1.Idx) : idle0 pf 5 i = !(k0_cond1 i (pf 2 x) == 1#1) := by
  rw [← word_at pf x]

theorem idle_table (a : (pcfg0 (F := F)).Adm) : (cfg0 a).idle = idle0 a.1 := rfl

theorem idle_cond (t : Fin (grid m hO).N) (x : S1.Idx) : idle m hO t = !(k0_cond1 (grid0.coords t) (tables m 2 x) == 1#1) :=
  (congrFun (congrFun (idle_table (adm m hO)) (5 : Fin 6)) (grid0.coords t)).trans (idle_out (tables m) _ x)

theorem bit_of (v : BitVec 1) (h : (!(v == 1#1)) = false) : v = 1#1 := by simpa using h
theorem bit_of_not (v : BitVec 1) (h : (!(v == 1#1)) = true) : ¬ v = 1#1 := by simpa using h

theorem cond_of_live (t : Fin (grid m hO).N) (hi : idle m hO t = false) (x : S1.Idx) :
    k0_cond1 (grid0.coords t) (tables m 2 x) = 1#1 := bit_of _ ((idle_cond t x).symm.trans hi)

theorem not_cond_of_idle (t : Fin (grid m hO).N) (hi : idle m hO t = true) (x : S1.Idx) :
    ¬ k0_cond1 (grid0.coords t) (tables m 2 x) = 1#1 := bit_of_not _ ((idle_cond t x).symm.trans hi)

/-- The body obligation from the body at every step, what it leaves named. -/
theorem obligation_of {cfg : Pipeline.Cfg sig Λ₀} {c : Dev nD} (dat : Dat τ (Elt F) Unit ℕ (UR sig nD τ) ℕ cfg c)
    (h : ∀ t : Fin cfg.N,
      iprop(dat.Φ t.castSucc ∗ dat.owesAt () t.castSucc
          ∗ bigSep Finset.univ fun w : Fin cfg.W =>
              iprop(∃ d, owns (c : Thread nD τ) ((cfg.win w).stage (cfg.slots t w)) fullShare (dat.before w t d)))
        ⊢ wp frame (wpE (defs₀ (F := F)) Variants.none c none) Set.univ (defs₀ .tc cfg.body (cfg.bodyArgs t (cfg.slots t))) fun _ =>
            iprop(dat.Φ t.succ ∗ dat.owesAt () t.succ ∗ bigSep Finset.univ fun w : Fin cfg.W => dat.leavesExact w t)) :
    BodyObligation dat (defs₀ (F := F)) Variants.none () Set.univ := h

/-! ## The body at a step -/

variable (m hO)

/-- The body as the grid calls it at a step. -/
abbrev bodyAt (t : Fin (grid m hO).N) : Prog (TpuEff nD τ sig (Elt F) Λ₀ .tc) PUnit :=
  cc0_moe_experts ((grid m hO).grid.coords t) (Memref.whole main_arg0) (Memref.isWhole_whole _) (Memref.whole main_arg1) (Memref.isWhole_whole _)
    counts (Memref.isWhole_whole _)
    (spec0_0.stage ((grid m hO).slots t 0)) (hstage0_0 (((grid m hO).slots t 0).cast nbuf0_0))
    (spec0_1.stage ((grid m hO).slots t 1)) (hstage0_1 (((grid m hO).slots t 1).cast nbuf0_1))
    (spec0_2.stage ((grid m hO).slots t 2)) (hstage0_2 (((grid m hO).slots t 2).cast nbuf0_2))
    (spec0_3.stage ((grid m hO).slots t 3)) (hstage0_3 (((grid m hO).slots t 3).cast nbuf0_3))
    (spec0_4.stage ((grid m hO).slots t 4)) (hstage0_4 (((grid m hO).slots t 4).cast nbuf0_4))
    (spec0_5.stage ((grid m hO).slots t 5)) (hstage0_5 (((grid m hO).slots t 5).cast nbuf0_5))

/-- What the body is given at a step, -/
def given (t : Fin (grid m hO).N) : sProp 𝕄 :=
  iprop((dats m hO 0 c).Φ t.castSucc ∗ (dats m hO 0 c).owesAt () t.castSucc
    ∗ bigSep Finset.univ fun w : Fin (grid m hO).W =>
        iprop(∃ d, owns (c : Thread nD τ) (((grid m hO).win w).stage ((grid m hO).slots t w)) fullShare ((dats m hO 0 c).before w t d)))

/-- and what it returns. -/
def returned (t : Fin (grid m hO).N) : sProp 𝕄 :=
  iprop((dats m hO 0 c).Φ t.succ ∗ (dats m hO 0 c).owesAt () t.succ
    ∗ bigSep Finset.univ fun w : Fin (grid m hO).W => (dats m hO 0 c).leavesExact w t)

theorem leaves_of (w : Fin (grid m hO).W) (t : Fin (grid m hO).N) (h : (grid m hO).idle w ((grid m hO).grid.coords t) = false) :
    (dats m hO 0 c).leavesExact w t
      = owns (c : Thread nD τ) (((grid m hO).win w).stage ((grid m hO).slots t w)) fullShare ((dats m hO 0 c).after w t) := by
  unfold Dat.leavesExact; rw [h]

variable {m hO}

theorem leaves_off {cfg : Pipeline.Cfg sig Λ₀} {c : Dev nD} (dat : Dat τ (Elt F) Unit ℕ (UR sig nD τ) ℕ cfg c) (w : Fin cfg.W)
    (t : Fin cfg.N) (hi : cfg.idle w (cfg.grid.coords t) = true) (hb : ∀ d, dat.before w t d = dat.after w t) (d) :
    owns (c : Thread nD τ) ((cfg.win w).stage (cfg.slots t w)) fullShare (dat.before w t d) ⊢ (dat.leavesExact w t : sProp 𝕄) := by
  unfold Dat.leavesExact
  rw [hi]
  cases hf : (cfg.win w).flush t with
  | false => simp only; iintro H; iexists d; iexact H
  | true => rw [hb d]

theorem step_live (t : Fin (grid m hO).N) (hi : idle m hO t = false) :
    given m hO c t ⊢ wp frame (wpE (defs₀ (F := F)) Variants.none c none) Set.univ (bodyAt m hO t) (fun _ => returned m hO c t) := by
  unfold given returned bodyAt
  rw [bigSep_W0, bigSep_W0]
  simp only [before_in0, before_in1, before_in2, before_in3, before_in4]
  rw [leaves_of m hO c (5 : Fin 6) t hi, after_out, kept_live m hO c t hi]
  rw [show (dats m hO 0 c).Φ t.succ = (dats m hO 0 c).Φ t.castSucc from rfl,
    show (dats m hO 0 c).owesAt () t.succ = (dats m hO 0 c).owesAt () t.castSucc from rfl,
    leaves_of m hO c (0 : Fin 6) t rfl, leaves_of m hO c (1 : Fin 6) t rfl, leaves_of m hO c (2 : Fin 6) t rfl, leaves_of m hO c (3 : Fin 6) t rfl, leaves_of m hO c (4 : Fin 6) t rfl,
    after_in0, after_in1, after_in2, after_in3, after_in4]
  rw [show (dats m hO 0 c).Φ t.castSucc = iprop(Pipeline.ΦA spec0 c ∗ Pipeline.ΦT pre0 (tables m) c) from rfl, halves]
  unfold stored
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  iapply (live c ((grid m hO).grid.coords t) _ _ _ _ _ _ _ _ _ _ _ _ _ _ _ _ (inBlock m hO c 0 t) (inBlock m hO c 1 t) (inBlock m hO c 2 t)
    (inBlock m hO c 3 t) (inBlock m hO c 4 t) _ (tables m 2) (cond_of_live t hi) Set.univ _)
  isplitl [H0]; · iexact H0
  isplitl [H1]; · iexact H1
  isplitl [H2]; · iexact H2
  isplitl [H3]; · iexact H3
  isplitl [H4]; · iexact H4
  isplitl [H5]; · iexact H5
  isplitl [HT2]; · iexact HT2
  iintro ⟨H0, H1, H2, H3, H4, H5, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem step_off (hS : Steady m hO) (t : Fin (grid m hO).N) (hi : idle m hO t = true) :
    given m hO c t ⊢ wp frame (wpE (defs₀ (F := F)) Variants.none c none) Set.univ (bodyAt m hO t) (fun _ => returned m hO c t) := by
  unfold given returned bodyAt
  rw [bigSep_W0, bigSep_W0]
  simp only [before_in0, before_in1, before_in2, before_in3, before_in4]
  rw [show (dats m hO 0 c).Φ t.succ = (dats m hO 0 c).Φ t.castSucc from rfl,
    show (dats m hO 0 c).owesAt () t.succ = (dats m hO 0 c).owesAt () t.castSucc from rfl,
    leaves_of m hO c (0 : Fin 6) t rfl, leaves_of m hO c (1 : Fin 6) t rfl, leaves_of m hO c (2 : Fin 6) t rfl, leaves_of m hO c (3 : Fin 6) t rfl, leaves_of m hO c (4 : Fin 6) t rfl,
    after_in0, after_in1, after_in2, after_in3, after_in4]
  rw [show (dats m hO 0 c).Φ t.castSucc = iprop(Pipeline.ΦA spec0 c ∗ Pipeline.ΦT pre0 (tables m) c) from rfl, halves]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  iapply (off c ((grid m hO).grid.coords t) _ _ _ _ _ _ _ _ _ _ _ _ _ _ _ _ (tables m 2) (not_cond_of_idle t hi) Set.univ _)
  isplitl [HT2]; · iexact HT2
  iintro HT2
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iapply (leaves_off (dats m hO 0 c) (5 : Fin 6) t hi (before_out c hS t hi) d5)
  iexact H5

theorem step (hS : Steady m hO) (c : Dev nD) (t : Fin (grid m hO).N) :
    given m hO c t ⊢ wp frame (wpE (defs₀ (F := F)) Variants.none c none) Set.univ (bodyAt m hO t) (fun _ => returned m hO c t) :=
  (Bool.eq_false_or_eq_true (idle m hO t)).elim (step_off c hS t) (step_live c t)

theorem row_eq (t : Fin (grid m hO).N) :
    defs₀ (F := F) .tc (grid m hO).body ((grid m hO).bodyArgs t ((grid m hO).slots t)) = bodyAt m hO t := by
  unfold defs₀; rw [Defs.onTc_tc]

theorem obligation (hS : Steady m hO) (c : Dev nD) : BodyObligation (dats (F := F) m hO 0 c) (defs₀ (F := F)) Variants.none () Set.univ := obligation_of _ fun t => by
  rw [row_eq]
  exact step hS c t

/-! ## The run -/

set_option backward.isDefEq.respectTransparency.types false in
/-- Every execution ends, with the arrays at what the write-backs make of them, every other buffer as the grid found it,
    and no semaphore up. -/
theorem run (hS : Steady m hO) : θ_run defs (onTc (τ := τ) (main (F := F))) (s₀ m ρ)
    (fun r => (Pipeline.FramePost (Pipeline.pin pcfgs fun _ => adm m hO) (dats m hO) 0 (entry m)) r ∧ r.2.sem = fun _ => 0) :=
  Pipeline.θ_run_frameP (Q' := _) pcfgs (fun _ => adm m hO) (dats m hO) (0 : Fin 1) launch0 defs₀ Variants.none m ρ main
    (hbody := fun c => (obligation hS c).loose) (hshare := fun c => (dats m hO 0 c).share_full fun _ => rfl)
    (howed := fun _ _ => rfl) (V := entry m) (hmain := to_grid m Variants.none) (hA := arr_eq m hO) (hpf := tables_eq m)
    (hΦ := fun _ _ => rfl)

/-- and the eight arguments end as they were. -/
theorem args_kept {r : PUnit × MemSt nD τ sig (Elt F)} (h : Pipeline.FramePost (Pipeline.pin pcfgs fun _ => adm m hO) (dats m hO) 0 (entry m) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (entry_kept m c (by decide) (by decide) (by decide) (by decide)),
    ((h c).2 main_arg1 (by decide : main_arg1 ∈ Pipeline.restRefs sig spec0)).trans (entry_kept m c (by decide) (by decide) (by decide) (by decide)),
    ((h c).2 main_arg2 (by decide : main_arg2 ∈ Pipeline.restRefs sig spec0)).trans (entry_kept m c (by decide) (by decide) (by decide) (by decide)),
    ((h c).1 0).trans (((dats m hO 0 c).arrAt_in 0 rfl _).trans ((arr_eq m hO c 0).trans (entry_kept m c (b := main_arg3) (by decide) (by decide) (by decide) (by decide)))),
    ((h c).1 1).trans (((dats m hO 0 c).arrAt_in 1 rfl _).trans ((arr_eq m hO c 1).trans (entry_kept m c (b := main_arg4) (by decide) (by decide) (by decide) (by decide)))),
    ((h c).2 main_arg5 (by decide : main_arg5 ∈ Pipeline.restRefs sig spec0)).trans (entry_kept m c (by decide) (by decide) (by decide) (by decide)),
    ((h c).1 3).trans (((dats m hO 0 c).arrAt_in 3 rfl _).trans ((arr_eq m hO c 3).trans (entry_kept m c (b := main_arg6) (by decide) (by decide) (by decide) (by decide)))),
    ((h c).2 main_arg7 (by decide : main_arg7 ∈ Pipeline.restRefs sig spec0)).trans (entry_kept m c (by decide) (by decide) (by decide) (by decide))⟩

end Cert.Kernel2Ideal.Expert

end
-- ==== Proof.ExpertPlan.lean ====
/- What the expert kernel's precondition and mask say of its three tables. -/
module

public import proofs.«01_k».proof.Proof.Gen.Pre_planned
public import proofs.«01_k».proof.Proof.Gen.On_routed
public import proofs.«01_k».proof.Proof.Coord
public import Idealize.ShloMosaic.Lib.ReduceAll
public import Idealize.ShloMosaic.Lib.Pipeline.Value
public import Idealize.ShloMosaic.Lib.IdealHost
public import Idealize.ShloMosaic.Lib.ValueIdx

@[expose] public section

noncomputable section

namespace Cert.ExpertPlan

open Idealize.ShloMosaic.ValueIdx Coord
open Idealize.ShloMosaic

/-- A table of one word per row block, and the one word that counts the blocks in use. -/
abbrev Table := IVec (⟨1, ![656]⟩ : Shape) 32
abbrev Count := IVec (⟨1, ![1]⟩ : Shape) 32

/-- What the tables satisfy. -/
structure Planned (row expert : Table) (used : Count) : Prop where
  expert_lt : ∀ i, (expert i).toNat < 32
  row_ge : ∀ i, 133 * (expert i).toNat ≤ (row i).toNat
  row_lt : ∀ i, (row i).toNat < 133 * (expert i).toNat + 133
  keep : ∀ (k : ℕ) (h : k + 1 < 656), ¬ ((k + 1 : ℕ) : ℤ) < (used (ix1 0)).toInt →
    row (ix1 (⟨k + 1, h⟩ : Fin 656)) = row (ix1 (⟨k, Nat.lt_of_succ_lt h⟩ : Fin 656))
  some_used : 1 ≤ (used (ix1 0)).toInt

theorem word_small (n : ℕ) (h : n < 2 ^ 31) : (BitVec.ofNat 32 n).toInt = (n : ℤ) := by
  rw [BitVec.toInt_ofNat']
  exact Int.bmod_eq_of_le (by omega) (by omega)

/-- A word between 0 and 32, and another within 133 of 133 times it. -/
theorem words (e r : BitVec 32) (h0 : (0#32).toInt ≤ e.toInt) (h1 : e.toInt < (32#32).toInt)
    (h2 : (0#32).toInt ≤ (r - 133#32 * e).toInt) (h3 : (r - 133#32 * e).toInt < (133#32).toInt) :
    e.toNat < 32 ∧ 133 * e.toNat ≤ r.toNat ∧ r.toNat < 133 * e.toNat + 133 := by
  have z : (0#32).toInt = 0 := by decide
  have z1 : (32#32).toInt = 32 := by decide
  have z2 : (133#32).toInt = 133 := by decide
  rw [z] at h0 h2; rw [z1] at h1; rw [z2] at h3
  have he : e.toNat < 32 := by rw [BitVec.toInt_eq_toNat_cond] at h0 h1; split at h0 <;> omega
  have hd : (r - 133#32 * e).toNat < 133 := by rw [BitVec.toInt_eq_toNat_cond] at h2 h3; split at h2 <;> omega
  have hm : (133#32 * e).toNat = 133 * e.toNat := by
    rw [BitVec.toNat_mul]; simp only [BitVec.toNat_ofNat]; omega
  have hr := r.isLt
  rw [BitVec.toNat_sub, hm] at hd
  omega

instance : Subsingleton (⟨0, ![]⟩ : Shape).Idx := ⟨fun a b => funext fun i => i.elim0⟩

theorem one_idx (x y : (⟨1, ![1]⟩ : Shape).Idx) : x = y := by
  funext a
  apply Fin.ext
  have hx := (x a).isLt
  have hy := (y a).isLt
  match a, hx, hy with
  | ⟨0, _⟩, hx, hy => exact (Nat.lt_one_iff.mp hx).trans (Nat.lt_one_iff.mp hy).symm

theorem slice_hi (A : Table) (k : ℕ) (h : k + 1 < 656) :
    extractStridedSlice Pre_planned.S655 ![1] A Pre_planned.Facts.slices_S656_S655_1 (ix1 (⟨k, by omega⟩ : Fin 655)) = A (ix1 (⟨k + 1, h⟩ : Fin 656)) :=
  extractStridedSlice_apply ![1] A _ _ _ (by intro a; fin_cases a; exact Nat.add_comm k 1)

theorem slice_lo (A : Table) (k : ℕ) (h : k + 1 < 656) :
    extractStridedSlice Pre_planned.S655 ![0] A Pre_planned.Facts.slices_S656_S655_0 (ix1 (⟨k, by omega⟩ : Fin 655)) = A (ix1 (⟨k, Nat.lt_of_succ_lt h⟩ : Fin 656)) :=
  extractStridedSlice_apply ![0] A _ _ _ (by intro a; fin_cases a; exact (Nat.zero_add k).symm)

theorem of_pre {F : FTy → Type} [FloatOps F] {A0 A1 : Table} {A2 : Count} {A3 : FVec F Pre_planned.S1089536x1024 .f32}
    {A4 : FVec F Pre_planned.S32x1024x2048 .bf16} {A5 : FVec F Pre_planned.S32x2048 .f32} {A6 : FVec F Pre_planned.S4x32x1024x1024 .f32}
    {A7 : FVec F Pre_planned.S32x1024 .f32}
    (h : Pre_planned.fn (F := F) A0 A1 A2 A3 A4 A5 A6 A7 = fun _ => 1#1) : Planned A0 A1 A2 := by
  have h0 := congrFun h ix0
  unfold Pre_planned.fn Pre_planned.fn_part1 at h0
  obtain ⟨h1, hn⟩ := IntOp.andi_eq_one.mp h0
  obtain ⟨hw, hk⟩ := IntOp.andi_eq_one.mp h1
  have hcount : ∀ x, shapeCast Pre_planned.S_ A2 Pre_planned.Facts.shapeCasts_S1_S_ x = A2 (ix1 0) := fun x => congrArg A2 (one_idx _ _)
  have hW : ∀ i, (A1 i).toNat < 32 ∧ 133 * (A1 i).toNat ≤ (A0 i).toNat ∧ (A0 i).toNat < 133 * (A1 i).toNat + 133 := fun i => by
    have a := Host.reduce_andi_all _ _ _ _ _ hw i
    obtain ⟨a, a3⟩ := IntOp.andi_eq_one.mp a
    obtain ⟨a, a2⟩ := IntOp.andi_eq_one.mp a
    obtain ⟨a0, a1⟩ := IntOp.andi_eq_one.mp a
    exact words _ _ (IntOp.cmpi_sge.mp a0) (IntOp.cmpi_slt.mp a1) (IntOp.cmpi_sge.mp a2) (IntOp.cmpi_slt.mp a3)
  refine ⟨fun i => (hW i).1, fun i => (hW i).2.1, fun i => (hW i).2.2, fun k hk1 hnot => ?_, ?_⟩
  · have a := Host.reduce_andi_all _ _ _ _ _ hk (ix1 (⟨k, by omega⟩ : Fin 655))
    rcases IntOp.ori_eq_one.mp a with a | a
    · exfalso
      apply hnot
      have b := IntOp.cmpi_slt.mp a
      rw [broadcastInDim_scalar_apply, hcount] at b
      have e : (addi (broadcastInDim Pre_planned.S655 ![] Pre_planned.Facts.bcast_S_S655 (constantI Pre_planned.S_ 32 1#32) : IVec Pre_planned.S655 32) (iotaInDim Pre_planned.S655 32 0)
          (ix1 (⟨k, by omega⟩ : Fin 655))) = BitVec.ofNat 32 (k + 1) := by
        show 1#32 + BitVec.ofNat 32 k = _
        apply BitVec.eq_of_toNat_eq
        simp only [BitVec.toNat_add, BitVec.toNat_ofNat]; omega
      rw [e, word_small _ (by omega)] at b
      exact b
    · have b := IntOp.cmpi_eq.mp a
      exact (slice_hi A0 k hk1).symm.trans (b.trans (slice_lo A0 k hk1))
  · have a := IntOp.cmpi_sge.mp hn
    rw [hcount] at a
    exact a

theorem foldl_ori {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_ori f l _ h with h | ⟨n, hn, h⟩
    · rcases IntOp.ori_eq_one.mp h with h | h
      · exact .inl h
      · exact .inr ⟨a, List.mem_cons_self .., h⟩
    · exact .inr ⟨n, List.mem_cons_of_mem _ hn, h⟩

theorem reduce_ori {s t u : Shape} {axes : List (Fin s.rank)} (x : s.Idx → BitVec 1) (init : u.Idx → BitVec 1) (h : s.ReducesTo axes t)
    (hu : 0 < u.numel) (j : t.Idx) (e : Host.reduce IntOp.ori x init h hu j = 1#1) (h0 : init (Shape.Idx.first hu) ≠ 1#1) :
    ∃ i : s.Idx, h.drop i = j ∧ x i = 1#1 := by
  rw [Host.reduce_eq_foldl] at e
  rcases foldl_ori x _ _ e with e | ⟨i, hi, e⟩
  · exact absurd e h0
  · rw [List.mem_filter] at hi
    exact ⟨i, by simpa using hi.2, e⟩

theorem of_mask {F : FTy → Type} [FloatOps F] {A0 A1 : Table} {A2 : Count} {A3 : FVec F On_routed.S1089536x1024 .f32}
    {A4 : FVec F On_routed.S32x1024x2048 .bf16} {A5 : FVec F On_routed.S32x2048 .f32} {A6 : FVec F On_routed.S4x32x1024x1024 .f32}
    {A7 : FVec F On_routed.S32x1024 .f32} (r : Fin 1089536) (k : Fin 1024)
    (h : On_routed.fn (F := F) A0 A1 A2 A3 A4 A5 A6 A7 (ix2 r k) = 1#1) :
    ∃ i : Fin 656, (A0 (ix1 i)).toNat = r.val / 256 ∧ (i.val : ℤ) < (A2 (ix1 0)).toInt := by
  have hr := r.isLt
  unfold On_routed.fn at h
  dsimp only at h
  rw [shapeCast_apply _ _ (ix2 r k) (ix3 (⟨r.val / 256, by omega⟩ : Fin 4256) (⟨r.val % 256, by omega⟩ : Fin 256) k) (by
    rw [Shape.rowMajor_val_two, Shape.rowMajor_val_three]; simp [c3_0, c3_1, c3_2, c2_0, c2_1]; omega)] at h
  obtain ⟨i, hi, e⟩ := reduce_ori _ _ _ _ _ h (by decide)
  obtain ⟨e1, e2⟩ := IntOp.andi_eq_one.mp e
  refine ⟨i 0, ?_, ?_⟩
  · have a := IntOp.cmpi_eq.mp e1
    have b : (i 1).val = r.val / 256 := congrArg Fin.val (congrFun hi 0)
    have c : A0 (ix1 (i 0)) = BitVec.ofNat 32 (i 1).val := (congrArg A0 (by funext a; fin_cases a; rfl)).trans a
    rw [c, BitVec.toNat_ofNat, b]
    omega
  · have a := IntOp.cmpi_slt.mp e2
    have hc : ∀ x, (broadcastInDim On_routed.S656 ![] On_routed.Facts.bcast_S_S656 (shapeCast On_routed.S_ A2 On_routed.Facts.shapeCasts_S1_S_) : IVec On_routed.S656 32) x = A2 (ix1 0) :=
      fun x => congrArg A2 (one_idx _ _)
    rw [hc] at a
    have hi0 := (i 0).isLt
    have b : (BitVec.ofNat 32 (i 0).val).toInt = ((i 0).val : ℤ) := word_small _ (by have : (i 0).val < 656 := hi0; omega)
    exact b ▸ a

end Cert.ExpertPlan

end
-- ==== Proof.ExpertTables.lean ====
/- The expert kernel's run for tables that satisfy the precondition: every block lies inside its array, and the output block
   stays put once the rows are used up. -/
module

public import proofs.«01_k».proof.Proof.ExpertRun
public import proofs.«01_k».proof.Proof.ExpertPlan

@[expose] public section

set_option maxRecDepth 16384

noncomputable section

namespace Cert.Kernel2Ideal.Expert

open Cert.Kernel2Ideal Cert.Kernel2Ideal.Gen Cert.ExpertPlan Idealize.ShloMosaic.ValueIdx Coord
open Idealize.ShloMosaic Idealize.ShloMosaic.TcCoe
open Idealize.SL Idealize.SL.Sem

variable {F : FTy → Type} [FloatOps F]

/-- A step's number among the 656. -/
def stepOf (i : grid0.Coords) : Fin 656 := ⟨(i 0).val, (i 0).isLt⟩

theorem word_of (i : grid0.Coords) : (BitVec.ofNat 32 (i 0).val).toNat = (stepOf i).val := by
  rw [BitVec.toNat_ofNat]
  exact Nat.mod_eq_of_lt (lt_trans (stepOf i).isLt (by decide))

theorem emb_unit (n : ℕ) (hn : n < 656) (h : ∀ a, (![n] : Fin 1 → ℕ) a + S1.size a ≤ S656.size a) (x : S1.Idx) :
    (Rect.unit (s := S656) ![n] S1.size h).emb x = ix1 (⟨n, hn⟩ : Fin 656) := by
  funext a
  apply Fin.ext
  have hx := (x a).isLt
  match a, hx with
  | ⟨0, _⟩, hx =>
    show n + 1 * (x 0).val = n
    have : (x 0).val < 1 := hx
    omega

variable (pf : pre0.Contents (Elt F)) (i : grid0.Coords)

/-- The table entry of a step. -/
abbrev rowAt : BitVec 32 := pf 0 (ix1 (stepOf i))
abbrev expertAt : BitVec 32 := pf 1 (ix1 (stepOf i))

theorem read_row (h) : Pipeline.Prefetch.Contents.at pf 0 (Rect.unit (s := S656) ![(BitVec.ofNat 32 (i 0).val).toNat] S1.size h) numel1_S1 = rowAt pf i :=
  congrArg (pf 0) ((emb_unit _ (by rw [word_of]; exact (stepOf i).isLt) h _).trans (congrArg ix1 (Fin.ext (word_of i))))
theorem read_expert (h) : Pipeline.Prefetch.Contents.at pf 1 (Rect.unit (s := S656) ![(BitVec.ofNat 32 (i 0).val).toNat] S1.size h) numel1_S1 = expertAt pf i :=
  congrArg (pf 1) ((emb_unit _ (by rw [word_of]; exact (stepOf i).isLt) h _).trans (congrArg ix1 (Fin.ext (word_of i))))

theorem index_0 : cc0_transform_0 k0_off1_inb numel1_S1 pf i = ![(rowAt pf i).toNat, 0] :=
  congrArg (fun v : BitVec 32 => (![v.toNat, 0] : Fin 2 → ℕ)) (read_row pf i _)
theorem index_1 : cc0_transform_1 k0_off1_inb numel1_S1 pf i = ![(expertAt pf i).toNat, 0, 0] :=
  congrArg (fun v : BitVec 32 => (![v.toNat, 0, 0] : Fin 3 → ℕ)) (read_expert pf i _)
theorem index_2 : cc0_transform_2 k0_off1_inb numel1_S1 pf i = ![(expertAt pf i).toNat, 0, 0] :=
  congrArg (fun v : BitVec 32 => (![v.toNat, 0, 0] : Fin 3 → ℕ)) (read_expert pf i _)
theorem index_3 : cc0_transform_3 k0_off1_inb numel1_S1 pf i = ![0, (expertAt pf i).toNat, 0, 0] :=
  congrArg (fun v : BitVec 32 => (![0, v.toNat, 0, 0] : Fin 4 → ℕ)) (read_expert pf i _)
theorem index_4 : cc0_transform_4 k0_off1_inb numel1_S1 pf i = ![(expertAt pf i).toNat, 0, 0] :=
  congrArg (fun v : BitVec 32 => (![v.toNat, 0, 0] : Fin 3 → ℕ)) (read_expert pf i _)
theorem index_5 : cc0_transform_5 k0_off1_inb numel1_S1 pf i = ![(rowAt pf i).toNat, 0] :=
  congrArg (fun v : BitVec 32 => (![v.toNat, 0] : Fin 2 → ℕ)) (read_row pf i _)

variable {pf}

/-- Every block lies inside its array. -/
theorem inside (h : Planned (pf 0) (pf 1) (pf 2)) : ok0 pf := by
  have he := h.expert_lt
  have hr : ∀ x, (pf 0 x).toNat < 4256 := fun x => by have := h.row_lt x; have := he x; omega
  refine ⟨fun i => ⟨?_, .inl rfl⟩, fun i => ⟨?_, .inr ?_⟩, fun i => ⟨?_, .inl rfl⟩, fun i => ⟨?_, .inl rfl⟩, fun i => ⟨?_, .inl rfl⟩, fun i => ⟨?_, .inl rfl⟩⟩
  · rw [index_0]; have := hr (ix1 (stepOf i)); intro a; match a with
    | 0 => show ((pf 0 (ix1 (stepOf i))).toNat + 1) * 256 ≤ 1089536; omega
    | 1 => exact Nat.le_of_ble_eq_true rfl
  · rw [index_1]; have := he (ix1 (stepOf i)); intro a; match a with
    | 0 => show ((pf 1 (ix1 (stepOf i))).toNat + 1) * 1 ≤ 32; omega
    | 1 => exact Nat.le_of_ble_eq_true rfl
    | 2 => exact Nat.le_of_ble_eq_true rfl
  · refine .inr ⟨by decide, rfl, ?_, rfl⟩
    show cc0_transform_1 k0_off1_inb numel1_S1 pf i 1 * 1024 = 0
    rw [index_1]; rfl
  · rw [index_2]; have := he (ix1 (stepOf i)); intro a; match a with
    | 0 => show ((pf 1 (ix1 (stepOf i))).toNat + 1) * 1 ≤ 32; omega
    | 1 => exact Nat.le_of_ble_eq_true rfl
    | 2 => exact Nat.le_of_ble_eq_true rfl
  · rw [index_3]; have := he (ix1 (stepOf i)); intro a; match a with
    | 0 => exact Nat.le_of_ble_eq_true rfl
    | 1 => show ((pf 1 (ix1 (stepOf i))).toNat + 1) * 1 ≤ 32; omega
    | 2 => exact Nat.le_of_ble_eq_true rfl
    | 3 => exact Nat.le_of_ble_eq_true rfl
  · rw [index_4]; have := he (ix1 (stepOf i)); intro a; match a with
    | 0 => show ((pf 1 (ix1 (stepOf i))).toNat + 1) * 1 ≤ 32; omega
    | 1 => exact Nat.le_of_ble_eq_true rfl
    | 2 => exact Nat.le_of_ble_eq_true rfl
  · rw [index_5]; have := hr (ix1 (stepOf i)); intro a; match a with
    | 0 => show ((pf 0 (ix1 (stepOf i))).toNat + 1) * 256 ≤ 1089536; omega
    | 1 => exact Nat.le_of_ble_eq_true rfl

/-- A step has rows exactly when its number is below the count. -/
theorem cond_iff (n : BitVec 32) : k0_cond1 i n = 1#1 ↔ ((stepOf i).val : ℤ) < n.toInt := by
  unfold k0_cond1
  refine (Scalar.guard_iff _).trans (IntOp.cmpi_slt.trans ?_)
  exact iff_of_eq (congrArg (· < n.toInt) (word_small (stepOf i).val (lt_trans (stepOf i).isLt (by decide))))

/-- A step's number is its place in the grid. -/
theorem step_val (t : Fin grid0.N) : (stepOf (grid0.coords t)).val = t.val := by
  have h : t.val < 656 := lt_of_lt_of_eq t.isLt N_0
  have e := Pipeline.Grid.coords_val (G := grid0) t 0 (S := 1) (B := 656) (by decide) rfl
  show (grid0.coords t 0).val = t.val
  rw [e]; omega

theorem out_index (a : (pcfg0 (F := F)).Adm) (t : Fin grid0.N) :
    ((cfg0 a).win 5).index t = cc0_transform_5 k0_off1_inb numel1_S1 a.1 (grid0.coords t) := rfl

/-- Two steps whose rows are the same have the same output block. -/
theorem same_index (i j : grid0.Coords) (n : ℕ) (hn : n + 1 < 656) (hi : (stepOf i).val = n) (hj : (stepOf j).val = n + 1)
    (h : pf 0 (ix1 (⟨n + 1, hn⟩ : Fin 656)) = pf 0 (ix1 (⟨n, Nat.lt_of_succ_lt hn⟩ : Fin 656))) :
    cc0_transform_5 k0_off1_inb numel1_S1 pf j = cc0_transform_5 k0_off1_inb numel1_S1 pf i := by
  have e : rowAt pf j = rowAt pf i :=
    (congrArg (fun k : Fin 656 => pf 0 (ix1 k)) (Fin.ext hj : stepOf j = ⟨n + 1, hn⟩)).trans
      (h.trans (congrArg (fun k : Fin 656 => pf 0 (ix1 k)) (Fin.ext hi : stepOf i = ⟨n, Nat.lt_of_succ_lt hn⟩)).symm)
  rw [index_5, index_5, e]

variable {m : (ℓ : Loc nD τ sig) → Buf (Elt F) ℓ} {hO : Inside m}

theorem live_iff (t : Fin (grid m hO).N) : idle m hO t = false ↔ (t.val : ℤ) < (tables m 2 (ix1 0)).toInt := by
  rw [idle_cond t (ix1 0), Bool.not_eq_false', beq_iff_eq]
  exact (cond_iff (grid0.coords t) _).trans (iff_of_eq (congrArg (fun k : ℕ => (k : ℤ) < BitVec.toInt (tables m 2 (ix1 0))) (step_val t)))

theorem idle_iff (t : Fin (grid m hO).N) : idle m hO t = true ↔ ¬ (t.val : ℤ) < (tables m 2 (ix1 0)).toInt := by
  rw [← live_iff t, Bool.not_eq_false]

/-- The output block stays put once the rows are used up. -/
theorem steady (h : Planned (tables m 0) (tables m 1) (tables m 2)) : Steady m hO where
  first t h0 := (live_iff t).mpr (by have := h.some_used; omega)
  keep t u hu hi := by
    have hn := (idle_iff u).mp hi
    have hN : u.val < 656 := lt_of_lt_of_eq u.isLt N_0
    have hk := h.keep t.val (by omega) (by rw [← hu]; exact hn)
    exact (out_index (adm m hO) u).trans (Eq.trans (same_index (grid0.coords t) (grid0.coords u) t.val (by omega) (step_val t)
      ((step_val u).trans hu) hk) (out_index (adm m hO) t).symm)

/-- The kernel ends, leaves its arguments alone and leaves no semaphore up. -/
theorem frame2 (m : (ℓ : Loc nD τ sig) → Buf (Elt F) ℓ) (ρ : Dev nD → PrngReg) (h : Planned (tables m 0) (tables m 1) (tables m 2)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hr => ⟨fun c => args_kept hr.1 c, hr.2⟩) (run ρ (hO := inside h) (steady h))

/-- The tables are the first three arguments. -/
theorem tables_0 : tables m 0 = m ((0 : Dev nD), Proc.devRef .tc main_arg0) := entry_kept m 0 (by decide) (by decide) (by decide) (by decide)
theorem tables_1 : tables m 1 = m ((0 : Dev nD), Proc.devRef .tc main_arg1) := entry_kept m 0 (by decide) (by decide) (by decide) (by decide)
theorem tables_2 : tables m 2 = m ((0 : Dev nD), Proc.devRef .tc main_arg2) := entry_kept m 0 (by decide) (by decide) (by decide) (by decide)

end Cert.Kernel2Ideal.Expert

end
-- ==== Proof.ExpertBlocks.lean ====
/- The expert kernel's blocks read at an index: where each window's block lies in its array. -/
module

public import proofs.«01_k».proof.Proof.ExpertTables

@[expose] public section

set_option maxRecDepth 16384

noncomputable section

namespace Cert.Kernel2Ideal.Expert

open Cert.Kernel2Ideal Cert.Kernel2Ideal.Gen Idealize.ShloMosaic.ValueIdx Coord
open Idealize.ShloMosaic Idealize.ShloMosaic.TcCoe
open Idealize.ShloMosaic.Pipeline (Window)

variable {F : FTy → Type} [FloatOps F] (a : (pcfg0 (F := F)).Adm) (t : Fin grid0.N)

/-- The step's row block and expert, as numbers. -/
abbrev rowNo : ℕ := (rowAt a.1 (grid0.coords t)).toNat
abbrev expertNo : ℕ := (expertAt a.1 (grid0.coords t)).toNat

theorem index0 : ((cfg0 a).win 0).index t = ![rowNo a t, 0] := index_0 a.1 (grid0.coords t)
theorem index1 : ((cfg0 a).win 1).index t = ![expertNo a t, 0, 0] := index_1 a.1 (grid0.coords t)
theorem index2 : ((cfg0 a).win 2).index t = ![expertNo a t, 0, 0] := index_2 a.1 (grid0.coords t)
theorem index3 : ((cfg0 a).win 3).index t = ![0, expertNo a t, 0, 0] := index_3 a.1 (grid0.coords t)
theorem index4 : ((cfg0 a).win 4).index t = ![expertNo a t, 0, 0] := index_4 a.1 (grid0.coords t)
theorem index5 : ((cfg0 a).win 5).index t = ![rowNo a t, 0] := index_5 a.1 (grid0.coords t)

theorem emb0 (i : Fin 256) (k : Fin 1024) (r : Fin 1089536) (hr : r.val = rowNo a t * 256 + i.val) :
    (((cfg0 a).win 0).rect t).emb (ix2 i k : S256x1024.Idx) = (ix2 r k : S1089536x1024.Idx) := by
  funext b
  apply Fin.ext
  refine (Window.rect_emb_val ((cfg0 a).win 0) t _ b).trans ?_
  rw [index0]
  match b with
  | ⟨0, _⟩ => exact hr.symm
  | ⟨1, _⟩ => show 0 * 1024 + k.val = k.val; omega

theorem emb5 (i : Fin 256) (k : Fin 1024) (r : Fin 1089536) (hr : r.val = rowNo a t * 256 + i.val) :
    (((cfg0 a).win 5).rect t).emb (ix2 i k : S256x1024.Idx) = (ix2 r k : S1089536x1024.Idx) := by
  funext b
  apply Fin.ext
  refine (Window.rect_emb_val ((cfg0 a).win 5) t _ b).trans ?_
  rw [index5]
  match b with
  | ⟨0, _⟩ => exact hr.symm
  | ⟨1, _⟩ => show 0 * 1024 + k.val = k.val; omega

theorem emb1 (k : Fin 1024) (p : Fin 2048) (e : Fin 32) (he : e.val = expertNo a t) :
    (((cfg0 a).win 1).rect t).emb (ix3 0 k p : S1x1024x2048.Idx) = (ix3 e k p : S32x1024x2048.Idx) := by
  funext b
  apply Fin.ext
  refine (Window.rect_emb_val ((cfg0 a).win 1) t _ b).trans ?_
  rw [index1]
  match b with
  | ⟨0, _⟩ => show expertNo a t * 1 + 0 = e.val; omega
  | ⟨1, _⟩ => show 0 * 1024 + k.val = k.val; omega
  | ⟨2, _⟩ => show 0 * 2048 + p.val = p.val; omega

theorem emb2 (p : Fin 2048) (e : Fin 32) (he : e.val = expertNo a t) :
    (((cfg0 a).win 2).rect t).emb (ix3 0 0 p : S1x1x2048.Idx) = (ix3 e 0 p : S32x1x2048.Idx) := by
  funext b
  apply Fin.ext
  refine (Window.rect_emb_val ((cfg0 a).win 2) t _ b).trans ?_
  rw [index2]
  match b with
  | ⟨0, _⟩ => show expertNo a t * 1 + 0 = e.val; omega
  | ⟨1, _⟩ => rfl
  | ⟨2, _⟩ => show 0 * 2048 + p.val = p.val; omega

theorem emb3 (j n : Fin 1024) (e : Fin 32) (he : e.val = expertNo a t) :
    (((cfg0 a).win 3).rect t).emb (ix4 0 0 j n : S1x1x1024x1024.Idx) = (ix4 0 e j n : S4x32x1024x1024.Idx) := by
  funext b
  apply Fin.ext
  refine (Window.rect_emb_val ((cfg0 a).win 3) t _ b).trans ?_
  rw [index3]
  match b with
  | ⟨0, _⟩ => rfl
  | ⟨1, _⟩ => show expertNo a t * 1 + 0 = e.val; omega
  | ⟨2, _⟩ => show 0 * 1024 + j.val = j.val; omega
  | ⟨3, _⟩ => show 0 * 1024 + n.val = n.val; omega

theorem emb4 (n : Fin 1024) (e : Fin 32) (he : e.val = expertNo a t) :
    (((cfg0 a).win 4).rect t).emb (ix3 0 0 n : S1x1x1024.Idx) = (ix3 e 0 n : S32x1x1024.Idx) := by
  funext b
  apply Fin.ext
  refine (Window.rect_emb_val ((cfg0 a).win 4) t _ b).trans ?_
  rw [index4]
  match b with
  | ⟨0, _⟩ => show expertNo a t * 1 + 0 = e.val; omega
  | ⟨1, _⟩ => rfl
  | ⟨2, _⟩ => show 0 * 1024 + n.val = n.val; omega

theorem read0 (X : S1089536x1024.Idx → F .f32) (i : Fin 256) (k : Fin 1024) (r : Fin 1089536) (hr : r.val = rowNo a t * 256 + i.val) :
    (((cfg0 a).win 0).blk t).view.read (Elt F) X (ix2 i k : S256x1024.Idx) = X (ix2 r k) := congrArg X (emb0 a t i k r hr)
theorem read5 (X : S1089536x1024.Idx → F .f32) (i : Fin 256) (k : Fin 1024) (r : Fin 1089536) (hr : r.val = rowNo a t * 256 + i.val) :
    (((cfg0 a).win 5).blk t).view.read (Elt F) X (ix2 i k : S256x1024.Idx) = X (ix2 r k) := congrArg X (emb5 a t i k r hr)
theorem read1 (X : S32x1024x2048.Idx → F .bf16) (k : Fin 1024) (p : Fin 2048) (e : Fin 32) (he : e.val = expertNo a t) :
    (((cfg0 a).win 1).blk t).view.read (Elt F) X (ix3 0 k p : S1x1024x2048.Idx) = X (ix3 e k p) := congrArg X (emb1 a t k p e he)
theorem read2 (X : S32x1x2048.Idx → F .f32) (p : Fin 2048) (e : Fin 32) (he : e.val = expertNo a t) :
    (((cfg0 a).win 2).blk t).view.read (Elt F) X (ix3 0 0 p : S1x1x2048.Idx) = X (ix3 e 0 p) := congrArg X (emb2 a t p e he)
theorem read3 (X : S4x32x1024x1024.Idx → F .f32) (j n : Fin 1024) (e : Fin 32) (he : e.val = expertNo a t) :
    (((cfg0 a).win 3).blk t).view.read (Elt F) X (ix4 0 0 j n : S1x1x1024x1024.Idx) = X (ix4 0 e j n) := congrArg X (emb3 a t j n e he)
theorem read4 (X : S32x1x1024.Idx → F .f32) (n : Fin 1024) (e : Fin 32) (he : e.val = expertNo a t) :
    (((cfg0 a).win 4).blk t).view.read (Elt F) X (ix3 0 0 n : S1x1x1024.Idx) = X (ix3 e 0 n) := congrArg X (emb4 a t n e he)

/-- An index whose row lies in the step's output block is covered by that block. -/
theorem covered (i : Fin 256) (k : Fin 1024) (r : Fin 1089536) (hr : r.val = rowNo a t * 256 + i.val) :
    (ix2 r k : S1089536x1024.Idx) ∈ (((cfg0 a).win 5).blk t).view.set := by
  rw [← emb5 a t i k r hr]
  exact (((cfg0 a).win 5).blk t).view.emb_mem_set (ix2 i k : S256x1024.Idx)

end Cert.Kernel2Ideal.Expert

end
-- ==== Proof.ExpertSpec.lean ====
/- The expert layer of one row, and the kernel's block of it read at an index. -/
module

public import proofs.«01_k».proof.Proof.ExpertBody
public import proofs.«01_k».proof.Proof.Coord
public import Idealize.ShloMosaic.Lib.MatmulPlain

@[expose] public section

set_option maxRecDepth 16384

noncomputable section

namespace Cert.Experts

open Idealize.ShloMosaic

/-- The gated activation of a gate and an up projection: both clipped at seven. -/
def act (g u : Ideal .f32) : Ideal .f32 :=
  FloatOps.mulf (FloatOps.mulf (FloatOps.addf (FloatOps.minimumf (Scalar.ofBits .f32 0x40E00000#32) (FloatOps.maximumf (Scalar.ofBits .f32 0xC0E00000#32) u))
      (Scalar.ofBits .f32 0x3F800000#32)) (FloatOps.minimumf g (Scalar.ofBits .f32 0x40E00000#32)))
    (FloatOps.divf (Scalar.ofBits .f32 0x3F800000#32) (FloatOps.addf (Scalar.ofBits .f32 0x3F800000#32)
      (FloatOps.exp (FloatOps.subf (Scalar.ofBits .f32 0x00000000#32)
        (FloatOps.mulf (Scalar.ofBits .f32 0x3FD9DB23#32) (FloatOps.minimumf g (Scalar.ofBits .f32 0x40E00000#32)))))))

/-- The column of the gate's feature `j`: the features come in groups of 128, each group's gates before its ups. -/
def gateCol (j : Fin 1024) : Fin 2048 := ⟨256 * (j.val / 128) + j.val % 128, by omega⟩
/-- The column of the up projection's feature `j`. -/
def upCol (j : Fin 1024) : Fin 2048 := ⟨256 * (j.val / 128) + 128 + j.val % 128, by omega⟩

/-- The layer of one row `x`: weights `w` and biases of the gates and ups, then the down projection `d` and its bias. -/
def layer (x : Fin 1024 → EReal) (w : Fin 1024 → Fin 2048 → EReal) (bg bu : Fin 1024 → EReal) (d : Fin 1024 → Fin 1024 → EReal)
    (bd : Fin 1024 → EReal) (n : Fin 1024) : EReal :=
  (∑ j, act ((∑ k, x k * w k (gateCol j)) + bg j) ((∑ k, x k * w k (upCol j)) + bu j) * d j n) + bd n

end Cert.Experts

namespace Cert.Kernel2Ideal.Expert

open Cert.Kernel2Ideal Cert.Kernel2Ideal.Gen Cert.Experts Coord
open Idealize.ShloMosaic
open Idealize.ShloMosaic.ValueIdx

/-- 128 columns of the projections. -/
abbrev cut (o : ℕ) (v : FVec Ideal S256x2048 .f32) (h : S256x2048.Slices ![0, o] S256x128) : FVec Ideal S256x128 .f32 :=
  extractStridedSlice S256x128 ![0, o] v h

/-- Every group's columns lie within the projections. -/
theorem cut_gate : ∀ n : Fin 8, S256x2048.Slices ![0, 256 * n.val] S256x128 := by decide
theorem cut_up : ∀ n : Fin 8, S256x2048.Slices ![0, 256 * n.val + 128] S256x128 := by decide

/-- One group's activations. -/
def group (v : FVec Ideal S256x2048 .f32) (n : Fin 8) : FVec Ideal S256x128 .bf16 :=
  fun i => act (cut (256 * n.val) v (cut_gate n) i) (cut (256 * n.val + 128) v (cut_up n) i)

theorem groups_fit : Shape.Concatenates ((List.ofFn fun n : Fin 8 => (⟨S256x128, group (fun _ => 0) n⟩ : (s : Shape) × (s.Idx → EReal))).map (·.1)) S256x1024 1 :=
  concatenates_S256x128_S256x128_S256x128_S256x128_S256x128_S256x128_S256x128_S256x128_S256x1024_d1

/-- All groups' activations. -/
def acts (v : FVec Ideal S256x2048 .f32) : FVec Ideal S256x1024 .bf16 :=
  concatenate S256x1024 1 (List.ofFn fun n : Fin 8 => (⟨S256x128, group v n⟩ : (s : Shape) × (s.Idx → EReal))) groups_fit

/-- The down projection of a block of activations. -/
def down (a : FVec Ideal S256x1024 .bf16) (x3 : Vec Ideal S1x1x1024x1024 .f32) (x4 : Vec Ideal S1x1x1024 .f32) : FVec Ideal S256x1024 .f32 :=
  addf (matmul dot_S256x1024_S1024x1024_S256x1024_1_0_0_1_n_n none a
      (truncf .bf16 (shapeCast S1024x1024 x3 shapeCasts_S1x1x1024x1024_S1024x1024) bitsLt_bf16_f32) (constant S256x1024 .f32 0x00000000#32))
    (broadcastTo S256x1024 (shapeCast S1x1024 x4 shapeCasts_S1x1x1024_S1x1024) broadcasts_S1x1024_S256x1024)

variable (x0 : Vec Ideal S256x1024 .f32) (x1 : Vec Ideal S1x1024x2048 .bf16) (x2 : Vec Ideal S1x1x2048 .f32)
  (x3 : Vec Ideal S1x1x1024x1024 .f32) (x4 : Vec Ideal S1x1x1024 .f32)

theorem block_eq : block (F := Ideal) x0 x1 x2 x3 x4 = down (acts (k0_pay2 x0 x1 x2)) x3 x4 := rfl

/-- A projection at an index. -/
theorem proj_apply (i : Fin 256) (p : Fin 2048) :
    (k0_pay2 x0 x1 x2 (ix2 i p) : EReal) = (∑ k : Fin 1024, x0 (ix2 i k) * x1 (ix3 0 k p)) + x2 (ix3 0 0 p) := by
  refine congrArg₂ (· + ·) ((Ideal.matmul_plain_apply none _ _ _ i p).trans ?_) ?_
  · refine (congrArg₂ (· + ·) Ideal.ofBits_zero_f32 (Finset.sum_congr rfl fun k _ => congrArg₂ (· * ·) rfl ?_)).trans (zero_add _)
    exact shapeCast_apply _ _ _ (ix3 0 k p) (by rw [Shape.rowMajor_val_two, Shape.rowMajor_val_three]; simp [c3_0, c3_1, c3_2, c2_0, c2_1])
  · refine (broadcastTo_apply _ _ _ (ix2 0 p) (by intro a; fin_cases a <;> simp)).trans ?_
    exact shapeCast_apply _ _ _ (ix3 0 0 p) (by rw [Shape.rowMajor_val_two, Shape.rowMajor_val_three]; simp [c3_0, c3_1, c3_2, c2_0, c2_1])

/-- An activation at an index. -/
theorem acts_apply (v : FVec Ideal S256x2048 .f32) (i : Fin 256) (j : Fin 1024) :
    (acts v (ix2 i j) : EReal) = act (v (ix2 i (gateCol j))) (v (ix2 i (upCol j))) := by
  refine (concatenate_ofFn_apply (1 : Fin S256x1024.rank) (group v) groups_fit rfl 128 rfl (ix2 i j) ⟨j.val / 128, by omega⟩ rfl
    (ix2 i ⟨j.val % 128, by omega⟩) rfl ?_).trans ?_
  · intro b hb
    fin_cases b
    · rfl
    · exact absurd rfl hb
  · refine congrArg₂ act ?_ ?_
    · exact extractStridedSlice_apply _ _ _ _ (ix2 i (gateCol j)) (by intro a; fin_cases a <;> simp [gateCol])
    · exact extractStridedSlice_apply _ _ _ _ (ix2 i (upCol j)) (by intro a; fin_cases a <;> simp [upCol])

/-- THE BLOCK AT AN INDEX is the layer of the block's row. -/
theorem block_apply (i : Fin 256) (n : Fin 1024) :
    (block (F := Ideal) x0 x1 x2 x3 x4 (ix2 i n) : EReal)
      = layer (fun k => x0 (ix2 i k)) (fun k p => x1 (ix3 0 k p)) (fun j => x2 (ix3 0 0 (gateCol j))) (fun j => x2 (ix3 0 0 (upCol j)))
          (fun j n => x3 (ix4 0 0 j n)) (fun n => x4 (ix3 0 0 n)) n := by
  rw [block_eq]
  refine congrArg₂ (· + ·) ((Ideal.matmul_plain_apply none _ _ _ i n).trans ?_) ?_
  · refine (congrArg₂ (· + ·) Ideal.ofBits_zero_f32 (Finset.sum_congr rfl fun j _ => congrArg₂ (· * ·) ?_ ?_)).trans (zero_add _)
    · exact (acts_apply _ i j).trans (congrArg₂ act (proj_apply x0 x1 x2 i _) (proj_apply x0 x1 x2 i _))
    · exact shapeCast_apply _ _ _ (ix4 0 0 j n) (by rw [Shape.rowMajor_val_two, Shape.rowMajor_val_four]; simp [c4_0, c4_1, c4_2, c4_3, c2_0, c2_1])
  · refine (broadcastTo_apply _ _ _ (ix2 0 n) (by intro a; fin_cases a <;> simp)).trans ?_
    exact shapeCast_apply _ _ _ (ix3 0 0 n) (by rw [Shape.rowMajor_val_two, Shape.rowMajor_val_three]; simp [c3_0, c3_1, c3_2, c2_0, c2_1])

end Cert.Kernel2Ideal.Expert

end
-- ==== Proof.ExpertReference.lean ====
/- The expert layer's reference: what it leaves in its result array, read at an index. -/
module

public import proofs.«01_k».proof.Proof.ExpertSpec
public import proofs.«01_k».proof.Proof.Gen.Reference2Ideal.Run
public import Idealize.ShloMosaic.Lib.StackMember
public import Idealize.ShloMosaic.Lib.IdealHost

@[expose] public section

set_option maxRecDepth 16384

noncomputable section

namespace Cert.Reference2Ideal.Layer

open Cert.Reference2Ideal Cert.Reference2Ideal.Gen Cert.Experts Coord
open Idealize.ShloMosaic Idealize.ShloMosaic.TcCoe
open Idealize.ShloMosaic.ValueIdx Idealize.SL Idealize.SL.Sem

variable (A3 : FVec Ideal S1089536x1024 .f32) (A4 : FVec Ideal S32x1024x2048 .bf16) (A5 : FVec Ideal S32x2048 .f32)
  (A6 : FVec Ideal S4x32x1024x1024 .f32) (A7 : FVec Ideal S32x1024 .f32)

/-- The rows, expert by expert. -/
def rows : FVec Ideal S32x34048x1024 .f32 := shapeCast _ A3 shapeCasts_S1089536x1024_S32x34048x1024
/-- The gates' (`s = 0`) or the ups' (`s = 1`) weights. -/
def weights (s : ℕ) (h : S32x1024x8x2x128.Slices ![0, 0, 0, s, 0] S32x1024x8x1x128) : FVec Ideal S32x1024x1024 .f32 :=
  shapeCast _ (shapeCast _ (extractStridedSlice S32x1024x8x1x128 ![0, 0, 0, s, 0]
    (shapeCast _ (extf .f32 A4 bitsLt_bf16_f32) shapeCasts_S32x1024x2048_S32x1024x8x2x128) h)
    shapeCasts_S32x1024x8x1x128_S32x1024x8x128) shapeCasts_S32x1024x8x128_S32x1024x1024
/-- The gates' or the ups' biases, for every row. -/
def biases (s : ℕ) (h : S32x1x1024x2.Slices ![0, 0, 0, s] S32x1x1024x1) : FVec Ideal S32x34048x1024 .f32 :=
  broadcastInDim S32x34048x1024 ![0, 1, 2] bcast_S32x1x1024_S32x34048x1024_0_1_2 (shapeCast _ (extractStridedSlice S32x1x1024x1 ![0, 0, 0, s]
    (shapeCast _ A5 shapeCasts_S32x2048_S32x1x1024x2) h) shapeCasts_S32x1x1024x1_S32x1x1024)
/-- The gates or the ups. -/
def proj (s : ℕ) (h : S32x1024x8x2x128.Slices ![0, 0, 0, s, 0] S32x1024x8x1x128) (h' : S32x1x1024x2.Slices ![0, 0, 0, s] S32x1x1024x1) :
    FVec Ideal S32x34048x1024 .f32 :=
  addf (Host.dotGeneral dot_S32x34048x1024_S32x1024x1024_S32x34048x1024_2_1_1_2_0_0 none (rows A3) (weights A4 s h)) (biases A5 s h')
/-- A constant at every index. -/
abbrev all (w : BitVec 32) : FVec Ideal S32x34048x1024 .f32 :=
  broadcastInDim S32x34048x1024 ![] bcast_S_S32x34048x1024 (constant S_ .f32 w)
/-- The activations. -/
def acts (g u : FVec Ideal S32x34048x1024 .f32) : FVec Ideal S32x34048x1024 .f32 :=
  mulf (mulf (addf (minimumf (all 0x40E00000#32) (maximumf (all 0xC0E00000#32) u)) (all 0x3F800000#32)) (minimumf g (all 0x40E00000#32)))
    (Host.divf (all 0x3F800000#32) (addf (all 0x3F800000#32) (Host.exp (mulf (all 0xBFD9DB23#32) (minimumf g (all 0x40E00000#32))))))
/-- The down projection. -/
def down (a : FVec Ideal S32x34048x1024 .f32) : FVec Ideal S32x34048x1024 .f32 :=
  addf (Host.dotGeneral dot_S32x34048x1024_S32x1024x1024_S32x34048x1024_2_1_1_2_0_0 none a
      (shapeCast _ (extractStridedSlice S1x32x1024x1024 ![0, 0, 0, 0] A6 slices_S4x32x1024x1024_S1x32x1024x1024_0_0_0_0) shapeCasts_S1x32x1024x1024_S32x1024x1024))
    (broadcastInDim S32x34048x1024 ![0, 1, 2] bcast_S32x1x1024_S32x34048x1024_0_1_2 (broadcastInDim S32x1x1024 ![0, 2] bcast_S32x1024_S32x1x1024_0_2 A7))
/-- The result. -/
def result : FVec Ideal S1089536x1024 .f32 :=
  shapeCast _ (down A6 A7 (acts
    (proj A3 A4 A5 0 slices_S32x1024x8x2x128_S32x1024x8x1x128_0_0_0_0_0 slices_S32x1x1024x2_S32x1x1024x1_0_0_0_0)
    (proj A3 A4 A5 1 slices_S32x1024x8x2x128_S32x1024x8x1x128_0_0_0_1_0 slices_S32x1x1024x2_S32x1x1024x1_0_0_0_1)))
    shapeCasts_S32x34048x1024_S1089536x1024

/-- The row of the flat array that is an expert's. -/
def flat (e : Fin 32) (t : Fin 34048) : Fin 1089536 := ⟨34048 * e.val + t.val, by omega⟩

theorem rows_apply (e : Fin 32) (t : Fin 34048) (k : Fin 1024) : rows A3 (ix3 e t k) = A3 (ix2 (flat e t) k) :=
  shapeCast_apply _ _ _ _ (by
    rw [Shape.rowMajor_val_two, Shape.rowMajor_val_three]; simp [c3_0, c3_1, c3_2, c2_0, c2_1, flat]; omega)

theorem weights_apply (s : ℕ) (hs : s < 2) (h) (e : Fin 32) (k j : Fin 1024) :
    weights A4 s h (ix3 e k j) = A4 (ix3 e k (⟨256 * (j.val / 128) + 128 * s + j.val % 128, by omega⟩ : Fin 2048)) := by
  unfold weights
  refine (shapeCast_apply _ _ _ (ix4 e k (⟨j.val / 128, by omega⟩ : Fin 8) (⟨j.val % 128, by omega⟩ : Fin 128)) (by
    rw [Shape.rowMajor_val_three, Shape.rowMajor_val_four]; simp [c3_0, c3_1, c3_2, c4_0, c4_1, c4_2, c4_3]; omega)).trans ?_
  refine (shapeCast_apply _ _ _ (ix5 e k (⟨j.val / 128, by omega⟩ : Fin 8) (0 : Fin 1) (⟨j.val % 128, by omega⟩ : Fin 128)) (by
    rw [Shape.rowMajor_val_five, Shape.rowMajor_val_four]; simp [c4_0, c4_1, c4_2, c4_3, ix5]; try omega)).trans ?_
  refine (extractStridedSlice_apply _ _ _ _ (ix5 e k (⟨j.val / 128, by omega⟩ : Fin 8) (⟨s, hs⟩ : Fin 2) (⟨j.val % 128, by omega⟩ : Fin 128)) (by
    intro a; fin_cases a <;> simp [ix5])).trans ?_
  exact shapeCast_apply _ _ _ _ (by
    rw [Shape.rowMajor_val_three, Shape.rowMajor_val_five]; simp [c3_0, c3_1, c3_2, ix5]; omega)

theorem biases_apply (s : ℕ) (hs : s < 2) (h) (e : Fin 32) (t : Fin 34048) (j : Fin 1024) :
    biases A5 s h (ix3 e t j) = A5 (ix2 e (⟨2 * j.val + s, by omega⟩ : Fin 2048)) := by
  unfold biases
  refine (broadcastInDim_apply _ _ _ _ (ix3 e (0 : Fin 1) j) (by intro a; fin_cases a <;> simp)).trans ?_
  refine (shapeCast_apply _ _ _ (ix4 e (0 : Fin 1) j (0 : Fin 1)) (by
    rw [Shape.rowMajor_val_three, Shape.rowMajor_val_four]; simp [c3_0, c3_1, c3_2, c4_0, c4_1, c4_2, c4_3]; try omega)).trans ?_
  refine (extractStridedSlice_apply _ _ _ _ (ix4 e (0 : Fin 1) j (⟨s, hs⟩ : Fin 2)) (by intro a; fin_cases a <;> simp)).trans ?_
  exact shapeCast_apply _ _ _ _ (by
    rw [Shape.rowMajor_val_two, Shape.rowMajor_val_four]; simp [c2_0, c2_1, c4_0, c4_1, c4_2, c4_3]; omega)

theorem proj_apply (s : ℕ) (hs : s < 2) (h h') (e : Fin 32) (t : Fin 34048) (j : Fin 1024) :
    (proj A3 A4 A5 s h h' (ix3 e t j) : EReal)
      = (∑ k : Fin 1024, A3 (ix2 (flat e t) k) * A4 (ix3 e k (⟨256 * (j.val / 128) + 128 * s + j.val % 128, by omega⟩ : Fin 2048)))
        + A5 (ix2 e (⟨2 * j.val + s, by omega⟩ : Fin 2048)) := by
  refine congrArg₂ (· + ·) ((StackMember.dotGeneral_stack_apply _ none _ _ e t j).trans ?_) (biases_apply A5 s hs h' e t j)
  exact Finset.sum_congr rfl fun k _ => congrArg₂ (· * ·) (rows_apply A3 e t k) (weights_apply A4 s hs h e k j)

theorem all_apply (w : BitVec 32) (i : S32x34048x1024.Idx) : all w i = Scalar.ofBits .f32 w :=
  broadcastInDim_scalar_apply _ _ _

/-- The words of a constant and of its negation. -/
theorem negated : Ideal.ofBits .f32 0xBFD9DB23#32 = - Ideal.ofBits .f32 0x3FD9DB23#32 := by
  simp [Ideal.ofBits, Ideal.ieee, -EReal.coe_mul, -EReal.coe_neg]
  norm_num [← EReal.coe_neg]

/-- Scaling by a negated constant is negating what the constant scales. -/
theorem scaled (x : Ideal .f32) : (FloatOps.mulf (Scalar.ofBits .f32 0xBFD9DB23#32) x : Ideal .f32)
    = FloatOps.subf (Scalar.ofBits .f32 0x00000000#32) (FloatOps.mulf (Scalar.ofBits .f32 0x3FD9DB23#32) x) := by
  show (Ideal.ofBits .f32 0xBFD9DB23#32 * x : EReal) = Ideal.ofBits .f32 0x00000000#32 - Ideal.ofBits .f32 0x3FD9DB23#32 * x
  rw [negated, Ideal.ofBits_zero_f32, zero_sub, EReal.neg_mul]

theorem acts_apply (g u : FVec Ideal S32x34048x1024 .f32) (i : S32x34048x1024.Idx) : acts g u i = act (g i) (u i) := by
  have e : ∀ w, all w i = Scalar.ofBits .f32 w := fun w => all_apply w i
  unfold act
  rw [← scaled, ← e 0x40E00000#32, ← e 0xC0E00000#32, ← e 0x3F800000#32, ← e 0xBFD9DB23#32]
  rfl

theorem down_apply (a : FVec Ideal S32x34048x1024 .f32) (e : Fin 32) (t : Fin 34048) (n : Fin 1024) :
    (down A6 A7 a (ix3 e t n) : EReal) = (∑ j : Fin 1024, a (ix3 e t j) * A6 (ix4 0 e j n)) + A7 (ix2 e n) := by
  refine congrArg₂ (· + ·) ((StackMember.dotGeneral_stack_apply _ none _ _ e t n).trans ?_) ?_
  · refine Finset.sum_congr rfl fun j _ => congrArg₂ (· * ·) rfl ?_
    refine (shapeCast_apply _ _ _ (ix4 (0 : Fin 1) e j n) (by
      rw [Shape.rowMajor_val_three, Shape.rowMajor_val_four]; simp [c3_0, c3_1, c3_2, c4_0, c4_1, c4_2, c4_3])).trans ?_
    exact extractStridedSlice_apply _ _ _ _ _ (by intro a; fin_cases a <;> simp)
  · refine (broadcastInDim_apply _ _ _ _ (ix3 e (0 : Fin 1) n) (by intro a; fin_cases a <;> simp)).trans ?_
    exact broadcastInDim_apply _ _ _ _ _ (by intro a; fin_cases a <;> simp)

/-- THE REFERENCE'S RESULT AT AN INDEX is the layer of the row by the expert that owns it. -/
theorem result_apply (e : Fin 32) (t : Fin 34048) (n : Fin 1024) :
    (result A3 A4 A5 A6 A7 (ix2 (flat e t) n) : EReal)
      = layer (fun k => A3 (ix2 (flat e t) k)) (fun k p => A4 (ix3 e k p)) (fun j => A5 (ix2 e (⟨2 * j.val, by omega⟩ : Fin 2048)))
          (fun j => A5 (ix2 e (⟨2 * j.val + 1, by omega⟩ : Fin 2048))) (fun j n => A6 (ix4 0 e j n)) (fun n => A7 (ix2 e n)) n := by
  unfold result
  refine (shapeCast_apply _ _ _ (ix3 e t n) (by
    rw [Shape.rowMajor_val_two, Shape.rowMajor_val_three]; simp [c3_0, c3_1, c3_2, c2_0, c2_1, flat]; omega)).trans ?_
  refine (down_apply A6 A7 _ e t n).trans ?_
  refine congrArg₂ (· + ·) (Finset.sum_congr rfl fun j _ => congrArg₂ (· * ·) ((acts_apply _ _ _).trans ?_) rfl) rfl
  exact congrArg₂ act (proj_apply A3 A4 A5 0 (by omega) _ _ e t j)
    ((proj_apply A3 A4 A5 1 (by omega) _ _ e t j))

variable (m : (ℓ : Loc nD τ sig) → Buf (Elt Ideal) ℓ) (c : Dev nD)

/-- The result as a term of the launch contents. -/
def left : Buf (Elt Ideal) ((c.tc : Thread nD τ).loc main_v40) :=
  result (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The reference ends with its result in place and its arguments as they were. -/
theorem run_left (g : Dev nD → PrngReg) : θ_run (defs (F := Ideal)) (onTc (τ := τ) (main (F := Ideal))) ⟨m, fun _ => 0, g⟩ (fun r => ∀ c : Dev nD,
      r.2.mem ((c.tc : Thread nD τ).loc main_v40) = left m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans rfl, (h c).2⟩) (Cert.Reference2Ideal.Value.run m g)

end Cert.Reference2Ideal.Layer

end
-- ==== Proof.ExpertArray.lean ====
/- The expert kernel's result array: every block written back is the reference's, so every row the tables name holds the
   layer's value. -/
module

public import proofs.«01_k».proof.Proof.ExpertBlocks
public import proofs.«01_k».proof.Proof.ExpertSpec
public import proofs.«01_k».proof.Proof.ExpertReference

@[expose] public section

set_option maxRecDepth 16384

noncomputable section

namespace Cert.Kernel2Ideal.Expert

open Cert.Kernel2Ideal Cert.Kernel2Ideal.Gen Cert.Experts Cert.ExpertPlan Idealize.ShloMosaic.ValueIdx Coord
open Idealize.ShloMosaic Idealize.ShloMosaic.TcCoe
open Idealize.ShloMosaic.Pipeline (Window Dat)
open Cert.Reference2Ideal.Layer (flat result result_apply)

variable {m : (ℓ : Loc nD τ sig) → Buf (Elt Ideal) ℓ} {hO : Inside m} (c : Dev nD)

/-! ## The biases the host prepares -/

/-- The gates' and ups' biases, regrouped as the weights' columns are. -/
def regrouped (A5 : FVec Ideal S32x2048 .f32) : FVec Ideal S32x1x2048 .f32 :=
  shapeCast _ (transpose S32x8x2x128 [0, 1, 3, 2] (shapeCast S32x8x128x2 A5 shapeCasts_S32x2048_S32x8x128x2) transposes_S32x8x128x2_S32x8x2x128_0_1_3_2)
    shapeCasts_S32x8x2x128_S32x1x2048

theorem entry_bias : entry m c main_v2 = regrouped (m ((c : Thread nD τ).loc main_arg5)) := by
  unfold entry
  simp only [List.flatten_cons, List.flatten_nil, List.append_nil]
  after_reads_simp
  rfl

theorem entry_down_bias : entry m c main_v3
    = broadcastInDim S32x1x1024 ![0, 2] bcast_S32x1024_S32x1x1024_0_2 (m ((c : Thread nD τ).loc main_arg7) : FVec Ideal S32x1024 .f32) := by
  unfold entry
  simp only [List.flatten_cons, List.flatten_nil, List.append_nil]
  after_reads_simp

theorem regrouped_apply (A5 : FVec Ideal S32x2048 .f32) (e : Fin 32) (j : Fin 1024) (s : Fin 2) (p : Fin 2048)
    (hp : p.val = 256 * (j.val / 128) + 128 * s.val + j.val % 128) :
    regrouped A5 (ix3 e (0 : Fin 1) p) = A5 (ix2 e (⟨2 * j.val + s.val, by omega⟩ : Fin 2048)) := by
  unfold regrouped
  refine (shapeCast_apply _ _ _ (ix4 e (⟨j.val / 128, by omega⟩ : Fin 8) s (⟨j.val % 128, by omega⟩ : Fin 128)) (by
    rw [Shape.rowMajor_val_three, Shape.rowMajor_val_four]; simp [c3_0, c3_1, c3_2, c4_0, c4_1, c4_2, c4_3]; omega)).trans ?_
  refine (transpose_apply _ _ _ _ (ix4 e (⟨j.val / 128, by omega⟩ : Fin 8) (⟨j.val % 128, by omega⟩ : Fin 128) s) (by
    intro b; fin_cases b <;> rfl)).trans ?_
  exact shapeCast_apply _ _ _ _ (by
    rw [Shape.rowMajor_val_two, Shape.rowMajor_val_four]; simp [c2_0, c2_1, c4_0, c4_1, c4_2, c4_3]; omega)

/-! ## A step's block -/

variable (m)

/-- The layer of the kernel's arguments. -/
def target : FVec Ideal S1089536x1024 .f32 :=
  result (m ((c : Thread nD τ).loc main_arg3)) (m ((c : Thread nD τ).loc main_arg4)) (m ((c : Thread nD τ).loc main_arg5))
    (m ((c : Thread nD τ).loc main_arg6)) (m ((c : Thread nD τ).loc main_arg7))

variable {m}

section
variable (t : Fin (grid m hO).N)

theorem in0 (i : Fin 256) (k : Fin 1024) (r : Fin 1089536) (hr : r.val = rowNo (adm m hO) t * 256 + i.val) :
    (inBlock m hO c (0 : Fin 6) t : S256x1024.Idx → EReal) (ix2 i k) = (m ((c : Thread nD τ).loc main_arg3) : S1089536x1024.Idx → EReal) (ix2 r k) :=
  (read0 (adm m hO) t _ i k r hr).trans
    (congrFun (entry_kept m c (b := main_arg3) (by decide) (by decide) (by decide) (by decide)) _)
theorem in1 (k : Fin 1024) (p : Fin 2048) (e : Fin 32) (he : e.val = expertNo (adm m hO) t) :
    (inBlock m hO c (1 : Fin 6) t : S1x1024x2048.Idx → EReal) (ix3 0 k p) = (m ((c : Thread nD τ).loc main_arg4) : S32x1024x2048.Idx → EReal) (ix3 e k p) :=
  (read1 (adm m hO) t _ k p e he).trans
    (congrFun (entry_kept m c (b := main_arg4) (by decide) (by decide) (by decide) (by decide)) _)
theorem in2 (j : Fin 1024) (s : Fin 2) (p : Fin 2048) (hp : p.val = 256 * (j.val / 128) + 128 * s.val + j.val % 128)
    (e : Fin 32) (he : e.val = expertNo (adm m hO) t) :
    (inBlock m hO c (2 : Fin 6) t : S1x1x2048.Idx → EReal) (ix3 0 0 p)
      = (m ((c : Thread nD τ).loc main_arg5) : S32x2048.Idx → EReal) (ix2 e (⟨2 * j.val + s.val, by omega⟩ : Fin 2048)) :=
  (read2 (adm m hO) t _ p e he).trans ((congrFun (entry_bias (m := m) c) _).trans (regrouped_apply _ e j s p hp))
theorem in3 (j n : Fin 1024) (e : Fin 32) (he : e.val = expertNo (adm m hO) t) :
    (inBlock m hO c (3 : Fin 6) t : S1x1x1024x1024.Idx → EReal) (ix4 0 0 j n)
      = (m ((c : Thread nD τ).loc main_arg6) : S4x32x1024x1024.Idx → EReal) (ix4 0 e j n) :=
  (read3 (adm m hO) t _ j n e he).trans
    (congrFun (entry_kept m c (b := main_arg6) (by decide) (by decide) (by decide) (by decide)) _)
theorem in4 (n : Fin 1024) (e : Fin 32) (he : e.val = expertNo (adm m hO) t) :
    (inBlock m hO c (4 : Fin 6) t : S1x1x1024.Idx → EReal) (ix3 0 0 n)
      = (m ((c : Thread nD τ).loc main_arg7) : S32x1024.Idx → EReal) (ix2 e n) :=
  (read4 (adm m hO) t _ n e he).trans ((congrFun (entry_down_bias (m := m) c) _).trans
    (broadcastInDim_apply _ _ _ _ _ (by intro a; fin_cases a <;> rfl)))

end

variable (hP : Planned (tables m 0) (tables m 1) (tables m 2))
include hP

/-- What a step stores is the layer at its rows. -/
theorem stored_apply (t : Fin (grid m hO).N) (i : Fin 256) (n : Fin 1024) (r : Fin 1089536) (hr : r.val = rowNo (adm m hO) t * 256 + i.val) :
    (stored m hO c t (ix2 i n) : EReal) = target m c (ix2 r n) := by
  have he := hP.expert_lt (ix1 (stepOf (grid0.coords t)))
  have h1 := hP.row_ge (ix1 (stepOf (grid0.coords t)))
  have h2 := hP.row_lt (ix1 (stepOf (grid0.coords t)))
  obtain ⟨e, hE⟩ : ∃ e : Fin 32, e.val = expertNo (adm m hO) t := ⟨⟨_, he⟩, rfl⟩
  have h1' : 133 * e.val ≤ rowNo (adm m hO) t := by rw [hE]; exact h1
  have h2' : rowNo (adm m hO) t < 133 * e.val + 133 := by rw [hE]; exact h2
  obtain ⟨q, rfl⟩ : ∃ q : Fin 34048, r = flat e q :=
    ⟨⟨r.val - 34048 * e.val, by omega⟩, Fin.ext (by show r.val = 34048 * e.val + (r.val - 34048 * e.val); omega)⟩
  refine (block_apply _ _ _ _ _ i n).trans (Eq.trans ?_ (result_apply _ _ _ _ _ e q n).symm)
  have a0 := fun k => in0 (m := m) (hO := hO) c t i k (flat e q) hr
  have a1 := fun k p => in1 (m := m) (hO := hO) c t k p e hE
  have a2 := fun j => in2 (m := m) (hO := hO) c t j 0 (gateCol j) (by show 256 * (j.val / 128) + j.val % 128 = 256 * (j.val / 128) + 128 * 0 + j.val % 128; omega) e hE
  have a3 := fun j => in2 (m := m) (hO := hO) c t j 1 (upCol j) rfl e hE
  have a4 := fun j n => in3 (m := m) (hO := hO) c t j n e hE
  have a5 := fun n => in4 (m := m) (hO := hO) c t n e hE
  rw [funext a0, funext fun k => funext (a1 k), funext a2, funext a3, funext fun j => funext (a4 j), funext a5]
  rfl

/-- What the output buffer holds after a step is the layer at the step's rows. -/
theorem kept_apply (k : ℕ) : ∀ (h : k < (grid m hO).N) (i : Fin 256) (n : Fin 1024) (r : Fin 1089536),
    r.val = rowNo (adm m hO) ⟨k, h⟩ * 256 + i.val → (kept m hO c k h (ix2 i n) : EReal) = target m c (ix2 r n) := by
  induction k with
  | zero => exact fun h i n r hr => stored_apply c hP ⟨0, h⟩ i n r hr
  | succ k ih =>
    intro h i n r hr
    by_cases hi : idle m hO ⟨k + 1, h⟩ = true
    · refine (congrFun (kept_idle m hO c ⟨k + 1, h⟩ (Nat.succ_ne_zero k) hi) (ix2 i n)).trans ?_
      refine ih (Nat.lt_of_succ_lt h) i n r ?_
      have hs := (steady (hO := hO) hP).keep ⟨k, Nat.lt_of_succ_lt h⟩ ⟨k + 1, h⟩ rfl hi
      have h0 := congrFun ((index5 (adm m hO) ⟨k + 1, h⟩).symm.trans (hs.trans (index5 (adm m hO) ⟨k, Nat.lt_of_succ_lt h⟩))) (0 : Fin 2)
      rw [hr]
      exact congrArg (· * 256 + i.val) h0
    · exact (congrFun (kept_live m hO c ⟨k + 1, h⟩ (Bool.eq_false_iff.mpr hi)) (ix2 i n)).trans (stored_apply c hP ⟨k + 1, h⟩ i n r hr)

/-- The row a block's row is. -/
theorem row_of (t : Fin (grid m hO).N) (i : Fin 256) : ∃ r : Fin 1089536, r.val = rowNo (adm m hO) t * 256 + i.val := by
  have he := hP.expert_lt (ix1 (stepOf (grid0.coords t)))
  have h2 := hP.row_lt (ix1 (stepOf (grid0.coords t)))
  have h3 : rowNo (adm m hO) t < 4256 := by
    show (tables m 0 (ix1 (stepOf (grid0.coords t)))).toNat < 4256
    omega
  exact ⟨⟨rowNo (adm m hO) t * 256 + i.val, by omega⟩, rfl⟩

/-- Every block written back is the layer's. -/
theorem flushed_eq (t : Fin (grid m hO).N) :
    (dats m hO 0 c).flushed (5 : Fin 6) t = (((grid m hO).win (5 : Fin 6)).blk t).view.read (Elt Ideal) (target m c) := by
  refine (after_out m hO c t).trans ?_
  funext y
  obtain ⟨i, n, rfl⟩ : ∃ (i : Fin 256) (n : Fin 1024), y = (ix2 i n : S256x1024.Idx) :=
    ⟨y 0, y 1, funext fun a => by match a with | ⟨0, _⟩ => rfl | ⟨1, _⟩ => rfl⟩
  obtain ⟨r, hr⟩ := row_of hP t i
  exact (kept_apply c hP t.val t.isLt i n r hr).trans (read5 (adm m hO) t (target m c) i n r hr).symm

end Cert.Kernel2Ideal.Expert

end
-- ==== Proof.ExpertWords.lean ====
/- The expert kernel as printed at words and at reals is one program, so that its run at words is the one already made. -/
module

public import proofs.«01_k».proof.Defs
public import proofs.«01_k».proof.Proof.ExpertTables
public import proofs.«01_k».proof.Proof.Gen.Kernel2

@[expose] public section

set_option maxRecDepth 65536

noncomputable section

namespace Cert.Kernel2.Words

open Idealize.ShloMosaic Idealize.SL Idealize.SL.Sem

variable {F : FTy → Type} [FloatOps F]

/-- The two printings' bodies are one, -/
theorem bodies : (@Cert.Kernel2.defs₀ F _ _ : Defs Cert.Kernel2Ideal.nD Cert.Kernel2Ideal.τ Cert.Kernel2Ideal.sig (Elt F) Cert.Kernel2Ideal.Λ₀)
    = @Cert.Kernel2Ideal.defs₀ F _ _ := by
  unfold Cert.Kernel2.defs₀ Cert.Kernel2Ideal.defs₀
  refine congrArg Defs.onTc ?_
  funext l x
  match l, x with
  | 0, (t, s) => exact rfl

/-- and with them the two programs. -/
theorem programs : (@Cert.Kernel2.defs F _ _ : Defs Cert.Kernel2Ideal.nD Cert.Kernel2Ideal.τ Cert.Kernel2Ideal.sig (Elt F) _) = @Cert.Kernel2Ideal.defs F _ _ := by
  unfold Cert.Kernel2.defs Cert.Kernel2Ideal.defs
  exact congrArg (Pipeline.defs _) bodies

/-- A run of the one is a run of the other. -/
theorem transport (m : (ℓ : Loc Cert.Kernel2Ideal.nD Cert.Kernel2Ideal.τ Cert.Kernel2Ideal.sig) → Buf (Elt F) ℓ)
    (g : Dev Cert.Kernel2Ideal.nD → PrngReg) (Q)
    (h : θ_run (@Cert.Kernel2Ideal.defs F _ _) (onTc (τ := Cert.Kernel2Ideal.τ) (Cert.Kernel2Ideal.main (F := F))) ⟨m, fun _ => 0, g⟩ Q) :
    θ_run (@Cert.Kernel2.defs F _ _) (onTc (τ := Cert.Kernel2.τ) (Cert.Kernel2.main (F := F))) ⟨m, fun _ => 0, g⟩ Q := by
  rw [← programs] at h
  exact h

/-- The tables of memories that satisfy the precondition. -/
theorem planned_ideal (m : (ℓ : Loc Cert.Kernel2Ideal.nD Cert.Kernel2Ideal.τ Cert.Kernel2Ideal.sig) → Buf (Elt F) ℓ)
    (h : Cert.Pre_planned.fn (F := F) (m ((0 : Dev Cert.Kernel2Ideal.nD), Proc.devRef .tc Cert.Kernel2Ideal.main_arg0))
      (m ((0 : Dev Cert.Kernel2Ideal.nD), Proc.devRef .tc Cert.Kernel2Ideal.main_arg1)) (m ((0 : Dev Cert.Kernel2Ideal.nD), Proc.devRef .tc Cert.Kernel2Ideal.main_arg2))
      (m ((0 : Dev Cert.Kernel2Ideal.nD), Proc.devRef .tc Cert.Kernel2Ideal.main_arg3)) (m ((0 : Dev Cert.Kernel2Ideal.nD), Proc.devRef .tc Cert.Kernel2Ideal.main_arg4))
      (m ((0 : Dev Cert.Kernel2Ideal.nD), Proc.devRef .tc Cert.Kernel2Ideal.main_arg5)) (m ((0 : Dev Cert.Kernel2Ideal.nD), Proc.devRef .tc Cert.Kernel2Ideal.main_arg6))
      (m ((0 : Dev Cert.Kernel2Ideal.nD), Proc.devRef .tc Cert.Kernel2Ideal.main_arg7)) = fun _ => 1#1) :
    Cert.ExpertPlan.Planned (Cert.Kernel2Ideal.Expert.tables m 0) (Cert.Kernel2Ideal.Expert.tables m 1) (Cert.Kernel2Ideal.Expert.tables m 2) := by
  rw [Cert.Kernel2Ideal.Expert.tables_0, Cert.Kernel2Ideal.Expert.tables_1, Cert.Kernel2Ideal.Expert.tables_2]
  exact Cert.ExpertPlan.of_pre h

/-- The expert kernel at reals ends, leaves its arguments alone and leaves no semaphore up; -/
theorem frame_reals : Cert.quiescent_Kernel2Ideal :=
  fun m g h => Cert.Kernel2Ideal.Expert.frame2 m g (planned_ideal m (h 0))

/-- and so does it at words. -/
theorem frame_words : Cert.quiescent_Kernel2 :=
  fun m g h => transport m g _ (Cert.Kernel2Ideal.Expert.frame2 m g (planned_ideal m (h 0)))

end Cert.Kernel2.Words

end
-- ==== Proof.ExpertResult.lean ====
/- The expert kernel against its reference: equal on every row the tables name. -/
module

public import proofs.«01_k».proof.Proof.ExpertArray
public import proofs.«01_k».proof.Proof.ExpertWords
public import Idealize.ShloMosaic.Lib.Quiescent

@[expose] public section

set_option maxRecDepth 16384

noncomputable section

namespace Cert.Kernel2Ideal.Expert

open Cert.Kernel2Ideal Cert.Kernel2Ideal.Gen Cert.ExpertPlan Idealize.ShloMosaic.ValueIdx Coord
open Idealize.ShloMosaic Idealize.ShloMosaic.TcCoe
open Idealize.SL Idealize.SL.Sem
open Idealize.ShloMosaic.Pipeline (Window Dat)

/-- A block that a step names is written back, at that step or at a later one. -/
theorem written {G : Pipeline.Grid} (w : Window sig G) (ho : w.isOut = true) (k : ℕ) :
    ∀ t : Fin G.N, G.N ≤ t.val + k → ∃ u : Fin G.N, w.flush u = true ∧ w.index u = w.index t := by
  induction k with
  | zero => exact fun t h => absurd t.isLt (by omega)
  | succ k ih =>
    intro t h
    by_cases hf : w.flush t = true
    · exact ⟨t, hf, rfl⟩
    · unfold Window.flush at hf
      rw [ho, Bool.true_and, Bool.or_eq_true, not_or, decide_eq_true_eq, decide_eq_true_eq] at hf
      have hlt : t.val + 1 < G.N := by have := t.isLt; have := hf.1; omega
      have hs : w.index ⟨t.val + 1, hlt⟩ = w.index t := by
        by_contra hne
        exact hf.2 ⟨hlt, hne⟩
      obtain ⟨u, hu, hi⟩ := ih ⟨t.val + 1, hlt⟩ (by show G.N ≤ t.val + 1 + k; omega)
      exact ⟨u, hu, hi.trans hs⟩

variable {m : (ℓ : Loc nD τ sig) → Buf (Elt Ideal) ℓ} {hO : Inside m} (c : Dev nD)

/-- On every row that a table entry names, the result array holds the layer. -/
theorem final (hP : Planned (tables m 0) (tables m 1) (tables m 2)) (r : Fin 1089536) (n : Fin 1024) (i : Fin 656)
    (hi : (tables m 0 (ix1 i)).toNat = r.val / 256) :
    ((dats m hO 0 c).arrAt (5 : Fin 6) (grid m hO).N : S1089536x1024.Idx → EReal) (ix2 r n) = target m c (ix2 r n) := by
  let t : Fin (grid m hO).N := ⟨i.val, lt_of_lt_of_eq i.isLt N_0.symm⟩
  have ht : stepOf (grid0.coords t) = i := Fin.ext (step_val t)
  obtain ⟨u, hf, hu⟩ := written ((grid m hO).win (5 : Fin 6)) rfl (grid m hO).N t (Nat.le_add_left _ _)
  have hrow : rowNo (adm m hO) u = r.val / 256 := by
    have h0 := congrFun ((index5 (adm m hO) u).symm.trans (hu.trans (index5 (adm m hO) t))) (0 : Fin 2)
    refine Eq.trans h0 ?_
    show (tables m 0 (ix1 (stepOf (grid0.coords t)))).toNat = r.val / 256
    rw [ht]; exact hi
  exact (dats m hO 0 c).arrAt_apply_of_mem (5 : Fin 6) (target m c) (fun v _ => flushed_eq c hP v) _ u (ix2 r n) u.isLt hf
    (covered (adm m hO) u ⟨r.val % 256, Nat.mod_lt _ (by decide)⟩ n r (by rw [hrow]; show r.val = r.val / 256 * 256 + r.val % 256; omega))

end Cert.Kernel2Ideal.Expert

namespace Cert.Experts

open Idealize.ShloMosaic Idealize.ShloMosaic.ValueIdx
open Idealize.SL Idealize.SL.Sem

/-- On arguments that agree, the kernel's result is the reference's on every row the tables name. -/
theorem value : Cert.algebraic_Kernel2Ideal_Reference2Ideal_on_routed := by
  intro m g m' g' hpre hagree
  have hP := Cert.Kernel2.Words.planned_ideal m (hpre 0)
  refine ⟨fun c => Cert.Kernel2Ideal.Expert.target m c, ?_, ?_⟩
  · refine (θ_run _ _ _).mono (fun r h c => ⟨fun i hi => ?_, Cert.Kernel2Ideal.Expert.args_kept h.1 c⟩)
      (Cert.Kernel2Ideal.Expert.run g (hO := Cert.Kernel2Ideal.Expert.inside hP) (Cert.Kernel2Ideal.Expert.steady hP))
    obtain rfl : c = 0 := Subsingleton.elim _ _
    obtain ⟨q, n, rfl⟩ : ∃ (q : Fin 1089536) (n : Fin 1024), i = ix2 q n :=
      ⟨i 0, i 1, funext fun a => by match a with | ⟨0, _⟩ => rfl | ⟨1, _⟩ => rfl⟩
    obtain ⟨k, hk, -⟩ := Cert.ExpertPlan.of_mask q n hi
    exact (congrFun ((h.1 0).1 (5 : Fin 6)) (ix2 q n)).trans
      (Cert.Kernel2Ideal.Expert.final 0 hP q n k ((congrArg (fun X => BitVec.toNat (X (ix1 k))) Cert.Kernel2Ideal.Expert.tables_0).trans hk))
  · refine (θ_run _ _ _).mono (fun r h c => ⟨fun i _ => ?_, (h c).2⟩) (Cert.Reference2Ideal.Layer.run_left m' g')
    obtain ⟨-, -, -, a3, a4, a5, a6, a7⟩ := hagree c
    refine congrFun ((h c).1.trans ?_) i
    unfold Cert.Reference2Ideal.Layer.left Cert.Kernel2Ideal.Expert.target
    rw [a3, a4, a5, a6, a7]

/-- The reference ends, leaves its arguments alone and leaves no semaphore up. -/
theorem frame_reference : Cert.quiescent_Reference2Ideal := fun m g _ =>
  (θ_run _ _ _).mono (fun r h => ⟨fun c => (h c).2, sem_eq_zero_of_no_sems rfl r.2⟩) (Cert.Reference2Ideal.Value.run m g)

end Cert.Experts

end
-- ==== Proof.Dense3.lean ====
/- The input projection of the DeltaNet layers: the kernel's array, block by block, is the product. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Coord
public import Idealize.ShloMosaic.Lib.Pipeline.ValueKit
public import Idealize.ShloMosaic.Lib.StableHlo.RunRead
public import Idealize.ShloMosaic.Lib.ValueIdx
public import Idealize.ShloMosaic.Lib.MatmulPlain
public import Idealize.ShloMosaic.Lib.StackMember
public import Idealize.ShloMosaic.Lib.Quiescent

@[expose] public section

noncomputable section

namespace Cert.Kernel3Ideal.Dense

open Cert.Kernel3Ideal Cert.Kernel3Ideal.Gen Idealize.ShloMosaic.TcCoe Idealize.ShloMosaic.ValueIdx Coord
open Idealize.ShloMosaic hiding ix1 ix2 ix3 ix4

/-- One entry of the product of the activations and the weights. -/
def product (X : FVec Ideal S32768x1024 .f32) (W : FVec Ideal S1024x6176 .f32) (r : Fin 32768) (n : Fin 6144) : EReal :=
  ∑ k : Fin 1024, X (ix2 r k) * W (ix2 k (⟨n.val, by omega⟩ : Fin 6176))

/-- A point's block of the product, at an index. -/
theorem block_apply (x0 : Vec Ideal S1024x1024 .f32) (x1 : Vec Ideal S1024x512 .bf16) (i : Fin 1024) (n : Fin 512) :
    (k0_pay1 (F := Ideal) x0 x1 (ix2 i n) : EReal) = ∑ k : Fin 1024, x0 (ix2 i k) * x1 (ix2 k n) := by
  refine (Ideal.matmul_plain_apply none _ _ _ i n).trans ?_
  refine (congrArg₂ (· + ·) Ideal.ofBits_zero_f32 (Finset.sum_congr rfl fun k _ => congrArg₂ (· * ·) rfl ?_)).trans (zero_add _)
  exact congrFun (shapeCast_self x1 shapeCasts_S1024x512_S1024x512) _

variable (m : (ℓ : Loc nD τ sig) → Buf (Elt Ideal) ℓ) (c : Dev nD)

/-- The weights that the call reads, at an index. -/
theorem weights_apply (k : Fin 1024) (n : Fin 6144) :
    (V m c main_v1 (ix2 k n : S1024x6144.Idx) : EReal) = m ((c : Thread nD τ).loc main_arg1) (ix2 k (⟨n.val, by omega⟩ : Fin 6176) : S1024x6176.Idx) := by
  have h : V m c main_v1 = (truncf .bf16 (extractStridedSlice S1024x6144 ![0, 0] (m ((c : Thread nD τ).loc main_arg1) : FVec Ideal S1024x6176 .f32) slices_S1024x6176_S1024x6144_0_0) bitsLt_bf16_f32 : FVec Ideal S1024x6144 .bf16) := by
    show StableHlo.after hostOps0 (fun b => m (c, b)) (Proc.devRef .tc main_v1) = _
    after_reads_simp
  refine (congrFun h _).trans ?_
  exact extractStridedSlice_apply (![0, 0] : Fin 2 → ℕ) (m ((c : Thread nD τ).loc main_arg1) : FVec Ideal S1024x6176 .f32) slices_S1024x6176_S1024x6144_0_0 (ix2 k n) (ix2 k (⟨n.val, by omega⟩ : Fin 6176)) (by intro a; fin_cases a <;> simp)

theorem index0 : ∀ t : Fin cfg0.N, win0_0.index t = ![t.val / 12, 0] :=
  (by decide +kernel : ∀ t : Fin grid0.N, win0_0.index t = ![t.val / 12, 0])
theorem index1 : ∀ t : Fin cfg0.N, win0_1.index t = ![0, t.val % 12] :=
  (by decide +kernel : ∀ t : Fin grid0.N, win0_1.index t = ![0, t.val % 12])
theorem index2 : ∀ t : Fin cfg0.N, win0_2.index t = ![t.val / 12, t.val % 12] :=
  (by decide +kernel : ∀ t : Fin grid0.N, win0_2.index t = ![t.val / 12, t.val % 12])

theorem steps : cfg0.N = 384 := by decide

/-- The row and the column of the array that a point's block holds at an index. -/
def rowOf (t : Fin cfg0.N) (i : Fin 1024) : Fin 32768 := ⟨t.val / 12 * 1024 + i.val, by have := lt_of_lt_of_eq t.isLt steps; omega⟩
def colOf (t : Fin cfg0.N) (n : Fin 512) : Fin 6144 := ⟨t.val % 12 * 512 + n.val, by omega⟩

theorem blk0 (t : Fin cfg0.N) (i k : Fin 1024) : (iblk m c 0 t (ix2 i k) : EReal) = m ((c : Thread nD τ).loc main_arg0) (ix2 (rowOf t i) k) := by
  refine Eq.trans ?_ (congrFun (V_main_arg0 m c) _)
  blk_ext [iblk, index0, rowOf, c2_0, c2_1]

theorem blk1 (t : Fin cfg0.N) (k : Fin 1024) (n : Fin 512) :
    (iblk m c 1 t (ix2 k n) : EReal) = m ((c : Thread nD τ).loc main_arg1) (ix2 k (⟨(colOf t n).val, by have := (colOf t n).isLt; omega⟩ : Fin 6176) : S1024x6176.Idx) := by
  refine Eq.trans ?_ (weights_apply m c k (colOf t n))
  blk_ext [iblk, index1, colOf, c2_0, c2_1]

/-- The product, as the result array. -/
def target : FVec Ideal S32768x6144 .bf16 := fun y =>
  product (m ((c : Thread nD τ).loc main_arg0)) (m ((c : Thread nD τ).loc main_arg1)) (y 0) (y 1)

/-- What a point writes at an index of its block. -/
theorem out_at (t : Fin cfg0.N) (i : Fin 1024) (n : Fin 512) :
    (out0_2 (iblk m c 0 t) (iblk m c 1 t) (ix2 i n) : EReal)
      = product (m ((c : Thread nD τ).loc main_arg0)) (m ((c : Thread nD τ).loc main_arg1)) (rowOf t i) (colOf t n) := by
  have hz : (![0, 0] : Fin 2 → ℕ) = 0 := by funext a; fin_cases a <;> rfl
  unfold out0_2
  rw [View.canon_unit_zero (Val := Elt Ideal) (S := S1024x512) hz]
  refine (block_apply _ _ i n).trans (Finset.sum_congr rfl fun k _ => congrArg₂ (· * ·) ?_ ?_)
  · exact (congrFun (View.ld_unit_zero (Val := Elt Ideal) (e := .f32) (S := S1024x1024) hz _ _) _).trans (blk0 m c t i k)
  · exact (congrFun (View.ld_unit_zero (Val := Elt Ideal) (e := .bf16) (S := S1024x512) hz _ _) _).trans (blk1 m c t k n)

/-- The blocks cover the array. -/
theorem covers : (cfg0.win 2).Covers := by decide +kernel

/-- What a point writes back is its block of the product. -/
theorem after_at (t : Fin cfg0.N) (y : S1024x512.Idx) :
    (out0_2 (iblk m c 0 t) (iblk m c 1 t) y : EReal) = target m c ((win0_2.blk t).view.emb y) := by
  obtain ⟨i, n, rfl⟩ : ∃ (i : Fin 1024) (n : Fin 512), y = ix2 i n := ⟨y 0, y 1, funext fun a => by match a with | ⟨0, _⟩ => rfl | ⟨1, _⟩ => rfl⟩
  refine (out_at m c t i n).trans ?_
  refine congrArg₂ (product (m ((c : Thread nD τ).loc main_arg0)) (m ((c : Thread nD τ).loc main_arg1))) (Fin.ext ?_) (Fin.ext ?_)
  · blk_simp [index2]; rfl
  · blk_simp [index2]; rfl

/-- The array after the run. -/
theorem final : (dats m 0 c).arrAt 2 cfg0.N = target m c := by
  refine (dats m 0 c).arrAt_eq_of_covers 2 _ covers fun t hf y => ?_
  blk_simp
  rw [after0_2]
  exact after_at m c t y

end Cert.Kernel3Ideal.Dense

namespace Cert.Reference3Ideal.Dense

open Cert.Reference3Ideal Cert.Reference3Ideal.Gen Idealize.ShloMosaic.ValueIdx
open Idealize.ShloMosaic hiding ix1 ix2 ix3 ix4

/-- The first 6144 columns of an array. -/
theorem cut_apply (Y : FVec Ideal S32768x6176 .f32) (q : Fin 32768) (n : Fin 6144) :
    (truncf .bf16 (extractStridedSlice S32768x6144 ![0, 0] Y slices_S32768x6176_S32768x6144_0_0) bitsLt_bf16_f32 (ix2 q n) : EReal) = Y (ix2 q (⟨n.val, by omega⟩ : Fin 6176)) := by
  refine extractStridedSlice_apply (![0, 0] : Fin 2 → ℕ) Y slices_S32768x6176_S32768x6144_0_0 (ix2 q n) (ix2 q (⟨n.val, by omega⟩ : Fin 6176)) ?_
  intro a; fin_cases a <;> simp

/-- The reference's array. -/
def result (X : FVec Ideal S32768x1024 .f32) (W : FVec Ideal S1024x6176 .f32) : FVec Ideal S32768x6144 .bf16 :=
  truncf .bf16 (extractStridedSlice S32768x6144 ![0, 0] (Host.dotGeneral dot_S32768x1024_S1024x6176_S32768x6176_1_0_0_1_n_n none X W) slices_S32768x6176_S32768x6144_0_0) bitsLt_bf16_f32

theorem result_apply (X : FVec Ideal S32768x1024 .f32) (W : FVec Ideal S1024x6176 .f32) (q : Fin 32768) (n : Fin 6144) :
    (result X W (ix2 q n) : EReal) = ∑ k : Fin 1024, X (ix2 q k) * W (ix2 k (⟨n.val, by omega⟩ : Fin 6176)) := by
  exact (cut_apply _ q n).trans (StackMember.dotGeneral_plain_apply none X W q _)

end Cert.Reference3Ideal.Dense

namespace Cert.Dense3

open Idealize.ShloMosaic.TcCoe Idealize.ShloMosaic.ValueIdx
open Idealize.ShloMosaic hiding ix1 ix2 ix3 ix4
open Idealize.SL Idealize.SL.Sem

/-- On arguments that agree, the kernel's result array is the reference's. -/
theorem value : Cert.algebraic_Kernel3Ideal_Reference3Ideal := by
  intro m g m' g' _ hagree
  refine ⟨fun c => Cert.Kernel3Ideal.Dense.target m c, ?_, ?_⟩
  · exact (θ_run _ _ _).mono (fun r h c => ⟨(h c).1.trans (Cert.Kernel3Ideal.Dense.final m c), (h c).2⟩) (Cert.Kernel3Ideal.Value.run_blocks m g)
  · refine (θ_run _ _ _).mono (fun r h c => ⟨(h c).1.trans ?_, (h c).2⟩) (Cert.Reference3Ideal.Value.run m' g')
    obtain ⟨a0, a1⟩ := hagree c
    funext y
    obtain ⟨q, n, rfl⟩ : ∃ (q : Fin 32768) (n : Fin 6144), y = ix2 q n :=
      ⟨y 0, y 1, funext fun a => by match a with | ⟨0, _⟩ => rfl | ⟨1, _⟩ => rfl⟩
    rw [a0, a1]
    exact Cert.Reference3Ideal.Dense.result_apply _ _ q n

/-- The kernel, on words and on the extended reals, runs, changes no argument and leaves no semaphore up; -/
theorem frame_words : Cert.quiescent_Kernel3 := fun m g _ => Cert.Kernel3.Gen.frame m g
theorem frame_reals : Cert.quiescent_Kernel3Ideal := fun m g _ => Cert.Kernel3Ideal.Gen.frame m g
/-- so does the reference. -/
theorem frame_reference : Cert.quiescent_Reference3Ideal := fun m g _ =>
  (θ_run _ _ _).mono (fun r h => ⟨fun c => (h c).2, sem_eq_zero_of_no_sems rfl r.2⟩) (Cert.Reference3Ideal.Value.run m g)

end Cert.Dense3

end
-- ==== Proof.Dense4.lean ====
/- The input projection of the stick-breaking layers: the kernel's array, block by block, is the product. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Coord
public import Idealize.ShloMosaic.Lib.Pipeline.ValueKit
public import Idealize.ShloMosaic.Lib.StableHlo.RunRead
public import Idealize.ShloMosaic.Lib.ValueIdx
public import Idealize.ShloMosaic.Lib.MatmulPlain
public import Idealize.ShloMosaic.Lib.StackMember
public import Idealize.ShloMosaic.Lib.Quiescent

@[expose] public section

noncomputable section

namespace Cert.Kernel4Ideal.Dense

open Cert.Kernel4Ideal Cert.Kernel4Ideal.Gen Idealize.ShloMosaic.TcCoe Idealize.ShloMosaic.ValueIdx Coord
open Idealize.ShloMosaic hiding ix1 ix2 ix3 ix4

/-- One entry of the product of the activations and the weights. -/
def product (X : FVec Ideal S32768x1024 .f32) (W : FVec Ideal S1024x3072 .f32) (r : Fin 32768) (n : Fin 3072) : EReal :=
  ∑ k : Fin 1024, X (ix2 r k) * W (ix2 k n)

/-- A point's block of the product, at an index. -/
theorem block_apply (x0 : Vec Ideal S1024x1024 .f32) (x1 : Vec Ideal S1024x512 .bf16) (i : Fin 1024) (n : Fin 512) :
    (k0_pay1 (F := Ideal) x0 x1 (ix2 i n) : EReal) = ∑ k : Fin 1024, x0 (ix2 i k) * x1 (ix2 k n) := by
  refine (Ideal.matmul_plain_apply none _ _ _ i n).trans ?_
  refine (congrArg₂ (· + ·) Ideal.ofBits_zero_f32 (Finset.sum_congr rfl fun k _ => congrArg₂ (· * ·) rfl ?_)).trans (zero_add _)
  exact congrFun (shapeCast_self x1 shapeCasts_S1024x512_S1024x512) _

variable (m : (ℓ : Loc nD τ sig) → Buf (Elt Ideal) ℓ) (c : Dev nD)

/-- The weights that the call reads, at an index. -/
theorem weights_apply (k : Fin 1024) (n : Fin 3072) :
    (V m c main_v0 (ix2 k n : S1024x3072.Idx) : EReal) = m ((c : Thread nD τ).loc main_arg1) (ix2 k n : S1024x3072.Idx) := by
  have h : V m c main_v0 = (truncf .bf16 (m ((c : Thread nD τ).loc main_arg1) : FVec Ideal S1024x3072 .f32) bitsLt_bf16_f32 : FVec Ideal S1024x3072 .bf16) := by
    show StableHlo.after hostOps0 (fun b => m (c, b)) (Proc.devRef .tc main_v0) = _
    after_reads_simp
  refine (congrFun h _).trans ?_
  rfl

theorem index0 : ∀ t : Fin cfg0.N, win0_0.index t = ![t.val / 6, 0] :=
  (by decide +kernel : ∀ t : Fin grid0.N, win0_0.index t = ![t.val / 6, 0])
theorem index1 : ∀ t : Fin cfg0.N, win0_1.index t = ![0, t.val % 6] :=
  (by decide +kernel : ∀ t : Fin grid0.N, win0_1.index t = ![0, t.val % 6])
theorem index2 : ∀ t : Fin cfg0.N, win0_2.index t = ![t.val / 6, t.val % 6] :=
  (by decide +kernel : ∀ t : Fin grid0.N, win0_2.index t = ![t.val / 6, t.val % 6])

theorem steps : cfg0.N = 192 := by decide

/-- The row and the column of the array that a point's block holds at an index. -/
def rowOf (t : Fin cfg0.N) (i : Fin 1024) : Fin 32768 := ⟨t.val / 6 * 1024 + i.val, by have := lt_of_lt_of_eq t.isLt steps; omega⟩
def colOf (t : Fin cfg0.N) (n : Fin 512) : Fin 3072 := ⟨t.val % 6 * 512 + n.val, by omega⟩

theorem blk0 (t : Fin cfg0.N) (i k : Fin 1024) : (iblk m c 0 t (ix2 i k) : EReal) = m ((c : Thread nD τ).loc main_arg0) (ix2 (rowOf t i) k) := by
  refine Eq.trans ?_ (congrFun (V_main_arg0 m c) _)
  blk_ext [iblk, index0, rowOf, c2_0, c2_1]

theorem blk1 (t : Fin cfg0.N) (k : Fin 1024) (n : Fin 512) :
    (iblk m c 1 t (ix2 k n) : EReal) = m ((c : Thread nD τ).loc main_arg1) (ix2 k (colOf t n) : S1024x3072.Idx) := by
  refine Eq.trans ?_ (weights_apply m c k (colOf t n))
  blk_ext [iblk, index1, colOf, c2_0, c2_1]

/-- The product, as the result array. -/
def target : FVec Ideal S32768x3072 .bf16 := fun y =>
  product (m ((c : Thread nD τ).loc main_arg0)) (m ((c : Thread nD τ).loc main_arg1)) (y 0) (y 1)

/-- What a point writes at an index of its block. -/
theorem out_at (t : Fin cfg0.N) (i : Fin 1024) (n : Fin 512) :
    (out0_2 (iblk m c 0 t) (iblk m c 1 t) (ix2 i n) : EReal)
      = product (m ((c : Thread nD τ).loc main_arg0)) (m ((c : Thread nD τ).loc main_arg1)) (rowOf t i) (colOf t n) := by
  have hz : (![0, 0] : Fin 2 → ℕ) = 0 := by funext a; fin_cases a <;> rfl
  unfold out0_2
  rw [View.canon_unit_zero (Val := Elt Ideal) (S := S1024x512) hz]
  refine (block_apply _ _ i n).trans (Finset.sum_congr rfl fun k _ => congrArg₂ (· * ·) ?_ ?_)
  · exact (congrFun (View.ld_unit_zero (Val := Elt Ideal) (e := .f32) (S := S1024x1024) hz _ _) _).trans (blk0 m c t i k)
  · exact (congrFun (View.ld_unit_zero (Val := Elt Ideal) (e := .bf16) (S := S1024x512) hz _ _) _).trans (blk1 m c t k n)

/-- The blocks cover the array. -/
theorem covers : (cfg0.win 2).Covers := by decide +kernel

/-- What a point writes back is its block of the product. -/
theorem after_at (t : Fin cfg0.N) (y : S1024x512.Idx) :
    (out0_2 (iblk m c 0 t) (iblk m c 1 t) y : EReal) = target m c ((win0_2.blk t).view.emb y) := by
  obtain ⟨i, n, rfl⟩ : ∃ (i : Fin 1024) (n : Fin 512), y = ix2 i n := ⟨y 0, y 1, funext fun a => by match a with | ⟨0, _⟩ => rfl | ⟨1, _⟩ => rfl⟩
  refine (out_at m c t i n).trans ?_
  refine congrArg₂ (product (m ((c : Thread nD τ).loc main_arg0)) (m ((c : Thread nD τ).loc main_arg1))) (Fin.ext ?_) (Fin.ext ?_)
  · blk_simp [index2]; rfl
  · blk_simp [index2]; rfl

/-- The array after the run. -/
theorem final : (dats m 0 c).arrAt 2 cfg0.N = target m c := by
  refine (dats m 0 c).arrAt_eq_of_covers 2 _ covers fun t hf y => ?_
  blk_simp
  rw [after0_2]
  exact after_at m c t y

end Cert.Kernel4Ideal.Dense

namespace Cert.Reference4Ideal.Dense

open Cert.Reference4Ideal Cert.Reference4Ideal.Gen Idealize.ShloMosaic.ValueIdx
open Idealize.ShloMosaic hiding ix1 ix2 ix3 ix4

/-- The reference's array. -/
def result (X : FVec Ideal S32768x1024 .f32) (W : FVec Ideal S1024x3072 .f32) : FVec Ideal S32768x3072 .bf16 :=
  truncf .bf16 (Host.dotGeneral dot_S32768x1024_S1024x3072_S32768x3072_1_0_0_1_n_n none X W) bitsLt_bf16_f32

theorem result_apply (X : FVec Ideal S32768x1024 .f32) (W : FVec Ideal S1024x3072 .f32) (q : Fin 32768) (n : Fin 3072) :
    (result X W (ix2 q n) : EReal) = ∑ k : Fin 1024, X (ix2 q k) * W (ix2 k n) := by
  exact StackMember.dotGeneral_plain_apply none X W q n

end Cert.Reference4Ideal.Dense

namespace Cert.Dense4

open Idealize.ShloMosaic.TcCoe Idealize.ShloMosaic.ValueIdx
open Idealize.ShloMosaic hiding ix1 ix2 ix3 ix4
open Idealize.SL Idealize.SL.Sem

/-- On arguments that agree, the kernel's result array is the reference's. -/
theorem value : Cert.algebraic_Kernel4Ideal_Reference4Ideal := by
  intro m g m' g' _ hagree
  refine ⟨fun c => Cert.Kernel4Ideal.Dense.target m c, ?_, ?_⟩
  · exact (θ_run _ _ _).mono (fun r h c => ⟨(h c).1.trans (Cert.Kernel4Ideal.Dense.final m c), (h c).2⟩) (Cert.Kernel4Ideal.Value.run_blocks m g)
  · refine (θ_run _ _ _).mono (fun r h c => ⟨(h c).1.trans ?_, (h c).2⟩) (Cert.Reference4Ideal.Value.run m' g')
    obtain ⟨a0, a1⟩ := hagree c
    funext y
    obtain ⟨q, n, rfl⟩ : ∃ (q : Fin 32768) (n : Fin 3072), y = ix2 q n :=
      ⟨y 0, y 1, funext fun a => by match a with | ⟨0, _⟩ => rfl | ⟨1, _⟩ => rfl⟩
    rw [a0, a1]
    exact Cert.Reference4Ideal.Dense.result_apply _ _ q n

/-- The kernel, on words and on the extended reals, runs, changes no argument and leaves no semaphore up; -/
theorem frame_words : Cert.quiescent_Kernel4 := fun m g _ => Cert.Kernel4.Gen.frame m g
theorem frame_reals : Cert.quiescent_Kernel4Ideal := fun m g _ => Cert.Kernel4Ideal.Gen.frame m g
/-- so does the reference. -/
theorem frame_reference : Cert.quiescent_Reference4Ideal := fun m g _ =>
  (θ_run _ _ _).mono (fun r h => ⟨fun c => (h c).2, sem_eq_zero_of_no_sems rfl r.2⟩) (Cert.Reference4Ideal.Value.run m g)

end Cert.Dense4

end
-- ==== Proof.Regroup.lean ====
/- The regrouping of the gate and up weights: a product with a 0/1 table moves 256 columns, gates first, and is exact. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Coord
public import Idealize.ShloMosaic.Lib.Pipeline.ValueKit
public import Idealize.ShloMosaic.Lib.StableHlo.RunRead
public import Idealize.ShloMosaic.Lib.ValueIdx
public import Idealize.ShloMosaic.Lib.MatmulPlain
public import Idealize.ShloMosaic.Lib.IdealHost
public import Idealize.ShloMosaic.Lib.StackMember
public import Idealize.ShloMosaic.Lib.Quiescent

@[expose] public section

set_option maxRecDepth 16384

noncomputable section

namespace Cert.Kernel5Ideal.Regroup

open Cert.Kernel5Ideal Cert.Kernel5Ideal.Gen Idealize.ShloMosaic.TcCoe Idealize.ShloMosaic.ValueIdx Coord
open Idealize.ShloMosaic hiding ix1 ix2 ix3 ix4 ix5

/-- The column of a pair's group that a regrouped column comes from. -/
def src (n : ℕ) : ℕ := if n < 128 then 2 * n else 2 * (n - 128) + 1
/-- The same over the whole row, group by group. -/
def col (p : Fin 2048) : Fin 2048 := ⟨256 * (p.val / 256) + src (p.val % 256), by unfold src; split <;> omega⟩

theorem src_lt (n : Fin 256) : src n.val < 256 := by unfold src; split <;> omega

/-! ## The table -/

/-- The words of the columns' sources. -/
def words : IVec S256 32 :=
  select (cmpi .slt (iotaInDim S256 32 0) (broadcastInDim S256 ![] bcast_S_S256 (constantI S_ 32 128#32)))
    (muli (broadcastInDim S256 ![] bcast_S_S256 (constantI S_ 32 2#32)) (iotaInDim S256 32 0))
    (addi (muli (broadcastInDim S256 ![] bcast_S_S256 (constantI S_ 32 2#32))
      (subi (iotaInDim S256 32 0) (broadcastInDim S256 ![] bcast_S_S256 (constantI S_ 32 128#32))))
      (broadcastInDim S256 ![] bcast_S_S256 (constantI S_ 32 1#32)))

/-- The table. -/
def table : FVec Ideal S256x256 .bf16 :=
  uitofp .bf16 (cmpi .eq (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 words)))

theorem words_apply (n : Fin 256) : words (ix1 n) = BitVec.ofNat 32 (src n.val) := by
  have h : ∀ n : Fin 256, Scalar.select (IntOp.cmpi .slt (BitVec.ofNat 32 n.val) 128#32) (2#32 * BitVec.ofNat 32 n.val) (2#32 * (BitVec.ofNat 32 n.val - 128#32) + 1#32)
      = BitVec.ofNat 32 (src n.val) := by decide +kernel
  exact h n

theorem equal_word (a b : BitVec 32) : IntOp.cmpi .eq a b = if a = b then 1#1 else 0#1 := by
  by_cases h : a = b
  · simp [IntOp.cmpi, h]
  · have e : (a == b) = false := beq_eq_false_iff_ne.mpr h
    simp [IntOp.cmpi, h, e]

theorem table_apply (k n : Fin 256) : (table (ix2 k n) : EReal) = if k.val = src n.val then 1 else 0 := by
  have e1 : (broadcastInDim S256x256 ![0, 1] bcast_S256x1_S256x256_0_1 (broadcastInDim S256x1 ![0] bcast_S256_S256x1_0 (iotaInDim S256 32 0))) (ix2 k n)
      = BitVec.ofNat 32 k.val :=
    (broadcastInDim_apply _ _ _ _ (ix2 k (0 : Fin 1)) (by intro a; fin_cases a <;> simp)).trans
      ((broadcastInDim_apply _ _ _ _ (ix1 k) (by intro a; fin_cases a; simp)).trans rfl)
  have e2 : (broadcastInDim S256x256 ![0, 1] bcast_S1x256_S256x256_0_1 (broadcastInDim S1x256 ![1] bcast_S256_S1x256_1 words)) (ix2 k n)
      = BitVec.ofNat 32 (src n.val) :=
    (broadcastInDim_apply _ _ _ _ (ix2 (0 : Fin 1) n) (by intro a; fin_cases a <;> simp)).trans
      ((broadcastInDim_apply _ _ _ _ (ix1 n) (by intro a; fin_cases a; simp)).trans (words_apply n))
  have e3 : table (ix2 k n) = ((((if BitVec.ofNat 32 k.val = BitVec.ofNat 32 (src n.val) then 1#1 else 0#1 : BitVec 1).toNat : ℝ)) : EReal) := by
    rw [← e1, ← e2]
    unfold table
    exact congrArg (fun b : BitVec 1 => ((b.toNat : ℝ) : EReal)) (equal_word _ _)
  have hk : (BitVec.ofNat 32 k.val = BitVec.ofNat 32 (src n.val)) ↔ k.val = src n.val := by
    have := src_lt n
    constructor
    · intro h
      have := congrArg BitVec.toNat h
      simp only [BitVec.toNat_ofNat] at this
      omega
    · intro h; rw [h]
  rw [e3]
  by_cases h : k.val = src n.val
  · rw [if_pos h, if_pos (hk.mpr h)]; simp
  · rw [if_neg h, if_neg (fun e => h (hk.mp e))]; simp

/-! ## A point's block -/

/-- A row's 256 columns from an offset on, times a table. -/
theorem piece_apply (off : ℕ) (ho : off + 256 ≤ 2048) (v : FVec Ideal S512x2048 .bf16) (w : FVec Ideal S256x256 .bf16)
    (hs : S512x2048.Slices ![0, off] S512x256) (i : Fin 512) (q : Fin 256) :
    (shapeCast S1x512x256 (truncf .bf16 (matmul dot_S512x256_S256x256_S512x256_1_0_0_1_n_n none (extractStridedSlice S512x256 ![0, off] v hs) w
      (constant S512x256 .f32 0x00000000#32)) bitsLt_bf16_f32) shapeCasts_S512x256_S1x512x256 (ix3 (0 : Fin 1) i q) : EReal)
      = ∑ k : Fin 256, (v (ix2 i (⟨off + k.val, by omega⟩ : Fin 2048)) : EReal) * w (ix2 k q) := by
  refine (shapeCast_apply _ _ _ (ix2 i q) (by
    rw [Shape.rowMajor_val_two, Shape.rowMajor_val_three]; simp [c3_0, c3_1, c3_2, c2_0, c2_1])).trans ?_
  refine (Ideal.matmul_plain_apply none _ _ _ i q).trans ?_
  refine (congrArg₂ (· + ·) Ideal.ofBits_zero_f32 (Finset.sum_congr rfl fun k _ => congrArg₂ (· * ·) ?_ rfl)).trans (zero_add _)
  exact extractStridedSlice_apply _ _ _ _ _ (by intro a; fin_cases a <;> simp)

/-- A product with the table picks one term. -/
theorem pick (f : Fin 256 → EReal) (w : FVec Ideal S256x256 .bf16) (q : Fin 256)
    (hw : ∀ k : Fin 256, (w (ix2 k q) : EReal) = if k.val = src q.val then 1 else 0) :
    ∑ k : Fin 256, f k * w (ix2 k q) = f ⟨src q.val, src_lt q⟩ := by
  rw [Finset.sum_eq_single (⟨src q.val, src_lt q⟩ : Fin 256)]
  · rw [hw, if_pos rfl, mul_one]
  · intro k _ hk
    rw [hw, if_neg (fun e => hk (Fin.ext e)), mul_zero]
  · intro h; exact absurd (Finset.mem_univ _) h

/-- What a point's block holds. -/
def block (x0 : Vec Ideal S1x1x512x2048 .f32) : Vec Ideal S1x512x2048 .bf16 := fun y => x0 (ix4 (0 : Fin 1) (0 : Fin 1) (y 1 : Fin 512) (col (y 2)))

theorem rows_apply (x0 : Vec Ideal S1x1x512x2048 .f32) (i : Fin 512) (p : Fin 2048) :
    (k0_pay5 (F := Ideal) x0 (ix2 i p) : EReal) = x0 (ix4 (0 : Fin 1) (0 : Fin 1) i p) :=
  shapeCast_apply _ _ _ _ (by
    rw [Shape.rowMajor_val_two, Shape.rowMajor_val_four]; simp [c4_0, c4_1, c4_2, c4_3, c2_0, c2_1])

/-- A piece is its part of the block. -/
theorem piece_block (off : ℕ) (g : Fin 8) (hg : off = 256 * g.val) (x0 : Vec Ideal S1x1x512x2048 .f32) (w : FVec Ideal S256x256 .bf16)
    (hw : ∀ k n : Fin 256, (w (ix2 k n) : EReal) = if k.val = src n.val then 1 else 0)
    (hs : S512x2048.Slices ![0, off] S512x256) (hr : ∀ a, (![0, 0, off] : Fin 3 → ℕ) a + S1x512x256.size a ≤ S1x512x2048.size a) (x : S1x512x256.Idx) :
    (shapeCast S1x512x256 (truncf .bf16 (matmul dot_S512x256_S256x256_S512x256_1_0_0_1_n_n none (extractStridedSlice S512x256 ![0, off] (k0_pay5 (F := Ideal) x0) hs) w
      (constant S512x256 .f32 0x00000000#32)) bitsLt_bf16_f32) shapeCasts_S512x256_S1x512x256 x : EReal)
      = block x0 ((Rect.unit (s := S1x512x2048) ![0, 0, off] S1x512x256.size hr).emb x) := by
  obtain ⟨z, i, q, rfl⟩ : ∃ (z : Fin 1) (i : Fin 512) (q : Fin 256), x = ix3 z i q :=
    ⟨x 0, x 1, x 2, funext fun a => by match a with | ⟨0, _⟩ => rfl | ⟨1, _⟩ => rfl | ⟨2, _⟩ => rfl⟩
  obtain rfl := Subsingleton.elim z 0
  refine (piece_apply off (by omega) _ w hs i q).trans ?_
  refine (pick _ w q fun k => hw k q).trans ?_
  refine (rows_apply x0 _ _).trans ?_
  unfold block
  refine congrArg x0 (funext fun a => Fin.ext ?_)
  have hq : ((Rect.unit (s := S1x512x2048) ![0, 0, off] S1x512x256.size hr).emb (ix3 (0 : Fin 1) i q) 2).val = off + q.val := by
    show off + 1 * q.val = off + q.val
    omega
  have hi : ((Rect.unit (s := S1x512x2048) ![0, 0, off] S1x512x256.size hr).emb (ix3 (0 : Fin 1) i q) 1).val = i.val := by
    show 0 + 1 * i.val = i.val
    omega
  match a with
  | ⟨0, _⟩ => rfl
  | ⟨1, _⟩ => rfl
  | ⟨2, _⟩ => exact hi.symm
  | ⟨3, _⟩ =>
    show off + src q.val = 256 * (_ / 256) + src (_ % 256)
    rw [hq]
    have h1 : (off + q.val) / 256 = g.val := by omega
    have h2 : (off + q.val) % 256 = q.val := by omega
    rw [h1, h2, hg]

theorem out_eq (x0 : Vec Ideal S1x1x512x2048 .f32) (x1 : Vec Ideal S256x256 .bf16)
    (hw : ∀ k n : Fin 256, (x1 (ix2 k n) : EReal) = if k.val = src n.val then 1 else 0) : out0_2 (F := Ideal) x0 x1 = block x0 := by
  have hl0 : View.ld x0 r0_0 = x0 := View.ld_unit_zero (Val := Elt Ideal) (e := .f32) (S := S1x1x512x2048) (by funext a; fin_cases a <;> rfl) _ _
  have hl1 : View.ld x1 r0_1 = x1 := View.ld_unit_zero (Val := Elt Ideal) (e := .bf16) (S := S256x256) (by funext a; fin_cases a <;> rfl) _ _
  have hc : k0_pay6 (F := Ideal) x1 = x1 := shapeCast_self x1 shapeCasts_S256x256_S256x256
  have hw' : ∀ k n : Fin 256, (k0_pay6 (F := Ideal) x1 (ix2 k n) : EReal) = if k.val = src n.val then 1 else 0 := fun k n => (congrFun hc _).trans (hw k n)
  funext y
  unfold out0_2 k0_pay12 k0_pay13
  rw [hl0, hl1]
  refine View.canon_apply_of_pieces (Val := Elt Ideal) (S := S1x512x2048) (e := .bf16) (block x0) _ ?_ y ?_
  · intro p hp x
    simp only [List.mem_cons, List.not_mem_nil, or_false] at hp
    rcases hp with rfl | rfl | rfl | rfl | rfl | rfl | rfl | rfl
    · exact piece_block 1792 7 rfl x0 _ hw' slices_S512x2048_o0_1792_S512x256 inb_S1x512x2048_S1x512x256_0_0_1792 x
    · exact piece_block 1536 6 rfl x0 _ hw' slices_S512x2048_o0_1536_S512x256 inb_S1x512x2048_S1x512x256_0_0_1536 x
    · exact piece_block 1280 5 rfl x0 _ hw' slices_S512x2048_o0_1280_S512x256 inb_S1x512x2048_S1x512x256_0_0_1280 x
    · exact piece_block 1024 4 rfl x0 _ hw' slices_S512x2048_o0_1024_S512x256 inb_S1x512x2048_S1x512x256_0_0_1024 x
    · exact piece_block 768 3 rfl x0 _ hw' slices_S512x2048_o0_768_S512x256 inb_S1x512x2048_S1x512x256_0_0_768 x
    · exact piece_block 512 2 rfl x0 _ hw' slices_S512x2048_o0_512_S512x256 inb_S1x512x2048_S1x512x256_0_0_512 x
    · exact piece_block 256 1 rfl x0 _ hw' slices_S512x2048_o0_256_S512x256 inb_S1x512x2048_S1x512x256_0_0_256 x
    · exact piece_block 0 0 rfl x0 _ hw' slices_S512x2048_o0_0_S512x256 inb_S1x512x2048_S1x512x256_0_0_0 x
  · have h2 : (y 2).val < 2048 := (y 2).isLt
    have h1 : (y 1).val < 512 := (y 1).isLt
    have h0 : (y 0).val < 1 := (y 0).isLt
    have hm : ∀ (off : ℕ) (hr : ∀ a, (![0, 0, off] : Fin 3 → ℕ) a + S1x512x256.size a ≤ S1x512x2048.size a), off ≤ (y 2).val → (y 2).val < off + 256 →
        y ∈ (Rect.unit (s := S1x512x2048) ![0, 0, off] S1x512x256.size hr).set := by
      intro off hr ha hb
      refine Rect.mem_set_unit.mpr fun a => ?_
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨ha, hb⟩
    have : (y 2).val < 256 ∨ (256 ≤ (y 2).val ∧ (y 2).val < 512) ∨ (512 ≤ (y 2).val ∧ (y 2).val < 768) ∨ (768 ≤ (y 2).val ∧ (y 2).val < 1024)
        ∨ (1024 ≤ (y 2).val ∧ (y 2).val < 1280) ∨ (1280 ≤ (y 2).val ∧ (y 2).val < 1536) ∨ (1536 ≤ (y 2).val ∧ (y 2).val < 1792) ∨ 1792 ≤ (y 2).val := by omega
    rcases this with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm 0 inb_S1x512x2048_S1x512x256_0_0_0 (Nat.zero_le _) h⟩
    · exact ⟨_, List.mem_cons_of_mem _ (List.mem_cons_of_mem _ (List.mem_cons_of_mem _ (List.mem_cons_of_mem _ (List.mem_cons_of_mem _ (List.mem_cons_of_mem _ (List.mem_cons_self)))))), hm 256 inb_S1x512x2048_S1x512x256_0_0_256 h.1 h.2⟩
    · exact ⟨_, List.mem_cons_of_mem _ (List.mem_cons_of_mem _ (List.mem_cons_of_mem _ (List.mem_cons_of_mem _ (List.mem_cons_of_mem _ (List.mem_cons_self))))), hm 512 inb_S1x512x2048_S1x512x256_0_0_512 h.1 h.2⟩
    · exact ⟨_, List.mem_cons_of_mem _ (List.mem_cons_of_mem _ (List.mem_cons_of_mem _ (List.mem_cons_of_mem _ (List.mem_cons_self)))), hm 768 inb_S1x512x2048_S1x512x256_0_0_768 h.1 h.2⟩
    · exact ⟨_, List.mem_cons_of_mem _ (List.mem_cons_of_mem _ (List.mem_cons_of_mem _ (List.mem_cons_self))), hm 1024 inb_S1x512x2048_S1x512x256_0_0_1024 h.1 h.2⟩
    · exact ⟨_, List.mem_cons_of_mem _ (List.mem_cons_of_mem _ (List.mem_cons_self)), hm 1280 inb_S1x512x2048_S1x512x256_0_0_1280 h.1 h.2⟩
    · exact ⟨_, List.mem_cons_of_mem _ (List.mem_cons_self), hm 1536 inb_S1x512x2048_S1x512x256_0_0_1536 h.1 h.2⟩
    · exact ⟨_, List.mem_cons_self, hm 1792 inb_S1x512x2048_S1x512x256_0_0_1792 h (by omega)⟩

/-! ## The array -/

variable (m : (ℓ : Loc nD τ sig) → Buf (Elt Ideal) ℓ) (c : Dev nD)

theorem entry_table : V m c main_v17 = table := by
  unfold table words
  show StableHlo.after (List.flatten [hostOps0, hostOps0_1, hostOps0_2]) (fun b => m (c, b)) (Proc.devRef .tc main_v17) = _
  simp only [List.flatten_cons, List.flatten_nil, List.append_nil]
  after_reads_simp
  rfl

theorem index0 : ∀ t : Fin cfg0.N, win0_0.index t = ![0, t.val / 2, t.val % 2, 0] :=
  (by decide +kernel : ∀ t : Fin grid0.N, win0_0.index t = ![0, t.val / 2, t.val % 2, 0])
theorem index1 : ∀ t : Fin cfg0.N, win0_1.index t = ![0, 0] :=
  (by decide +kernel : ∀ t : Fin grid0.N, win0_1.index t = ![0, 0])
theorem index2 : ∀ t : Fin cfg0.N, win0_2.index t = ![t.val / 2, t.val % 2, 0] :=
  (by decide +kernel : ∀ t : Fin grid0.N, win0_2.index t = ![t.val / 2, t.val % 2, 0])

theorem steps : cfg0.N = 64 := by decide

def expertOf (t : Fin cfg0.N) : Fin 32 := ⟨t.val / 2, by have := lt_of_lt_of_eq t.isLt steps; omega⟩
def rowOf (t : Fin cfg0.N) (i : Fin 512) : Fin 1024 := ⟨t.val % 2 * 512 + i.val, by omega⟩

theorem blk0 (t : Fin cfg0.N) (i : Fin 512) (p : Fin 2048) : (iblk m c 0 t (ix4 (0 : Fin 1) (0 : Fin 1) i p) : EReal)
    = m ((c : Thread nD τ).loc main_arg0) (ix4 (0 : Fin 4) (expertOf t) (rowOf t i) p) := by
  refine Eq.trans ?_ (congrFun (V_main_arg0 m c) _)
  blk_ext [iblk, index0, expertOf, rowOf, c4_0, c4_1, c4_2, c4_3]

theorem blk1 (t : Fin cfg0.N) (k n : Fin 256) : (iblk m c 1 t (ix2 k n) : EReal) = (if k.val = src n.val then 1 else 0 : EReal) := by
  refine Eq.trans ?_ ((congrFun (entry_table m c) (ix2 k n)).trans (table_apply k n))
  blk_ext [iblk, index1, c2_0, c2_1]

/-- The regrouped weights, as the result array. -/
def target : FVec Ideal S32x1024x2048 .bf16 := fun y =>
  m ((c : Thread nD τ).loc main_arg0) (ix4 (0 : Fin 4) (y 0 : Fin 32) (y 1 : Fin 1024) (col (y 2)))

theorem after_at (t : Fin cfg0.N) (y : S1x512x2048.Idx) :
    (out0_2 (iblk m c 0 t) (iblk m c 1 t) y : EReal) = target m c ((win0_2.blk t).view.emb y) := by
  obtain ⟨z, i, p, rfl⟩ : ∃ (z : Fin 1) (i : Fin 512) (p : Fin 2048), y = ix3 z i p :=
    ⟨y 0, y 1, y 2, funext fun a => by match a with | ⟨0, _⟩ => rfl | ⟨1, _⟩ => rfl | ⟨2, _⟩ => rfl⟩
  obtain rfl := Subsingleton.elim z 0
  refine (congrFun (out_eq _ _ fun k n => blk1 m c t k n) _).trans ?_
  refine (blk0 m c t i (col p)).trans ?_
  unfold target
  have h0 : (((win0_2.blk t).view.emb (ix3 (0 : Fin 1) i p)) 0).val = (expertOf t).val := by
    blk_simp [index2]; rfl
  have h1 : (((win0_2.blk t).view.emb (ix3 (0 : Fin 1) i p)) 1).val = (rowOf t i).val := by
    blk_simp [index2]; rfl
  have h2 : (((win0_2.blk t).view.emb (ix3 (0 : Fin 1) i p)) 2).val = p.val := by
    blk_simp [index2]; rfl
  refine congrArg (m ((c : Thread nD τ).loc main_arg0)) (funext fun a => Fin.ext ?_)
  match a with
  | ⟨0, _⟩ => rfl
  | ⟨1, _⟩ => exact h0.symm
  | ⟨2, _⟩ => exact h1.symm
  | ⟨3, _⟩ => exact congrArg (fun p : Fin 2048 => (col p).val) (Fin.ext h2.symm : p = _)

/-- The blocks cover the array. -/
theorem covers : (cfg0.win 2).Covers := by decide +kernel

/-- The array after the run. -/
theorem final : (dats m 0 c).arrAt 2 cfg0.N = target m c := by
  refine (dats m 0 c).arrAt_eq_of_covers 2 _ covers fun t hf y => ?_
  blk_simp
  rw [after0_2]
  exact after_at m c t y

end Cert.Kernel5Ideal.Regroup

namespace Cert.Reference5Ideal.Regroup

open Cert.Reference5Ideal Cert.Reference5Ideal.Gen Idealize.ShloMosaic.ValueIdx Coord
open Idealize.ShloMosaic hiding ix1 ix2 ix3 ix4 ix5

/-- The reference's array. -/
def moved (A : FVec Ideal S4x32x1024x2048 .f32) : FVec Ideal S32x1024x2048 .f32 :=
  shapeCast _ (transpose S32x1024x8x2x128 [0, 1, 2, 4, 3] (shapeCast _ (shapeCast _
    (extractStridedSlice S1x32x1024x2048 ![0, 0, 0, 0] A slices_S4x32x1024x2048_S1x32x1024x2048_0_0_0_0)
    shapeCasts_S1x32x1024x2048_S32x1024x2048) shapeCasts_S32x1024x2048_S32x1024x8x128x2)
    transposes_S32x1024x8x128x2_S32x1024x8x2x128_0_1_2_4_3) shapeCasts_S32x1024x8x2x128_S32x1024x2048
def result (A : FVec Ideal S4x32x1024x2048 .f32) : FVec Ideal S32x1024x2048 .bf16 := truncf .bf16 (moved A) bitsLt_bf16_f32

theorem result_apply (A : FVec Ideal S4x32x1024x2048 .f32) (e : Fin 32) (k : Fin 1024) (p : Fin 2048) :
    (result A (ix3 e k p) : EReal) = A (ix4 (0 : Fin 4) e k (Cert.Kernel5Ideal.Regroup.col p)) := by
  have hs : Cert.Kernel5Ideal.Regroup.src (p.val % 256) = 2 * (p.val % 128) + p.val / 128 % 2 := by
    unfold Cert.Kernel5Ideal.Regroup.src; split <;> omega
  show moved A (ix3 e k p) = _
  unfold moved
  refine (shapeCast_apply _ _ _ (ix5 e k (⟨p.val / 256, by omega⟩ : Fin 8) (⟨p.val / 128 % 2, by omega⟩ : Fin 2) (⟨p.val % 128, by omega⟩ : Fin 128)) (by
    rw [Shape.rowMajor_val_three, Shape.rowMajor_val_five]; simp [c3_0, c3_1, c3_2, ix5]; omega)).trans ?_
  refine (transpose_apply _ _ _ _ (ix5 e k (⟨p.val / 256, by omega⟩ : Fin 8) (⟨p.val % 128, by omega⟩ : Fin 128) (⟨p.val / 128 % 2, by omega⟩ : Fin 2)) (by
    intro b; fin_cases b <;> rfl)).trans ?_
  refine (shapeCast_apply _ _ _ (ix3 e k (Cert.Kernel5Ideal.Regroup.col p)) (by
    rw [Shape.rowMajor_val_three, Shape.rowMajor_val_five]; simp [c3_0, c3_1, c3_2, ix5, Cert.Kernel5Ideal.Regroup.col, hs]; omega)).trans ?_
  refine (shapeCast_apply _ _ _ (ix4 (0 : Fin 1) e k (Cert.Kernel5Ideal.Regroup.col p)) (by
    rw [Shape.rowMajor_val_three, Shape.rowMajor_val_four]; simp [c3_0, c3_1, c3_2, c4_0, c4_1, c4_2, c4_3])).trans ?_
  exact extractStridedSlice_apply _ _ _ _ _ (by intro a; fin_cases a <;> simp)

end Cert.Reference5Ideal.Regroup

namespace Cert.Regroup

open Idealize.ShloMosaic.TcCoe Idealize.ShloMosaic.ValueIdx
open Idealize.ShloMosaic hiding ix1 ix2 ix3 ix4 ix5
open Idealize.SL Idealize.SL.Sem

/-- On arguments that agree, the kernel's result array is the reference's. -/
theorem value : Cert.algebraic_Kernel5Ideal_Reference5Ideal := by
  intro m g m' g' _ hagree
  refine ⟨fun c => Cert.Kernel5Ideal.Regroup.target m c, ?_, ?_⟩
  · exact (θ_run _ _ _).mono (fun r h c => ⟨(h c).1.trans (Cert.Kernel5Ideal.Regroup.final m c), (h c).2⟩) (Cert.Kernel5Ideal.Value.run_blocks m g)
  · refine (θ_run _ _ _).mono (fun r h c => ⟨(h c).1.trans ?_, (h c).2⟩) (Cert.Reference5Ideal.Value.run m' g')
    have a0 := hagree c
    funext y
    obtain ⟨e, k, p, rfl⟩ : ∃ (e : Fin 32) (k : Fin 1024) (p : Fin 2048), y = ix3 e k p :=
      ⟨y 0, y 1, y 2, funext fun a => by match a with | ⟨0, _⟩ => rfl | ⟨1, _⟩ => rfl | ⟨2, _⟩ => rfl⟩
    rw [a0]
    exact Cert.Reference5Ideal.Regroup.result_apply _ e k p

/-- The kernel, on words and on the extended reals, runs, changes no argument and leaves no semaphore up; -/
theorem frame_words : Cert.quiescent_Kernel5 := fun m g _ => Cert.Kernel5.Gen.frame m g
theorem frame_reals : Cert.quiescent_Kernel5Ideal := fun m g _ => Cert.Kernel5Ideal.Gen.frame m g
/-- so does the reference. -/
theorem frame_reference : Cert.quiescent_Reference5Ideal := fun m g _ =>
  (θ_run _ _ _).mono (fun r h => ⟨fun c => (h c).2, sem_eq_zero_of_no_sems rfl r.2⟩) (Cert.Reference5Ideal.Value.run m g)

end Cert.Regroup

end
-- ==== Proof.Gates.lean ====
/- The gates: the sums over a chunk that the kernel takes in two halves are the sums themselves. -/
module

public import proofs.«01_k».proof.Proof.Coord
public import Idealize.ShloMosaic.PureOps.Ideal
public import Idealize.ShloMosaic.Lib.IdealHost
public import Mathlib.Data.EReal.Operations
public import Mathlib.Logic.Equiv.Fin.Basic
public import Mathlib.Algebra.BigOperators.Group.Finset.Sigma
public import Mathlib.Data.Fintype.BigOperators

@[expose] public section

noncomputable section

namespace Cert.Gates

open Idealize.ShloMosaic Coord

/-- The logistic function, as a quotient. -/
def logistic (a : EReal) : EReal := Ideal.div 1 (1 + Ideal.exp (-a))
/-- The soft plus. -/
def soft (t : EReal) : EReal := max t 0 + Ideal.log1p (Ideal.exp (-(max t (-t))))
/-- A log decay. -/
def loss (a t : EReal) : EReal := -(Ideal.exp a) * soft t

theorem exp_nonneg (x : EReal) : 0 ≤ Ideal.exp x := by
  induction x using EReal.rec with
  | bot => exact le_refl _
  | top => exact le_top
  | coe r => exact EReal.coe_nonneg.mpr (Real.exp_pos r).le

theorem log1p_nonneg (x : EReal) (hx : 0 ≤ x) : 0 ≤ Ideal.log1p x := by
  unfold Ideal.log1p
  induction x using EReal.rec with
  | bot => exact absurd hx (by simp)
  | top => rw [EReal.add_top_of_ne_bot (by decide)]; exact le_top
  | coe r =>
    have hr : 0 ≤ r := EReal.coe_nonneg.mp hx
    have e : (1 : EReal) + (r : EReal) = ((1 + r : ℝ) : EReal) := by push_cast; rfl
    rw [e]
    show 0 ≤ (if (1 + r) ≤ 0 then (⊥ : EReal) else ((Real.log (1 + r) : ℝ) : EReal))
    rw [if_neg (by linarith)]
    exact EReal.coe_nonneg.mpr (Real.log_nonneg (by linarith))

theorem soft_nonneg (t : EReal) : 0 ≤ soft t :=
  add_nonneg (le_max_right _ _) (log1p_nonneg _ (exp_nonneg _))

/-- A log decay is never the positive infinity. -/
theorem loss_ne_top (a t : EReal) : loss a t ≠ ⊤ := by
  unfold loss
  have h : 0 ≤ Ideal.exp a * soft t := mul_nonneg (exp_nonneg a) (soft_nonneg t)
  rw [EReal.neg_mul]
  intro e
  have : Ideal.exp a * soft t = ⊥ := by rw [← neg_neg (Ideal.exp a * soft t), e]; rfl
  rw [this] at h
  exact absurd h (by simp)

/-- A value and what is left of it after itself: the value, unless it is the positive infinity. -/
theorem halves (g : EReal) (h : g ≠ ⊤) : g + (g - g) = g := by
  induction g using EReal.rec with
  | bot => exact EReal.bot_add _
  | top => exact absurd rfl h
  | coe r => rw [← EReal.coe_sub, sub_self, EReal.coe_zero, add_zero]

/-- A chunk's sum in two halves. -/
theorem split_sum {N : ℕ} (T g : Fin N → EReal) (hT : ∀ j, T j = 0 ∨ T j = 1) (hg : ∀ j, g j ≠ ⊤) :
    (∑ j, T j * g j) + ∑ j, T j * (g j - g j) = ∑ j, T j * g j := by
  rw [← Finset.sum_add_distrib]
  refine Finset.sum_congr rfl fun j _ => ?_
  rcases hT j with h | h
  · rw [h, zero_mul, zero_mul, add_zero]
  · rw [h, one_mul, one_mul, halves _ (hg j)]

/-- The rows of a tile up to a row in its chunk. -/
theorem chunk_sum (r : Fin 512) (g : Fin 512 → EReal) :
    (∑ j : Fin 512, (if j.val / 64 = r.val / 64 ∧ j.val ≤ r.val then (1 : EReal) else 0) * g j)
      = ∑ s : Fin 64, if s.val ≤ r.val % 64 then g (⟨64 * (r.val / 64) + s.val, by omega⟩ : Fin 512) else 0 := by
  have hr := r.isLt
  rw [← Equiv.sum_comp (finProdFinEquiv (m := 8) (n := 64)) (fun j : Fin 512 => (if j.val / 64 = r.val / 64 ∧ j.val ≤ r.val then (1 : EReal) else 0) * g j),
    Fintype.sum_prod_type, Finset.sum_eq_single (⟨r.val / 64, by omega⟩ : Fin 8)]
  · refine Finset.sum_congr rfl fun s _ => ?_
    have hv : (finProdFinEquiv (m := 8) (n := 64) (⟨r.val / 64, by omega⟩, s)).val = s.val + 64 * (r.val / 64) := rfl
    have hs := s.isLt
    have he : (finProdFinEquiv (m := 8) (n := 64) (⟨r.val / 64, by omega⟩, s) : Fin 512) = (⟨64 * (r.val / 64) + s.val, by omega⟩ : Fin 512) :=
      Fin.ext (by rw [hv]; show s.val + 64 * (r.val / 64) = 64 * (r.val / 64) + s.val; omega)
    rw [he]
    by_cases h : s.val ≤ r.val % 64
    · rw [if_pos h, if_pos (by constructor <;> (show _ ) <;> simp only [] <;> omega), one_mul]
    · rw [if_neg h, if_neg (by rintro ⟨_, h2⟩; simp only [] at h2; omega), zero_mul]
  · intro b _ hb
    refine Finset.sum_eq_zero fun s _ => ?_
    have hv : (finProdFinEquiv (m := 8) (n := 64) (b, s)).val = s.val + 64 * b.val := rfl
    have hs := s.isLt
    rw [if_neg (by rintro ⟨h1, _⟩; rw [hv] at h1; exact hb (Fin.ext (by show b.val = r.val / 64; omega))), zero_mul]
  · intro h; exact absurd (Finset.mem_univ _) h

/-- A left fold of sums. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window of 64 that ends at a position. -/
theorem window_sum (t : ℕ) (ht : t < 64) (x : ℕ → EReal) :
    (∑ w : Fin 64, if 63 ≤ t + w.val then x (t + w.val - 63) else 0) = ∑ s : Fin 64, if s.val ≤ t then x s.val else 0 := by
  rw [← Finset.sum_filter, ← Finset.sum_filter]
  refine Finset.sum_bij' (fun w hw => (⟨t + w.val - 63, by have := w.isLt; omega⟩ : Fin 64))
    (fun s hs => (⟨s.val + 63 - t, by have := (Finset.mem_filter.mp hs).2; omega⟩ : Fin 64)) ?_ ?_ ?_ ?_ ?_
  · intro w hw
    have h := (Finset.mem_filter.mp hw).2
    exact Finset.mem_filter.mpr ⟨Finset.mem_univ _, by show t + w.val - 63 ≤ t; omega⟩
  · intro s hs
    have h := (Finset.mem_filter.mp hs).2
    exact Finset.mem_filter.mpr ⟨Finset.mem_univ _, by show 63 ≤ t + (s.val + 63 - t); omega⟩
  · intro w hw
    have h := (Finset.mem_filter.mp hw).2
    exact Fin.ext (by show t + w.val - 63 + 63 - t = w.val; omega)
  · intro s hs
    have h := (Finset.mem_filter.mp hs).2
    exact Fin.ext (by show t + (s.val + 63 - t) - 63 = s.val; omega)
  · intro w hw
    rfl

end Cert.Gates

end
-- ==== Proof.GatesBlock.lean ====
/- The gates over the reals: a point's two blocks at an index. -/
module

public import proofs.«01_k».proof.Proof.Gates
public import proofs.«01_k».proof.Proof.Gen.Kernel6Ideal.Frame
public import Idealize.ShloMosaic.Lib.Pipeline.ValueKit
public import Idealize.ShloMosaic.Lib.StableHlo.RunRead
public import Idealize.ShloMosaic.Lib.ValueIdx
public import Idealize.ShloMosaic.Lib.MatmulPlain
public import Idealize.ShloMosaic.Lib.IdealHost

@[expose] public section

noncomputable section

namespace Cert.Kernel6Ideal.Gates

open Cert.Kernel6Ideal Cert.Kernel6Ideal.Gen Idealize.ShloMosaic.TcCoe Idealize.ShloMosaic.ValueIdx Coord
open Idealize.ShloMosaic hiding ix1 ix2 ix3 ix4
open Cert.Gates

/-- The lanes of a row: sixteen write strengths, sixteen log decays, zeros. -/
def lane (p a d : EReal) (n : ℕ) : EReal := if n < 16 then logistic p else if n < 32 then loss a (p + d) else 0

theorem low_word : ∀ n : Fin 128, IntOp.cmpi .slt (BitVec.ofNat 32 n.val) 16#32 = if n.val < 16 then 1#1 else 0#1 := by decide
theorem mid_word : ∀ n : Fin 128, IntOp.cmpi .slt (BitVec.ofNat 32 n.val) 32#32 = if n.val < 32 then 1#1 else 0#1 := by decide

theorem select_word {α : Type} (p : Prop) [Decidable p] (w : BitVec 1) (hw : w = if p then 1#1 else 0#1) (a b : α) :
    Scalar.select w a b = if p then a else b := by
  subst hw
  by_cases h : p
  · rw [if_pos h, if_pos h]; rfl
  · rw [if_neg h, if_neg h]; rfl

/-- The product of a block of activations and the gates' weights. -/
def prodBlock (x0 : Vec Ideal S512x1024 .f32) (x1 : Vec Ideal S1024x128 .bf16) : FVec Ideal S512x128 .f32 :=
  matmul dot_S512x1024_S1024x128_S512x128_1_0_0_1_n_n none (truncf .bf16 x0 bitsLt_bf16_f32 : FVec Ideal S512x1024 .bf16) (shapeCast S1024x128 x1 shapeCasts_S1024x128_S1024x128 : FVec Ideal S1024x128 .bf16)
    (constant S512x128 .f32 0x00000000#32)

theorem prodBlock_apply (x0 : Vec Ideal S512x1024 .f32) (x1 : Vec Ideal S1024x128 .bf16) (r : Fin 512) (n : Fin 128) :
    (prodBlock x0 x1 (ix2 r n) : EReal) = ∑ k : Fin 1024, x0 (ix2 r k) * x1 (ix2 k n) := by
  refine (Ideal.matmul_plain_apply none _ _ _ r n).trans ?_
  refine (congrArg₂ (· + ·) Ideal.ofBits_zero_f32 (Finset.sum_congr rfl fun k _ => congrArg₂ (· * ·) rfl ?_)).trans (zero_add _)
  exact congrFun (shapeCast_self x1 shapeCasts_S1024x128_S1024x128) _

theorem row_apply (v : Vec Ideal S1x128 .f32) (r : Fin 512) (n : Fin 128) :
    (broadcastTo S512x128 v broadcasts_S1x128_S512x128 (ix2 r n) : EReal) = v (ix2 (0 : Fin 1) n) := by
  refine congrArg v (funext fun a => Fin.ext ?_)
  match a with
  | ⟨0, _⟩ => rfl
  | ⟨1, _⟩ => rfl

/-- The word of a lane. -/
theorem lane_word (r : Fin 512) (n : Fin 128) : iota .tc S512x128 32 [1] iota_S512x128_d1_w32 (ix2 r n) = BitVec.ofNat 32 n.val := by
  simp [iota]

/-- The logits of the decays. -/
def logits (x0 : Vec Ideal S512x1024 .f32) (x1 : Vec Ideal S1024x128 .bf16) (x3 : Vec Ideal S1x128 .f32) : FVec Ideal S512x128 .f32 :=
  addf (prodBlock x0 x1) (broadcastTo S512x128 (shapeCast S1x128 x3 shapeCasts_S1x128_S1x128 : FVec Ideal S1x128 .f32) broadcasts_S1x128_S512x128)
/-- The write strengths. -/
def lowPart (x0 : Vec Ideal S512x1024 .f32) (x1 : Vec Ideal S1024x128 .bf16) : FVec Ideal S512x128 .f32 :=
  divf (broadcast S512x128 (Scalar.ofBits .f32 0x3F800000#32)) (addf (broadcast S512x128 (Scalar.ofBits .f32 0x3F800000#32)) (exp (subf (broadcast S512x128 (Scalar.ofBits .f32 0x00000000#32)) (prodBlock x0 x1))))
/-- The log decays. -/
def midPart (x0 : Vec Ideal S512x1024 .f32) (x1 : Vec Ideal S1024x128 .bf16) (x2 x3 : Vec Ideal S1x128 .f32) : FVec Ideal S512x128 .f32 :=
  mulf (broadcastTo S512x128 (subf (broadcast S1x128 (Scalar.ofBits .f32 0x00000000#32)) (exp (shapeCast S1x128 x2 shapeCasts_S1x128_S1x128 : FVec Ideal S1x128 .f32)) : FVec Ideal S1x128 .f32) broadcasts_S1x128_S512x128)
    (addf (maximumf (logits x0 x1 x3) (broadcast S512x128 (Scalar.ofBits .f32 0x00000000#32)))
      (log1p (exp (subf (broadcast S512x128 (Scalar.ofBits .f32 0x00000000#32)) (absf (logits x0 x1 x3))))))

theorem pay2_eq (x0 : Vec Ideal S512x1024 .f32) (x1 : Vec Ideal S1024x128 .bf16) (x2 x3 : Vec Ideal S1x128 .f32) :
    k0_pay2 (F := Ideal) x0 x1 x2 x3 = select (cmpi .slt (iota .tc S512x128 32 [1] iota_S512x128_d1_w32) (broadcast S512x128 16#32)) (lowPart x0 x1)
      (select (cmpi .slt (iota .tc S512x128 32 [1] iota_S512x128_d1_w32) (broadcast S512x128 32#32)) (midPart x0 x1 x2 x3) (broadcast S512x128 (Scalar.ofBits .f32 0x00000000#32))) := rfl

theorem low_apply (x0 : Vec Ideal S512x1024 .f32) (x1 : Vec Ideal S1024x128 .bf16) (y : S512x128.Idx) : (lowPart x0 x1 y : EReal) = logistic (prodBlock x0 x1 y) := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  refine congrArg₂ (fun x y : EReal => Ideal.div x y) h1 (congrArg₂ (fun x y : EReal => x + y) h1 (congrArg Ideal.exp ?_))
  exact (congrArg (fun x : EReal => x - prodBlock x0 x1 y) h0).trans (zero_sub _)

theorem logits_apply (x0 : Vec Ideal S512x1024 .f32) (x1 : Vec Ideal S1024x128 .bf16) (x3 : Vec Ideal S1x128 .f32) (r : Fin 512) (n : Fin 128) :
    (logits x0 x1 x3 (ix2 r n) : EReal) = prodBlock x0 x1 (ix2 r n) + x3 (ix2 (0 : Fin 1) n) :=
  congrArg (fun x : EReal => prodBlock x0 x1 (ix2 r n) + x) ((row_apply _ r n).trans (congrFun (shapeCast_self x3 shapeCasts_S1x128_S1x128) _))

theorem mid_apply (x0 : Vec Ideal S512x1024 .f32) (x1 : Vec Ideal S1024x128 .bf16) (x2 x3 : Vec Ideal S1x128 .f32) (r : Fin 512) (n : Fin 128) :
    (midPart x0 x1 x2 x3 (ix2 r n) : EReal) = loss (x2 (ix2 (0 : Fin 1) n)) (logits x0 x1 x3 (ix2 r n)) := by
  have h0 : (Scalar.ofBits .f32 0x00000000#32 : Ideal .f32) = (0 : EReal) := Ideal.ofBits_zero_f32
  unfold loss soft
  refine congrArg₂ (fun x y : EReal => x * y) ?_ (congrArg₂ (fun x y : EReal => x + y) (congrArg (fun x : EReal => max (logits x0 x1 x3 (ix2 r n)) x) h0) (congrArg Ideal.log1p (congrArg Ideal.exp ?_)))
  · refine (row_apply _ r n).trans ?_
    exact (congrArg₂ (fun x y : EReal => x - y) h0 (congrArg Ideal.exp (congrFun (shapeCast_self x2 shapeCasts_S1x128_S1x128) _))).trans (zero_sub _)
  · exact (congrArg (fun x : EReal => x - (max (logits x0 x1 x3 (ix2 r n)) (-(logits x0 x1 x3 (ix2 r n))))) h0).trans (zero_sub _)

theorem pay2_apply (x0 : Vec Ideal S512x1024 .f32) (x1 : Vec Ideal S1024x128 .bf16) (x2 x3 : Vec Ideal S1x128 .f32) (r : Fin 512) (n : Fin 128) :
    (k0_pay2 (F := Ideal) x0 x1 x2 x3 (ix2 r n) : EReal)
      = lane (∑ k : Fin 1024, x0 (ix2 r k) * x1 (ix2 k n)) (x2 (ix2 (0 : Fin 1) n)) (x3 (ix2 (0 : Fin 1) n)) n.val := by
  have h0 : (Scalar.ofBits .f32 0x00000000#32 : Ideal .f32) = (0 : EReal) := Ideal.ofBits_zero_f32
  have w1 : IntOp.cmpi .slt (iota .tc S512x128 32 [1] iota_S512x128_d1_w32 (ix2 r n)) 16#32 = if n.val < 16 then 1#1 else 0#1 := by rw [lane_word]; exact low_word n
  have w2 : IntOp.cmpi .slt (iota .tc S512x128 32 [1] iota_S512x128_d1_w32 (ix2 r n)) 32#32 = if n.val < 32 then 1#1 else 0#1 := by rw [lane_word]; exact mid_word n
  rw [pay2_eq]
  unfold lane
  rw [← prodBlock_apply x0 x1 r n, ← logits_apply x0 x1 x3 r n, ← low_apply x0 x1 (ix2 r n), ← mid_apply x0 x1 x2 x3 r n]
  refine (select_word (n.val < 16) _ w1 (lowPart x0 x1 (ix2 r n) : EReal) _).trans ?_
  exact if_congr Iff.rfl rfl ((select_word (n.val < 32) _ w2 (midPart x0 x1 x2 x3 (ix2 r n) : EReal) _).trans (if_congr Iff.rfl rfl h0))

theorem pay1_apply (v : FVec Ideal S512x128 .f32) (x4 : Vec Ideal S512x512 .bf16) (r : Fin 512) (n : Fin 128) :
    (k0_pay1 (F := Ideal) v x4 (ix2 r n) : EReal) = (∑ j : Fin 512, x4 (ix2 r j) * v (ix2 j n)) + ∑ j : Fin 512, x4 (ix2 r j) * (v (ix2 j n) - v (ix2 j n)) := by
  have hx : (shapeCast S512x512 x4 shapeCasts_S512x512_S512x512 : FVec Ideal S512x512 .bf16) = x4 := shapeCast_self x4 shapeCasts_S512x512_S512x512
  unfold k0_pay1
  rw [hx]
  refine congrArg₂ (fun x y : EReal => x + y) ?_ ?_
  · refine (Ideal.matmul_plain_apply none _ _ _ r n).trans ?_
    exact (congrArg₂ (· + ·) Ideal.ofBits_zero_f32 rfl).trans (zero_add _)
  · refine (Ideal.matmul_plain_apply none _ _ _ r n).trans ?_
    exact (congrArg₂ (· + ·) Ideal.ofBits_zero_f32 rfl).trans (zero_add _)

theorem out5_eq (x0 : Vec Ideal S512x1024 .f32) (x1 : Vec Ideal S1024x128 .bf16) (x2 x3 : Vec Ideal S1x128 .f32) (x4 : Vec Ideal S512x512 .bf16) :
    out0_5 (F := Ideal) x0 x1 x2 x3 x4 = k0_pay2 (F := Ideal) x0 x1 x2 x3 := by
  have hl0 : View.ld x0 r0_0 = x0 := View.ld_unit_zero (Val := Elt Ideal) (e := .f32) (S := S512x1024) (by funext a; fin_cases a <;> rfl) _ _
  have hl1 : View.ld x1 r0_1 = x1 := View.ld_unit_zero (Val := Elt Ideal) (e := .bf16) (S := S1024x128) (by funext a; fin_cases a <;> rfl) _ _
  have hl2 : View.ld x2 r0_2 = x2 := View.ld_unit_zero (Val := Elt Ideal) (e := .f32) (S := S1x128) (by funext a; fin_cases a <;> rfl) _ _
  have hl3 : View.ld x3 r0_2 = x3 := View.ld_unit_zero (Val := Elt Ideal) (e := .f32) (S := S1x128) (by funext a; fin_cases a <;> rfl) _ _
  unfold out0_5 k0_pay3
  rw [hl0, hl1, hl2, hl3]
  exact View.canon_unit_zero (Val := Elt Ideal) (e := .f32) (S := S512x128) (by funext a; fin_cases a <;> rfl) _ _

theorem out6_eq (x0 : Vec Ideal S512x1024 .f32) (x1 : Vec Ideal S1024x128 .bf16) (x2 x3 : Vec Ideal S1x128 .f32) (x4 : Vec Ideal S512x512 .bf16) :
    out0_6 (F := Ideal) x0 x1 x2 x3 x4 = k0_pay1 (F := Ideal) (k0_pay2 (F := Ideal) x0 x1 x2 x3) x4 := by
  have hl0 : View.ld x0 r0_0 = x0 := View.ld_unit_zero (Val := Elt Ideal) (e := .f32) (S := S512x1024) (by funext a; fin_cases a <;> rfl) _ _
  have hl1 : View.ld x1 r0_1 = x1 := View.ld_unit_zero (Val := Elt Ideal) (e := .bf16) (S := S1024x128) (by funext a; fin_cases a <;> rfl) _ _
  have hl2 : View.ld x2 r0_2 = x2 := View.ld_unit_zero (Val := Elt Ideal) (e := .f32) (S := S1x128) (by funext a; fin_cases a <;> rfl) _ _
  have hl3 : View.ld x3 r0_2 = x3 := View.ld_unit_zero (Val := Elt Ideal) (e := .f32) (S := S1x128) (by funext a; fin_cases a <;> rfl) _ _
  have hl4 : View.ld x4 r0_4 = x4 := View.ld_unit_zero (Val := Elt Ideal) (e := .bf16) (S := S512x512) (by funext a; fin_cases a <;> rfl) _ _
  unfold out0_6 k0_pay3
  rw [hl0, hl1, hl2, hl3, hl4]
  exact View.canon_unit_zero (Val := Elt Ideal) (e := .f32) (S := S512x128) (by funext a; fin_cases a <;> rfl) _ _

end Cert.Kernel6Ideal.Gates

end
-- ==== Proof.GatesHost.lean ====
/- The gates: the arrays the host prepares, at an index. -/
module

public import proofs.«01_k».proof.Proof.Gates
public import proofs.«01_k».proof.Proof.Gen.Kernel6Ideal.Frame
public import Idealize.ShloMosaic.Lib.Pipeline.ValueKit
public import Idealize.ShloMosaic.Lib.KernelVsHost
public import Idealize.ShloMosaic.Lib.StableHlo.RunRead
public import Idealize.ShloMosaic.Lib.ValueIdx
public import Idealize.ShloMosaic.Lib.IdealHost

@[expose] public section

set_option maxRecDepth 16384

noncomputable section

namespace Cert.Kernel6Ideal.Gates

open Cert.Kernel6Ideal Cert.Kernel6Ideal.Gen Idealize.ShloMosaic.TcCoe Idealize.ShloMosaic.ValueIdx Coord
open Idealize.ShloMosaic hiding ix1 ix2 ix3 ix4

/-- The gates' weights, padded to 128 lanes. -/
def weights (W : FVec Ideal S1024x6176 .f32) : FVec Ideal S1024x128 .bf16 :=
  truncf .bf16 (pad S1024x128 ![0, 0] ![0, 96] ![0, 0] (extractStridedSlice S1024x32 ![0, 6144] W slices_S1024x6176_S1024x32_0_6144)
    (sitofp .f32 (constantI S_ 32 0#32)) pads_S1024x32_S1024x128_000_0960 h_S_ : FVec Ideal S1024x128 .f32) bitsLt_bf16_f32

/-- A vector of the heads on the lanes of the decays. -/
def lanes (A : FVec Ideal S16 .f32) : FVec Ideal S1x128 .f32 :=
  broadcastInDim S1x128 ![1] bcast_S128_S1x128_1 (pad S128 ![16] ![96] ![0] A (sitofp .f32 (constantI S_ 32 0#32)) pads_S16_S128_16960 h_S_)

/-- The rows and the columns, over 64. -/
def rowChunk : IVec S512x1 32 :=
  let x : IVec S512x1 32 := broadcastInDim S512x1 ![0] bcast_S512_S512x1_0 (iotaInDim S512 32 0)
  select (andi (cmpi .ne (signi x) (broadcastInDim S512x1 ![] bcast_S_S512x1 (signi (constantI S_ 32 64#32))))
      (cmpi .ne (Host.remsi x (broadcastInDim S512x1 ![] bcast_S_S512x1 (constantI S_ 32 64#32))) (broadcastInDim S512x1 ![] bcast_S_S512x1 (constantI S_ 32 0#32))))
    (subi (Host.divsi x (broadcastInDim S512x1 ![] bcast_S_S512x1 (constantI S_ 32 64#32))) (broadcastInDim S512x1 ![] bcast_S_S512x1 (constantI S_ 32 1#32)))
    (Host.divsi x (broadcastInDim S512x1 ![] bcast_S_S512x1 (constantI S_ 32 64#32)))
def colChunk : IVec S1x512 32 :=
  let x : IVec S1x512 32 := broadcastInDim S1x512 ![1] bcast_S512_S1x512_1 (iotaInDim S512 32 0)
  select (andi (cmpi .ne (signi x) (broadcastInDim S1x512 ![] bcast_S_S1x512 (signi (constantI S_ 32 64#32))))
      (cmpi .ne (Host.remsi x (broadcastInDim S1x512 ![] bcast_S_S1x512 (constantI S_ 32 64#32))) (broadcastInDim S1x512 ![] bcast_S_S1x512 (constantI S_ 32 0#32))))
    (subi (Host.divsi x (broadcastInDim S1x512 ![] bcast_S_S1x512 (constantI S_ 32 64#32))) (broadcastInDim S1x512 ![] bcast_S_S1x512 (constantI S_ 32 1#32)))
    (Host.divsi x (broadcastInDim S1x512 ![] bcast_S_S1x512 (constantI S_ 32 64#32)))

/-- The table of the sums over the chunks. -/
def table : FVec Ideal S512x512 .bf16 :=
  uitofp .bf16 (andi (cmpi .eq (broadcastInDim S512x512 ![0, 1] bcast_S512x1_S512x512_0_1 rowChunk) (broadcastInDim S512x512 ![0, 1] bcast_S1x512_S512x512_0_1 colChunk))
    (cmpi .sge (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))

section
variable (m : (ℓ : Loc nD τ sig) → Buf (Elt Ideal) ℓ) (c : Dev nD)

theorem entry_weights : V m c main_v2 = weights (m ((c : Thread nD τ).loc main_arg1)) := by
  unfold weights
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v2) = _
  simp only [List.flatten_cons, List.flatten_nil, List.append_nil]
  after_reads_simp
  rfl

theorem entry_a : V m c main_v4 = lanes (m ((c : Thread nD τ).loc main_arg2)) := by
  unfold lanes
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v4) = _
  simp only [List.flatten_cons, List.flatten_nil, List.append_nil]
  after_reads_simp
  rfl

theorem entry_d : V m c main_v6 = lanes (m ((c : Thread nD τ).loc main_arg3)) := by
  unfold lanes
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v6) = _
  simp only [List.flatten_cons, List.flatten_nil, List.append_nil]
  after_reads_simp
  rfl

theorem entry_table : V m c main_v21 = table := by
  unfold table rowChunk colChunk
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v21) = _
  simp only [List.flatten_cons, List.flatten_nil, List.append_nil]
  after_reads_simp
  rfl

end

theorem weights_apply (W : FVec Ideal S1024x6176 .f32) (k : Fin 1024) (n : Fin 32) :
    (weights W (ix2 k (⟨n.val, by omega⟩ : Fin 128)) : EReal) = W (ix2 k (⟨6144 + n.val, by omega⟩ : Fin 6176)) := by
  refine (pad_apply_of_inside _ _ _ _ _ pads_S1024x32_S1024x128_000_0960 h_S_ _ (ix2 k n) (by
    intro a; match a with | ⟨0, _⟩ => simp | ⟨1, _⟩ => simp)).trans ?_
  exact extractStridedSlice_apply _ W slices_S1024x6176_S1024x32_0_6144 _ _ (by intro a; match a with | ⟨0, _⟩ => simp | ⟨1, _⟩ => rfl)

theorem lanes_apply (A : FVec Ideal S16 .f32) (h : Fin 16) : (lanes A (ix2 (0 : Fin 1) (⟨16 + h.val, by omega⟩ : Fin 128)) : EReal) = A (ix1 h) := by
  unfold lanes
  refine (broadcastInDim_apply _ _ _ _ (ix1 (⟨16 + h.val, by omega⟩ : Fin 128)) (by intro a; fin_cases a; rfl)).trans ?_
  exact pad_apply_of_inside _ _ _ _ _ pads_S16_S128_16960 h_S_ _ (ix1 h) (by intro a; fin_cases a; simp)

/-- A word over 64, rounded down. -/
def chunkWord (x : BitVec 32) : BitVec 32 :=
  Scalar.select (IntOp.andi (IntOp.cmpi .ne (signi (fun _ : S_.Idx => x) ValueIdx.ix0) (signi (constantI S_ 32 64#32) ValueIdx.ix0)) (IntOp.cmpi .ne (IntOp.remsi .host x 64#32) 0#32))
    (IntOp.subi (IntOp.divsi .host x 64#32) 1#32) (IntOp.divsi .host x 64#32)

theorem chunk_word : ∀ n : Fin 512, chunkWord (BitVec.ofNat 32 n.val) = BitVec.ofNat 32 (n.val / 64) := by decide +kernel

theorem rows_apply (r j : Fin 512) : (broadcastInDim S512x512 ![0, 1] bcast_S512x1_S512x512_0_1 (broadcastInDim S512x1 ![0] bcast_S512_S512x1_0 (iotaInDim S512 32 0))) (ix2 r j) = BitVec.ofNat 32 r.val :=
  (broadcastInDim_apply _ _ _ _ (ix2 r (0 : Fin 1)) (by intro a; fin_cases a <;> rfl)).trans
    ((broadcastInDim_apply _ _ _ _ (ix1 r) (by intro a; fin_cases a; rfl)).trans rfl)
theorem cols_apply (r j : Fin 512) : (broadcastInDim S512x512 ![0, 1] bcast_S1x512_S512x512_0_1 (broadcastInDim S1x512 ![1] bcast_S512_S1x512_1 (iotaInDim S512 32 0))) (ix2 r j) = BitVec.ofNat 32 j.val :=
  (broadcastInDim_apply _ _ _ _ (ix2 (0 : Fin 1) j) (by intro a; fin_cases a <;> rfl)).trans
    ((broadcastInDim_apply _ _ _ _ (ix1 j) (by intro a; fin_cases a; rfl)).trans rfl)

theorem rowChunk_apply (r : Fin 512) : rowChunk (ix2 r (0 : Fin 1)) = BitVec.ofNat 32 (r.val / 64) := by
  refine Eq.trans ?_ (chunk_word r)
  have h : (broadcastInDim S512x1 ![0] bcast_S512_S512x1_0 (iotaInDim S512 32 0)) (ix2 r (0 : Fin 1)) = BitVec.ofNat 32 r.val :=
    (broadcastInDim_apply _ _ _ _ (ix1 r) (by intro a; fin_cases a; rfl)).trans rfl
  rw [← h]
  rfl
theorem colChunk_apply (j : Fin 512) : colChunk (ix2 (0 : Fin 1) j) = BitVec.ofNat 32 (j.val / 64) := by
  refine Eq.trans ?_ (chunk_word j)
  have h : (broadcastInDim S1x512 ![1] bcast_S512_S1x512_1 (iotaInDim S512 32 0)) (ix2 (0 : Fin 1) j) = BitVec.ofNat 32 j.val :=
    (broadcastInDim_apply _ _ _ _ (ix1 j) (by intro a; fin_cases a; rfl)).trans rfl
  rw [← h]
  rfl

theorem toInt_word : ∀ n : Fin 512, (BitVec.ofNat 32 n.val).toInt = (n.val : ℤ) := by decide +kernel

theorem ge_word : ∀ r : Fin 512, ∀ j : Fin 512, IntOp.cmpi .sge (BitVec.ofNat 32 r.val) (BitVec.ofNat 32 j.val) = if j.val ≤ r.val then 1#1 else 0#1 := by
  intro r j
  have hr := r.isLt; have hj := j.isLt
  have e : (BitVec.ofNat 32 j.val).sle (BitVec.ofNat 32 r.val) = decide (j.val ≤ r.val) := by
    rw [BitVec.sle_eq_decide, toInt_word, toInt_word]
    exact decide_eq_decide.mpr Int.ofNat_le
  by_cases h : j.val ≤ r.val
  · simp [IntOp.cmpi, e, h]
  · simp [IntOp.cmpi, e, h]

theorem eq_word : ∀ a b : Fin 8, IntOp.cmpi .eq (BitVec.ofNat 32 a.val) (BitVec.ofNat 32 b.val) = if b.val = a.val then 1#1 else 0#1 := by decide

theorem and_word (p q : Prop) [Decidable p] [Decidable q] :
    (((IntOp.andi (if p then 1#1 else 0#1) (if q then 1#1 else 0#1) : BitVec 1).toNat : ℝ) : EReal) = if p ∧ q then 1 else 0 := by
  by_cases hp : p <;> by_cases hq : q <;> simp [hp, hq, IntOp.andi]

theorem table_apply (r j : Fin 512) : (table (ix2 r j) : EReal) = if j.val / 64 = r.val / 64 ∧ j.val ≤ r.val then 1 else 0 := by
  have hr := r.isLt; have hj := j.isLt
  have e1 : (broadcastInDim S512x512 ![0, 1] bcast_S512x1_S512x512_0_1 rowChunk) (ix2 r j) = BitVec.ofNat 32 (r.val / 64) :=
    (broadcastInDim_apply _ _ _ _ (ix2 r (0 : Fin 1)) (by intro a; fin_cases a <;> rfl)).trans (rowChunk_apply r)
  have e2 : (broadcastInDim S512x512 ![0, 1] bcast_S1x512_S512x512_0_1 colChunk) (ix2 r j) = BitVec.ofNat 32 (j.val / 64) :=
    (broadcastInDim_apply _ _ _ _ (ix2 (0 : Fin 1) j) (by intro a; fin_cases a <;> rfl)).trans (colChunk_apply j)
  rw [← and_word]
  have g1 := eq_word ⟨r.val / 64, by omega⟩ ⟨j.val / 64, by omega⟩
  dsimp only at g1
  rw [← g1, ← ge_word r j, ← e1, ← e2, ← rows_apply r j, ← cols_apply r j]
  rfl

end Cert.Kernel6Ideal.Gates

end
-- ==== Proof.GatesArray.lean ====
/- The gates: the kernel's two arrays, block by block, and the lanes of them that are its results. -/
module

public import proofs.«01_k».proof.Proof.GatesBlock
public import proofs.«01_k».proof.Proof.GatesHost

@[expose] public section

noncomputable section

namespace Cert.Gates

open Idealize.ShloMosaic.ValueIdx Coord
open Idealize.ShloMosaic hiding ix1 ix2 ix3 ix4

/-- One entry of the product of the activations and the gates' weights. -/
def prod (X : FVec Ideal Cert.Kernel6Ideal.S32768x1024 .f32) (W : FVec Ideal Cert.Kernel6Ideal.S1024x6176 .f32) (i : Fin 32768) (n : Fin 32) : EReal :=
  ∑ k : Fin 1024, X (ix2 i k) * W (ix2 k (⟨6144 + n.val, by omega⟩ : Fin 6176))

/-- The write strength of a head at a position. -/
def beta (X : FVec Ideal Cert.Kernel6Ideal.S32768x1024 .f32) (W : FVec Ideal Cert.Kernel6Ideal.S1024x6176 .f32) (i : Fin 32768) (h : Fin 16) : EReal :=
  logistic (prod X W i (⟨h.val, by omega⟩ : Fin 32))

/-- The log decay of a head at a position. -/
def decay (X : FVec Ideal Cert.Kernel6Ideal.S32768x1024 .f32) (W : FVec Ideal Cert.Kernel6Ideal.S1024x6176 .f32) (a d : FVec Ideal Cert.Kernel6Ideal.S16 .f32)
    (i : Fin 32768) (h : Fin 16) : EReal :=
  loss (a (ix1 h)) (prod X W i (⟨16 + h.val, by omega⟩ : Fin 32) + d (ix1 h))

/-- The log decays of a head, cumulated from the start of the position's chunk. -/
def cum (X : FVec Ideal Cert.Kernel6Ideal.S32768x1024 .f32) (W : FVec Ideal Cert.Kernel6Ideal.S1024x6176 .f32) (a d : FVec Ideal Cert.Kernel6Ideal.S16 .f32)
    (i : Fin 32768) (h : Fin 16) : EReal :=
  ∑ s : Fin 64, if s.val ≤ i.val % 64 then decay X W a d (⟨64 * (i.val / 64) + s.val, by omega⟩ : Fin 32768) h else 0

end Cert.Gates

namespace Cert.Kernel6Ideal.Gates

open Cert.Kernel6Ideal Cert.Kernel6Ideal.Gen Idealize.ShloMosaic.TcCoe Idealize.ShloMosaic.ValueIdx Coord
open Idealize.ShloMosaic hiding ix1 ix2 ix3 ix4
open Idealize.SL.Sem
open Cert.Gates

variable (m : (ℓ : Loc nD τ sig) → Buf (Elt Ideal) ℓ) (c : Dev nD)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

theorem steps : cfg0.N = 64 := by decide

/-- The array's row that a point's block holds at a row. -/
def rowOf (t : Fin cfg0.N) (r : Fin 512) : Fin 32768 := ⟨t.val * 512 + r.val, by have := lt_of_lt_of_eq t.isLt steps; omega⟩

theorem blk0 (t : Fin cfg0.N) (r : Fin 512) (k : Fin 1024) : (iblk m c 0 t (ix2 r k) : EReal) = m ((c : Thread nD τ).loc main_arg0) (ix2 (rowOf t r) k) := by
  refine Eq.trans ?_ (congrFun (V_main_arg0 m c) _)
  blk_ext [iblk, index0, rowOf, c2_0, c2_1]
theorem blk1 (t : Fin cfg0.N) (k : Fin 1024) (n : Fin 128) : (iblk m c 1 t (ix2 k n) : EReal) = weights (m ((c : Thread nD τ).loc main_arg1)) (ix2 k n) := by
  refine Eq.trans ?_ (congrFun (entry_weights m c) (ix2 k n))
  blk_ext [iblk, index1, c2_0, c2_1]
theorem blk2 (t : Fin cfg0.N) (n : Fin 128) : (iblk m c 2 t (ix2 (0 : Fin 1) n) : EReal) = lanes (m ((c : Thread nD τ).loc main_arg2)) (ix2 (0 : Fin 1) n) := by
  refine Eq.trans ?_ (congrFun (entry_a m c) (ix2 (0 : Fin 1) n))
  blk_ext [iblk, index2, c2_0, c2_1]
theorem blk3 (t : Fin cfg0.N) (n : Fin 128) : (iblk m c 3 t (ix2 (0 : Fin 1) n) : EReal) = lanes (m ((c : Thread nD τ).loc main_arg3)) (ix2 (0 : Fin 1) n) := by
  refine Eq.trans ?_ (congrFun (entry_d m c) (ix2 (0 : Fin 1) n))
  blk_ext [iblk, index3, c2_0, c2_1]
theorem blk4 (t : Fin cfg0.N) (r j : Fin 512) : (iblk m c 4 t (ix2 r j) : EReal) = (if j.val / 64 = r.val / 64 ∧ j.val ≤ r.val then 1 else 0 : EReal) := by
  refine Eq.trans ?_ ((congrFun (entry_table m c) (ix2 r j)).trans (table_apply r j))
  blk_ext [iblk, index4, c2_0, c2_1]

/-- A row of activations times a column of weights. -/
def dot (X : FVec Ideal S32768x1024 .f32) (B : FVec Ideal S1024x128 .bf16) (i : Fin 32768) (n : Fin 128) : EReal := ∑ k : Fin 1024, X (ix2 i k) * B (ix2 k n)

/-- The first array at a row and a lane. -/
def gates (i : Fin 32768) (n : Fin 128) : EReal :=
  lane (dot (m ((c : Thread nD τ).loc main_arg0)) (weights (m ((c : Thread nD τ).loc main_arg1))) i n)
    (lanes (m ((c : Thread nD τ).loc main_arg2)) (ix2 (0 : Fin 1) n)) (lanes (m ((c : Thread nD τ).loc main_arg3)) (ix2 (0 : Fin 1) n)) n.val

theorem gates_ne_top (i : Fin 32768) (n : Fin 128) (hn : 16 ≤ n.val) : gates m c i n ≠ ⊤ := by
  unfold gates lane
  rw [if_neg (by omega)]
  split
  · exact loss_ne_top _ _
  · exact EReal.zero_ne_top

/-- The second array at a row and a lane. -/
def sums (i : Fin 32768) (n : Fin 128) : EReal :=
  (∑ j : Fin 512, (if j.val / 64 = i.val % 512 / 64 ∧ j.val ≤ i.val % 512 then (1 : EReal) else 0) * gates m c (⟨i.val / 512 * 512 + j.val, by omega⟩ : Fin 32768) n)
    + ∑ j : Fin 512, (if j.val / 64 = i.val % 512 / 64 ∧ j.val ≤ i.val % 512 then (1 : EReal) else 0)
      * (gates m c (⟨i.val / 512 * 512 + j.val, by omega⟩ : Fin 32768) n - gates m c (⟨i.val / 512 * 512 + j.val, by omega⟩ : Fin 32768) n)

theorem first_at (t : Fin cfg0.N) (r : Fin 512) (n : Fin 128) :
    (k0_pay2 (F := Ideal) (iblk m c 0 t) (iblk m c 1 t) (iblk m c 2 t) (iblk m c 3 t) (ix2 r n) : EReal) = gates m c (rowOf t r) n := by
  refine (pay2_apply _ _ _ _ r n).trans ?_
  unfold gates
  rw [blk2, blk3]
  refine congrArg (fun p : EReal => lane p _ _ _) (Finset.sum_congr rfl fun k _ => ?_)
  exact congrArg₂ (fun x y : EReal => x * y) (blk0 m c t r k) (blk1 m c t k n)

theorem second_at (t : Fin cfg0.N) (r : Fin 512) (n : Fin 128) :
    (k0_pay1 (F := Ideal) (k0_pay2 (F := Ideal) (iblk m c 0 t) (iblk m c 1 t) (iblk m c 2 t) (iblk m c 3 t)) (iblk m c 4 t) (ix2 r n) : EReal) = sums m c (rowOf t r) n := by
  have hv : (rowOf t r).val = t.val * 512 + r.val := rfl
  have hr := r.isLt
  have hm : (rowOf t r).val % 512 = r.val := by omega
  have hb : ∀ j : Fin 512, rowOf t j = (⟨(rowOf t r).val / 512 * 512 + j.val, by omega⟩ : Fin 32768) := fun j =>
    Fin.ext (by show t.val * 512 + j.val = (rowOf t r).val / 512 * 512 + j.val; omega)
  refine (pay1_apply _ _ r n).trans ?_
  unfold sums
  rw [hm]
  refine congrArg₂ (fun x y : EReal => x + y) (Finset.sum_congr rfl fun j _ => ?_) (Finset.sum_congr rfl fun j _ => ?_)
  · rw [← hb j]
    exact congrArg₂ (fun x y : EReal => x * y) (blk4 m c t r j) (first_at m c t j n)
  · rw [← hb j]
    exact congrArg₂ (fun x y : EReal => x * y) (blk4 m c t r j) (congrArg₂ (fun x y : EReal => x - y) (first_at m c t j n) (first_at m c t j n))

/-- The kernel's arrays. -/
def target5 : FVec Ideal S32768x128 .f32 := fun y => gates m c (y 0) (y 1)
def target6 : FVec Ideal S32768x128 .f32 := fun y => sums m c (y 0) (y 1)

theorem covers5 : (cfg0.win 5).Covers := by decide +kernel
theorem covers6 : (cfg0.win 6).Covers := by decide +kernel

theorem after5_at (t : Fin cfg0.N) (y : S512x128.Idx) :
    (out0_5 (F := Ideal) (iblk m c 0 t) (iblk m c 1 t) (iblk m c 2 t) (iblk m c 3 t) (iblk m c 4 t) y : EReal) = target5 m c ((win0_5.blk t).view.emb y) := by
  obtain ⟨r, n, rfl⟩ : ∃ (r : Fin 512) (n : Fin 128), y = ix2 r n := ⟨y 0, y 1, funext fun a => by match a with | ⟨0, _⟩ => rfl | ⟨1, _⟩ => rfl⟩
  refine (congrFun (out5_eq _ _ _ _ _) _).trans ((first_at m c t r n).trans ?_)
  have h0 : (rowOf t r : Fin 32768) = ((win0_5.blk t).view.emb (ix2 r n)) 0 := Fin.ext (by blk_simp [index5]; rfl)
  have h1 : (n : Fin 128) = ((win0_5.blk t).view.emb (ix2 r n)) 1 := Fin.ext (by blk_simp [index5]; rfl)
  unfold target5
  rw [← h0, ← h1]

theorem after6_at (t : Fin cfg0.N) (y : S512x128.Idx) :
    (out0_6 (F := Ideal) (iblk m c 0 t) (iblk m c 1 t) (iblk m c 2 t) (iblk m c 3 t) (iblk m c 4 t) y : EReal) = target6 m c ((win0_6.blk t).view.emb y) := by
  obtain ⟨r, n, rfl⟩ : ∃ (r : Fin 512) (n : Fin 128), y = ix2 r n := ⟨y 0, y 1, funext fun a => by match a with | ⟨0, _⟩ => rfl | ⟨1, _⟩ => rfl⟩
  refine (congrFun (out6_eq _ _ _ _ _) _).trans ((second_at m c t r n).trans ?_)
  have h0 : (rowOf t r : Fin 32768) = ((win0_6.blk t).view.emb (ix2 r n)) 0 := Fin.ext (by blk_simp [index6]; rfl)
  have h1 : (n : Fin 128) = ((win0_6.blk t).view.emb (ix2 r n)) 1 := Fin.ext (by blk_simp [index6]; rfl)
  unfold target6
  rw [← h0, ← h1]

theorem final5 : (dats m 0 c).arrAt 5 cfg0.N = target5 m c := by
  refine (dats m 0 c).arrAt_eq_of_covers 5 _ covers5 fun t hf y => ?_
  blk_simp
  rw [after0_5]
  exact after5_at m c t y

theorem final6 : (dats m 0 c).arrAt 6 cfg0.N = target6 m c := by
  refine (dats m 0 c).arrAt_eq_of_covers 6 _ covers6 fun t hf y => ?_
  blk_simp
  rw [after0_6]
  exact after6_at m c t y

/-! ## The lanes that are results -/

/-- The write strengths, and the cumulated log decays. -/
def result0 : FVec Ideal S32768x16 .f32 := extractStridedSlice S32768x16 ![0, 0] (target5 m c) slices_S32768x128_S32768x16_0_0
def result1 : FVec Ideal S32768x16 .f32 := extractStridedSlice S32768x16 ![0, 16] (target6 m c) slices_S32768x128_S32768x16_0_16

theorem prod_eq (X : FVec Ideal S32768x1024 .f32) (W : FVec Ideal S1024x6176 .f32) (i : Fin 32768) (n : Fin 32) :
    dot X (weights W) i (⟨n.val, by omega⟩ : Fin 128)
      = prod X W i n :=
  Finset.sum_congr rfl fun k _ => congrArg (fun x : EReal => X (ix2 i k) * x) (weights_apply _ k n)

theorem result0_apply (i : Fin 32768) (h : Fin 16) :
    (result0 m c (ix2 i h) : EReal) = beta (m ((c : Thread nD τ).loc main_arg0)) (m ((c : Thread nD τ).loc main_arg1)) i h := by
  unfold result0
  refine (extractStridedSlice_apply _ _ _ _ (ix2 i (⟨h.val, by omega⟩ : Fin 128)) (by intro a; fin_cases a <;> simp)).trans ?_
  show gates m c i (⟨h.val, by omega⟩ : Fin 128) = _
  unfold gates lane beta
  rw [if_pos h.isLt]
  exact congrArg logistic (prod_eq _ _ i (⟨h.val, by omega⟩ : Fin 32))

theorem gates_decay (i : Fin 32768) (h : Fin 16) : gates m c i (⟨16 + h.val, by omega⟩ : Fin 128)
    = decay (m ((c : Thread nD τ).loc main_arg0)) (m ((c : Thread nD τ).loc main_arg1)) (m ((c : Thread nD τ).loc main_arg2)) (m ((c : Thread nD τ).loc main_arg3)) i h := by
  unfold gates lane decay
  rw [if_neg (by show ¬(16 + h.val < 16); omega), if_pos (by show 16 + h.val < 32; omega), lanes_apply, lanes_apply]
  exact congrArg (fun x : EReal => loss _ (x + _)) (prod_eq _ _ i (⟨16 + h.val, by omega⟩ : Fin 32))

theorem result1_apply (i : Fin 32768) (h : Fin 16) :
    (result1 m c (ix2 i h) : EReal) = cum (m ((c : Thread nD τ).loc main_arg0)) (m ((c : Thread nD τ).loc main_arg1)) (m ((c : Thread nD τ).loc main_arg2)) (m ((c : Thread nD τ).loc main_arg3)) i h := by
  have hi := i.isLt
  unfold result1
  refine (extractStridedSlice_apply _ _ _ _ (ix2 i (⟨16 + h.val, by omega⟩ : Fin 128)) (by intro a; match a with | ⟨0, _⟩ => simp | ⟨1, _⟩ => rfl)).trans ?_
  show sums m c i (⟨16 + h.val, by omega⟩ : Fin 128) = _
  unfold sums
  refine (split_sum _ _ (fun j => ?_) (fun j => gates_ne_top m c _ _ (by show 16 ≤ 16 + h.val; omega))).trans ?_
  · split
    · exact Or.inr rfl
    · exact Or.inl rfl
  refine (chunk_sum (⟨i.val % 512, Nat.mod_lt _ (by decide)⟩ : Fin 512) (fun j => gates m c (⟨i.val / 512 * 512 + j.val, by omega⟩ : Fin 32768) (⟨16 + h.val, by omega⟩ : Fin 128))).trans ?_
  unfold cum
  refine Finset.sum_congr rfl fun s _ => ?_
  have hs := s.isLt
  refine if_congr (by show s.val ≤ i.val % 512 % 64 ↔ _; rw [show i.val % 512 % 64 = i.val % 64 by omega]) ?_ rfl
  rw [gates_decay]
  exact congrArg (fun q => decay _ _ _ _ q h) (Fin.ext (by show i.val / 512 * 512 + (64 * (i.val % 512 / 64) + s.val) = 64 * (i.val / 64) + s.val; omega))

/-! ## The run -/

theorem tail0 : Pipeline.afterTail₀ cfgs (dats m) 0 (V0 m) [hostOps1] c main_v23 = result0 m c := by
  have h : ∀ V : Valuation τ sig (Elt Ideal), StableHlo.after (List.flatten [hostOps1]) V (Proc.devRef .tc main_v23)
      = (extractStridedSlice S32768x16 ![0, 0] (V (Proc.devRef .tc main_v22_0) : FVec Ideal S32768x128 .f32) slices_S32768x128_S32768x16_0_0 : FVec Ideal S32768x16 .f32) := by
    intro V
    simp only [List.flatten_cons, List.flatten_nil, List.append_nil]
    after_reads_simp
  unfold Pipeline.afterTail₀ result0
  refine (h _).trans ?_
  refine congrArg (fun A : FVec Ideal S32768x128 .f32 => extractStridedSlice S32768x16 ![0, 0] A slices_S32768x128_S32768x16_0_0) ?_
  exact (Pipeline.withArrays_arr (cfgs 0).spec (by decide) c _ _ 5).trans (final5 m c)

theorem tail1 : Pipeline.afterTail₀ cfgs (dats m) 0 (V0 m) [hostOps1] c main_v24 = result1 m c := by
  have h : ∀ V : Valuation τ sig (Elt Ideal), StableHlo.after (List.flatten [hostOps1]) V (Proc.devRef .tc main_v24)
      = (extractStridedSlice S32768x16 ![0, 16] (V (Proc.devRef .tc main_v22_1) : FVec Ideal S32768x128 .f32) slices_S32768x128_S32768x16_0_16 : FVec Ideal S32768x16 .f32) := by
    intro V
    simp only [List.flatten_cons, List.flatten_nil, List.append_nil]
    after_reads_simp
  unfold Pipeline.afterTail₀ result1
  refine (h _).trans ?_
  refine congrArg (fun A : FVec Ideal S32768x128 .f32 => extractStridedSlice S32768x16 ![0, 16] A slices_S32768x128_S32768x16_0_16) ?_
  exact (Pipeline.withArrays_arr (cfgs 0).spec (by decide) c _ _ 6).trans (final6 m c)

/-- The kernel's run: its two results, and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v23) = result0 m c
      ∧ r.2.mem ((c.tc : Thread nD τ).loc main_v24) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h.2 c).2 main_v23 (Pipeline.mem_restRefs_of main_v23 (by decide) (by decide))).trans (tail0 m c),
        ((h.2 c).2 main_v24 (Pipeline.mem_restRefs_of main_v24 (by decide) (by decide))).trans (tail1 m c), h.1 c⟩)
    (θ_run_and (unchanged m ρ) (run_main m ρ))

end Cert.Kernel6Ideal.Gates

end
-- ==== Proof.GatesReference.lean ====
/- The gates: the reference's two results, at an index. -/
module

public import proofs.«01_k».proof.Proof.GatesArray
public import proofs.«01_k».proof.Proof.Gen.Reference6Ideal.Run
public import Idealize.ShloMosaic.Lib.IdealHost
public import Idealize.ShloMosaic.Lib.KernelVsHost
public import Idealize.ShloMosaic.Lib.StackMember

@[expose] public section

noncomputable section

namespace Cert.Reference6Ideal.Gates

open Cert.Reference6Ideal Cert.Reference6Ideal.Gen Idealize.ShloMosaic.TcCoe Idealize.ShloMosaic.ValueIdx Coord
open Idealize.ShloMosaic hiding ix1 ix2 ix3 ix4
open Cert.Gates

variable (X : FVec Ideal S32768x1024 .f32) (W : FVec Ideal S1024x6176 .f32) (a d : FVec Ideal S16 .f32)

/-- The product, and its columns that are the gates'. -/
def cols : FVec Ideal S32768x32 .f32 :=
  extractStridedSlice S32768x32 ![0, 6144] (Host.dotGeneral dot_S32768x1024_S1024x6176_S32768x6176_1_0_0_1_n_n none X W) slices_S32768x6176_S32768x32_0_6144

/-- The write strengths. -/
def strengths (P : FVec Ideal S32768x32 .f32) : FVec Ideal S32768x16 .f32 :=
  Host.divf (broadcastInDim S32768x16 ![] bcast_S_S32768x16 (constant S_ .f32 0x3F800000#32)) (addf (broadcastInDim S32768x16 ![] bcast_S_S32768x16 (constant S_ .f32 0x3F800000#32))
    (Host.exp (Host.negf (extractStridedSlice S32768x16 ![0, 0] P slices_S32768x32_S32768x16_0_0))))

/-- A vector of the heads at every position. -/
def rows (v : FVec Ideal S16 .f32) : FVec Ideal S32768x16 .f32 :=
  broadcastInDim S32768x16 ![0, 1] bcast_S1x16_S32768x16_0_1 (broadcastInDim S1x16 ![1] bcast_S16_S1x16_1 v)

/-- The logits of the decays. -/
def logits (P : FVec Ideal S32768x32 .f32) : FVec Ideal S32768x16 .f32 := addf (extractStridedSlice S32768x16 ![0, 16] P slices_S32768x32_S32768x16_0_16) (rows d)

/-- The zeros. -/
def zeros : FVec Ideal S32768x16 .f32 := broadcastInDim S32768x16 ![] bcast_S_S32768x16 (constant S_ .f32 0x00000000#32)

/-- The soft plus, which passes on what is not a number. -/
def softs (t : FVec Ideal S32768x16 .f32) : FVec Ideal S32768x16 .f32 :=
  select (cmpf .une (subf t zeros) (subf t zeros)) (addf t zeros) (addf (maximumf t zeros) (Host.log1p (Host.exp (Host.negf (Host.absf (subf t zeros))))))

/-- The log decays. -/
def decays (t : FVec Ideal S32768x16 .f32) : FVec Ideal S32768x16 .f32 :=
  mulf (rows (Host.negf (Host.exp a))) (softs t)

/-- The sums over the chunks. -/
def sums (g : FVec Ideal S32768x16 .f32) : FVec Ideal S32768x16 .f32 :=
  shapeCast _ (Host.reduceWindowAdd ![1, 64, 1] ![1, 1, 1] ![0, 63, 0] ![0, 0, 0] (shapeCast _ g shapeCasts_S32768x16_S512x64x16 : FVec Ideal S512x64x16 .f32)
    (broadcastInDim S_ ![] bcast_S_S_ (constant S_ .f32 0x00000000#32)) reduceWindows_S512x64x16_S512x64x16_w1s1p0_0_w64s1p63_0_w1s1p0_0 h_S_ : FVec Ideal S512x64x16 .f32) shapeCasts_S512x64x16_S32768x16

theorem cut_apply (P : FVec Ideal S32768x6176 .f32) (i : Fin 32768) (n : Fin 32) :
    extractStridedSlice S32768x32 ![0, 6144] P slices_S32768x6176_S32768x32_0_6144 (ix2 i n) = P (ix2 i (⟨6144 + n.val, by omega⟩ : Fin 6176)) :=
  extractStridedSlice_apply _ _ _ _ _ (by intro a; match a with | ⟨0, _⟩ => simp | ⟨1, _⟩ => rfl)

theorem cols_apply (i : Fin 32768) (n : Fin 32) : (cols X W (ix2 i n) : EReal) = prod X W i n :=
  (cut_apply _ i n).trans (StackMember.dotGeneral_plain_apply none X W i _)

theorem one_apply (y : S32768x16.Idx) : (broadcastInDim S32768x16 ![] bcast_S_S32768x16 (constant S_ .f32 0x3F800000#32 : FVec Ideal S_ .f32) y : EReal) = 1 :=
  (broadcastInDim_scalar_apply _ _ _).trans Ideal.ofBits_one_f32
theorem zero_apply (y : S32768x16.Idx) : (zeros y : EReal) = 0 :=
  (broadcastInDim_scalar_apply _ _ _).trans Ideal.ofBits_zero_f32

theorem strengths_apply (P : FVec Ideal S32768x32 .f32) (i : Fin 32768) (h : Fin 16) : (strengths P (ix2 i h) : EReal) = logistic (P (ix2 i (⟨h.val, by omega⟩ : Fin 32))) := by
  have hs : (extractStridedSlice S32768x16 ![0, 0] P slices_S32768x32_S32768x16_0_0 (ix2 i h) : EReal) = P (ix2 i (⟨h.val, by omega⟩ : Fin 32)) :=
    extractStridedSlice_apply _ _ _ _ _ (by intro a; fin_cases a <;> simp)
  unfold Cert.Gates.logistic
  rw [← hs]
  exact congrArg₂ (fun x y : EReal => Ideal.div x y) (one_apply _) (congrArg (fun x : EReal => x + Ideal.exp (-(extractStridedSlice S32768x16 ![0, 0] P slices_S32768x32_S32768x16_0_0 (ix2 i h)))) (one_apply _))

theorem rows_apply (v : FVec Ideal S16 .f32) (i : Fin 32768) (h : Fin 16) : (rows v (ix2 i h) : EReal) = v (ix1 h) :=
  (broadcastInDim_apply _ _ _ _ (ix2 (0 : Fin 1) h) (by intro a; fin_cases a <;> rfl)).trans (broadcastInDim_apply _ _ _ _ (ix1 h) (by intro a; fin_cases a; rfl))

theorem logits_apply (P : FVec Ideal S32768x32 .f32) (i : Fin 32768) (h : Fin 16) : (logits d P (ix2 i h) : EReal) = P (ix2 i (⟨16 + h.val, by omega⟩ : Fin 32)) + d (ix1 h) :=
  congrArg₂ (fun x y : EReal => x + y) (extractStridedSlice_apply _ _ _ _ _ (by intro a; match a with | ⟨0, _⟩ => simp | ⟨1, _⟩ => rfl)) (rows_apply d i h)

/-- An extended real is itself, so the choice is the second one. -/
theorem choose_self (u x y : EReal) : Scalar.select (Ideal.cmp .une u u) x y = y := by
  simp [Scalar.select, Ideal.cmp]

theorem softs_apply (t : FVec Ideal S32768x16 .f32) (y : S32768x16.Idx) : (softs t y : EReal) = soft (t y) := by
  have hs : (subf t zeros y : EReal) = t y := (congrArg (fun x : EReal => t y - x) (zero_apply y)).trans (sub_zero _)
  refine (choose_self (subf t zeros y) _ _).trans ?_
  unfold soft
  exact congrArg₂ (fun x z : EReal => x + z) (congrArg (fun x : EReal => max (t y) x) (zero_apply y))
    (congrArg (fun x : EReal => Ideal.log1p (Ideal.exp (-(max x (-x))))) hs)

theorem decays_apply (t : FVec Ideal S32768x16 .f32) (i : Fin 32768) (h : Fin 16) : (decays a t (ix2 i h) : EReal) = loss (a (ix1 h)) (t (ix2 i h)) :=
  congrArg₂ (fun x y : EReal => x * y) (rows_apply _ i h) (softs_apply t _)

/-- The positions of a window. -/
def winEquiv (N : ℕ) : Fin N ≃ (⟨3, ![1, N, 1]⟩ : Shape).Idx where
  toFun w := ix3 (0 : Fin 1) w (0 : Fin 1)
  invFun y := y 1
  left_inv w := rfl
  right_inv y := funext fun a => by
    match a with
    | ⟨0, _⟩ => exact Subsingleton.elim (α := Fin 1) _ _
    | ⟨1, _⟩ => rfl
    | ⟨2, _⟩ => exact Subsingleton.elim (α := Fin 1) _ _

/-- Two choices by equivalent conditions. -/
theorem dite_match {P Q : Prop} {_ : Decidable P} {_ : Decidable Q} (hPQ : P ↔ Q) (f : P → EReal) (g : Q → EReal) {v : EReal} (hv : v = 0) (hfg : ∀ p q, f p = g q) :
    (if h : P then f h else v) = if h : Q then g h else 0 := by
  by_cases h : P
  · rw [dif_pos h, dif_pos (hPQ.mp h)]; exact hfg _ _
  · rw [dif_neg h, dif_neg (fun e => h (hPQ.mpr e))]; exact hv

/-- A window along the middle axis that ends at a position, as a sum over the window. -/
theorem window_fold {A B C N M : ℕ} (x : (⟨3, ![A, B, C]⟩ : Shape).Idx → EReal) {u : Shape} (init : u.Idx → EReal)
    (hr : (⟨3, ![A, B, C]⟩ : Shape).ReduceWindows (![1, N, 1] : Fin 3 → ℕ) ![1, 1, 1] ![0, M, 0] ![0, 0, 0] ⟨3, ![A, B, C]⟩) (hu : 0 < u.numel)
    (hz : init (Shape.Idx.first hu) = 0) (q : Fin A) (t : Fin B) (h : Fin C) :
    Host.reduceWindow (fun x y : EReal => x + y) ![1, N, 1] ![1, 1, 1] ![0, M, 0] ![0, 0, 0] x init hr hu (ix3 q t h)
      = ∑ w : Fin N, if hs : M ≤ t.val + w.val ∧ t.val + w.val - M < B then x (ix3 q (⟨t.val + w.val - M, hs.2⟩ : Fin B) h) else 0 := by
  unfold Host.reduceWindow
  refine (foldl_add _ _ _).trans ?_
  refine (congrArg₂ (fun x y : EReal => x + y) hz rfl).trans ((zero_add _).trans ?_)
  rw [← Fin.sum_univ_def]
  refine Eq.trans (Finset.sum_congr rfl fun n _ => ?_) (Equiv.sum_comp ((⟨3, ![1, N, 1]⟩ : Shape).rowMajor.symm.trans (winEquiv N).symm)
    (fun w : Fin N => if hs : M ≤ t.val + w.val ∧ t.val + w.val - M < B then x (ix3 q (⟨t.val + w.val - M, hs.2⟩ : Fin B) h) else 0))
  have h0 : ((⟨3, ![1, N, 1]⟩ : Shape).rowMajor.symm n 0).val < 1 := ((⟨3, ![1, N, 1]⟩ : Shape).rowMajor.symm n 0).isLt
  have h2 : ((⟨3, ![1, N, 1]⟩ : Shape).rowMajor.symm n 2).val < 1 := ((⟨3, ![1, N, 1]⟩ : Shape).rowMajor.symm n 2).isLt
  have hq := q.isLt
  have hh := h.isLt
  refine dite_match ⟨fun hin => ?_, fun hle b => ?_⟩ _ _ hz fun hin hle => congrArg x (funext fun b => Fin.ext ?_)
  · have hb : M ≤ t.val * 1 + ((⟨3, ![1, N, 1]⟩ : Shape).rowMajor.symm n 1).val ∧ t.val * 1 + ((⟨3, ![1, N, 1]⟩ : Shape).rowMajor.symm n 1).val - M < B := hin 1
    rw [Nat.mul_one] at hb
    exact hb
  · have hb : M ≤ t.val + ((⟨3, ![1, N, 1]⟩ : Shape).rowMajor.symm n 1).val ∧ t.val + ((⟨3, ![1, N, 1]⟩ : Shape).rowMajor.symm n 1).val - M < B := hle
    match b with
    | ⟨0, _⟩ => show 0 ≤ q.val * 1 + ((⟨3, ![1, N, 1]⟩ : Shape).rowMajor.symm n 0).val ∧ q.val * 1 + ((⟨3, ![1, N, 1]⟩ : Shape).rowMajor.symm n 0).val - 0 < A; omega
    | ⟨1, _⟩ => show M ≤ t.val * 1 + ((⟨3, ![1, N, 1]⟩ : Shape).rowMajor.symm n 1).val ∧ t.val * 1 + ((⟨3, ![1, N, 1]⟩ : Shape).rowMajor.symm n 1).val - M < B; omega
    | ⟨2, _⟩ => show 0 ≤ h.val * 1 + ((⟨3, ![1, N, 1]⟩ : Shape).rowMajor.symm n 2).val ∧ h.val * 1 + ((⟨3, ![1, N, 1]⟩ : Shape).rowMajor.symm n 2).val - 0 < C; omega
  · match b with
    | ⟨0, _⟩ => show q.val * 1 + ((⟨3, ![1, N, 1]⟩ : Shape).rowMajor.symm n 0).val - 0 = q.val; omega
    | ⟨1, _⟩ => show t.val * 1 + ((⟨3, ![1, N, 1]⟩ : Shape).rowMajor.symm n 1).val - M = t.val + ((⟨3, ![1, N, 1]⟩ : Shape).rowMajor.symm n 1).val - M; omega
    | ⟨2, _⟩ => show h.val * 1 + ((⟨3, ![1, N, 1]⟩ : Shape).rowMajor.symm n 2).val - 0 = h.val; omega

theorem window_apply (x : FVec Ideal S512x64x16 .f32) (q : Fin 512) (t : Fin 64) (h : Fin 16) :
    (Host.reduceWindowAdd ![1, 64, 1] ![1, 1, 1] ![0, 63, 0] ![0, 0, 0] x
      (broadcastInDim S_ ![] bcast_S_S_ (constant S_ .f32 0x00000000#32)) reduceWindows_S512x64x16_S512x64x16_w1s1p0_0_w64s1p63_0_w1s1p0_0 h_S_ (ix3 q t h) : EReal)
      = ∑ s : Fin 64, if s.val ≤ t.val then x (ix3 q s h) else 0 := by
  have hz : ((broadcastInDim S_ ![] bcast_S_S_ (constant S_ .f32 0x00000000#32 : FVec Ideal S_ .f32)) (Shape.Idx.first h_S_) : EReal) = 0 :=
    (broadcastInDim_scalar_apply _ _ _).trans Ideal.ofBits_zero_f32
  have ht := t.isLt
  refine (window_fold (A := 512) (B := 64) (C := 16) (N := 64) (M := 63) x (fun _ => ((broadcastInDim S_ ![] bcast_S_S_ (constant S_ .f32 0x00000000#32 : FVec Ideal S_ .f32)) (Shape.Idx.first h_S_) : EReal))
    reduceWindows_S512x64x16_S512x64x16_w1s1p0_0_w64s1p63_0_w1s1p0_0 h_S_ hz q t h).trans ?_
  refine Eq.trans (Finset.sum_congr rfl fun w _ => ?_) ((window_sum t.val ht (fun k => if hk : k < 64 then x (ix3 q (⟨k, hk⟩ : Fin 64) h) else 0)).trans
    (Finset.sum_congr rfl fun s _ => if_congr Iff.rfl (dif_pos s.isLt) rfl))
  have hw := w.isLt
  by_cases hs : 63 ≤ t.val + w.val
  · rw [dif_pos ⟨hs, by omega⟩, if_pos hs, dif_pos (by omega)]
  · rw [dif_neg (fun e => hs e.1), if_neg hs]

theorem sums_apply (g : FVec Ideal S32768x16 .f32) (i : Fin 32768) (h : Fin 16) :
    (sums g (ix2 i h) : EReal) = ∑ s : Fin 64, if s.val ≤ i.val % 64 then g (ix2 (⟨64 * (i.val / 64) + s.val, by omega⟩ : Fin 32768) h) else 0 := by
  have hi := i.isLt
  unfold sums
  refine (shapeCast_apply _ _ _ (ix3 (⟨i.val / 64, by omega⟩ : Fin 512) (⟨i.val % 64, by omega⟩ : Fin 64) h) (by
    rw [Shape.rowMajor_val_three, Shape.rowMajor_val_two]; simp [c3_0, c3_1, c3_2, c2_0, c2_1]; omega)).trans ?_
  refine (window_apply _ _ _ _).trans (Finset.sum_congr rfl fun s _ => if_congr Iff.rfl ?_ rfl)
  exact shapeCast_apply _ _ _ _ (by
    rw [Shape.rowMajor_val_three, Shape.rowMajor_val_two]; simp [c3_0, c3_1, c3_2, c2_0, c2_1]; omega)

/-- The reference's results at an index. -/
theorem beta_apply (i : Fin 32768) (h : Fin 16) : (strengths (cols X W) (ix2 i h) : EReal) = beta X W i h :=
  (strengths_apply _ i h).trans (congrArg logistic (cols_apply X W i _))

theorem cum_apply (i : Fin 32768) (h : Fin 16) : (sums (decays a (logits d (cols X W))) (ix2 i h) : EReal) = cum X W a d i h := by
  refine (sums_apply _ i h).trans (Finset.sum_congr rfl fun s _ => if_congr Iff.rfl ?_ rfl)
  refine (decays_apply a _ _ h).trans ?_
  unfold decay
  exact congrArg (loss _) ((logits_apply d _ _ h).trans (congrArg (fun x : EReal => x + d (ix1 h)) (cols_apply X W _ _)))

end Cert.Reference6Ideal.Gates

end
-- ==== Proof.GatesClaims.lean ====
/- The gates: the claims. -/
module

public import proofs.«01_k».proof.Defs
public import proofs.«01_k».proof.Proof.GatesReference
public import proofs.«01_k».proof.Proof.Gen.Kernel6.Frame
public import Idealize.ShloMosaic.Lib.Quiescent

@[expose] public section

noncomputable section

namespace Cert.Gates

open Idealize.ShloMosaic.TcCoe Idealize.ShloMosaic.ValueIdx
open Idealize.ShloMosaic hiding ix1 ix2 ix3 ix4
open Idealize.SL Idealize.SL.Sem

/-- On arguments that agree, the kernel's two results are the reference's. -/
theorem value : Cert.algebraic_Kernel6Ideal_Reference6Ideal := by
  intro m g m' g' _ hagree
  refine ⟨fun c => Cert.Kernel6Ideal.Gates.result0 m c, fun c => Cert.Kernel6Ideal.Gates.result1 m c, Cert.Kernel6Ideal.Gates.run m g, ?_⟩
  refine (θ_run _ _ _).mono (fun r h c => ?_) (Cert.Reference6Ideal.Value.run m' g')
  obtain ⟨a0, a1, a2, a3⟩ := hagree c
  refine ⟨(h c).1.trans ?_, (h c).2.1.trans ?_, (h c).2.2⟩
  · funext y
    obtain ⟨i, n, rfl⟩ : ∃ (i : Fin 32768) (n : Fin 16), y = ix2 i n := ⟨y 0, y 1, funext fun a => by match a with | ⟨0, _⟩ => rfl | ⟨1, _⟩ => rfl⟩
    refine Eq.trans ?_ (Cert.Kernel6Ideal.Gates.result0_apply m c i n).symm
    rw [a0, a1]
    exact Cert.Reference6Ideal.Gates.beta_apply _ _ i n
  · funext y
    obtain ⟨i, n, rfl⟩ : ∃ (i : Fin 32768) (n : Fin 16), y = ix2 i n := ⟨y 0, y 1, funext fun a => by match a with | ⟨0, _⟩ => rfl | ⟨1, _⟩ => rfl⟩
    refine Eq.trans ?_ (Cert.Kernel6Ideal.Gates.result1_apply m c i n).symm
    rw [a0, a1, a2, a3]
    exact Cert.Reference6Ideal.Gates.cum_apply _ _ _ _ i n

/-- The kernel, on words and on the extended reals, runs, changes no argument and leaves no semaphore up; -/
theorem frame_words : Cert.quiescent_Kernel6 := fun m g _ => Cert.Kernel6.Gen.frame m g
theorem frame_reals : Cert.quiescent_Kernel6Ideal := fun m g _ => Cert.Kernel6Ideal.Gen.frame m g
/-- so does the reference. -/
theorem frame_reference : Cert.quiescent_Reference6Ideal := fun m g _ =>
  (θ_run _ _ _).mono (fun r h => ⟨fun c => (h c).2.2, sem_eq_zero_of_no_sems rfl r.2⟩) (Cert.Reference6Ideal.Value.run m g)

end Cert.Gates

end
-- ==== Proof.Conv.lean ====
/- The short convolution with its gate and norms: what a point of the grid leaves in its output block. -/
module

public import proofs.«01_k».proof.Proof.Gen.Kernel7Ideal.Frame
public import proofs.«01_k».proof.Proof.Coord
public import Idealize.ShloMosaic.Lib.Pipeline.ValueKit
public import Idealize.ShloMosaic.Lib.Pipeline.ValueKit.Tiles
public import Idealize.ShloMosaic.Lib.ValueIdx

@[expose] public section

noncomputable section

namespace Cert.Kernel7Ideal.Conv

open Cert.Kernel7Ideal Cert.Kernel7Ideal.Gen Idealize.ShloMosaic Idealize.SL.Sem

variable {F : FTy → Type} [FloatOps F]

/-- The extended rows: sixteen rows before the block, then the block. -/
abbrev rows (i : grid0.Coords) (v0 : Vec F S1x16x512 .bf16) (v9 : Vec F S1x1024x512 .bf16) : List (View.Piece (Elt F) S1040x512 .f32) :=
  [⟨Rect.unit (s := S1040x512) ![16, 0] S1024x512.size inb_S1040x512_S1024x512_16_0, k0_pay10 v9⟩,
    ⟨Rect.unit (s := S1040x512) ![0, 0] S16x512.size inb_S1040x512_S16x512_0_0, k0_pay9 i v0⟩]

section
variable (c : Dev nD) (i : grid0.Coords) (arg3 : Memref sig .tc .vmem S1x1024x512 .bf16) (harg3 : arg3.IsWhole) (arg4 : Memref sig .tc .vmem S1x16x512 .bf16) (harg4 : arg4.IsWhole) (arg5 : Memref sig .tc .vmem S4x512 .f32) (harg5 : arg5.IsWhole) (arg6 : Memref sig .tc .vmem S1x1024x512 .bf16) (harg6 : arg6.IsWhole) (arg7 : Memref sig .tc .vmem S1040x512 .f32) (harg7 : arg7.IsWhole)
  (x0 : Vec F S1x1024x512 .bf16) (x1 : Vec F S1x16x512 .bf16) (x2 : Vec F S4x512 .f32)

/-- The blocks as the point loads them. -/
abbrev cur : Vec F S1x1024x512 .bf16 := View.readAt (Elt F) arg3.view (Rect.unit (s := S1x1024x512) ![0, 0, 0] S1x1024x512.size inb_S1x1024x512_S1x1024x512_0_0_0).toLoadRect (harg3.unread x0)
abbrev prev : Vec F S1x16x512 .bf16 := View.readAt (Elt F) arg4.view (Rect.unit (s := S1x16x512) ![0, 0, 0] S1x16x512.size inb_S1x16x512_S1x16x512_0_0_0).toLoadRect (harg4.unread x1)
abbrev wts : Vec F S4x512 .f32 := View.readAt (Elt F) arg5.view (Rect.unit (s := S4x512) ![0, 0] S4x512.size inb_S4x512_S4x512_0_0).toLoadRect (harg5.unread x2)

/-- The extended rows, read at the four offsets of the taps. -/
abbrev tap0 : Vec F S1024x512 .f32 := arg7.view.readCov (rows i (prev arg4 harg4 x1) (cur arg3 harg3 x0)) (Rect.unit (s := S1040x512) ![13, 0] S1024x512.size inb_S1040x512_S1024x512_13_0).toLoadRect
abbrev tap1 : Vec F S1024x512 .f32 := arg7.view.readCov (rows i (prev arg4 harg4 x1) (cur arg3 harg3 x0)) (Rect.unit (s := S1040x512) ![14, 0] S1024x512.size inb_S1040x512_S1024x512_14_0).toLoadRect
abbrev tap2 : Vec F S1024x512 .f32 := arg7.view.readCov (rows i (prev arg4 harg4 x1) (cur arg3 harg3 x0)) (Rect.unit (s := S1040x512) ![15, 0] S1024x512.size inb_S1040x512_S1024x512_15_0).toLoadRect
abbrev tap3 : Vec F S1024x512 .f32 := arg7.view.readCov (rows i (prev arg4 harg4 x1) (cur arg3 harg3 x0)) (Rect.unit (s := S1040x512) ![16, 0] S1024x512.size inb_S1040x512_S1024x512_16_0).toLoadRect

abbrev three : FVec F S1024x512 .f32 := k0_pay11 (wts arg5 harg5 x2) (tap0 i arg3 harg3 arg4 harg4 arg7 x0 x1) (tap1 i arg3 harg3 arg4 harg4 arg7 x0 x1) (tap2 i arg3 harg3 arg4 harg4 arg7 x0 x1)

/-- The gated convolution. -/
abbrev gated : FVec F S1024x512 .f32 := k0_pay1 (three i arg3 harg3 arg4 harg4 arg5 harg5 arg7 x0 x1 x2) (tap3 i arg3 harg3 arg4 harg4 arg7 x0 x1) (k0_pay12 (wts arg5 harg5 x2))

set_option maxRecDepth 65536 in
set_option maxHeartbeats 4000000 in
/-- A point of the values' columns stores its block once. -/
theorem out_B (hc0 : ¬cond0_0 i) (hc1 : cond0_1 i) :
    (kernelRun0_B c i arg3 harg3 arg4 harg4 arg5 harg5 arg6 harg6 arg7 harg7 hc0 hc1 x0 x1 x2).1
      = [⟨Rect.unit (s := S1x1024x512) ![0, 0, 0] S1x1024x512.size inb_S1x1024x512_S1x1024x512_0_0_0,
          k0_pay4 (three i arg3 harg3 arg4 harg4 arg5 harg5 arg7 x0 x1 x2) (tap3 i arg3 harg3 arg4 harg4 arg7 x0 x1) (k0_pay12 (wts arg5 harg5 x2))⟩] := by
  unfold kernelRun0_B
  dsimp only
  sl_unfold_words
  sl_kernel_rfl

set_option maxRecDepth 65536 in
set_option maxHeartbeats 4000000 in
/-- A point of the queries' or the keys' columns stores its block head by head. -/
theorem out_A (hc0 : cond0_0 i) (hc1 : ¬cond0_1 i) :
    (kernelRun0_A c i arg3 harg3 arg4 harg4 arg5 harg5 arg6 harg6 arg7 harg7 hc0 hc1 x0 x1 x2).1
      = [⟨Rect.unit (s := S1x1024x512) ![0, 0, 384] S1x1024x128.size inb_S1x1024x512_S1x1024x128_0_0_384,
            k0_pay3 (three i arg3 harg3 arg4 harg4 arg5 harg5 arg7 x0 x1 x2) (tap3 i arg3 harg3 arg4 harg4 arg7 x0 x1) (k0_pay12 (wts arg5 harg5 x2)) (k0_pay5 (F := F) (BitVec.ofNat 32 (i 2).val))⟩,
          ⟨Rect.unit (s := S1x1024x512) ![0, 0, 256] S1x1024x128.size inb_S1x1024x512_S1x1024x128_0_0_256,
            k0_pay2 (k0_pay8 (BitVec.ofNat 32 (i 2).val) (gated i arg3 harg3 arg4 harg4 arg5 harg5 arg7 x0 x1 x2))⟩,
          ⟨Rect.unit (s := S1x1024x512) ![0, 0, 128] S1x1024x128.size inb_S1x1024x512_S1x1024x128_0_0_128,
            k0_pay7 (BitVec.ofNat 32 (i 2).val) (gated i arg3 harg3 arg4 harg4 arg5 harg5 arg7 x0 x1 x2)⟩,
          ⟨Rect.unit (s := S1x1024x512) ![0, 0, 0] S1x1024x128.size inb_S1x1024x512_S1x1024x128_0_0_0,
            k0_pay6 (BitVec.ofNat 32 (i 2).val) (gated i arg3 harg3 arg4 harg4 arg5 harg5 arg7 x0 x1 x2)⟩] := by
  unfold kernelRun0_A
  dsimp only
  sl_unfold_words
  sl_kernel_rfl

end

end Cert.Kernel7Ideal.Conv

end
-- ==== Proof.ConvBlock.lean ====
/- The short convolution over the reals: a point's block at an index, and the array. -/
module

public import proofs.«01_k».proof.Proof.Conv
public import proofs.«01_k».proof.Proof.Gen.Kernel7Ideal.Value
public import Idealize.ShloMosaic.Lib.IdealHost

@[expose] public section

noncomputable section

namespace Cert.Kernel7Ideal.Conv

open Cert.Kernel7Ideal Cert.Kernel7Ideal.Gen Idealize.ShloMosaic.TcCoe Idealize.ShloMosaic.ValueIdx Coord
open Idealize.ShloMosaic hiding ix1 ix2 ix3 ix4
open Idealize.SL.Sem

/-- The gate of the convolution. -/
def silu (a : EReal) : EReal := a * Ideal.div 1 (1 + Ideal.exp (-a))
/-- A row of the extended rows: one of the sixteen before the block, zero before the sequence, or one of the block. -/
def ext (later : Prop) [Decidable later] (x1 : Vec Ideal S1x16x512 .bf16) (x0 : Vec Ideal S1x1024x512 .bf16) (y : S1040x512.Idx) : EReal :=
  if h : (y 0).val < 16 then (if later then x1 (ix3 (0 : Fin 1) (⟨(y 0).val, h⟩ : Fin 16) (y 1 : Fin 512)) else 0)
  else x0 (ix3 (0 : Fin 1) (⟨(y 0).val - 16, by have := (y 0).isLt; simp at this; omega⟩ : Fin 1024) (y 1 : Fin 512))

theorem pay10_apply (v : Vec Ideal S1x1024x512 .bf16) (r : Fin 1024) (n : Fin 512) : (k0_pay10 (F := Ideal) v (ix2 r n) : EReal) = v (ix3 (0 : Fin 1) r n) := by
  unfold k0_pay10
  refine (congrFun (shapeCast_self _ _) _).trans ?_
  exact shapeCast_apply v shapeCasts_S1x1024x512_S1024x512 _ _ (by rw [Shape.rowMajor_val_three, Shape.rowMajor_val_two]; simp)

theorem later_word : ∀ a : Fin 4, Scalar.cmpi .sgt (BitVec.ofNat 32 a.val) 0#32 = if 0 < a.val then 1#1 else 0#1 := by decide
theorem query_word : ∀ a : Fin 8, Scalar.cmpi .slt (BitVec.ofNat 32 a.val) 2#32 = if a.val < 2 then 1#1 else 0#1 := by decide

theorem pay9_apply (i : grid0.Coords) (v : Vec Ideal S1x16x512 .bf16) (r : Fin 16) (n : Fin 512) :
    (k0_pay9 (F := Ideal) i v (ix2 r n) : EReal) = if 0 < (i 1).val then v (ix3 (0 : Fin 1) r n) else 0 := by
  unfold k0_pay9
  dsimp only
  refine (congrFun (shapeCast_self _ _) _).trans ?_
  rw [later_word (i 1)]
  split
  · exact shapeCast_apply v shapeCasts_S1x16x512_S16x512 _ _ (by rw [Shape.rowMajor_val_three, Shape.rowMajor_val_two]; simp)
  · exact Ideal.ofBits_zero_f32

theorem rows_apply (i : grid0.Coords) (x1 : Vec Ideal S1x16x512 .bf16) (x0 : Vec Ideal S1x1024x512 .bf16) (y : S1040x512.Idx) :
    (View.canon (rows i x1 x0) y : EReal) = ext (0 < (i 1).val) x1 x0 y := by
  refine View.canon_apply_of_pieces (Val := Elt Ideal) (S := S1040x512) (e := .f32) (ext (0 < (i 1).val) x1 x0) _ ?_ y ?_
  · intro p hp x
    simp only [List.mem_cons, List.not_mem_nil, or_false] at hp
    rcases hp with rfl | rfl
    · obtain ⟨r, n, rfl⟩ : ∃ (r : Fin 1024) (n : Fin 512), x = ix2 r n := ⟨x 0, x 1, funext fun a => by match a with | ⟨0, _⟩ => rfl | ⟨1, _⟩ => rfl⟩
      refine (pay10_apply x0 r n).trans ?_
      have h0 : (((Rect.unit (s := S1040x512) ![16, 0] S1024x512.size inb_S1040x512_S1024x512_16_0).emb (ix2 r n)) 0).val = 16 + r.val := by
        show 16 + 1 * r.val = _; omega
      have h1 : (((Rect.unit (s := S1040x512) ![16, 0] S1024x512.size inb_S1040x512_S1024x512_16_0).emb (ix2 r n)) 1).val = n.val := by
        show 0 + 1 * n.val = _; omega
      unfold ext
      rw [dif_neg (by rw [h0]; omega)]
      refine congrArg x0 (funext fun a => Fin.ext ?_)
      match a with
      | ⟨0, _⟩ => rfl
      | ⟨1, _⟩ => exact (show r.val = 16 + r.val - 16 by omega).trans (congrArg (· - 16) h0.symm)
      | ⟨2, _⟩ => exact h1.symm
    · obtain ⟨r, n, rfl⟩ : ∃ (r : Fin 16) (n : Fin 512), x = ix2 r n := ⟨x 0, x 1, funext fun a => by match a with | ⟨0, _⟩ => rfl | ⟨1, _⟩ => rfl⟩
      refine (pay9_apply i x1 r n).trans ?_
      have h0 : (((Rect.unit (s := S1040x512) ![0, 0] S16x512.size inb_S1040x512_S16x512_0_0).emb (ix2 r n)) 0).val = r.val := by
        show 0 + 1 * r.val = _; omega
      have h1 : (((Rect.unit (s := S1040x512) ![0, 0] S16x512.size inb_S1040x512_S16x512_0_0).emb (ix2 r n)) 1).val = n.val := by
        show 0 + 1 * n.val = _; omega
      unfold ext
      rw [dif_pos (by rw [h0]; exact r.isLt)]
      congr 1
      refine congrArg x1 (funext fun a => Fin.ext ?_)
      match a with
      | ⟨0, _⟩ => rfl
      | ⟨1, _⟩ => exact h0.symm
      | ⟨2, _⟩ => exact h1.symm
  · have h1 : (y 1).val < 512 := (y 1).isLt
    have h0 : (y 0).val < 1040 := (y 0).isLt
    by_cases h : (y 0).val < 16
    · have hm : y ∈ (Rect.unit (s := S1040x512) ![0, 0] S16x512.size inb_S1040x512_S16x512_0_0).set := by
        refine Rect.mem_set_unit.mpr fun a => ?_
        match a with
        | ⟨0, _⟩ => exact ⟨Nat.zero_le _, by show (y 0).val < 0 + 16; omega⟩
        | ⟨1, _⟩ => exact ⟨Nat.zero_le _, by show (y 1).val < 0 + 512; omega⟩
      exact ⟨_, List.mem_cons_of_mem _ List.mem_cons_self, hm⟩
    · have hm : y ∈ (Rect.unit (s := S1040x512) ![16, 0] S1024x512.size inb_S1040x512_S1024x512_16_0).set := by
        refine Rect.mem_set_unit.mpr fun a => ?_
        match a with
        | ⟨0, _⟩ => exact ⟨by show 16 ≤ (y 0).val; omega, by show (y 0).val < 16 + 1024; omega⟩
        | ⟨1, _⟩ => exact ⟨Nat.zero_le _, by show (y 1).val < 0 + 512; omega⟩
      exact ⟨_, List.mem_cons_self, hm⟩

/-- A load of the extended rows at an offset. -/
theorem tap_apply (arg7 : Memref sig .tc .vmem S1040x512 .f32) (i : grid0.Coords) (x1 : Vec Ideal S1x16x512 .bf16) (x0 : Vec Ideal S1x1024x512 .bf16)
    (off : ℕ) (ho : off ≤ 16) (hr : ∀ a, (![off, 0] : Fin 2 → ℕ) a + S1024x512.size a ≤ S1040x512.size a) (r : Fin 1024) (n : Fin 512) :
    (arg7.view.readCov (Val := Elt Ideal) (rows i x1 x0) (Rect.unit (s := S1040x512) ![off, 0] S1024x512.size hr).toLoadRect (ix2 r n) : EReal)
      = ext (0 < (i 1).val) x1 x0 (ix2 (⟨off + r.val, by omega⟩ : Fin 1040) n) := by
  rw [View.readCov_eq_canon']
  refine (rows_apply i x1 x0 _).trans (congrArg _ (funext fun a => Fin.ext ?_))
  match a with
  | ⟨0, _⟩ => show off + 1 * r.val = off + r.val; omega
  | ⟨1, _⟩ => show 0 + 1 * n.val = n.val; omega

/-- One row of the tap weights, along the rows. -/
theorem weight_apply (w : Vec Ideal S4x512 .f32) (j : ℕ) (hj : j < 4) (hs : Shape.Slices S4x512 ![j, 0] S1x512) (r : Fin 1024) (n : Fin 512) :
    (broadcastTo S1024x512 (extractStridedSlice S1x512 ![j, 0] w hs) broadcasts_S1x512_S1024x512 (ix2 r n) : EReal) = w (ix2 (⟨j, hj⟩ : Fin 4) n) := by
  refine (broadcastTo_apply _ broadcasts_S1x512_S1024x512 (ix2 r n) (ix2 (0 : Fin 1) n) (by intro a; fin_cases a <;> simp)).trans ?_
  exact extractStridedSlice_apply _ _ _ _ _ (by intro a; fin_cases a <;> simp)

/-- The gated sum of the taps. -/
theorem gate_apply (w : Vec Ideal S4x512 .f32) (a0 a1 a2 a3 : Vec Ideal S1024x512 .f32) (r : Fin 1024) (n : Fin 512) :
    (k0_pay1 (F := Ideal) (k0_pay11 w a0 a1 a2) a3 (k0_pay12 w) (ix2 r n) : EReal)
      = silu (a0 (ix2 r n) * w (ix2 (0 : Fin 4) n) + a1 (ix2 r n) * w (ix2 (1 : Fin 4) n) + a2 (ix2 r n) * w (ix2 (2 : Fin 4) n) + a3 (ix2 r n) * w (ix2 (3 : Fin 4) n)) := by
  have hsum : (addf (k0_pay11 (F := Ideal) w a0 a1 a2) (mulf a3 (k0_pay12 w)) (ix2 r n) : EReal)
      = a0 (ix2 r n) * w (ix2 (0 : Fin 4) n) + a1 (ix2 r n) * w (ix2 (1 : Fin 4) n) + a2 (ix2 r n) * w (ix2 (2 : Fin 4) n) + a3 (ix2 r n) * w (ix2 (3 : Fin 4) n) :=
    congrArg₂ (fun x y : EReal => x + y) (congrArg₂ (fun x y : EReal => x + y) (congrArg₂ (fun x y : EReal => x + y)
      (congrArg (fun x : EReal => a0 (ix2 r n) * x) (weight_apply w 0 (by omega) slices_S4x512_o0_0_S1x512 r n))
      (congrArg (fun x : EReal => a1 (ix2 r n) * x) (weight_apply w 1 (by omega) slices_S4x512_o1_0_S1x512 r n)))
      (congrArg (fun x : EReal => a2 (ix2 r n) * x) (weight_apply w 2 (by omega) slices_S4x512_o2_0_S1x512 r n)))
      (congrArg (fun x : EReal => a3 (ix2 r n) * x) (weight_apply w 3 (by omega) slices_S4x512_o3_0_S1x512 r n))
  rw [← hsum]
  have h : (k0_pay1 (F := Ideal) (k0_pay11 w a0 a1 a2) a3 (k0_pay12 w) (ix2 r n) : EReal)
    = (fun s : EReal => s * Ideal.div (Ideal.ofBits .f32 0x3F800000#32) (Ideal.ofBits .f32 0x3F800000#32 + Ideal.exp (Ideal.ofBits .f32 0x00000000#32 - s)))
        (addf (k0_pay11 (F := Ideal) w a0 a1 a2) (mulf a3 (k0_pay12 w)) (ix2 r n) : EReal) := rfl
  refine h.trans ?_
  dsimp only
  rw [Ideal.ofBits_one_f32, Ideal.ofBits_zero_f32, sub_eq_add_neg, zero_add]
  rfl

/-- A head's columns over their norm. -/
theorem norm_apply (y : FVec Ideal S1024x512 .f32) (k : Ideal .f32) (off : ℕ) (ho : off + 128 ≤ 512) (hs : Shape.Slices S1024x512 ![0, off] S1024x128) (r : Fin 1024) (d : Fin 128) :
    (mulf (extractStridedSlice S1024x128 ![0, off] y hs) (broadcastTo S1024x128 (mulf (rsqrt (addf (shapeCast S1024x1
        (multiReduction .add [1] S1024 (mulf (extractStridedSlice S1024x128 ![0, off] y hs) (extractStridedSlice S1024x128 ![0, off] y hs)) 0x00000000#32 reduces_S1024x128_S1024 (.inl rfl) rfl)
        shapeCasts_S1024_S1024x1) (broadcast S1024x1 (Scalar.ofBits .f32 0x358637BD#32)))) (broadcast S1024x1 k)) broadcasts_S1024x1_S1024x128) (ix2 r d) : EReal)
      = y (ix2 r (⟨off + d.val, by omega⟩ : Fin 512)) * (Ideal.rsqrt ((∑ e : Fin 128, y (ix2 r (⟨off + e.val, by omega⟩ : Fin 512)) * y (ix2 r (⟨off + e.val, by omega⟩ : Fin 512)))
          + Ideal.ofBits .f32 0x358637BD#32) * k) := by
  have hy : ∀ e : Fin 128, (extractStridedSlice S1024x128 ![0, off] y hs (ix2 r e) : EReal) = y (ix2 r (⟨off + e.val, by omega⟩ : Fin 512)) := fun e =>
    extractStridedSlice_apply _ _ _ _ _ (by intro a; fin_cases a <;> simp)
  refine congrArg₂ (fun x y : EReal => x * y) (hy d) ?_
  refine (broadcastTo_apply _ broadcasts_S1024x1_S1024x128 (ix2 r d) (ix2 r (0 : Fin 1)) (by intro a; fin_cases a <;> simp)).trans ?_
  refine congrArg (fun x : EReal => x * k) (congrArg Ideal.rsqrt (congrArg (fun x : EReal => x + _) ?_))
  refine (shapeCast_apply _ shapeCasts_S1024_S1024x1 (ix2 r (0 : Fin 1)) (ix1 r) (by rw [Shape.rowMajor_val_one, Shape.rowMajor_val_two]; simp)).trans ?_
  refine (Ideal.multiReduction_add_single _ _ reduces_S1024x128_S1024 (.inl rfl) rfl (ix1 r)).trans ?_
  refine Finset.sum_congr rfl fun e _ => ?_
  have : reduces_S1024x128_S1024.lift (ix1 r) e = ix2 r e := by funext a; apply Fin.ext; fin_cases a <;> rfl
  rw [this]
  exact congrArg₂ (fun x y : EReal => x * y) (hy e) (hy e)

/-! ## A point's block -/

theorem readAt_unread {S : Shape} {e : EltTy} {arg : Memref sig .tc .vmem S e} (harg : arg.IsWhole) (off : Fin S.rank → ℕ) (hz : off = 0)
    (inb : ∀ a, off a + S.size a ≤ S.size a) (x : S.Idx → Elt Ideal e) :
    View.readAt (Elt Ideal) arg.view (Rect.unit (s := S) off S.size inb).toLoadRect (harg.unread x) = x := by
  refine (View.readAt_eq_ld arg.view (harg.unread x) _).trans ?_
  rw [harg.read_unread]
  exact View.ld_unit_zero (Val := Elt Ideal) (e := e) (S := S) hz _ _

/-- The gated convolution of a point, at a row and a column of its block. -/
def convAt (later : Prop) [Decidable later] (x0 : Vec Ideal S1x1024x512 .bf16) (x1 : Vec Ideal S1x16x512 .bf16) (x2 : Vec Ideal S4x512 .f32) (r : Fin 1024) (n : Fin 512) : EReal :=
  silu (ext later x1 x0 (ix2 (⟨13 + r.val, by omega⟩ : Fin 1040) n) * x2 (ix2 (0 : Fin 4) n)
    + ext later x1 x0 (ix2 (⟨14 + r.val, by omega⟩ : Fin 1040) n) * x2 (ix2 (1 : Fin 4) n)
    + ext later x1 x0 (ix2 (⟨15 + r.val, by omega⟩ : Fin 1040) n) * x2 (ix2 (2 : Fin 4) n)
    + ext later x1 x0 (ix2 (⟨16 + r.val, by omega⟩ : Fin 1040) n) * x2 (ix2 (3 : Fin 4) n))

/-- A row of a block over the norms of its heads. -/
def normAt (y : Fin 1024 → Fin 512 → EReal) (k : EReal) (r : Fin 1024) (n : Fin 512) : EReal :=
  y r n * (Ideal.rsqrt ((∑ e : Fin 128, y r (⟨n.val / 128 * 128 + e.val, by omega⟩ : Fin 512) * y r (⟨n.val / 128 * 128 + e.val, by omega⟩ : Fin 512))
    + Ideal.ofBits .f32 0x358637BD#32) * k)

theorem taps_apply (i : grid0.Coords) (arg7 : Memref sig .tc .vmem S1040x512 .f32) (x0 : Vec Ideal S1x1024x512 .bf16) (x1 : Vec Ideal S1x16x512 .bf16) (x2 : Vec Ideal S4x512 .f32) (r : Fin 1024) (n : Fin 512) :
    (k0_pay1 (F := Ideal) (k0_pay11 x2 (arg7.view.readCov (rows i x1 x0) (Rect.unit (s := S1040x512) ![13, 0] S1024x512.size inb_S1040x512_S1024x512_13_0).toLoadRect)
        (arg7.view.readCov (rows i x1 x0) (Rect.unit (s := S1040x512) ![14, 0] S1024x512.size inb_S1040x512_S1024x512_14_0).toLoadRect)
        (arg7.view.readCov (rows i x1 x0) (Rect.unit (s := S1040x512) ![15, 0] S1024x512.size inb_S1040x512_S1024x512_15_0).toLoadRect))
      (arg7.view.readCov (rows i x1 x0) (Rect.unit (s := S1040x512) ![16, 0] S1024x512.size inb_S1040x512_S1024x512_16_0).toLoadRect) (k0_pay12 x2) (ix2 r n) : EReal)
      = convAt (0 < (i 1).val) x0 x1 x2 r n := by
  refine (gate_apply _ _ _ _ _ r n).trans ?_
  exact congrArg silu (congrArg₂ (fun x y : EReal => x + y) (congrArg₂ (fun x y : EReal => x + y) (congrArg₂ (fun x y : EReal => x + y)
      (congrArg (fun x : EReal => x * x2 (ix2 (0 : Fin 4) n)) (tap_apply arg7 i x1 x0 13 (by omega) _ r n))
      (congrArg (fun x : EReal => x * x2 (ix2 (1 : Fin 4) n)) (tap_apply arg7 i x1 x0 14 (by omega) _ r n)))
      (congrArg (fun x : EReal => x * x2 (ix2 (2 : Fin 4) n)) (tap_apply arg7 i x1 x0 15 (by omega) _ r n)))
      (congrArg (fun x : EReal => x * x2 (ix2 (3 : Fin 4) n)) (tap_apply arg7 i x1 x0 16 (by omega) _ r n)))

theorem scale_eq (i : grid0.Coords) : (k0_pay5 (F := Ideal) (BitVec.ofNat 32 (i 2).val) : EReal) = if (i 2).val < 2 then Ideal.ofBits .f32 0x3DB504F3#32 else 1 := by
  unfold k0_pay5
  dsimp only
  rw [query_word (i 2)]
  split
  · rfl
  · exact Ideal.ofBits_one_f32

section
variable (c : Dev nD) (i : grid0.Coords) (arg3 : Memref sig .tc .vmem S1x1024x512 .bf16) (harg3 : arg3.IsWhole) (arg4 : Memref sig .tc .vmem S1x16x512 .bf16) (harg4 : arg4.IsWhole) (arg5 : Memref sig .tc .vmem S4x512 .f32) (harg5 : arg5.IsWhole) (arg6 : Memref sig .tc .vmem S1x1024x512 .bf16) (harg6 : arg6.IsWhole) (arg7 : Memref sig .tc .vmem S1040x512 .f32) (harg7 : arg7.IsWhole)
  (x0 : Vec Ideal S1x1024x512 .bf16) (x1 : Vec Ideal S1x16x512 .bf16) (x2 : Vec Ideal S4x512 .f32)

theorem gated_apply (r : Fin 1024) (n : Fin 512) :
    (gated (F := Ideal) i arg3 harg3 arg4 harg4 arg5 harg5 arg7 x0 x1 x2 (ix2 r n) : EReal) = convAt (0 < (i 1).val) x0 x1 x2 r n := by
  have h0 : cur (F := Ideal) arg3 harg3 x0 = x0 := readAt_unread harg3 _ (by funext a; fin_cases a <;> rfl) _ x0
  have h1 : prev (F := Ideal) arg4 harg4 x1 = x1 := readAt_unread harg4 _ (by funext a; fin_cases a <;> rfl) _ x1
  have h2 : wts (F := Ideal) arg5 harg5 x2 = x2 := readAt_unread harg5 _ (by funext a; fin_cases a <;> rfl) _ x2
  have he : convAt (0 < (i 1).val) (cur (F := Ideal) arg3 harg3 x0) (prev (F := Ideal) arg4 harg4 x1) (wts (F := Ideal) arg5 harg5 x2) r n = convAt (0 < (i 1).val) x0 x1 x2 r n := by
    rw [h0, h1, h2]
  refine Eq.trans ?_ he
  exact taps_apply i arg7 _ _ _ r n

/-- A point of the values' columns leaves the gated convolution. -/
theorem point_B (hc0 : ¬cond0_0 i) (hc1 : cond0_1 i) (r : Fin 1024) (n : Fin 512) :
    (out0_B_3 c i arg3 harg3 arg4 harg4 arg5 harg5 arg6 harg6 arg7 harg7 hc0 hc1 x0 x1 x2 (ix3 (0 : Fin 1) r n) : EReal) = convAt (0 < (i 1).val) x0 x1 x2 r n := by
  have h1 := (congrArg (fun L => VO0_3.read (Elt Ideal) (VO0_3.writes (Elt Ideal) VO0_3.junk L)) (out_B c i arg3 harg3 arg4 harg4 arg5 harg5 arg6 harg6 arg7 harg7 x0 x1 x2 hc0 hc1)).trans (View.read_writes_junk_eq_canon VO0_3 _)
  unfold out0_B_3
  refine (congrFun h1 _).trans ?_
  rw [View.canon_unit_zero (Val := Elt Ideal) (S := S1x1024x512) (by funext a; fin_cases a <;> rfl)]
  unfold k0_pay4
  dsimp only
  refine (shapeCast_apply _ shapeCasts_S1024x512_S1x1024x512 _ (ix2 r n) (by rw [Shape.rowMajor_val_three, Shape.rowMajor_val_two]; simp)).trans ?_
  exact gated_apply i arg3 harg3 arg4 harg4 arg5 harg5 arg7 x0 x1 x2 r n

/-- One head's store. -/
theorem piece_A (y : FVec Ideal S1024x512 .f32) (k : Ideal .f32) (off h : ℕ) (ho : off = h * 128) (hh : h < 4) (hs : Shape.Slices S1024x512 ![0, off] S1024x128)
    (hr : ∀ a, (![0, 0, off] : Fin 3 → ℕ) a + S1x1024x128.size a ≤ S1x1024x512.size a) (x : S1x1024x128.Idx) :
    (shapeCast S1x1024x128 (truncf .bf16 (mulf (extractStridedSlice S1024x128 ![0, off] y hs) (broadcastTo S1024x128 (mulf (rsqrt (addf (shapeCast S1024x1
        (multiReduction .add [1] S1024 (mulf (extractStridedSlice S1024x128 ![0, off] y hs) (extractStridedSlice S1024x128 ![0, off] y hs)) 0x00000000#32 reduces_S1024x128_S1024 (.inl rfl) rfl)
        shapeCasts_S1024_S1024x1) (broadcast S1024x1 (Scalar.ofBits .f32 0x358637BD#32)))) (broadcast S1024x1 k)) broadcasts_S1024x1_S1024x128) : FVec Ideal S1024x128 .f32) bitsLt_bf16_f32)
        shapeCasts_S1024x128_S1x1024x128 x : EReal)
      = (fun z : S1x1024x512.Idx => normAt (fun r n => (y (ix2 r n) : EReal)) k (z 1) (z 2)) ((Rect.unit (s := S1x1024x512) ![0, 0, off] S1x1024x128.size hr).emb x) := by
  subst ho
  obtain ⟨z, r, d, rfl⟩ : ∃ (z : Fin 1) (r : Fin 1024) (d : Fin 128), x = ix3 z r d :=
    ⟨x 0, x 1, x 2, funext fun a => by match a with | ⟨0, _⟩ => rfl | ⟨1, _⟩ => rfl | ⟨2, _⟩ => rfl⟩
  obtain rfl := Subsingleton.elim z 0
  refine (shapeCast_apply _ shapeCasts_S1024x128_S1x1024x128 _ (ix2 r d) (by rw [Shape.rowMajor_val_three, Shape.rowMajor_val_two]; simp)).trans ?_
  refine (norm_apply y k (h * 128) (by omega) hs r d).trans ?_
  have h1 : ((Rect.unit (s := S1x1024x512) ![0, 0, h * 128] S1x1024x128.size hr).emb (ix3 (0 : Fin 1) r d)) 1 = (r : Fin 1024) := Fin.ext (by show 0 + 1 * r.val = r.val; omega)
  have h2 : ((Rect.unit (s := S1x1024x512) ![0, 0, h * 128] S1x1024x128.size hr).emb (ix3 (0 : Fin 1) r d)) 2 = (⟨h * 128 + d.val, by omega⟩ : Fin 512) :=
    Fin.ext (by show h * 128 + 1 * d.val = h * 128 + d.val; omega)
  dsimp only
  rw [h1, h2]
  unfold normAt
  have hd : (h * 128 + d.val) / 128 * 128 = h * 128 := by omega
  simp only [hd]

/-- A point of the queries' or the keys' columns leaves the heads of the gated convolution over their norms. -/
theorem point_A (hc0 : cond0_0 i) (hc1 : ¬cond0_1 i) (r : Fin 1024) (n : Fin 512) :
    (out0_A_3 c i arg3 harg3 arg4 harg4 arg5 harg5 arg6 harg6 arg7 harg7 hc0 hc1 x0 x1 x2 (ix3 (0 : Fin 1) r n) : EReal)
      = normAt (convAt (0 < (i 1).val) x0 x1 x2) (if (i 2).val < 2 then Ideal.ofBits .f32 0x3DB504F3#32 else 1) r n := by
  have h1 := (congrArg (fun L => VO0_3.read (Elt Ideal) (VO0_3.writes (Elt Ideal) VO0_3.junk L)) (out_A c i arg3 harg3 arg4 harg4 arg5 harg5 arg6 harg6 arg7 harg7 x0 x1 x2 hc0 hc1)).trans (View.read_writes_junk_eq_canon VO0_3 _)
  unfold out0_A_3
  refine (congrFun h1 _).trans ?_
  rw [← scale_eq]
  have hg : (fun r n => (gated (F := Ideal) i arg3 harg3 arg4 harg4 arg5 harg5 arg7 x0 x1 x2 (ix2 r n) : EReal)) = convAt (0 < (i 1).val) x0 x1 x2 :=
    funext fun r => funext fun n => gated_apply i arg3 harg3 arg4 harg4 arg5 harg5 arg7 x0 x1 x2 r n
  rw [← hg]
  refine (View.canon_apply_of_pieces (Val := Elt Ideal) (S := S1x1024x512) (e := .bf16) (fun z : S1x1024x512.Idx => normAt (fun r n =>
    (gated (F := Ideal) i arg3 harg3 arg4 harg4 arg5 harg5 arg7 x0 x1 x2 (ix2 r n) : EReal)) (k0_pay5 (F := Ideal) (BitVec.ofNat 32 (i 2).val)) (z 1) (z 2)) _ ?_ (ix3 (0 : Fin 1) r n) ?_)
  · intro p hp x
    simp only [List.mem_cons, List.not_mem_nil, or_false] at hp
    rcases hp with rfl | rfl | rfl | rfl
    · exact piece_A _ _ 384 3 rfl (by omega) slices_S1024x512_o0_384_S1024x128 inb_S1x1024x512_S1x1024x128_0_0_384 x
    · exact piece_A _ _ 256 2 rfl (by omega) slices_S1024x512_o0_256_S1024x128 inb_S1x1024x512_S1x1024x128_0_0_256 x
    · exact piece_A _ _ 128 1 rfl (by omega) slices_S1024x512_o0_128_S1024x128 inb_S1x1024x512_S1x1024x128_0_0_128 x
    · exact piece_A _ _ 0 0 rfl (by omega) slices_S1024x512_o0_0_S1024x128 inb_S1x1024x512_S1x1024x128_0_0_0 x
  · have hm : ∀ (off : ℕ) (hr : ∀ a, (![0, 0, off] : Fin 3 → ℕ) a + S1x1024x128.size a ≤ S1x1024x512.size a), off ≤ n.val → n.val < off + 128 →
        ix3 (0 : Fin 1) r n ∈ (Rect.unit (s := S1x1024x512) ![0, 0, off] S1x1024x128.size hr).set := by
      intro off hr ha hb
      refine Rect.mem_set_unit.mpr fun a => ?_
      match a with
      | ⟨0, _⟩ => exact ⟨Nat.zero_le _, by show 0 < 0 + 1; omega⟩
      | ⟨1, _⟩ => exact ⟨Nat.zero_le _, by show r.val < 0 + 1024; omega⟩
      | ⟨2, _⟩ => exact ⟨ha, hb⟩
    have : n.val < 128 ∨ (128 ≤ n.val ∧ n.val < 256) ∨ (256 ≤ n.val ∧ n.val < 384) ∨ 384 ≤ n.val := by omega
    rcases this with h | h | h | h
    · exact ⟨_, List.mem_cons_of_mem _ (List.mem_cons_of_mem _ (List.mem_cons_of_mem _ List.mem_cons_self)), hm 0 inb_S1x1024x512_S1x1024x128_0_0_0 (Nat.zero_le _) h⟩
    · exact ⟨_, List.mem_cons_of_mem _ (List.mem_cons_of_mem _ List.mem_cons_self), hm 128 inb_S1x1024x512_S1x1024x128_0_0_128 h.1 h.2⟩
    · exact ⟨_, List.mem_cons_of_mem _ List.mem_cons_self, hm 256 inb_S1x1024x512_S1x1024x128_0_0_256 h.1 h.2⟩
    · exact ⟨_, List.mem_cons_self, hm 384 inb_S1x1024x512_S1x1024x128_0_0_384 h (by omega)⟩

end

end Cert.Kernel7Ideal.Conv

end
-- ==== Proof.ConvArray.lean ====
/- The short convolution with its gate and norms: the kernel's array, block by block. -/
module

public import proofs.«01_k».proof.Proof.ConvBlock
public import proofs.«01_k».proof.Defs

@[expose] public section

noncomputable section

namespace Cert.Conv

open Idealize.ShloMosaic.ValueIdx Coord
open Idealize.ShloMosaic hiding ix1 ix2 ix3 ix4

/-- The inputs of the convolution, three zero rows before the sequence. -/
def past (A : FVec Ideal Cert.Kernel7Ideal.S8x4096x6144 .bf16) (b : Fin 8) (s : ℕ) (n : Fin 4096) : EReal :=
  if h : 3 ≤ s ∧ s < 4099 then A (ix3 b (⟨s - 3, by omega⟩ : Fin 4096) (⟨n.val, by omega⟩ : Fin 6144)) else 0

/-- The gated convolution of a channel at a position. -/
def conv (A : FVec Ideal Cert.Kernel7Ideal.S8x4096x6144 .bf16) (W : FVec Ideal Cert.Kernel7Ideal.S4x4096 .f32) (b : Fin 8) (t : Fin 4096) (n : Fin 4096) : EReal :=
  Cert.Kernel7Ideal.Conv.silu (past A b t.val n * W (ix2 (0 : Fin 4) n) + past A b (t.val + 1) n * W (ix2 (1 : Fin 4) n)
    + past A b (t.val + 2) n * W (ix2 (2 : Fin 4) n) + past A b (t.val + 3) n * W (ix2 (3 : Fin 4) n))

/-- One over the norm of the head of a channel. -/
def inv (A : FVec Ideal Cert.Kernel7Ideal.S8x4096x6144 .bf16) (W : FVec Ideal Cert.Kernel7Ideal.S4x4096 .f32) (b : Fin 8) (t : Fin 4096) (n : Fin 4096) : EReal :=
  Ideal.rsqrt ((∑ e : Fin 128, conv A W b t (⟨n.val / 128 * 128 + e.val, by omega⟩ : Fin 4096) * conv A W b t (⟨n.val / 128 * 128 + e.val, by omega⟩ : Fin 4096))
    + Ideal.ofBits .f32 0x358637BD#32)

/-- The array: the queries and the keys over their norms, the queries scaled, and the values. -/
def result (A : FVec Ideal Cert.Kernel7Ideal.S8x4096x6144 .bf16) (W : FVec Ideal Cert.Kernel7Ideal.S4x4096 .f32) (b : Fin 8) (t : Fin 4096) (n : Fin 4096) : EReal :=
  if n.val < 2048 then conv A W b t n * (inv A W b t n * (if n.val < 1024 then Ideal.ofBits .f32 0x3DB504F3#32 else 1)) else conv A W b t n

end Cert.Conv

namespace Cert.Kernel7Ideal.Conv

open Cert.Kernel7Ideal Cert.Kernel7Ideal.Gen Idealize.ShloMosaic.TcCoe Idealize.ShloMosaic.ValueIdx Coord
open Idealize.ShloMosaic hiding ix1 ix2 ix3 ix4
open Idealize.SL.Sem

variable (m : (ℓ : Loc nD τ sig) → Buf (Elt Ideal) ℓ) (c : Dev nD)

theorem index0 : ∀ t : Fin cfg0.N, win0_0.index t = ![t.val / 32, t.val / 8 % 4, t.val % 8] :=
  (by decide +kernel : ∀ t : Fin grid0.N, win0_0.index t = ![t.val / 32, t.val / 8 % 4, t.val % 8])
theorem index1 : ∀ t : Fin cfg0.N, win0_1.index t = ![t.val / 32, t.val / 8 % 4 * 64 - 1, t.val % 8] :=
  (by decide +kernel : ∀ t : Fin grid0.N, win0_1.index t = ![t.val / 32, t.val / 8 % 4 * 64 - 1, t.val % 8])
theorem index2 : ∀ t : Fin cfg0.N, win0_2.index t = ![0, t.val % 8] :=
  (by decide +kernel : ∀ t : Fin grid0.N, win0_2.index t = ![0, t.val % 8])
theorem index3 : ∀ t : Fin cfg0.N, win0_3.index t = ![t.val / 32, t.val / 8 % 4, t.val % 8] :=
  (by decide +kernel : ∀ t : Fin grid0.N, win0_3.index t = ![t.val / 32, t.val / 8 % 4, t.val % 8])
theorem coord1 : ∀ t : Fin cfg0.N, ((grid0.coords t) 1).val = t.val / 8 % 4 :=
  (by decide +kernel : ∀ t : Fin grid0.N, ((grid0.coords t) 1).val = t.val / 8 % 4)
theorem coord2 : ∀ t : Fin cfg0.N, ((grid0.coords t) 2).val = t.val % 8 :=
  (by decide +kernel : ∀ t : Fin grid0.N, ((grid0.coords t) 2).val = t.val % 8)

theorem steps : cfg0.N = 256 := by decide

def seqOf (t : Fin cfg0.N) : Fin 8 := ⟨t.val / 32, by have := lt_of_lt_of_eq t.isLt steps; omega⟩
def rowOf (t : Fin cfg0.N) (r : Fin 1024) : Fin 4096 := ⟨t.val / 8 % 4 * 1024 + r.val, by omega⟩
def colOf (t : Fin cfg0.N) (n : Fin 512) : Fin 4096 := ⟨t.val % 8 * 512 + n.val, by omega⟩

theorem blk0 (t : Fin cfg0.N) (r : Fin 1024) (n : Fin 512) : (iblk m c 0 t (ix3 (0 : Fin 1) r n) : EReal)
    = m ((c : Thread nD τ).loc main_arg0) (ix3 (seqOf t) (rowOf t r) (⟨(colOf t n).val, by have := (colOf t n).isLt; omega⟩ : Fin 6144)) := by
  refine Eq.trans ?_ (congrFun (V_main_arg0 m c) _)
  blk_ext [iblk, index0, seqOf, rowOf, colOf, c3_0, c3_1, c3_2]

theorem blk1 (t : Fin cfg0.N) (r : Fin 16) (n : Fin 512) : (iblk m c 1 t (ix3 (0 : Fin 1) r n) : EReal)
    = m ((c : Thread nD τ).loc main_arg0) (ix3 (seqOf t) (⟨(t.val / 8 % 4 * 64 - 1) * 16 + r.val, by omega⟩ : Fin 4096) (⟨(colOf t n).val, by have := (colOf t n).isLt; omega⟩ : Fin 6144)) := by
  refine Eq.trans ?_ (congrFun (V_main_arg0 m c) _)
  blk_ext [iblk, index1, seqOf, colOf, c3_0, c3_1, c3_2]

theorem blk2 (t : Fin cfg0.N) (j : Fin 4) (n : Fin 512) : (iblk m c 2 t (ix2 j n) : EReal)
    = m ((c : Thread nD τ).loc main_arg1) (ix2 j (colOf t n)) := by
  refine Eq.trans ?_ (congrFun (V_main_arg1 m c) _)
  blk_ext [iblk, index2, colOf, c2_0, c2_1]

/-- A row of a point's extended rows is a row of the sequence. -/
theorem ext_past (t : Fin cfg0.N) (j : ℕ) (hj : j ≤ 3) (r : Fin 1024) (n : Fin 512) :
    ext (0 < ((grid0.coords t) 1).val) (iblk m c 1 t) (iblk m c 0 t) (ix2 (⟨13 + j + r.val, by omega⟩ : Fin 1040) n)
      = Cert.Conv.past (m ((c : Thread nD τ).loc main_arg0)) (seqOf t) ((rowOf t r).val + j) (colOf t n) := by
  have hc := coord1 t
  have hr : (rowOf t r).val = t.val / 8 % 4 * 1024 + r.val := rfl
  have hr4 : t.val / 8 % 4 < 4 := Nat.mod_lt _ (by decide)
  unfold ext Cert.Conv.past
  by_cases h : 13 + j + r.val < 16
  · rw [dif_pos (show (ix2 (⟨13 + j + r.val, by omega⟩ : Fin 1040) n 0).val < 16 from h)]
    by_cases hl : 0 < ((grid0.coords t) 1).val
    · rw [if_pos hl, dif_pos ⟨by omega, by omega⟩]
      refine (blk1 m c t _ _).trans (congrArg (m ((c : Thread nD τ).loc main_arg0)) (funext fun a => Fin.ext ?_))
      match a with
      | ⟨0, _⟩ => rfl
      | ⟨1, _⟩ => show (t.val / 8 % 4 * 64 - 1) * 16 + (13 + j + r.val) = (rowOf t r).val + j - 3; omega
      | ⟨2, _⟩ => rfl
    · rw [if_neg hl, dif_neg (by omega)]
  · rw [dif_neg (show ¬(ix2 (⟨13 + j + r.val, by omega⟩ : Fin 1040) n 0).val < 16 from h), dif_pos ⟨by omega, by omega⟩]
    refine (blk0 m c t _ _).trans (congrArg (m ((c : Thread nD τ).loc main_arg0)) (funext fun a => Fin.ext ?_))
    match a with
    | ⟨0, _⟩ => rfl
    | ⟨1, _⟩ => show t.val / 8 % 4 * 1024 + (13 + j + r.val - 16) = (rowOf t r).val + j - 3; omega
    | ⟨2, _⟩ => rfl

theorem convAt_eq (t : Fin cfg0.N) (r : Fin 1024) (n : Fin 512) :
    convAt (0 < ((grid0.coords t) 1).val) (iblk m c 0 t) (iblk m c 1 t) (iblk m c 2 t) r n
      = Cert.Conv.conv (m ((c : Thread nD τ).loc main_arg0)) (m ((c : Thread nD τ).loc main_arg1)) (seqOf t) (rowOf t r) (colOf t n) := by
  unfold convAt Cert.Conv.conv
  exact congrArg silu (congrArg₂ (fun x y : EReal => x + y) (congrArg₂ (fun x y : EReal => x + y) (congrArg₂ (fun x y : EReal => x + y)
      (congrArg₂ (fun x y : EReal => x * y) (ext_past m c t 0 (by omega) r n) (blk2 m c t 0 n))
      (congrArg₂ (fun x y : EReal => x * y) (ext_past m c t 1 (by omega) r n) (blk2 m c t 1 n)))
      (congrArg₂ (fun x y : EReal => x * y) (ext_past m c t 2 (by omega) r n) (blk2 m c t 2 n)))
      (congrArg₂ (fun x y : EReal => x * y) (ext_past m c t 3 (by omega) r n) (blk2 m c t 3 n)))

/-- What a point leaves, at an index of its block. -/
theorem out_at (t : Fin cfg0.N) (r : Fin 1024) (n : Fin 512) :
    (outsAt0 m c t.val t.isLt (ix3 (0 : Fin 1) r n) : EReal)
      = Cert.Conv.result (m ((c : Thread nD τ).loc main_arg0)) (m ((c : Thread nD τ).loc main_arg1)) (seqOf t) (rowOf t r) (colOf t n) := by
  have hn : (colOf t n).val = t.val % 8 * 512 + n.val := rfl
  by_cases h0 : t.val % 8 ≤ 3
  · refine (congrFun (outsAt0_A m c t h0 (by omega)) _).trans ?_
    refine (point_A _ _ _ _ _ _ _ _ _ _ _ _ _ _ _ _ _ r n).trans ?_
    unfold Cert.Conv.result normAt
    rw [if_pos (show (colOf t n).val < 2048 by omega), convAt_eq]
    have hs : ((grid0.coords t) 2).val < 2 ↔ (colOf t n).val < 1024 := by rw [coord2]; omega
    refine congrArg₂ (fun x y : EReal => x * y) rfl (congrArg₂ (fun x y : EReal => x * y) ?_ (if_congr hs rfl rfl))
    unfold Cert.Conv.inv
    refine congrArg Ideal.rsqrt (congrArg (fun x : EReal => x + _) (Finset.sum_congr rfl fun e _ => ?_))
    rw [convAt_eq]
    have he : colOf t (⟨n.val / 128 * 128 + e.val, by omega⟩ : Fin 512) = (⟨(colOf t n).val / 128 * 128 + e.val, by have := (colOf t n).isLt; omega⟩ : Fin 4096) :=
      Fin.ext (by show t.val % 8 * 512 + (n.val / 128 * 128 + e.val) = (colOf t n).val / 128 * 128 + e.val; omega)
    rw [he]
  · refine (congrFun (outsAt0_B m c t h0 (by omega)) _).trans ?_
    refine (point_B _ _ _ _ _ _ _ _ _ _ _ _ _ _ _ _ _ r n).trans ?_
    unfold Cert.Conv.result
    rw [if_neg (show ¬(colOf t n).val < 2048 by omega)]
    exact convAt_eq m c t r n

/-- The kernel's array. -/
def target : FVec Ideal S8x4096x4096 .bf16 := fun y =>
  Cert.Conv.result (m ((c : Thread nD τ).loc main_arg0)) (m ((c : Thread nD τ).loc main_arg1)) (y 0) (y 1) (y 2)

theorem covers : (cfg0.win 3).Covers := by decide +kernel

theorem after_at (t : Fin cfg0.N) (y : S1x1024x512.Idx) :
    (outsAt0 m c t.val t.isLt y : EReal) = target m c ((win0_3.blk t).view.emb y) := by
  obtain ⟨z, r, n, rfl⟩ : ∃ (z : Fin 1) (r : Fin 1024) (n : Fin 512), y = ix3 z r n :=
    ⟨y 0, y 1, y 2, funext fun a => by match a with | ⟨0, _⟩ => rfl | ⟨1, _⟩ => rfl | ⟨2, _⟩ => rfl⟩
  obtain rfl := Subsingleton.elim z 0
  refine (out_at m c t r n).trans ?_
  have h0 : (seqOf t : Fin 8) = ((win0_3.blk t).view.emb (ix3 (0 : Fin 1) r n)) 0 := Fin.ext (by blk_simp [index3]; rfl)
  have h1 : (rowOf t r : Fin 4096) = ((win0_3.blk t).view.emb (ix3 (0 : Fin 1) r n)) 1 := Fin.ext (by blk_simp [index3]; rfl)
  have h2 : (colOf t n : Fin 4096) = ((win0_3.blk t).view.emb (ix3 (0 : Fin 1) r n)) 2 := Fin.ext (by blk_simp [index3]; rfl)
  unfold target
  rw [h0, h1, h2]

/-- The array after the run. -/
theorem final : (dats m 0 c).arrAt 3 cfg0.N = target m c := by
  refine (dats m 0 c).arrAt_eq_of_covers 3 _ covers fun t hf y => ?_
  blk_simp
  rw [after0_3]
  exact after_at m c t y

end Cert.Kernel7Ideal.Conv

end
-- ==== Proof.ConvClaims.lean ====
/- The short convolution with its gate and norms: the reference's array, and the claims. -/
module

public import proofs.«01_k».proof.Proof.ConvArray
public import proofs.«01_k».proof.Proof.Gen.Kernel7.Frame
public import proofs.«01_k».proof.Proof.Gen.Reference7Ideal.Run
public import Idealize.ShloMosaic.Lib.IdealHost
public import Idealize.ShloMosaic.Lib.KernelVsHost
public import Idealize.ShloMosaic.Lib.Quiescent

@[expose] public section

noncomputable section

namespace Cert.Reference7Ideal.Conv

open Cert.Reference7Ideal Cert.Reference7Ideal.Gen Idealize.ShloMosaic.TcCoe Idealize.ShloMosaic.ValueIdx Coord
open Idealize.ShloMosaic hiding ix1 ix2 ix3 ix4
open Cert.Kernel7Ideal.Conv (silu)

variable (A : FVec Ideal S8x4096x6144 .bf16) (W : FVec Ideal S4x4096 .f32)

/-- The inputs with three zero rows before them. -/
def padded : FVec Ideal S8x4099x4096 .f32 :=
  pad S8x4099x4096 ![0, 3, 0] ![0, 0, 0] ![0, 0, 0] (extf .f32 (extractStridedSlice S8x4096x4096 ![0, 0, 0] A slices_S8x4096x6144_S8x4096x4096_0_0_0) bitsLt_bf16_f32)
    (sitofp .f32 (constantI S_ 32 0#32)) pads_S8x4096x4096_S8x4099x4096_000_300_000 h_S_

/-- The sum of the four taps. -/
def taps : FVec Ideal S8x4096x4096 .f32 :=
  addf (addf (addf (mulf (extractStridedSlice S8x4096x4096 ![0, 0, 0] (padded A) slices_S8x4099x4096_S8x4096x4096_0_0_0)
        (broadcastInDim S8x4096x4096 ![0, 1, 2] bcast_S1x1x4096_S8x4096x4096_0_1_2 (broadcastInDim S1x1x4096 ![2] bcast_S4096_S1x1x4096_2 (shapeCast _ (extractStridedSlice S1x4096 ![0, 0] W slices_S4x4096_S1x4096_0_0) shapeCasts_S1x4096_S4096))))
      (mulf (extractStridedSlice S8x4096x4096 ![0, 1, 0] (padded A) slices_S8x4099x4096_S8x4096x4096_0_1_0)
        (broadcastInDim S8x4096x4096 ![0, 1, 2] bcast_S1x1x4096_S8x4096x4096_0_1_2 (broadcastInDim S1x1x4096 ![2] bcast_S4096_S1x1x4096_2 (shapeCast _ (extractStridedSlice S1x4096 ![1, 0] W slices_S4x4096_S1x4096_1_0) shapeCasts_S1x4096_S4096)))))
      (mulf (extractStridedSlice S8x4096x4096 ![0, 2, 0] (padded A) slices_S8x4099x4096_S8x4096x4096_0_2_0)
        (broadcastInDim S8x4096x4096 ![0, 1, 2] bcast_S1x1x4096_S8x4096x4096_0_1_2 (broadcastInDim S1x1x4096 ![2] bcast_S4096_S1x1x4096_2 (shapeCast _ (extractStridedSlice S1x4096 ![2, 0] W slices_S4x4096_S1x4096_2_0) shapeCasts_S1x4096_S4096)))))
      (mulf (extractStridedSlice S8x4096x4096 ![0, 3, 0] (padded A) slices_S8x4099x4096_S8x4096x4096_0_3_0)
        (broadcastInDim S8x4096x4096 ![0, 1, 2] bcast_S1x1x4096_S8x4096x4096_0_1_2 (broadcastInDim S1x1x4096 ![2] bcast_S4096_S1x1x4096_2 (shapeCast _ (extractStridedSlice S1x4096 ![3, 0] W slices_S4x4096_S1x4096_3_0) shapeCasts_S1x4096_S4096))))

/-- The gate. -/
def gated (y : FVec Ideal S8x4096x4096 .f32) : FVec Ideal S8x4096x4096 .f32 :=
  mulf y (Host.divf (broadcastInDim S8x4096x4096 ![] bcast_S_S8x4096x4096 (constant S_ .f32 0x3F800000#32))
    (addf (broadcastInDim S8x4096x4096 ![] bcast_S_S8x4096x4096 (constant S_ .f32 0x3F800000#32)) (Host.exp (Host.negf y))))

/-- The heads of the queries and the keys. -/
def heads (y : FVec Ideal S8x4096x4096 .f32) : FVec Ideal S8x4096x16x128 .f32 :=
  shapeCast _ (extractStridedSlice S8x4096x2048 ![0, 0, 0] y slices_S8x4096x4096_S8x4096x2048_0_0_0) shapeCasts_S8x4096x2048_S8x4096x16x128

/-- Heads over their norms. -/
def normed (x : FVec Ideal S8x4096x16x128 .f32) : FVec Ideal S8x4096x16x128 .f32 :=
  mulf x (broadcastInDim S8x4096x16x128 ![0, 1, 2, 3] bcast_S8x4096x16x1_S8x4096x16x128_0_1_2_3 (Host.rsqrt (addf
    (broadcastInDim S8x4096x16x1 ![0, 1, 2] bcast_S8x4096x16_S8x4096x16x1_0_1_2 (Host.reduceAdd (mulf x x) (constant S_ .f32 0x00000000#32) reducesTo_S8x4096x16x128_S8x4096x16_d3 h_S_))
    (broadcastInDim S8x4096x16x1 ![] bcast_S_S8x4096x16x1 (constant S_ .f32 0x358637BD#32)))))

/-- Three arrays side by side. -/
def beside (q k : FVec Ideal S8x4096x1024 .f32) (v : FVec Ideal S8x4096x2048 .f32) : FVec Ideal S8x4096x4096 .f32 :=
  concatenate S8x4096x4096 2 [⟨S8x4096x1024, q⟩, ⟨S8x4096x1024, k⟩, ⟨S8x4096x2048, v⟩] concatenates_S8x4096x1024_S8x4096x1024_S8x4096x2048_S8x4096x4096_d2

/-- The queries, the keys and the values, in channels. -/
def queries (x : FVec Ideal S8x4096x16x128 .f32) : FVec Ideal S8x4096x1024 .f32 :=
  shapeCast _ (mulf (extractStridedSlice S8x4096x8x128 ![0, 0, 0, 0] x slices_S8x4096x16x128_S8x4096x8x128_0_0_0_0)
    (broadcastInDim S8x4096x8x128 ![] bcast_S_S8x4096x8x128 (constant S_ .f32 0x3DB504F3#32))) shapeCasts_S8x4096x8x128_S8x4096x1024
def keys (x : FVec Ideal S8x4096x16x128 .f32) : FVec Ideal S8x4096x1024 .f32 :=
  shapeCast _ (extractStridedSlice S8x4096x8x128 ![0, 0, 8, 0] x slices_S8x4096x16x128_S8x4096x8x128_0_0_8_0) shapeCasts_S8x4096x8x128_S8x4096x1024
def values (y : FVec Ideal S8x4096x4096 .f32) : FVec Ideal S8x4096x2048 .f32 :=
  extractStridedSlice S8x4096x2048 ![0, 0, 2048] y slices_S8x4096x4096_S8x4096x2048_0_0_2048

/-- The three parts side by side. -/
def joined (x : FVec Ideal S8x4096x16x128 .f32) (y : FVec Ideal S8x4096x4096 .f32) : FVec Ideal S8x4096x4096 .f32 :=
  beside (queries x) (keys x) (values y)

set_option maxRecDepth 65536 in
set_option maxHeartbeats 4000000 in
theorem res_eq (m : (ℓ : Loc nD τ sig) → Buf (Elt Ideal) ℓ) (c : Dev nD) :
    Value.res_main_v55 (F := Ideal) m c = (truncf .bf16 (joined (normed (heads (gated (taps (m ((c.tc : Thread nD τ).loc main_arg0)) (m ((c.tc : Thread nD τ).loc main_arg1))))))
      (gated (taps (m ((c.tc : Thread nD τ).loc main_arg0)) (m ((c.tc : Thread nD τ).loc main_arg1))))) bitsLt_bf16_f32 : FVec Ideal S8x4096x4096 .bf16) := rfl

theorem padded_apply (b : Fin 8) (s : Fin 4099) (n : Fin 4096) : (padded A (ix3 b s n) : EReal) = Cert.Conv.past A b s.val n := by
  have hp := s.isLt
  unfold padded Cert.Conv.past
  by_cases h : 3 ≤ s.val ∧ s.val < 4099
  · rw [dif_pos h]
    refine (pad_apply_of_inside _ _ _ _ _ pads_S8x4096x4096_S8x4099x4096_000_300_000 h_S_ _ (ix3 b (⟨s.val - 3, by omega⟩ : Fin 4096) n) (by
      intro a; match a with | ⟨0, _⟩ => simp | ⟨1, _⟩ => show s.val = 3 + (s.val - 3) * (0 + 1); omega | ⟨2, _⟩ => simp)).trans ?_
    exact extractStridedSlice_apply _ A slices_S8x4096x6144_S8x4096x4096_0_0_0 _ _ (by intro a; fin_cases a <;> simp)
  · rw [dif_neg h]
    refine (pad_apply_of_not_inside _ _ _ _ _ pads_S8x4096x4096_S8x4099x4096_000_300_000 h_S_ _ (1 : Fin 3) (by
      intro hh; have h3 : 3 ≤ s.val := hh.1; exact h ⟨h3, hp⟩)).trans ?_
    show (((0#32 : BitVec 32).toInt : ℝ) : EReal) = 0
    simp

theorem tap_apply (j : ℕ) (hj : j ≤ 3) (hs : Shape.Slices S8x4099x4096 ![0, j, 0] S8x4096x4096) (b : Fin 8) (t n : Fin 4096) :
    (extractStridedSlice S8x4096x4096 ![0, j, 0] (padded A) hs (ix3 b t n) : EReal) = Cert.Conv.past A b (t.val + j) n := by
  refine (extractStridedSlice_apply _ _ _ _ (ix3 b (⟨t.val + j, by omega⟩ : Fin 4099) n) (by intro a; match a with | ⟨0, _⟩ => simp | ⟨1, _⟩ => exact Nat.add_comm _ _ | ⟨2, _⟩ => simp)).trans ?_
  exact padded_apply A b _ n

theorem weight_apply (j : ℕ) (hj : j < 4) (hs : Shape.Slices S4x4096 ![j, 0] S1x4096) (b : Fin 8) (t n : Fin 4096) :
    (broadcastInDim S8x4096x4096 ![0, 1, 2] bcast_S1x1x4096_S8x4096x4096_0_1_2 (broadcastInDim S1x1x4096 ![2] bcast_S4096_S1x1x4096_2
      (shapeCast S4096 (extractStridedSlice S1x4096 ![j, 0] W hs) shapeCasts_S1x4096_S4096)) (ix3 b t n) : EReal) = W (ix2 (⟨j, hj⟩ : Fin 4) n) := by
  refine (broadcastInDim_apply _ _ _ _ (ix3 (0 : Fin 1) (0 : Fin 1) n) (by intro a; fin_cases a <;> rfl)).trans ?_
  refine (broadcastInDim_apply _ _ _ _ (ix1 n) (by intro a; fin_cases a <;> rfl)).trans ?_
  refine (shapeCast_apply _ shapeCasts_S1x4096_S4096 _ (ix2 (0 : Fin 1) n) (by rw [Shape.rowMajor_val_one, Shape.rowMajor_val_two]; simp)).trans ?_
  exact extractStridedSlice_apply _ _ _ _ _ (by intro a; fin_cases a <;> simp)

theorem taps_apply (b : Fin 8) (t n : Fin 4096) : (taps A W (ix3 b t n) : EReal)
    = Cert.Conv.past A b t.val n * W (ix2 (0 : Fin 4) n) + Cert.Conv.past A b (t.val + 1) n * W (ix2 (1 : Fin 4) n)
      + Cert.Conv.past A b (t.val + 2) n * W (ix2 (2 : Fin 4) n) + Cert.Conv.past A b (t.val + 3) n * W (ix2 (3 : Fin 4) n) :=
  congrArg₂ (fun x y : EReal => x + y) (congrArg₂ (fun x y : EReal => x + y) (congrArg₂ (fun x y : EReal => x + y)
    (congrArg₂ (fun x y : EReal => x * y) (tap_apply A 0 (by omega) slices_S8x4099x4096_S8x4096x4096_0_0_0 b t n) (weight_apply W 0 (by omega) slices_S4x4096_S1x4096_0_0 b t n))
    (congrArg₂ (fun x y : EReal => x * y) (tap_apply A 1 (by omega) slices_S8x4099x4096_S8x4096x4096_0_1_0 b t n) (weight_apply W 1 (by omega) slices_S4x4096_S1x4096_1_0 b t n)))
    (congrArg₂ (fun x y : EReal => x * y) (tap_apply A 2 (by omega) slices_S8x4099x4096_S8x4096x4096_0_2_0 b t n) (weight_apply W 2 (by omega) slices_S4x4096_S1x4096_2_0 b t n)))
    (congrArg₂ (fun x y : EReal => x * y) (tap_apply A 3 (by omega) slices_S8x4099x4096_S8x4096x4096_0_3_0 b t n) (weight_apply W 3 (by omega) slices_S4x4096_S1x4096_3_0 b t n))

theorem gated_apply (y : FVec Ideal S8x4096x4096 .f32) (i : S8x4096x4096.Idx) : (gated y i : EReal) = silu (y i) := by
  have h1 : (broadcastInDim S8x4096x4096 ![] bcast_S_S8x4096x4096 (constant S_ .f32 0x3F800000#32 : FVec Ideal S_ .f32) i : EReal) = 1 :=
    (broadcastInDim_scalar_apply _ _ _).trans Ideal.ofBits_one_f32
  exact congrArg (fun x : EReal => y i * x) (congrArg₂ (fun x y : EReal => Ideal.div x y) h1 (congrArg (fun x : EReal => x + Ideal.exp (-(y i))) h1))

theorem conv_apply (b : Fin 8) (t n : Fin 4096) : (gated (taps A W) (ix3 b t n) : EReal) = Cert.Conv.conv A W b t n :=
  (gated_apply _ _).trans (congrArg silu (taps_apply A W b t n))

theorem heads_apply (y : FVec Ideal S8x4096x4096 .f32) (b : Fin 8) (t : Fin 4096) (h : Fin 16) (d : Fin 128) :
    (heads y (ix4 b t h d) : EReal) = y (ix3 b t (⟨h.val * 128 + d.val, by omega⟩ : Fin 4096)) := by
  unfold heads
  refine (shapeCast_apply _ _ _ (ix3 b t (⟨h.val * 128 + d.val, by omega⟩ : Fin 2048)) (by
      rw [Shape.rowMajor_val_three, Shape.rowMajor_val_four]; simp [c3_0, c3_1, c3_2, c4_0, c4_1, c4_2, c4_3]; omega)).trans ?_
  exact extractStridedSlice_apply _ _ _ _ _ (by intro a; fin_cases a <;> simp)

theorem normed_apply (x : FVec Ideal S8x4096x16x128 .f32) (b : Fin 8) (t : Fin 4096) (h : Fin 16) (d : Fin 128) :
    (normed x (ix4 b t h d) : EReal) = x (ix4 b t h d) * Ideal.rsqrt ((∑ e : Fin 128, x (ix4 b t h e) * x (ix4 b t h e)) + Ideal.ofBits .f32 0x358637BD#32) := by
  refine congrArg (fun z : EReal => x (ix4 b t h d) * z) ?_
  refine (broadcastInDim_apply _ _ _ _ (ix4 b t h (0 : Fin 1)) (by intro a; fin_cases a <;> rfl)).trans ?_
  refine congrArg Ideal.rsqrt (congrArg₂ (fun x y : EReal => x + y) ?_ (broadcastInDim_scalar_apply _ _ _))
  refine (broadcastInDim_apply _ _ _ _ (ix3 b t h) (by intro a; fin_cases a <;> rfl)).trans ?_
  refine (hostReduceAdd_apply _ _ _ _ _).trans ?_
  refine (Ideal.hostReduceAdd_single reducesTo_S8x4096x16x128_S8x4096x16_d3 (by decide) _ _ _).trans ?_
  refine (congrArg₂ (fun x y : EReal => x + y) Ideal.ofBits_zero_f32 (Finset.sum_congr rfl fun e _ => ?_)).trans (zero_add _)
  refine congrArg (mulf x x) (?_ : _ = ix4 b t h e)
  funext a; apply Fin.ext; fin_cases a <;> rfl

/-- A head of the queries or the keys over its norm. -/
theorem head_apply (b : Fin 8) (t : Fin 4096) (n : Fin 4096) (hn : n.val < 2048) :
    (normed (heads (gated (taps A W))) (ix4 b t (⟨n.val / 128, by omega⟩ : Fin 16) (⟨n.val % 128, by omega⟩ : Fin 128)) : EReal)
      = Cert.Conv.conv A W b t n * Cert.Conv.inv A W b t n := by
  have hh : ∀ d : Fin 128, (heads (gated (taps A W)) (ix4 b t (⟨n.val / 128, by omega⟩ : Fin 16) d) : EReal)
      = Cert.Conv.conv A W b t (⟨n.val / 128 * 128 + d.val, by omega⟩ : Fin 4096) := fun d => (heads_apply _ b t _ d).trans (conv_apply A W b t _)
  refine (normed_apply _ b t _ _).trans ?_
  unfold Cert.Conv.inv
  refine congrArg₂ (fun x y : EReal => x * y) ((hh _).trans ?_) (congrArg Ideal.rsqrt (congrArg (fun x : EReal => x + _) (Finset.sum_congr rfl fun e _ => ?_)))
  · exact congrArg (Cert.Conv.conv A W b t) (Fin.ext (by show n.val / 128 * 128 + n.val % 128 = n.val; omega))
  · rw [hh]

theorem beside_q (q k : FVec Ideal S8x4096x1024 .f32) (v : FVec Ideal S8x4096x2048 .f32) (b : Fin 8) (t n : Fin 4096) (h : n.val < 1024) :
    (beside q k v (ix3 b t n) : EReal) = q (ix3 b t (⟨n.val - 0, by omega⟩ : Fin 1024)) := by
  unfold beside
  refine concatenate_apply_piece (2 : Fin S8x4096x4096.rank) ([⟨S8x4096x1024, q⟩, ⟨S8x4096x1024, k⟩, ⟨S8x4096x2048, v⟩] : List ((s : Shape) × (s.Idx → EReal)))
    concatenates_S8x4096x1024_S8x4096x1024_S8x4096x2048_S8x4096x4096_d2 _ 0 (by simp) S8x4096x1024 _ rfl rfl 0 rfl (ix3 b t (⟨n.val - 0, by omega⟩ : Fin 1024)) ?_ ?_
  · intro a ha; fin_cases a <;> first | rfl | exact absurd rfl ha
  · show 0 + (n.val - 0) = n.val; omega

theorem beside_k (q k : FVec Ideal S8x4096x1024 .f32) (v : FVec Ideal S8x4096x2048 .f32) (b : Fin 8) (t n : Fin 4096) (h : 1024 ≤ n.val) (h' : n.val < 2048) :
    (beside q k v (ix3 b t n) : EReal) = k (ix3 b t (⟨n.val - 1024, by omega⟩ : Fin 1024)) := by
  unfold beside
  refine concatenate_apply_piece (2 : Fin S8x4096x4096.rank) ([⟨S8x4096x1024, q⟩, ⟨S8x4096x1024, k⟩, ⟨S8x4096x2048, v⟩] : List ((s : Shape) × (s.Idx → EReal)))
    concatenates_S8x4096x1024_S8x4096x1024_S8x4096x2048_S8x4096x4096_d2 _ 1 (by simp) S8x4096x1024 _ rfl rfl 1024 rfl (ix3 b t (⟨n.val - 1024, by omega⟩ : Fin 1024)) ?_ ?_
  · intro a ha; fin_cases a <;> first | rfl | exact absurd rfl ha
  · show 1024 + (n.val - 1024) = n.val; omega

theorem beside_v (q k : FVec Ideal S8x4096x1024 .f32) (v : FVec Ideal S8x4096x2048 .f32) (b : Fin 8) (t n : Fin 4096) (h : 2048 ≤ n.val) :
    (beside q k v (ix3 b t n) : EReal) = v (ix3 b t (⟨n.val - 2048, by omega⟩ : Fin 2048)) := by
  unfold beside
  refine concatenate_apply_piece (2 : Fin S8x4096x4096.rank) ([⟨S8x4096x1024, q⟩, ⟨S8x4096x1024, k⟩, ⟨S8x4096x2048, v⟩] : List ((s : Shape) × (s.Idx → EReal)))
    concatenates_S8x4096x1024_S8x4096x1024_S8x4096x2048_S8x4096x4096_d2 _ 2 (by simp) S8x4096x2048 _ rfl rfl 2048 rfl (ix3 b t (⟨n.val - 2048, by omega⟩ : Fin 2048)) ?_ ?_
  · intro a ha
    match a with | ⟨0, _⟩ => rfl | ⟨1, _⟩ => rfl | ⟨2, _⟩ => exact absurd rfl ha
  · show 2048 + (n.val - 2048) = n.val; omega

theorem queries_apply (x : FVec Ideal S8x4096x16x128 .f32) (b : Fin 8) (t : Fin 4096) (n : ℕ) (hn : n < 1024) :
    (queries x (ix3 b t (⟨n, hn⟩ : Fin 1024)) : EReal) = x (ix4 b t (⟨n / 128, by omega⟩ : Fin 16) (⟨n % 128, by omega⟩ : Fin 128)) * Ideal.ofBits .f32 0x3DB504F3#32 := by
  unfold queries
  refine (shapeCast_apply _ _ _ (ix4 b t (⟨n / 128, by omega⟩ : Fin 8) (⟨n % 128, by omega⟩ : Fin 128)) (by
    rw [Shape.rowMajor_val_three, Shape.rowMajor_val_four]; simp [c3_0, c3_1, c3_2, c4_0, c4_1, c4_2, c4_3]; omega)).trans ?_
  exact congrArg₂ (fun x y : EReal => x * y) (extractStridedSlice_apply _ _ _ _ _ (by intro a; fin_cases a <;> simp)) (broadcastInDim_scalar_apply _ _ _)

theorem keys_apply (x : FVec Ideal S8x4096x16x128 .f32) (b : Fin 8) (t : Fin 4096) (n : ℕ) (hn : n < 1024) :
    (keys x (ix3 b t (⟨n, hn⟩ : Fin 1024)) : EReal) = x (ix4 b t (⟨8 + n / 128, by omega⟩ : Fin 16) (⟨n % 128, by omega⟩ : Fin 128)) := by
  unfold keys
  refine (shapeCast_apply _ _ _ (ix4 b t (⟨n / 128, by omega⟩ : Fin 8) (⟨n % 128, by omega⟩ : Fin 128)) (by
    rw [Shape.rowMajor_val_three, Shape.rowMajor_val_four]; simp [c3_0, c3_1, c3_2, c4_0, c4_1, c4_2, c4_3]; omega)).trans ?_
  exact extractStridedSlice_apply _ _ _ _ _ (by intro a; fin_cases a <;> simp)

theorem values_apply (y : FVec Ideal S8x4096x4096 .f32) (b : Fin 8) (t : Fin 4096) (n : ℕ) (hn : n < 2048) :
    (values y (ix3 b t (⟨n, hn⟩ : Fin 2048)) : EReal) = y (ix3 b t (⟨2048 + n, by omega⟩ : Fin 4096)) := by
  unfold values
  exact extractStridedSlice_apply _ _ _ _ _ (by intro a; fin_cases a <;> simp)

theorem result_apply (b : Fin 8) (t n : Fin 4096) :
    (truncf .bf16 (joined (normed (heads (gated (taps A W)))) (gated (taps A W))) bitsLt_bf16_f32 (ix3 b t n) : EReal) = Cert.Conv.result A W b t n := by
  show (joined (normed (heads (gated (taps A W)))) (gated (taps A W)) (ix3 b t n) : EReal) = _
  unfold Cert.Conv.result
  by_cases h2 : n.val < 2048
  · have hd := head_apply A W b t n h2
    rw [if_pos h2, ← mul_assoc, ← hd]
    generalize normed (heads (gated (taps A W))) = x
    generalize gated (taps A W) = y
    unfold joined
    by_cases h1 : n.val < 1024
    · rw [if_pos h1]
      exact (beside_q _ _ _ b t n h1).trans (queries_apply x b t (n.val - 0) (by omega))
    · rw [if_neg h1, mul_one]
      refine (beside_k _ _ _ b t n (by omega) h2).trans ((keys_apply x b t (n.val - 1024) (by omega)).trans ?_)
      have e1 : (⟨8 + (n.val - 1024) / 128, by omega⟩ : Fin 16) = ⟨n.val / 128, by omega⟩ := Fin.ext (by show 8 + (n.val - 1024) / 128 = n.val / 128; omega)
      have e2 : (⟨(n.val - 1024) % 128, by omega⟩ : Fin 128) = ⟨n.val % 128, by omega⟩ := Fin.ext (by show (n.val - 1024) % 128 = n.val % 128; omega)
      rw [e1, e2]
  · rw [if_neg h2]
    refine Eq.trans ?_ (conv_apply A W b t n)
    generalize normed (heads (gated (taps A W))) = x
    generalize gated (taps A W) = y
    unfold joined
    refine (beside_v _ _ _ b t n (by omega)).trans ((values_apply y b t (n.val - 2048) (by omega)).trans ?_)
    have e1 : (⟨2048 + (n.val - 2048), by omega⟩ : Fin 4096) = n := Fin.ext (by show 2048 + (n.val - 2048) = n.val; omega)
    rw [e1]

end Cert.Reference7Ideal.Conv

namespace Cert.Conv

open Idealize.ShloMosaic.TcCoe Idealize.ShloMosaic.ValueIdx
open Idealize.ShloMosaic hiding ix1 ix2 ix3 ix4
open Idealize.SL Idealize.SL.Sem

/-- On arguments that agree, the kernel's result array is the reference's. -/
theorem value : Cert.algebraic_Kernel7Ideal_Reference7Ideal := by
  intro m g m' g' _ hagree
  refine ⟨fun c => Cert.Kernel7Ideal.Conv.target m c, ?_, ?_⟩
  · exact (θ_run _ _ _).mono (fun r h c => ⟨(h c).1.trans (Cert.Kernel7Ideal.Conv.final m c), (h c).2⟩) (Cert.Kernel7Ideal.Value.run_blocks m g)
  · refine (θ_run _ _ _).mono (fun r h c => ⟨(h c).1.trans ?_, (h c).2⟩) (Cert.Reference7Ideal.Value.run m' g')
    obtain ⟨a0, a1⟩ := hagree c
    refine (Cert.Reference7Ideal.Conv.res_eq m' c).trans ?_
    funext y
    obtain ⟨b, t, n, rfl⟩ : ∃ (b : Fin 8) (t n : Fin 4096), y = ix3 b t n :=
      ⟨y 0, y 1, y 2, funext fun a => by match a with | ⟨0, _⟩ => rfl | ⟨1, _⟩ => rfl | ⟨2, _⟩ => rfl⟩
    rw [a0, a1]
    exact Cert.Reference7Ideal.Conv.result_apply _ _ b t n

/-- The kernel, on words and on the extended reals, runs, changes no argument and leaves no semaphore up; -/
theorem frame_words : Cert.quiescent_Kernel7 := fun m g _ => Cert.Kernel7.Gen.frame m g
theorem frame_reals : Cert.quiescent_Kernel7Ideal := fun m g _ => Cert.Kernel7Ideal.Gen.frame m g
/-- so does the reference. -/
theorem frame_reference : Cert.quiescent_Reference7Ideal := fun m g _ =>
  (θ_run _ _ _).mono (fun r h => ⟨fun c => (h c).2, sem_eq_zero_of_no_sems rfl r.2⟩) (Cert.Reference7Ideal.Value.run m g)

end Cert.Conv

end
-- ==== Proof.lean ====
module

public import proofs.«01_k».proof.Defs
public import proofs.«01_k».proof.Proof.Gen.Pre_well_posed
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefRun
public import proofs.«01_k».proof.Proof.Decode
public import proofs.«01_k».proof.Proof.Import2
public import proofs.«01_k».proof.Proof.Import3
public import proofs.«01_k».proof.Proof.ExpertResult
public import proofs.«01_k».proof.Proof.Dense3
public import proofs.«01_k».proof.Proof.Dense4
public import proofs.«01_k».proof.Proof.Regroup
public import proofs.«01_k».proof.Proof.GatesClaims
public import proofs.«01_k».proof.Proof.ConvClaims
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The printed kernel runs, changes no argument and ends quiescent. -/
theorem frame_kernel : Cert.quiescent_Kernel := fun m ρ _ => Cert.Kernel.Gen.frame m ρ
/-- So does the kernel read over the extended reals. -/
theorem frame_ideal : Cert.quiescent_KernelIdeal := fun m ρ _ => Cert.KernelIdeal.Gen.frame m ρ
/-- So does the reference, which has no semaphore at all. -/
theorem frame_reference : Cert.quiescent_ReferenceIdeal := fun m ρ _ =>
  (θ_run _ _ _).mono (fun r h => ⟨fun c => (h c).2, sem_eq_zero_of_no_sems rfl r.2⟩) (Cert.ReferenceIdeal.Value.run m ρ)

open Cert.KernelIdeal in
/-- The precondition makes the kernel's arguments real, with falling cumulated decays. -/
theorem fine (m : (ℓ : Loc nD τ sig) → Buf (Elt Ideal) ℓ) (h : Cert.Pre_KernelIdeal_well_posed m) (c : Dev nD) : Cert.KernelIdeal.Head.Fine m c where
  x b t l := (Cert.Pre_well_posed.Decode.parts (h c)).1 (ValueIdx.ix3 b t l)
  b b t k := (Cert.Pre_well_posed.Decode.parts (h c)).2.1 (ValueIdx.ix3 b t k)
  g b t k := (Cert.Pre_well_posed.Decode.parts (h c)).2.2.1 (ValueIdx.ix3 b t k)
  falls b k t ht hm := by
    have h1 := Cert.Pre_well_posed.Decode.falls (h c) b k t ht hm
    have e1 := (Cert.Pre_well_posed.Decode.parts (h c)).2.2.1 (ValueIdx.ix3 b (⟨t + 1, ht⟩ : Fin 4096) k)
    have e2 := (Cert.Pre_well_posed.Decode.parts (h c)).2.2.1 (ValueIdx.ix3 b (⟨t, by omega⟩ : Fin 4096) k)
    rw [e1, e2, EReal.coe_le_coe_iff] at h1
    unfold Delta.cum Cert.KernelIdeal.Head.G
    rwa [show Delta.at_ (t + 1) = ⟨t + 1, ht⟩ from Fin.ext (Delta.at_val ht), show Delta.at_ t = ⟨t, by omega⟩ from Fin.ext (Delta.at_val (by omega))]

/-- On arguments that agree, the kernel's result array is the reference's. -/
theorem value : Cert.algebraic_KernelIdeal_ReferenceIdeal_pre_well_posed := by
  intro m g m' g' hpre hagree
  refine ⟨fun c => Cert.KernelIdeal.Head.resultArr m c, ?_, ?_⟩
  · refine (θ_run _ _ _).mono (fun r h c => ⟨(h c).1.trans (Cert.KernelIdeal.Head.final (fine m hpre c)), (h c).2⟩) (Cert.KernelIdeal.Value.run_blocks m g)
  · refine (θ_run _ _ _).mono (fun r h c => ⟨(h c).1.trans ?_, (h c).2⟩) (Cert.ReferenceIdeal.Value.run m' g')
    obtain ⟨a0, a1, a2, a3, a4⟩ := hagree c
    have F := fine m hpre c
    have R : Cert.ReferenceIdeal.Scan.Real m' c (Cert.KernelIdeal.Head.X m c) (Cert.KernelIdeal.Head.B m c) (Cert.KernelIdeal.Head.G m c) :=
      ⟨fun b t l => (congrFun a0 _).trans (F.x b t l), fun b t h => (congrFun a2 _).trans (F.b b t h), fun b t h => (congrFun a3 _).trans (F.g b t h)⟩
    funext y
    refine (Cert.ReferenceIdeal.Scan.result_eq R y).trans ?_
    unfold Cert.KernelIdeal.Head.resultArr
    rw [a1, a4]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_well_posed.Gen.facts, Cert.Pre_planned.Gen.facts, Cert.On_routed.Gen.facts,
    frame_kernel, frame_ideal, fun m ρ _ => Cert.KernelIdeal.Gen.frame m ρ, frame_reference, fun m ρ h => frame_reference m ρ trivial,
    Cert.Kernel2.Words.frame_words, Cert.Kernel2.Words.frame_reals, Cert.Experts.frame_reference,
    fun m ρ _ => Cert.Experts.frame_reference m ρ trivial,
    Cert.Dense3.frame_words, Cert.Dense3.frame_reals, Cert.Dense3.frame_reference, Cert.Dense4.frame_words, Cert.Dense4.frame_reals,
    Cert.Dense4.frame_reference, Cert.Regroup.frame_words, Cert.Regroup.frame_reals, Cert.Regroup.frame_reference,
    Cert.Gates.frame_words, Cert.Gates.frame_reals, Cert.Gates.frame_reference,
    Cert.Conv.frame_words, Cert.Conv.frame_reals, Cert.Conv.frame_reference,
    trivial, value, trivial, Cert.Experts.value, trivial, Cert.Dense3.value, trivial, Cert.Dense4.value,
    trivial, Cert.Regroup.value, trivial, Cert.Gates.value, trivial, Cert.Conv.value⟩

end Cert.Proof

end
